-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v78) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v19) = v0 c
          ∧ r.2.mem ((c.tc : Thread Cert.Reference29Ideal.nD Cert.Reference29Ideal.τ).loc Cert.Reference29Ideal.main_v20) = v1 c
          ∧ r.2.mem ((c.tc : Thread Cert.Reference29Ideal.nD Cert.Reference29Ideal.τ).loc Cert.Reference29Ideal.main_v21) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_v22) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v6)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v6) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v5)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v5) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v3) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v10) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== Pre_finite.lean ====
abbrev S16x16384x64 : Shape := ⟨3, ![16, 16384, 64]⟩
abbrev S16x16384 : Shape := ⟨2, ![16, 16384]⟩
abbrev S_ : Shape := ⟨0, ![]⟩

class Facts : Prop where
  bcast_S_S16x16384x64 : S_.BroadcastsInDim S16x16384x64 (![] : Fin 0 → Fin S16x16384x64.rank)
  bcast_S_S16x16384 : S_.BroadcastsInDim S16x16384 (![] : Fin 0 → Fin S16x16384.rank)

variable [Facts]

def fn {F : FTy → Type} [FloatOps F] (main_arg0 : FVec F S16x16384x64 .f32) (main_arg1 : FVec F S16x16384x64 .f32) (main_arg2 : FVec F S16x16384x64 .f32) (main_arg3 : FVec F S16x16384 .f32) (main_arg4 : FVec F S16x16384 .f32) (main_arg5 : FVec F S16x16384x64 .f32) : IVec S16x16384x64 1 × IVec S16x16384x64 1 × IVec S16x16384x64 1 × IVec S16x16384 1 × IVec S16x16384 1 × IVec S16x16384x64 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_v3 : FVec F S16x16384x64 .f32 := Host.absf main_arg1
  let main_cst_0 : FVec F S_ .f32 := constant S_ .f32 0x7F800000#32
  let main_v4 : FVec F S16x16384x64 .f32 := broadcastInDim S16x16384x64 ![] bcast_S_S16x16384x64 main_cst_0
  let main_v5 : IVec S16x16384x64 1 := cmpf .olt main_v3 main_v4
  let main_v6 : FVec F S16x16384x64 .f32 := Host.absf main_arg2
  let main_cst_1 : FVec F S_ .f32 := constant S_ .f32 0x7F800000#32
  let main_v7 : FVec F S16x16384x64 .f32 := broadcastInDim S16x16384x64 ![] bcast_S_S16x16384x64 main_cst_1
  let main_v8 : IVec S16x16384x64 1 := cmpf .olt main_v6 main_v7
  let main_v9 : FVec F S16x16384 .f32 := Host.absf main_arg3
  let main_cst_2 : FVec F S_ .f32 := constant S_ .f32 0x7F800000#32
  let main_v10 : FVec F S16x16384 .f32 := broadcastInDim S16x16384 ![] bcast_S_S16x16384 main_cst_2
  let main_v11 : IVec S16x16384 1 := cmpf .olt main_v9 main_v10
  let main_v12 : FVec F S16x16384 .f32 := Host.absf main_arg4
  let main_cst_3 : FVec F S_ .f32 := constant S_ .f32 0x7F800000#32
  let main_v13 : FVec F S16x16384 .f32 := broadcastInDim S16x16384 ![] bcast_S_S16x16384 main_cst_3
  let main_v14 : IVec S16x16384 1 := cmpf .olt main_v12 main_v13
  let main_v15 : FVec F S16x16384x64 .f32 := Host.absf main_arg5
  let main_cst_4 : FVec F S_ .f32 := constant S_ .f32 0x7F800000#32
  let main_v16 : FVec F S16x16384x64 .f32 := broadcastInDim S16x16384x64 ![] bcast_S_S16x16384x64 main_cst_4
  let main_v17 : IVec S16x16384x64 1 := cmpf .olt main_v15 main_v16
  (main_v2, main_v5, main_v8, main_v11, main_v14, main_v17)
-- ==== Kernel.lean ====
abbrev S16x16384x64 : Shape := ⟨3, ![16, 16384, 64]⟩
abbrev S16x16384 : Shape := ⟨2, ![16, 16384]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x16x1x1024 : Shape := ⟨4, ![16, 16, 1, 1024]⟩
abbrev S16x64x16384 : Shape := ⟨3, ![16, 64, 16384]⟩
abbrev S16x16x64x1024 : Shape := ⟨4, ![16, 16, 64, 1024]⟩
abbrev S1x1024x64 : Shape := ⟨3, ![1, 1024, 64]⟩
abbrev S1x16384x64 : Shape := ⟨3, ![1, 16384, 64]⟩
abbrev S1x64x1024 : Shape := ⟨3, ![1, 64, 1024]⟩
abbrev S1x1024x1 : Shape := ⟨3, ![1, 1024, 1]⟩
abbrev S1x16x1x1024 : Shape := ⟨4, ![1, 16, 1, 1024]⟩
abbrev S1x16x64x1024 : Shape := ⟨4, ![1, 16, 64, 1024]⟩
abbrev S1024x64 : Shape := ⟨2, ![1024, 64]⟩
abbrev S1024x1 : Shape := ⟨2, ![1024, 1]⟩
abbrev S64x1024 : Shape := ⟨2, ![64, 1024]⟩
abbrev S1024 : Shape := ⟨1, ![1024]⟩
abbrev S1x2048x64 : Shape := ⟨3, ![1, 2048, 64]⟩
abbrev S2048x64 : Shape := ⟨2, ![2048, 64]⟩
abbrev S1x1x1x1024 : Shape := ⟨4, ![1, 1, 1, 1024]⟩
abbrev S1x1024 : Shape := ⟨2, ![1, 1024]⟩
abbrev S1x2048 : Shape := ⟨2, ![1, 2048]⟩
abbrev S256x64 : Shape := ⟨2, ![256, 64]⟩
abbrev S256x2048 : Shape := ⟨2, ![256, 2048]⟩
abbrev S8x2048 : Shape := ⟨2, ![8, 2048]⟩
abbrev S32x2048 : Shape := ⟨2, ![32, 2048]⟩
abbrev S256x1 : Shape := ⟨2, ![256, 1]⟩
abbrev S32x1 : Shape := ⟨2, ![32, 1]⟩
abbrev S32 : Shape := ⟨1, ![32]⟩
abbrev S64x256 : Shape := ⟨2, ![64, 256]⟩
abbrev S64x2048 : Shape := ⟨2, ![64, 2048]⟩
abbrev S2048 : Shape := ⟨1, ![2048]⟩
abbrev S1x1x64x1024 : Shape := ⟨4, ![1, 1, 64, 1024]⟩
abbrev S256x1024 : Shape := ⟨2, ![256, 1024]⟩
abbrev S8x1024 : Shape := ⟨2, ![8, 1024]⟩
abbrev S32x1024 : Shape := ⟨2, ![32, 1024]⟩

abbrev nBuf : Space → Nat
  | .hbm => 88
  | .vmem => 32
  | .smem => 0
  | _ => 0

abbrev bufTy : (tb : Table) → Fin (tcTables nBuf tb) → BufTy
  | .hbm, ⟨0, _⟩ => ⟨S16x16384x64, .f32⟩
  | .hbm, ⟨1, _⟩ => ⟨S16x16384x64, .f32⟩
  | .hbm, ⟨2, _⟩ => ⟨S16x16384x64, .f32⟩
  | .hbm, ⟨3, _⟩ => ⟨S16x16384, .f32⟩
  | .hbm, ⟨4, _⟩ => ⟨S16x16384, .f32⟩
  | .hbm, ⟨5, _⟩ => ⟨S16x16384x64, .f32⟩
  | .hbm, ⟨6, _⟩ => ⟨S16x16384x16384, .f32⟩
  | .hbm, ⟨7, _⟩ => ⟨S_, .f32⟩
  | .hbm, ⟨8, _⟩ => ⟨S16x16384x16384, .f32⟩
  | .hbm, ⟨9, _⟩ => ⟨S16x16384x16384, .f32⟩
  | .hbm, ⟨10, _⟩ => ⟨S16x16384x1, .f32⟩
  | .hbm, ⟨11, _⟩ => ⟨S16x16384x16384, .f32⟩
  | .hbm, ⟨12, _⟩ => ⟨S16x16384x16384, .f32⟩
  | .hbm, ⟨13, _⟩ => ⟨S16x1x16384, .f32⟩
  | .hbm, ⟨14, _⟩ => ⟨S16x16384x16384, .f32⟩
  | .hbm, ⟨15, _⟩ => ⟨S16x16384x16384, .f32⟩
  | .hbm, ⟨16, _⟩ => ⟨S16384, .i32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S16x16384x16384, .i1⟩
  | .hbm, ⟨25, _⟩ => ⟨S16x16384x16384, .f32⟩
  | .hbm, ⟨26, _⟩ => ⟨S16x16384x16384, .f32⟩
  | .hbm, ⟨27, _⟩ => ⟨S_, .f32⟩
  | .hbm, ⟨28, _⟩ => ⟨S16x16384, .f32⟩
  | .hbm, ⟨29, _⟩ => ⟨S16x16384x1, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S_, .f32⟩
  | .hbm, ⟨34, _⟩ => ⟨S16x16384, .f32⟩
  | .hbm, ⟨35, _⟩ => ⟨S16x16384x1, .f32⟩
  | .hbm, ⟨36, _⟩ => ⟨S16x16384x1, .f32⟩
  | .hbm, ⟨37, _⟩ => ⟨S16x16384x1, .f32⟩
  | .hbm, ⟨38, _⟩ => ⟨S16x16384x16384, .f32⟩
  | .hbm, ⟨39, _⟩ => ⟨S_, .f32⟩
  | .hbm, ⟨40, _⟩ => ⟨S16x16384x16384, .f32⟩
  | .hbm, ⟨41, _⟩ => ⟨S16x16384x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x1x16384, .f32⟩
  | .hbm, ⟨46, _⟩ => ⟨S16x16384x16384, .f32⟩
  | .hbm, ⟨47, _⟩ => ⟨S16x16384x16384, .f32⟩
  | .hbm, ⟨48, _⟩ => ⟨S16384, .i32⟩
  | .hbm, ⟨49, _⟩ => ⟨S1x16384, .i32⟩
  | .hbm, ⟨50, _⟩ => ⟨S16384x1, .i32⟩
  | .hbm, ⟨51, _⟩ => ⟨S16384x16384, .i32⟩
  | .hbm, ⟨52, _⟩ => ⟨S16384x16384, .i32⟩
  | .hbm, ⟨53, _⟩ => ⟨S16384x16384, .i1⟩
  | .hbm, ⟨54, _⟩ => ⟨S_, .f32⟩
  | .hbm, ⟨55, _⟩ => ⟨S_, .f32⟩
  | .hbm, ⟨56, _⟩ => ⟨S16x16384x16384, .i1⟩
  | .hbm, ⟨57, _⟩ => ⟨S16x16384x16384, .f32⟩
  | .hbm, ⟨58, _⟩ => ⟨S16x16384x16384, .f32⟩
  | .hbm, ⟨59, _⟩ => ⟨S_, .f32⟩
  | .hbm, ⟨60, _⟩ => ⟨S16x16384, .f32⟩
  | .hbm, ⟨61, _⟩ => ⟨S_, .f32⟩
  | .hbm, ⟨62, _⟩ => ⟨S16x16384, .f32⟩
  | .hbm, ⟨63, _⟩ => ⟨S16x16384, .f32⟩
  | .hbm, ⟨64, _⟩ => ⟨S16x16384x1, .f32⟩
  | .hbm, ⟨65, _⟩ => ⟨S16x16384x16384, .f32⟩
  | .hbm, ⟨66, _⟩ => ⟨S16x16384x16384, .f32⟩
  | .hbm, ⟨67, _⟩ => ⟨S16x16384x16384, .f32⟩
  | .hbm, ⟨68, _⟩ => ⟨S_, .f32⟩
  | .hbm, ⟨69, _⟩ => ⟨S16x16384, .f32⟩
  | .hbm, ⟨70, _⟩ => ⟨S16x16384x1, .f32⟩
  | .hbm, ⟨71, _⟩ => ⟨S16x16384x16384, .f32⟩
  | .hbm, ⟨72, _⟩ => ⟨S16x16384x16384, .f32⟩
  | .hbm, ⟨73, _⟩ => ⟨S16x16384x64, .f32⟩
  | .hbm, ⟨74, _⟩ => ⟨S16x16384x64, .bf16⟩
  | .hbm, ⟨75, _⟩ => ⟨S16x16384x64, .bf16⟩
  | .hbm, ⟨76, _⟩ => ⟨S16x16384x64, .bf16⟩
  | .hbm, ⟨77, _⟩ => ⟨S16x16384x64, .bf16⟩
  | .hbm, ⟨78, _⟩ => ⟨S16x16384x64, .bf16⟩
  | .hbm, ⟨79, _⟩ => ⟨S16x16384x1, .f32⟩
  | .hbm, ⟨80, _⟩ => ⟨S16x16x1x1024, .f32⟩
  | .hbm, ⟨81, _⟩ => ⟨S16x64x16384, .bf16⟩
  | .hbm, ⟨82, _⟩ => ⟨S16x64x16384, .bf16⟩
  | .hbm, ⟨83, _⟩ => ⟨S16x16384x64, .bf16⟩
  | .hbm, ⟨84, _⟩ => ⟨S16x16384x1, .f32⟩
  | .hbm, ⟨85, _⟩ => ⟨S16x16x64x1024, .f32⟩
  | .hbm, ⟨86, _⟩ => ⟨S16x16x64x1024, .f32⟩
  | .hbm, ⟨87, _⟩ => ⟨S16x16x1x1024, .f32⟩
  | .local _ .vmem, ⟨0, _⟩ => ⟨S1x1024x64, .bf16⟩
  | .local _ .vmem, ⟨1, _⟩ => ⟨S1x1024x64, .bf16⟩
  | .local _ .vmem, ⟨2, _⟩ => ⟨S1x16384x64, .bf16⟩
  | .local _ .vmem, ⟨3, _⟩ => ⟨S1x16384x64, .bf16⟩
  | .local _ .vmem, ⟨4, _⟩ => ⟨S1x16384x64, .bf16⟩
  | .local _ .vmem, ⟨5, _⟩ => ⟨S1x16384x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x1024x1, .f32⟩
  | .local _ .vmem, ⟨15, _⟩ => ⟨S1x1024x1, .f32⟩
  | .local _ .vmem, ⟨16, _⟩ => ⟨S1x1024x1, .f32⟩
  | .local _ .vmem, ⟨17, _⟩ => ⟨S1x1024x1, .f32⟩
  | .local _ .vmem, ⟨18, _⟩ => ⟨S1x16x1x1024, .f32⟩
  | .local _ .vmem, ⟨19, _⟩ => ⟨S1x16x1x1024, .f32⟩
  | .local _ .vmem, ⟨20, _⟩ => ⟨S1x1024x64, .bf16⟩
  | .local _ .vmem, ⟨21, _⟩ => ⟨S1x1024x64, .bf16⟩
  | .local _ .vmem, ⟨22, _⟩ => ⟨S1x1024x1, .f32⟩
  | .local _ .vmem, ⟨23, _⟩ => ⟨S1x1024x1, .f32⟩
  | .local _ .vmem, ⟨24, _⟩ => ⟨S1x16x64x1024, .f32⟩
  | .local _ .vmem, ⟨25, _⟩ => ⟨S1x16x64x1024, .f32⟩
  | .local _ .vmem, ⟨26, _⟩ => ⟨S1x16x64x1024, .f32⟩
  | .local _ .vmem, ⟨27, _⟩ => ⟨S1x16x64x1024, .f32⟩
  | .local _ .vmem, ⟨28, _⟩ => ⟨S1x16x1x1024, .f32⟩
  | .local _ .vmem, ⟨29, _⟩ => ⟨S1x16x1x1024, .f32⟩
  | .local _ .vmem, ⟨30, _⟩ => ⟨S1024x64, .f32⟩
  | .local _ .vmem, ⟨31, _⟩ => ⟨S1024x1, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_v62_2 : Ref sig .tc := ⟨.hbm, 85, rfl⟩
abbrev main_v62_3 : Ref sig .tc := ⟨.hbm, 86, rfl⟩
abbrev main_v62_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_35 : BitVec 32 := 0#32
  let arg1 : BitVec 32 := BitVec.ofNat 32 (i 1).val
  let c0_i32_29 : BitVec 32 := 0#32
  let v36 : BitVec 1 := Scalar.cmpi .sgt arg1 c0_i32_29
  let v37 : BitVec 32 := Scalar.extui v36
  let c0_i32_30 : BitVec 32 := 0#32
  let v38 : BitVec 1 := Scalar.cmpi .slt arg1 c0_i32_30
  let v39 : BitVec 32 := Scalar.extui v38
  let v40 : BitVec 32 := Scalar.subi v37 v39
  let c2_i32 : BitVec 32 := 2#32
  let c0_i32_31 : BitVec 32 := 0#32
  let v41 : BitVec 1 := Scalar.cmpi .sgt c2_i32 c0_i32_31
  let v42 : BitVec 32 := Scalar.extui v41
  let c0_i32_32 : BitVec 32 := 0#32
  let v43 : BitVec 1 := Scalar.cmpi .slt c2_i32 c0_i32_32
  let v44 : BitVec 32 := Scalar.extui v43
  let v45 : BitVec 32 := Scalar.subi v42 v44
  let v46 : BitVec 1 := Scalar.cmpi .ne v40 v45
  let v47 : BitVec 32 := Scalar.remsi arg1 c2_i32
  let c0_i32_33 : BitVec 32 := 0#32
  let v48 : BitVec 1 := Scalar.cmpi .ne v47 c0_i32_33
  let v49 : BitVec 1 := Scalar.andi v46 v48
  let v35 : BitVec 32 := Scalar.divsi arg1 c2_i32
  let c1_i32 : BitVec 32 := 1#32
  let v50 : BitVec 32 := Scalar.subi v35 c1_i32
  let v51 : BitVec 32 := Scalar.select v49 v50 v35
  let v52 : BitVec 32 := Scalar.subi v51 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_37 : BitVec 32 := 1#32
  ⟨c0_i32_35, v56, c1_i32_37⟩
def k0_mult1 (i : grid0.Coords) (k0_t1 : Fin (k0_t1_loop i).trips) : BitVec 32 :=
  let c2_i32_66 : BitVec 32 := 2#32
  let c0_i32_35 : BitVec 32 := 0#32
  let c1_i32_37 : BitVec 32 := 1#32
  let arg19 : BitVec 32 := Scf.iv c0_i32_35 c1_i32_37 k0_t1
  let v94 : BitVec 32 := Scalar.muli c2_i32_66 arg19
  let c1024_i32 : BitVec 32 := 1024#32
  let v95 : BitVec 32 := Scalar.muli v94 c1024_i32
  v95
def k0_off1 (i : grid0.Coords) (k0_t1 : Fin (k0_t1_loop i).trips) : Fin 3 → Nat :=
  let c0_67 : Index := 0#32
  let c2_i32_66 : BitVec 32 := 2#32
  let c0_i32_35 : BitVec 32 := 0#32
  let c1_i32_37 : BitVec 32 := 1#32
  let arg19 : BitVec 32 := Scf.iv c0_i32_35 c1_i32_37 k0_t1
  let v94 : BitVec 32 := Scalar.muli c2_i32_66 arg19
  let c1024_i32 : BitVec 32 := 1024#32
  let v95 : BitVec 32 := Scalar.muli v94 c1024_i32
  let v96 : BitVec 32 := v95
  let v97 : Index := Scalar.indexCast v96
  let c0_68 : Index := 0#32
  ![0, v97.toNat, 0]
def k0_off2 (i : grid0.Coords) (k0_t1 : Fin (k0_t1_loop i).trips) (c0_i32_71 : BitVec 32) : Fin 4 → Nat :=
  let c0_72 : Index := 0#32
  let c2_i32_66 : BitVec 32 := 2#32
  let c0_i32_35 : BitVec 32 := 0#32
  let c1_i32_37 : BitVec 32 := 1#32
  let arg19 : BitVec 32 := Scf.iv c0_i32_35 c1_i32_37 k0_t1
  let v94 : BitVec 32 := Scalar.muli c2_i32_66 arg19
  let v103 : BitVec 32 := Scalar.addi v94 c0_i32_71
  let v104 : Index := Scalar.indexCast v103
  let c0_73 : Index := 0#32
  let c0_74 : Index := 0#32
  ![0, v104.toNat, 0, 0]
def k0_off3 (i : grid0.Coords) (k0_t1 : Fin (k0_t1_loop i).trips) (c0_i32_164 : BitVec 32) : Fin 4 → Nat :=
  let c0_165 : Index := 0#32
  let c2_i32_66 : BitVec 32 := 2#32
  let c0_i32_35 : BitVec 32 := 0#32
  let c1_i32_37 : BitVec 32 := 1#32
  let arg19 : BitVec 32 := Scf.iv c0_i32_35 c1_i32_37 k0_t1
  let v94 : BitVec 32 := Scalar.muli c2_i32_66 arg19
  let v1045 : BitVec 32 := Scalar.addi v94 c0_i32_164
  let v1046 : Index := Scalar.indexCast v1045
  let c0_166 : Index := 0#32
  let c0_167 : Index := 0#32
  ![0, v1046.toNat, 0, 0]
@[reducible] def k0_t2_loop (i : grid0.Coords) : Scf.Loop 32 :=
  let c0_i32_35 : BitVec 32 := 0#32
  let arg1 : BitVec 32 := BitVec.ofNat 32 (i 1).val
  let c0_i32_29 : BitVec 32 := 0#32
  let v36 : BitVec 1 := Scalar.cmpi .sgt arg1 c0_i32_29
  let v37 : BitVec 32 := Scalar.extui v36
  let c0_i32_30 : BitVec 32 := 0#32
  let v38 : BitVec 1 := Scalar.cmpi .slt arg1 c0_i32_30
  let v39 : BitVec 32 := Scalar.extui v38
  let v40 : BitVec 32 := Scalar.subi v37 v39
  let c2_i32 : BitVec 32 := 2#32
  let c0_i32_31 : BitVec 32 := 0#32
  let v41 : BitVec 1 := Scalar.cmpi .sgt c2_i32 c0_i32_31
  let v42 : BitVec 32 := Scalar.extui v41
  let c0_i32_32 : BitVec 32 := 0#32
  let v43 : BitVec 1 := Scalar.cmpi .slt c2_i32 c0_i32_32
  let v44 : BitVec 32 := Scalar.extui v43
  let v45 : BitVec 32 := Scalar.subi v42 v44
  let v46 : BitVec 1 := Scalar.cmpi .ne v40 v45
  let v47 : BitVec 32 := Scalar.remsi arg1 c2_i32
  let c0_i32_33 : BitVec 32 := 0#32
  let v48 : BitVec 1 := Scalar.cmpi .ne v47 c0_i32_33
  let v49 : BitVec 1 := Scalar.andi v46 v48
  let v35 : BitVec 32 := Scalar.divsi arg1 c2_i32
  let c1_i32 : BitVec 32 := 1#32
  let v50 : BitVec 32 := Scalar.subi v35 c1_i32
  let v51 : BitVec 32 := Scalar.select v49 v50 v35
  let v52 : BitVec 32 := Scalar.subi v51 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let v53 : BitVec 32 := Scalar.addi c0_i32_35 v52
  let c1_i32_38 : BitVec 32 := 1#32
  ⟨v56, v53, c1_i32_38⟩
def k0_mult2 (i : grid0.Coords) (k0_t2 : Fin (k0_t2_loop i).trips) : BitVec 32 :=
  let c2_i32_66 : BitVec 32 := 2#32
  let c0_i32_35 : BitVec 32 := 0#32
  let arg1 : BitVec 32 := BitVec.ofNat 32 (i 1).val
  let c0_i32_29 : BitVec 32 := 0#32
  let v36 : BitVec 1 := Scalar.cmpi .sgt arg1 c0_i32_29
  let v37 : BitVec 32 := Scalar.extui v36
  let c0_i32_30 : BitVec 32 := 0#32
  let v38 : BitVec 1 := Scalar.cmpi .slt arg1 c0_i32_30
  let v39 : BitVec 32 := Scalar.extui v38
  let v40 : BitVec 32 := Scalar.subi v37 v39
  let c2_i32 : BitVec 32 := 2#32
  let c0_i32_31 : BitVec 32 := 0#32
  let v41 : BitVec 1 := Scalar.cmpi .sgt c2_i32 c0_i32_31
  let v42 : BitVec 32 := Scalar.extui v41
  let c0_i32_32 : BitVec 32 := 0#32
  let v43 : BitVec 1 := Scalar.cmpi .slt c2_i32 c0_i32_32
  let v44 : BitVec 32 := Scalar.extui v43
  let v45 : BitVec 32 := Scalar.subi v42 v44
  let v46 : BitVec 1 := Scalar.cmpi .ne v40 v45
  let v47 : BitVec 32 := Scalar.remsi arg1 c2_i32
  let c0_i32_33 : BitVec 32 := 0#32
  let v48 : BitVec 1 := Scalar.cmpi .ne v47 c0_i32_33
  let v49 : BitVec 1 := Scalar.andi v46 v48
  let v35 : BitVec 32 := Scalar.divsi arg1 c2_i32
  let c1_i32 : BitVec 32 := 1#32
  let v50 : BitVec 32 := Scalar.subi v35 c1_i32
  let v51 : BitVec 32 := Scalar.select v49 v50 v35
  let v52 : BitVec 32 := Scalar.subi v51 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let v94 : BitVec 32 := Scalar.muli c2_i32_66 arg19
  let c1024_i32 : BitVec 32 := 1024#32
  let v95 : BitVec 32 := Scalar.muli v94 c1024_i32
  v95
def k0_off4 (i : grid0.Coords) (k0_t2 : Fin (k0_t2_loop i).trips) : Fin 3 → Nat :=
  let c0_67 : Index := 0#32
  let c2_i32_66 : BitVec 32 := 2#32
  let c0_i32_35 : BitVec 32 := 0#32
  let arg1 : BitVec 32 := BitVec.ofNat 32 (i 1).val
  let c0_i32_29 : BitVec 32 := 0#32
  let v36 : BitVec 1 := Scalar.cmpi .sgt arg1 c0_i32_29
  let v37 : BitVec 32 := Scalar.extui v36
  let c0_i32_30 : BitVec 32 := 0#32
  let v38 : BitVec 1 := Scalar.cmpi .slt arg1 c0_i32_30
  let v39 : BitVec 32 := Scalar.extui v38
  let v40 : BitVec 32 := Scalar.subi v37 v39
  let c2_i32 : BitVec 32 := 2#32
  let c0_i32_31 : BitVec 32 := 0#32
  let v41 : BitVec 1 := Scalar.cmpi .sgt c2_i32 c0_i32_31
  let v42 : BitVec 32 := Scalar.extui v41
  let c0_i32_32 : BitVec 32 := 0#32
  let v43 : BitVec 1 := Scalar.cmpi .slt c2_i32 c0_i32_32
  let v44 : BitVec 32 := Scalar.extui v43
  let v45 : BitVec 32 := Scalar.subi v42 v44
  let v46 : BitVec 1 := Scalar.cmpi .ne v40 v45
  let v47 : BitVec 32 := Scalar.remsi arg1 c2_i32
  let c0_i32_33 : BitVec 32 := 0#32
  let v48 : BitVec 1 := Scalar.cmpi .ne v47 c0_i32_33
  let v49 : BitVec 1 := Scalar.andi v46 v48
  let v35 : BitVec 32 := Scalar.divsi arg1 c2_i32
  let c1_i32 : BitVec 32 := 1#32
  let v50 : BitVec 32 := Scalar.subi v35 c1_i32
  let v51 : BitVec 32 := Scalar.select v49 v50 v35
  let v52 : BitVec 32 := Scalar.subi v51 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let v94 : BitVec 32 := Scalar.muli c2_i32_66 arg19
  let c1024_i32 : BitVec 32 := 1024#32
  let v95 : BitVec 32 := Scalar.muli v94 c1024_i32
  let v96 : BitVec 32 := v95
  let v97 : Index := Scalar.indexCast v96
  let c0_68 : Index := 0#32
  ![0, v97.toNat, 0]
def k0_off5 (i : grid0.Coords) (k0_t2 : Fin (k0_t2_loop i).trips) (c0_i32_71 : BitVec 32) : Fin 4 → Nat :=
  let c0_72 : Index := 0#32
  let c2_i32_66 : BitVec 32 := 2#32
  let c0_i32_35 : BitVec 32 := 0#32
  let arg1 : BitVec 32 := BitVec.ofNat 32 (i 1).val
  let c0_i32_29 : BitVec 32 := 0#32
  let v36 : BitVec 1 := Scalar.cmpi .sgt arg1 c0_i32_29
  let v37 : BitVec 32 := Scalar.extui v36
  let c0_i32_30 : BitVec 32 := 0#32
  let v38 : BitVec 1 := Scalar.cmpi .slt arg1 c0_i32_30
  let v39 : BitVec 32 := Scalar.extui v38
  let v40 : BitVec 32 := Scalar.subi v37 v39
  let c2_i32 : BitVec 32 := 2#32
  let c0_i32_31 : BitVec 32 := 0#32
  let v41 : BitVec 1 := Scalar.cmpi .sgt c2_i32 c0_i32_31
  let v42 : BitVec 32 := Scalar.extui v41
  let c0_i32_32 : BitVec 32 := 0#32
  let v43 : BitVec 1 := Scalar.cmpi .slt c2_i32 c0_i32_32
  let v44 : BitVec 32 := Scalar.extui v43
  let v45 : BitVec 32 := Scalar.subi v42 v44
  let v46 : BitVec 1 := Scalar.cmpi .ne v40 v45
  let v47 : BitVec 32 := Scalar.remsi arg1 c2_i32
  let c0_i32_33 : BitVec 32 := 0#32
  let v48 : BitVec 1 := Scalar.cmpi .ne v47 c0_i32_33
  let v49 : BitVec 1 := Scalar.andi v46 v48
  let v35 : BitVec 32 := Scalar.divsi arg1 c2_i32
  let c1_i32 : BitVec 32 := 1#32
  let v50 : BitVec 32 := Scalar.subi v35 c1_i32
  let v51 : BitVec 32 := Scalar.select v49 v50 v35
  let v52 : BitVec 32 := Scalar.subi v51 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let v94 : BitVec 32 := Scalar.muli c2_i32_66 arg19
  let v103 : BitVec 32 := Scalar.addi v94 c0_i32_71
  let v104 : Index := Scalar.indexCast v103
  let c0_73 : Index := 0#32
  let c0_74 : Index := 0#32
  ![0, v104.toNat, 0, 0]
def k0_off6 (i : grid0.Coords) (k0_t2 : Fin (k0_t2_loop i).trips) (c0_i32_164 : BitVec 32) : Fin 4 → Nat :=
  let c0_165 : Index := 0#32
  let c2_i32_66 : BitVec 32 := 2#32
  let c0_i32_35 : BitVec 32 := 0#32
  let arg1 : BitVec 32 := BitVec.ofNat 32 (i 1).val
  let c0_i32_29 : BitVec 32 := 0#32
  let v36 : BitVec 1 := Scalar.cmpi .sgt arg1 c0_i32_29
  let v37 : BitVec 32 := Scalar.extui v36
  let c0_i32_30 : BitVec 32 := 0#32
  let v38 : BitVec 1 := Scalar.cmpi .slt arg1 c0_i32_30
  let v39 : BitVec 32 := Scalar.extui v38
  let v40 : BitVec 32 := Scalar.subi v37 v39
  let c2_i32 : BitVec 32 := 2#32
  let c0_i32_31 : BitVec 32 := 0#32
  let v41 : BitVec 1 := Scalar.cmpi .sgt c2_i32 c0_i32_31
  let v42 : BitVec 32 := Scalar.extui v41
  let c0_i32_32 : BitVec 32 := 0#32
  let v43 : BitVec 1 := Scalar.cmpi .slt c2_i32 c0_i32_32
  let v44 : BitVec 32 := Scalar.extui v43
  let v45 : BitVec 32 := Scalar.subi v42 v44
  let v46 : BitVec 1 := Scalar.cmpi .ne v40 v45
  let v47 : BitVec 32 := Scalar.remsi arg1 c2_i32
  let c0_i32_33 : BitVec 32 := 0#32
  let v48 : BitVec 1 := Scalar.cmpi .ne v47 c0_i32_33
  let v49 : BitVec 1 := Scalar.andi v46 v48
  let v35 : BitVec 32 := Scalar.divsi arg1 c2_i32
  let c1_i32 : BitVec 32 := 1#32
  let v50 : BitVec 32 := Scalar.subi v35 c1_i32
  let v51 : BitVec 32 := Scalar.select v49 v50 v35
  let v52 : BitVec 32 := Scalar.subi v51 c0_i32_35
  let c1_i32_36 : BitVec 32 := 1#32
  let v54 : BitVec 32 := Scalar.divsi v52 c1_i32_36
  let v55 : BitVec 32 := Scalar.muli v54 c1_i32_36
  let v56 : BitVec 32 := Scalar.addi c0_i32_35 v55
  let c1_i32_38 : BitVec 32 := 1#32
  let arg19 : BitVec 32 := Scf.iv v56 c1_i32_38 k0_t2
  let v94 : BitVec 32 := Scalar.muli c2_i32_66 arg19
  let v1045 : BitVec 32 := Scalar.addi v94 c0_i32_164
  let v1046 : Index := Scalar.indexCast v1045
  let c0_166 : Index := 0#32
  let c0_167 : Index := 0#32
  ![0, v1046.toNat, 0, 0]
def k0_cond2 (i : grid0.Coords) : BitVec 1 :=
  let arg1 : BitVec 32 := BitVec.ofNat 32 (i 1).val
  let c2_i32_39 : BitVec 32 := 2#32
  let c0_i32_40 : BitVec 32 := 0#32
  let v57 : BitVec 1 := Scalar.cmpi .eq c2_i32_39 c0_i32_40
  let c1_i32_41 : BitVec 32 := 1#32
  let v58 : BitVec 32 := Scalar.select v57 c1_i32_41 c2_i32_39
  let v59 : BitVec 32 := Scalar.remsi arg1 v58
  let c0_i32_43 : BitVec 32 := 0#32
  let v61 : BitVec 1 := Scalar.cmpi .slt v59 c0_i32_43
  let c0_i32_44 : BitVec 32 := 0#32
  let v62 : BitVec 1 := Scalar.cmpi .slt v58 c0_i32_44
  let v63 : BitVec 1 := Scalar.xori v61 v62
  let c0_i32_42 : BitVec 32 := 0#32
  let v60 : BitVec 1 := Scalar.cmpi .ne v59 c0_i32_42
  let v64 : BitVec 1 := Scalar.andi v63 v60
  let v65 : BitVec 32 := Scalar.addi v59 v58
  let v66 : BitVec 32 := Scalar.select v64 v65 v59
  let c1_i32_45 : BitVec 32 := 1#32
  let v67 : BitVec 1 := Scalar.cmpi .eq v66 c1_i32_45
  let v68 : BitVec 32 := Scalar.extui v67
  let c0_i32_46 : BitVec 32 := 0#32
  let v69 : BitVec 1 := Scalar.cmpi .ne v68 c0_i32_46
  v69

def k0_mult3 (i : grid0.Coords) : BitVec 32 :=
  let arg1 : BitVec 32 := BitVec.ofNat 32 (i 1).val
  let c1_i32_66 : BitVec 32 := 1#32
  let v94 : BitVec 32 := Scalar.subi arg1 c1_i32_66
  let c1024_i32 : BitVec 32 := 1024#32
  let v95 : BitVec 32 := Scalar.muli v94 c1024_i32
  v95
def k0_off7 (i : grid0.Coords) : Fin 3 → Nat :=
  let c0_67 : Index := 0#32
  let arg1 : BitVec 32 := BitVec.ofNat 32 (i 1).val
  let c1_i32_66 : BitVec 32 := 1#32
  let v94 : BitVec 32 := Scalar.subi arg1 c1_i32_66
  let c1024_i32 : BitVec 32 := 1024#32
  let v95 : BitVec 32 := Scalar.muli v94 c1024_i32
  let v96 : BitVec 32 := v95
  let v97 : Index := Scalar.indexCast v96
  let c0_68 : Index := 0#32
  ![0, v97.toNat, 0]
def k0_off8 (i : grid0.Coords) (c0_i32_71 : BitVec 32) : Fin 4 → Nat :=
  let c0_72 : Index := 0#32
  let arg1 : BitVec 32 := BitVec.ofNat 32 (i 1).val
  let c1_i32_66 : BitVec 32 := 1#32
  let v94 : BitVec 32 := Scalar.subi arg1 c1_i32_66
  let v103 : BitVec 32 := Scalar.addi v94 c0_i32_71
  let v104 : Index := Scalar.indexCast v103
  let c0_73 : Index := 0#32
  let c0_74 : Index := 0#32
  ![0, v104.toNat, 0, 0]
def k0_off9 (i : grid0.Coords) (c0_i32_197 : BitVec 32) : Fin 4 → Nat :=
  let c0_198 : Index := 0#32
  let arg1 : BitVec 32 := BitVec.ofNat 32 (i 1).val
  let c1_i32_66 : BitVec 32 := 1#32
  let v94 : BitVec 32 := Scalar.subi arg1 c1_i32_66
  let v1269 : BitVec 32 := Scalar.addi v94 c0_i32_197
  let v1270 : Index := Scalar.indexCast v1269
  let c0_199 : Index := 0#32
  let c0_200 : Index := 0#32
  ![0, v1270.toNat, 0, 0]
def k0_cond3 (i : grid0.Coords) : BitVec 1 :=
  let arg1 : BitVec 32 := BitVec.ofNat 32 (i 1).val
  let c2_i32_47 : BitVec 32 := 2#32
  let c0_i32_48 : BitVec 32 := 0#32
  let v70 : BitVec 1 := Scalar.cmpi .eq c2_i32_47 c0_i32_48
  let c1_i32_49 : BitVec 32 := 1#32
  let v71 : BitVec 32 := Scalar.select v70 c1_i32_49 c2_i32_47
  let v72 : BitVec 32 := Scalar.remsi arg1 v71
  let c0_i32_51 : BitVec 32 := 0#32
  let v74 : BitVec 1 := Scalar.cmpi .slt v72 c0_i32_51
  let c0_i32_52 : BitVec 32 := 0#32
  let v75 : BitVec 1 := Scalar.cmpi .slt v71 c0_i32_52
  let v76 : BitVec 1 := Scalar.xori v74 v75
  let c0_i32_50 : BitVec 32 := 0#32
  let v73 : BitVec 1 := Scalar.cmpi .ne v72 c0_i32_50
  let v77 : BitVec 1 := Scalar.andi v76 v73
  let v78 : BitVec 32 := Scalar.addi v72 v71
  let v79 : BitVec 32 := Scalar.select v77 v78 v72
  let c0_i32_53 : BitVec 32 := 0#32
  let v80 : BitVec 1 := Scalar.cmpi .eq v79 c0_i32_53
  let v81 : BitVec 32 := Scalar.extui v80
  let c0_i32_54 : BitVec 32 := 0#32
  let v82 : BitVec 1 := Scalar.cmpi .ne v81 c0_i32_54
  v82

def k0_mult4 (i : grid0.Coords) : BitVec 32 :=
  let arg1 : BitVec 32 := BitVec.ofNat 32 (i 1).val
  let c1024_i32 : BitVec 32 := 1024#32
  let v94 : BitVec 32 := Scalar.muli arg1 c1024_i32
  v94
def k0_off10 (i : grid0.Coords) : Fin 3 → Nat :=
  let c0_66 : Index := 0#32
  let arg1 : BitVec 32 := BitVec.ofNat 32 (i 1).val
  let c1024_i32 : BitVec 32 := 1024#32
  let v94 : BitVec 32 := Scalar.muli arg1 c1024_i32
  let v95 : BitVec 32 := v94
  let v96 : Index := Scalar.indexCast v95
  let c0_67 : Index := 0#32
  ![0, v96.toNat, 0]
def k0_off11 (i : grid0.Coords) : Fin 4 → Nat :=
  let c0_70 : Index := 0#32
  let arg1 : BitVec 32 := BitVec.ofNat 32 (i 1).val
  let v102 : Index := Scalar.indexCast arg1
  let c0_71 : Index := 0#32
  let c0_72 : Index := 0#32
  ![0, v102.toNat, 0, 0]
def k0_off12 (i : grid0.Coords) : Fin 4 → Nat :=
  let c0_192 : Index := 0#32
  let arg1 : BitVec 32 := BitVec.ofNat 32 (i 1).val
  let c0_i32_191 : BitVec 32 := 0#32
  let v1262 : BitVec 32 := Scalar.addi arg1 c0_i32_191
  let v1263 : Index := Scalar.indexCast v1262
  let c0_193 : Index := 0#32
  let c0_194 : Index := 0#32
  ![0, v1263.toNat, 0, 0]
def k0_off13 (i : grid0.Coords) : Fin 4 → Nat :=
  let c0_206 : Index := 0#32
  let arg1 : BitVec 32 := BitVec.ofNat 32 (i 1).val
  let c0_i32_205 : BitVec 32 := 0#32
  let v1280 : BitVec 32 := Scalar.addi arg1 c0_i32_205
  let v1281 : Index := Scalar.indexCast v1280
  let c0_207 : Index := 0#32
  let c0_208 : Index := 0#32
  ![0, v1281.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x16x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S16x16384x64 : Shape := ⟨3, ![16, 16384, 64]⟩
abbrev S16x16384 : Shape := ⟨2, ![16, 16384]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩
abbrev S16x16x1024x64 : Shape := ⟨4, ![16, 16, 1024, 64]⟩
abbrev S16x16x64x1024 : Shape := ⟨4, ![16, 16, 64, 1024]⟩
abbrev S16x16x1x1024 : Shape := ⟨4, ![16, 16, 1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S16x16384x64, .f32⟩
  | .hbm, ⟨2, _⟩ => ⟨S16x16384x64, .f32⟩
  | .hbm, ⟨3, _⟩ => ⟨S16x16384, .f32⟩
  | .hbm, ⟨4, _⟩ => ⟨S16x16384, .f32⟩
  | .hbm, ⟨5, _⟩ => ⟨S16x16384x64, .f32⟩
  | .hbm, ⟨6, _⟩ => ⟨S16x16384x16384, .f32⟩
  | .hbm, ⟨7, _⟩ => ⟨S_, .f32⟩
  | .hbm, ⟨8, _⟩ => ⟨S16x16384x16384, .f32⟩
  | .hbm, ⟨9, _⟩ => ⟨S16x16384x16384, .f32⟩
  | .hbm, ⟨10, _⟩ => ⟨S16x16384x1, .f32⟩
  | .hbm, ⟨11, _⟩ => ⟨S16x16384x16384, .f32⟩
  | .hbm, ⟨12, _⟩ => ⟨S16x16384x16384, .f32⟩
  | .hbm, ⟨13, _⟩ => ⟨S16x1x16384, .f32⟩
  | .hbm, ⟨14, _⟩ => ⟨S16x16384x16384, .f32⟩
  | .hbm, ⟨15, _⟩ => ⟨S16x16384x16384, .f32⟩
  | .hbm, ⟨16, _⟩ => ⟨S16384, .i32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S16x16384x16384, .i1⟩
  | .hbm, ⟨25, _⟩ => ⟨S16x16384x16384, .f32⟩
  | .hbm, ⟨26, _⟩ => ⟨S16x16384x16384, .f32⟩
  | .hbm, ⟨27, _⟩ => ⟨S_, .f32⟩
  | .hbm, ⟨28, _⟩ => ⟨S16x16384x16384, .f32⟩
  | .hbm, ⟨29, _⟩ => ⟨S_, .f32⟩
  | .hbm, ⟨30, _⟩ => ⟨S16x16384, .f32⟩
  | .hbm, ⟨31, _⟩ => ⟨S16x16384x1, .f32⟩
  | .hbm, ⟨32, _⟩ => ⟨S16x16384x16384, .f32⟩
  | .hbm, ⟨33, _⟩ => ⟨S16x16384x16384, .i1⟩
  | .hbm, ⟨34, _⟩ => ⟨S16x16384x16384, .f32⟩
  | .hbm, ⟨35, _⟩ => ⟨S_, .f32⟩
  | .hbm, ⟨36, _⟩ => ⟨S16x16384, .f32⟩
  | .hbm, ⟨37, _⟩ => ⟨S_, .f32⟩
  | .hbm, ⟨38, _⟩ => ⟨S16x16384, .f32⟩
  | .hbm, ⟨39, _⟩ => ⟨S16x16384, .f32⟩
  | .hbm, ⟨40, _⟩ => ⟨S_, .f32⟩
  | .hbm, ⟨41, _⟩ => ⟨S16x16384, .f32⟩
  | .hbm, ⟨42, _⟩ => ⟨S16x16384, .i1⟩
  | .hbm, ⟨43, _⟩ => ⟨S_, .f32⟩
  | .hbm, ⟨44, _⟩ => ⟨S16x16384, .f32⟩
  | .hbm, ⟨45, _⟩ => ⟨S16x16384, .i1⟩
  | .hbm, ⟨46, _⟩ => ⟨S_, .f32⟩
  | .hbm, ⟨47, _⟩ => ⟨S16x16384, .f32⟩
  | .hbm, ⟨48, _⟩ => ⟨S_, .f32⟩
  | .hbm, ⟨49, _⟩ => ⟨S16x16384, .f32⟩
  | .hbm, ⟨50, _⟩ => ⟨S_, .f32⟩
  | .hbm, ⟨51, _⟩ => ⟨S16x16384, .f32⟩
  | .hbm, ⟨52, _⟩ => ⟨S16x16384, .f32⟩
  | .hbm, ⟨53, _⟩ => ⟨S16x16384, .f32⟩
  | .hbm, ⟨54, _⟩ => ⟨S16x16384x1, .f32⟩
  | .hbm, ⟨55, _⟩ => ⟨S16x16384x16384, .f32⟩
  | .hbm, ⟨56, _⟩ => ⟨S16x16384x16384, .f32⟩
  | .hbm, ⟨57, _⟩ => ⟨S16x16384x16384, .f32⟩
  | .hbm, ⟨58, _⟩ => ⟨S_, .f32⟩
  | .hbm, ⟨59, _⟩ => ⟨S16x16384, .f32⟩
  | .hbm, ⟨60, _⟩ => ⟨S16x16384x1, .f32⟩
  | .hbm, ⟨61, _⟩ => ⟨S16x16384x16384, .f32⟩
  | .hbm, ⟨62, _⟩ => ⟨S16x16384x16384, .f32⟩
  | .hbm, ⟨63, _⟩ => ⟨S16x16384x1, .f32⟩
  | .hbm, ⟨64, _⟩ => ⟨S_, .f32⟩
  | .hbm, ⟨65, _⟩ => ⟨S16x16384x1, .f32⟩
  | .hbm, ⟨66, _⟩ => ⟨S16x16384x1, .f32⟩
  | .hbm, ⟨67, _⟩ => ⟨S16x16384x64, .f32⟩
  | .hbm, ⟨68, _⟩ => ⟨S16x64x16384, .f32⟩
  | .hbm, ⟨69, _⟩ => ⟨S16x16384x64, .f32⟩
  | .hbm, ⟨70, _⟩ => ⟨S16x16384x16384, .f32⟩
  | .hbm, ⟨71, _⟩ => ⟨S16x16384x16384, .f32⟩
  | .hbm, ⟨72, _⟩ => ⟨S16x16384x16384, .f32⟩
  | .hbm, ⟨73, _⟩ => ⟨S16x16384x16384, .f32⟩
  | .hbm, ⟨74, _⟩ => ⟨S_, .f32⟩
  | .hbm, ⟨75, _⟩ => ⟨S16x16384, .f32⟩
  | .hbm, ⟨76, _⟩ => ⟨S16x16384x1, .f32⟩
  | .hbm, ⟨77, _⟩ => ⟨S16x16384x1, .f32⟩
  | .hbm, ⟨78, _⟩ => ⟨S16x16384x16384, .f32⟩
  | .hbm, ⟨79, _⟩ => ⟨S16x16384x16384, .f32⟩
  | .hbm, ⟨80, _⟩ => ⟨S_, .f32⟩
  | .hbm, ⟨81, _⟩ => ⟨S16x16384, .f32⟩
  | .hbm, ⟨82, _⟩ => ⟨S16x16384x16384, .f32⟩
  | .hbm, ⟨83, _⟩ => ⟨S16x16384x16384, .f32⟩
  | .hbm, ⟨84, _⟩ => ⟨S16x16384x16384, .f32⟩
  | .hbm, ⟨85, _⟩ => ⟨S_, .f32⟩
  | .hbm, ⟨86, _⟩ => ⟨S16x16384x16384, .f32⟩
  | .hbm, ⟨87, _⟩ => ⟨S16x16384x16384, .f32⟩
  | .hbm, ⟨88, _⟩ => ⟨S16x16384x16384, .f32⟩
  | .hbm, ⟨89, _⟩ => ⟨S_, .f32⟩
  | .hbm, ⟨90, _⟩ => ⟨S16x16384, .f32⟩
  | .hbm, ⟨91, _⟩ => ⟨S16x1x16384, .f32⟩
  | .hbm, ⟨92, _⟩ => ⟨S_, .f32⟩
  | .hbm, ⟨93, _⟩ => ⟨S16x16384, .f32⟩
  | .hbm, ⟨94, _⟩ => ⟨S_, .f32⟩
  | .hbm, ⟨95, _⟩ => ⟨S16x16384, .f32⟩
  | .hbm, ⟨96, _⟩ => ⟨S16x16384x1, .f32⟩
  | .hbm, ⟨97, _⟩ => ⟨S_, .f32⟩
  | .hbm, ⟨98, _⟩ => ⟨S16x16384, .f32⟩
  | .hbm, ⟨99, _⟩ => ⟨S_, .f32⟩
  | .hbm, ⟨100, _⟩ => ⟨S16x16384x16384, .f32⟩
  | .hbm, ⟨101, _⟩ => ⟨S16x16384x16384, .f32⟩
  | .hbm, ⟨102, _⟩ => ⟨S16x16384x64, .f32⟩
  | .hbm, ⟨103, _⟩ => ⟨S16x16384x64, .f32⟩
  | .hbm, ⟨104, _⟩ => ⟨S16x16384x64, .bf16⟩
  | .hbm, ⟨105, _⟩ => ⟨S16x16384x1, .f32⟩
  | .hbm, ⟨106, _⟩ => ⟨S16x16x1024x64, .f32⟩
  | .hbm, ⟨107, _⟩ => ⟨S16x16x64x1024, .f32⟩
  | .hbm, ⟨108, _⟩ => ⟨S16x16x1024x64, .f32⟩
  | .hbm, ⟨109, _⟩ => ⟨S16x16x64x1024, .f32⟩
  | .hbm, ⟨110, _⟩ => ⟨S16x16x1x1024, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]
-- ==== Kernel2.lean ====
abbrev S16x16384 : Shape := ⟨2, ![16, 16384]⟩
abbrev S16x1 : Shape := ⟨2, ![16, 1]⟩
abbrev S16x512 : Shape := ⟨2, ![16, 512]⟩
abbrev S512x512 : Shape := ⟨2, ![512, 512]⟩
abbrev S16 : Shape := ⟨1, ![16]⟩

abbrev nBuf : Space → Nat
  | .hbm => 6
  | .vmem => 11
  | .smem => 0
  | _ => 0

abbrev bufTy : (tb : Table) → Fin (tcTables nBuf tb) → BufTy
  | .hbm, ⟨0, _⟩ => ⟨S16x16384, .f32⟩
  | .hbm, ⟨1, _⟩ => ⟨S16x16384, .f32⟩
  | .hbm, ⟨2, _⟩ => ⟨S16x16384, .f32⟩
  | .hbm, ⟨3, _⟩ => ⟨S16x1, .f32⟩
  | .hbm, ⟨4, _⟩ => ⟨S16x16384, .f32⟩
  | .hbm, ⟨5, _⟩ => ⟨S16x1, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x1, .f32⟩
  | .local _ .vmem, ⟨7, _⟩ => ⟨S16x512, .f32⟩
  | .local _ .vmem, ⟨8, _⟩ => ⟨S16x512, .f32⟩
  | .local _ .vmem, ⟨9, _⟩ => ⟨S16x1, .f32⟩
  | .local _ .vmem, ⟨10, _⟩ => ⟨S16x1, .f32⟩
  | _, _ => ⟨S16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S16x16384 : Shape := ⟨2, ![16, 16384]⟩
abbrev S16x1 : Shape := ⟨2, ![16, 1]⟩
abbrev S_ : Shape := ⟨0, ![]⟩
abbrev S16 : Shape := ⟨1, ![16]⟩

abbrev nBuf : Space → Nat
  | .hbm => 67
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S16x16384, .f32⟩
  | .hbm, ⟨2, _⟩ => ⟨S16x16384, .f32⟩
  | .hbm, ⟨3, _⟩ => ⟨S16x1, .f32⟩
  | .hbm, ⟨4, _⟩ => ⟨S16x16384, .f32⟩
  | .hbm, ⟨5, _⟩ => ⟨S16x16384, .f32⟩
  | .hbm, ⟨6, _⟩ => ⟨S16x16384, .f32⟩
  | .hbm, ⟨7, _⟩ => ⟨S_, .f32⟩
  | .hbm, ⟨8, _⟩ => ⟨S16x16384, .f32⟩
  | .hbm, ⟨9, _⟩ => ⟨S16x16384, .f32⟩
  | .hbm, ⟨10, _⟩ => ⟨S16x16384, .f32⟩
  | .hbm, ⟨11, _⟩ => ⟨S16x16384, .f32⟩
  | .hbm, ⟨12, _⟩ => ⟨S16x16384, .i1⟩
  | .hbm, ⟨13, _⟩ => ⟨S16x16384, .f32⟩
  | .hbm, ⟨14, _⟩ => ⟨S16x16384, .f32⟩
  | .hbm, ⟨15, _⟩ => ⟨S16x16384, .f32⟩
  | .hbm, ⟨16, _⟩ => ⟨S16x16384, .f32⟩
  | .hbm, ⟨17, _⟩ => ⟨S16x16384, .f32⟩
  | .hbm, ⟨18, _⟩ => ⟨S16x16384, .f32⟩
  | .hbm, ⟨19, _⟩ => ⟨S16x16384, .f32⟩
  | .hbm, ⟨20, _⟩ => ⟨S16x16384, .f32⟩
  | .hbm, ⟨21, _⟩ => ⟨S_, .f32⟩
  | .hbm, ⟨22, _⟩ => ⟨S16x16384, .f32⟩
  | .hbm, ⟨23, _⟩ => ⟨S16x16384, .i1⟩
  | .hbm, ⟨24, _⟩ => ⟨S_, .f32⟩
  | .hbm, ⟨25, _⟩ => ⟨S16x16384, .f32⟩
  | .hbm, ⟨26, _⟩ => ⟨S16x16384, .f32⟩
  | .hbm, ⟨27, _⟩ => ⟨S_, .f32⟩
  | .hbm, ⟨28, _⟩ => ⟨S16x16384, .f32⟩
  | .hbm, ⟨29, _⟩ => ⟨S16x16384, .i1⟩
  | .hbm, ⟨30, _⟩ => ⟨S_, .f32⟩
  | .hbm, ⟨31, _⟩ => ⟨S16x16384, .f32⟩
  | .hbm, ⟨32, _⟩ => ⟨S16x16384, .f32⟩
  | .hbm, ⟨33, _⟩ => ⟨S16x16384, .f32⟩
  | .hbm, ⟨34, _⟩ => ⟨S16x16384, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x16384, .f32⟩
  | .hbm, ⟨43, _⟩ => ⟨S16x16384, .i1⟩
  | .hbm, ⟨44, _⟩ => ⟨S_, .f32⟩
  | .hbm, ⟨45, _⟩ => ⟨S16x16384, .f32⟩
  | .hbm, ⟨46, _⟩ => ⟨S16x16384, .f32⟩
  | .hbm, ⟨47, _⟩ => ⟨S16x16384, .f32⟩
  | .hbm, ⟨48, _⟩ => ⟨S16x16384, .f32⟩
  | .hbm, ⟨49, _⟩ => ⟨S16x16384, .f32⟩
  | .hbm, ⟨50, _⟩ => ⟨S_, .f32⟩
  | .hbm, ⟨51, _⟩ => ⟨S16x16384, .f32⟩
  | .hbm, ⟨52, _⟩ => ⟨S16x16384, .f32⟩
  | .hbm, ⟨53, _⟩ => ⟨S16x16384, .f32⟩
  | .hbm, ⟨54, _⟩ => ⟨S_, .f32⟩
  | .hbm, ⟨55, _⟩ => ⟨S_, .f32⟩
  | .hbm, ⟨56, _⟩ => ⟨S16x16384, .f32⟩
  | .hbm, ⟨57, _⟩ => ⟨S16x16384, .f32⟩
  | .hbm, ⟨58, _⟩ => ⟨S_, .f32⟩
  | .hbm, ⟨59, _⟩ => ⟨S_, .f32⟩
  | .hbm, ⟨60, _⟩ => ⟨S16x16384, .f32⟩
  | .hbm, ⟨61, _⟩ => ⟨S16x16384, .f32⟩
  | .hbm, ⟨62, _⟩ => ⟨S16x16384, .f32⟩
  | .hbm, ⟨63, _⟩ => ⟨S16x16384, .f32⟩
  | .hbm, ⟨64, _⟩ => ⟨S_, .f32⟩
  | .hbm, ⟨65, _⟩ => ⟨S16, .f32⟩
  | .hbm, ⟨66, _⟩ => ⟨S16x1, .f32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_v4 : Ref sig .tc := ⟨.hbm, 57, rfl⟩
abbrev main_call2_call0_cst : Ref sig .tc := ⟨.hbm, 58, rfl⟩
abbrev main_call2_call0_v0 : Ref sig .tc := ⟨.hbm, 59, rfl⟩
abbrev main_v5 : Ref sig .tc := ⟨.hbm, 60, rfl⟩
abbrev main_call3_v0 : Ref sig .tc := ⟨.hbm, 61, rfl⟩
abbrev main_call3_v1 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_v8 : Ref sig .tc := ⟨.hbm, 66, rfl⟩

abbrev nD : Nat := 1
abbrev τ : Topo := Topo.v7x

variable {F : FTy → Type} [FloatOps F]
-- ==== Kernel3.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S2816x1024, .bf16⟩
  | .hbm, ⟨3, _⟩ => ⟨S1024x2816, .bf16⟩
  | .hbm, ⟨4, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x2816, .f32⟩
  | .hbm, ⟨6, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2816 : Shape := ⟨2, ![16384, 2816]⟩
abbrev S1024x5632 : Shape := ⟨2, ![1024, 5632]⟩
abbrev S16384x1024 : Shape := ⟨2, ![16384, 1024]⟩
abbrev S5632x1024 : Shape := ⟨2, ![5632, 1024]⟩
abbrev S2816x1024 : Shape := ⟨2, ![2816, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x2816, .f32⟩
  | .hbm, ⟨1, _⟩ => ⟨S1024x5632, .f32⟩
  | .hbm, ⟨2, _⟩ => ⟨S16384x1024, .f32⟩
  | .hbm, ⟨3, _⟩ => ⟨S16384x2816, .bf16⟩
  | .hbm, ⟨4, _⟩ => ⟨S1024x5632, .bf16⟩
  | .hbm, ⟨5, _⟩ => ⟨S5632x1024, .bf16⟩
  | .hbm, ⟨6, _⟩ => ⟨S2816x1024, .bf16⟩
  | .hbm, ⟨7, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S16384x2816 : Shape := ⟨2, ![16384, 2816]⟩
abbrev S1024x5632 : Shape := ⟨2, ![1024, 5632]⟩
abbrev S16384x1024 : Shape := ⟨2, ![16384, 1024]⟩
abbrev S_ : Shape := ⟨0, ![]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S1024x5632, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x2816, .f32⟩
  | .hbm, ⟨9, _⟩ => ⟨S16384x2816, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel6.lean ====
abbrev S16384x2816 : Shape := ⟨2, ![16384, 2816]⟩
abbrev S1024x5632 : Shape := ⟨2, ![1024, 5632]⟩
abbrev S16384x1024 : Shape := ⟨2, ![16384, 1024]⟩
abbrev S5632x1024 : Shape := ⟨2, ![5632, 1024]⟩
abbrev S2816x1024 : Shape := ⟨2, ![2816, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x2816, .f32⟩
  | .hbm, ⟨1, _⟩ => ⟨S1024x5632, .f32⟩
  | .hbm, ⟨2, _⟩ => ⟨S16384x1024, .f32⟩
  | .hbm, ⟨3, _⟩ => ⟨S16384x2816, .bf16⟩
  | .hbm, ⟨4, _⟩ => ⟨S1024x5632, .bf16⟩
  | .hbm, ⟨5, _⟩ => ⟨S5632x1024, .bf16⟩
  | .hbm, ⟨6, _⟩ => ⟨S2816x1024, .bf16⟩
  | .hbm, ⟨7, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16384x2816 : Shape := ⟨2, ![16384, 2816]⟩
abbrev S1024x5632 : Shape := ⟨2, ![1024, 5632]⟩
abbrev S16384x1024 : Shape := ⟨2, ![16384, 1024]⟩
abbrev S_ : Shape := ⟨0, ![]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S1024x5632, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x2816, .f32⟩
  | .hbm, ⟨6, _⟩ => ⟨S16384x2816, .f32⟩
  | .hbm, ⟨7, _⟩ => ⟨S16384x1024, .f32⟩
  | .hbm, ⟨8, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x2816, .bf16⟩
  | .hbm, ⟨3, _⟩ => ⟨S1024x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x5632, .bf16⟩
  | .hbm, ⟨3, _⟩ => ⟨S16384x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x2816, .bf16⟩
  | .hbm, ⟨3, _⟩ => ⟨S2816x1024, .bf16⟩
  | .hbm, ⟨4, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S16384x1024 : Shape := ⟨2, ![16384, 1024]⟩
abbrev S1024x6176 : Shape := ⟨2, ![1024, 6176]⟩
abbrev S1024x6144 : Shape := ⟨2, ![1024, 6144]⟩
abbrev S16384x6144 : Shape := ⟨2, ![16384, 6144]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x6176, .f32⟩
  | .hbm, ⟨2, _⟩ => ⟨S1024x6176, .bf16⟩
  | .hbm, ⟨3, _⟩ => ⟨S1024x6144, .bf16⟩
  | .hbm, ⟨4, _⟩ => ⟨S16384x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x6176 : Shape := ⟨2, ![1024, 6176]⟩
abbrev S1024x6144 : Shape := ⟨2, ![1024, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6176, .f32⟩
  | .hbm, ⟨2, _⟩ => ⟨S1024x6144, .f32⟩
  | .hbm, ⟨3, _⟩ => ⟨S16384x6144, .f32⟩
  | .hbm, ⟨4, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S16384x1024 : Shape := ⟨2, ![16384, 1024]⟩
abbrev S1024x3088 : Shape := ⟨2, ![1024, 3088]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S1024x3088, .bf16⟩
  | .hbm, ⟨3, _⟩ => ⟨S1024x3072, .bf16⟩
  | .hbm, ⟨4, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x3088 : Shape := ⟨2, ![1024, 3088]⟩
abbrev S1024x3072 : Shape := ⟨2, ![1024, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S1024x3072, .f32⟩
  | .hbm, ⟨3, _⟩ => ⟨S16384x3072, .f32⟩
  | .hbm, ⟨4, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x2048, .bf16⟩
  | .hbm, ⟨3, _⟩ => ⟨S2048x1024, .bf16⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .bf16⟩
  | .hbm, ⟨3, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S_, .f32⟩
  | .hbm, ⟨3, _⟩ => ⟨S1024x2048, .f32⟩
  | .hbm, ⟨4, _⟩ => ⟨S16384x2048, .f32⟩
  | .hbm, ⟨5, _⟩ => ⟨S2048x1024, .f32⟩
  | .hbm, ⟨6, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x4096, .bf16⟩
  | .hbm, ⟨3, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x3072, .bf16⟩
  | .hbm, ⟨3, _⟩ => ⟨S1024x3072, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S_, .f32⟩
  | .hbm, ⟨3, _⟩ => ⟨S1024x3072, .f32⟩
  | .hbm, ⟨4, _⟩ => ⟨S16384x3072, .f32⟩
  | .hbm, ⟨5, _⟩ => ⟨S3072x1024, .f32⟩
  | .hbm, ⟨6, _⟩ => ⟨S1024x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16384x1024 : Shape := ⟨2, ![16384, 1024]⟩
abbrev S2048x1024 : Shape := ⟨2, ![2048, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024, .bf16⟩
  | .hbm, ⟨3, _⟩ => ⟨S1024x2048, .bf16⟩
  | .hbm, ⟨4, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S_, .f32⟩
  | .hbm, ⟨3, _⟩ => ⟨S16384x2048, .f32⟩
  | .hbm, ⟨4, _⟩ => ⟨S16384x1024, .f32⟩
  | .hbm, ⟨5, _⟩ => ⟨S16384x2048, .f32⟩
  | .hbm, ⟨6, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S16384x2048 : Shape := ⟨2, ![16384, 2048]⟩
abbrev S1024x6176 : Shape := ⟨2, ![1024, 6176]⟩
abbrev S16384x1024 : Shape := ⟨2, ![16384, 1024]⟩
abbrev S6176x1024 : Shape := ⟨2, ![6176, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1024x6176, .f32⟩
  | .hbm, ⟨2, _⟩ => ⟨S16384x1024, .f32⟩
  | .hbm, ⟨3, _⟩ => ⟨S16384x2048, .bf16⟩
  | .hbm, ⟨4, _⟩ => ⟨S1024x6176, .bf16⟩
  | .hbm, ⟨5, _⟩ => ⟨S6176x1024, .bf16⟩
  | .hbm, ⟨6, _⟩ => ⟨S2048x1024, .bf16⟩
  | .hbm, ⟨7, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S16384x2048 : Shape := ⟨2, ![16384, 2048]⟩
abbrev S1024x6176 : Shape := ⟨2, ![1024, 6176]⟩
abbrev S16384x1024 : Shape := ⟨2, ![16384, 1024]⟩
abbrev S_ : Shape := ⟨0, ![]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024x6176, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x2048, .f32⟩
  | .hbm, ⟨9, _⟩ => ⟨S16384x2048, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel19.lean ====
abbrev S16384x4096 : Shape := ⟨2, ![16384, 4096]⟩
abbrev S1024x6176 : Shape := ⟨2, ![1024, 6176]⟩
abbrev S16384x1024 : Shape := ⟨2, ![16384, 1024]⟩
abbrev S6176x1024 : Shape := ⟨2, ![6176, 1024]⟩
abbrev S4096x1024 : Shape := ⟨2, ![4096, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S1024x6176, .f32⟩
  | .hbm, ⟨2, _⟩ => ⟨S16384x1024, .f32⟩
  | .hbm, ⟨3, _⟩ => ⟨S16384x4096, .bf16⟩
  | .hbm, ⟨4, _⟩ => ⟨S1024x6176, .bf16⟩
  | .hbm, ⟨5, _⟩ => ⟨S6176x1024, .bf16⟩
  | .hbm, ⟨6, _⟩ => ⟨S4096x1024, .bf16⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S16384x4096 : Shape := ⟨2, ![16384, 4096]⟩
abbrev S1024x6176 : Shape := ⟨2, ![1024, 6176]⟩
abbrev S16384x1024 : Shape := ⟨2, ![16384, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x6176, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S16384x1024, .f32⟩
  | .hbm, ⟨8, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel20.lean ====
abbrev S16384x3072 : Shape := ⟨2, ![16384, 3072]⟩
abbrev S1024x3088 : Shape := ⟨2, ![1024, 3088]⟩
abbrev S16384x1024 : Shape := ⟨2, ![16384, 1024]⟩
abbrev S3088x1024 : Shape := ⟨2, ![3088, 1024]⟩
abbrev S3072x1024 : Shape := ⟨2, ![3072, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x3072, .f32⟩
  | .hbm, ⟨1, _⟩ => ⟨S1024x3088, .f32⟩
  | .hbm, ⟨2, _⟩ => ⟨S16384x1024, .f32⟩
  | .hbm, ⟨3, _⟩ => ⟨S16384x3072, .bf16⟩
  | .hbm, ⟨4, _⟩ => ⟨S1024x3088, .bf16⟩
  | .hbm, ⟨5, _⟩ => ⟨S3088x1024, .bf16⟩
  | .hbm, ⟨6, _⟩ => ⟨S3072x1024, .bf16⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S16384x3072 : Shape := ⟨2, ![16384, 3072]⟩
abbrev S1024x3088 : Shape := ⟨2, ![1024, 3088]⟩
abbrev S16384x1024 : Shape := ⟨2, ![16384, 1024]⟩
abbrev S_ : Shape := ⟨0, ![]⟩
abbrev S1024x3072 : Shape := ⟨2, ![1024, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S1024x3088, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x3072, .f32⟩
  | .hbm, ⟨9, _⟩ => ⟨S16384x3072, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel21.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S256x1024, .bf16⟩
  | .hbm, ⟨3, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x1024, .bf16⟩
  | .hbm, ⟨3, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S1024x256, .f32⟩
  | .hbm, ⟨6, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S16384x1024 : Shape := ⟨2, ![16384, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S1024x1024, .bf16⟩
  | .hbm, ⟨6, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference28Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel29.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .bf16⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_15 : BitVec 32 := 0#32
  let v28 : BitVec 1 := Scalar.cmpi .ne v27 c0_i32_15
  v28

def k0_cond2 (i : grid0.Coords) : BitVec 1 :=
  let arg0 : BitVec 32 := BitVec.ofNat 32 (i 0).val
  let c0_i32_16 : BitVec 32 := 0#32
  let v29 : BitVec 1 := Scalar.cmpi .sgt arg0 c0_i32_16
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S16384x1024, .bf16⟩
  | .hbm, ⟨29, _⟩ => ⟨S16384x1024, .bf16⟩
  | .hbm, ⟨30, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel30.lean ====
abbrev S16384x1024 : Shape := ⟨2, ![16384, 1024]⟩
abbrev S1x128 : Shape := ⟨2, ![1, 128]⟩
abbrev S512x1024 : Shape := ⟨2, ![512, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x128, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S16384x1024 : Shape := ⟨2, ![16384, 1024]⟩
abbrev S_ : Shape := ⟨0, ![]⟩
abbrev S16384 : Shape := ⟨1, ![16384]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_cst_9 : Ref sig .tc := ⟨.hbm, 29, rfl⟩
abbrev main_v17 : Ref sig .tc := ⟨.hbm, 30, rfl⟩
abbrev main_v18 : Ref sig .tc := ⟨.hbm, 31, rfl⟩
abbrev main_cst_10 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel31.lean ====
abbrev S16x16384 : Shape := ⟨2, ![16, 16384]⟩
abbrev S1024x3088 : Shape := ⟨2, ![1024, 3088]⟩
abbrev S16384x1024 : Shape := ⟨2, ![16384, 1024]⟩
abbrev S16384x16 : Shape := ⟨2, ![16384, 16]⟩
abbrev S_ : Shape := ⟨0, ![]⟩
abbrev S16384x128 : Shape := ⟨2, ![16384, 128]⟩
abbrev S3088x1024 : Shape := ⟨2, ![3088, 1024]⟩
abbrev S16x1024 : Shape := ⟨2, ![16, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S16x16384, .f32⟩
  | .hbm, ⟨1, _⟩ => ⟨S1024x3088, .f32⟩
  | .hbm, ⟨2, _⟩ => ⟨S16384x1024, .f32⟩
  | .hbm, ⟨3, _⟩ => ⟨S16384x16, .f32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S1024x3088, .bf16⟩
  | .hbm, ⟨8, _⟩ => ⟨S3088x1024, .bf16⟩
  | .hbm, ⟨9, _⟩ => ⟨S16x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S16384x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference31Ideal.lean ====
abbrev S16x16384 : Shape := ⟨2, ![16, 16384]⟩
abbrev S1024x3088 : Shape := ⟨2, ![1024, 3088]⟩
abbrev S16384x1024 : Shape := ⟨2, ![16384, 1024]⟩
abbrev S_ : Shape := ⟨0, ![]⟩
abbrev S1024x16 : Shape := ⟨2, ![1024, 16]⟩
abbrev S16384x16 : Shape := ⟨2, ![16384, 16]⟩

abbrev nBuf : Space → Nat
  | .hbm => 11
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S1024x3088, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x16, .f32⟩
  | .hbm, ⟨6, _⟩ => ⟨S16384x16, .f32⟩
  | .hbm, ⟨7, _⟩ => ⟨S16x16384, .f32⟩
  | .hbm, ⟨8, _⟩ => ⟨S16384x16, .f32⟩
  | .hbm, ⟨9, _⟩ => ⟨S16384x1024, .f32⟩
  | .hbm, ⟨10, _⟩ => ⟨S16384x1024, .f32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel32.lean ====
abbrev S16384x32 : Shape := ⟨2, ![16384, 32]⟩
abbrev S1024x6176 : Shape := ⟨2, ![1024, 6176]⟩
abbrev S16384x1024 : Shape := ⟨2, ![16384, 1024]⟩
abbrev S_ : Shape := ⟨0, ![]⟩
abbrev S16384x128 : Shape := ⟨2, ![16384, 128]⟩
abbrev S6176x1024 : Shape := ⟨2, ![6176, 1024]⟩
abbrev S32x1024 : Shape := ⟨2, ![32, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S16384x32, .f32⟩
  | .hbm, ⟨1, _⟩ => ⟨S1024x6176, .f32⟩
  | .hbm, ⟨2, _⟩ => ⟨S16384x1024, .f32⟩
  | .hbm, ⟨3, _⟩ => ⟨S_, .i32⟩
  | .hbm, ⟨4, _⟩ => ⟨S_, .f32⟩
  | .hbm, ⟨5, _⟩ => ⟨S16384x128, .f32⟩
  | .hbm, ⟨6, _⟩ => ⟨S1024x6176, .bf16⟩
  | .hbm, ⟨7, _⟩ => ⟨S6176x1024, .bf16⟩
  | .hbm, ⟨8, _⟩ => ⟨S32x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S16384x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference32Ideal.lean ====
abbrev S16384x32 : Shape := ⟨2, ![16384, 32]⟩
abbrev S1024x6176 : Shape := ⟨2, ![1024, 6176]⟩
abbrev S16384x1024 : Shape := ⟨2, ![16384, 1024]⟩
abbrev S_ : Shape := ⟨0, ![]⟩
abbrev S1024x32 : Shape := ⟨2, ![1024, 32]⟩

abbrev nBuf : Space → Nat
  | .hbm => 9
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S1024x6176, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x32, .f32⟩
  | .hbm, ⟨6, _⟩ => ⟨S16384x32, .f32⟩
  | .hbm, ⟨7, _⟩ => ⟨S16384x1024, .f32⟩
  | .hbm, ⟨8, _⟩ => ⟨S16384x1024, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel33.lean ====
abbrev S16384x1024 : Shape := ⟨2, ![16384, 1024]⟩
abbrev S16x16384 : Shape := ⟨2, ![16, 16384]⟩
abbrev S16384x16 : Shape := ⟨2, ![16384, 16]⟩
abbrev S_ : Shape := ⟨0, ![]⟩
abbrev S16384x128 : Shape := ⟨2, ![16384, 128]⟩
abbrev S1024x128 : Shape := ⟨2, ![1024, 128]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16x16384, .f32⟩
  | .hbm, ⟨2, _⟩ => ⟨S16384x16, .f32⟩
  | .hbm, ⟨3, _⟩ => ⟨S_, .i32⟩
  | .hbm, ⟨4, _⟩ => ⟨S_, .f32⟩
  | .hbm, ⟨5, _⟩ => ⟨S16384x128, .f32⟩
  | .hbm, ⟨6, _⟩ => ⟨S1024x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference33Ideal.lean ====
abbrev S16384x1024 : Shape := ⟨2, ![16384, 1024]⟩
abbrev S16x16384 : Shape := ⟨2, ![16, 16384]⟩
abbrev S_ : Shape := ⟨0, ![]⟩
abbrev S1024x16 : Shape := ⟨2, ![1024, 16]⟩
abbrev S16384x16 : Shape := ⟨2, ![16384, 16]⟩
abbrev S16x1024 : Shape := ⟨2, ![16, 1024]⟩
abbrev S1024x128 : Shape := ⟨2, ![1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x16384, .f32⟩
  | .hbm, ⟨2, _⟩ => ⟨S_, .f32⟩
  | .hbm, ⟨3, _⟩ => ⟨S1024x16, .f32⟩
  | .hbm, ⟨4, _⟩ => ⟨S16384x16, .f32⟩
  | .hbm, ⟨5, _⟩ => ⟨S16x16384, .f32⟩
  | .hbm, ⟨6, _⟩ => ⟨S16384x16, .f32⟩
  | .hbm, ⟨7, _⟩ => ⟨S16x1024, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel34.lean ====
abbrev S16384x1024 : Shape := ⟨2, ![16384, 1024]⟩
abbrev S16384x32 : Shape := ⟨2, ![16384, 32]⟩
abbrev S_ : Shape := ⟨0, ![]⟩
abbrev S16384x128 : Shape := ⟨2, ![16384, 128]⟩
abbrev S1024x128 : Shape := ⟨2, ![1024, 128]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x32, .f32⟩
  | .hbm, ⟨2, _⟩ => ⟨S_, .i32⟩
  | .hbm, ⟨3, _⟩ => ⟨S_, .f32⟩
  | .hbm, ⟨4, _⟩ => ⟨S16384x128, .f32⟩
  | .hbm, ⟨5, _⟩ => ⟨S1024x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference34Ideal.lean ====
abbrev S16384x1024 : Shape := ⟨2, ![16384, 1024]⟩
abbrev S16384x32 : Shape := ⟨2, ![16384, 32]⟩
abbrev S_ : Shape := ⟨0, ![]⟩
abbrev S1024x32 : Shape := ⟨2, ![1024, 32]⟩
abbrev S32x1024 : Shape := ⟨2, ![32, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x32, .f32⟩
  | .hbm, ⟨2, _⟩ => ⟨S_, .f32⟩
  | .hbm, ⟨3, _⟩ => ⟨S1024x32, .f32⟩
  | .hbm, ⟨4, _⟩ => ⟨S16384x32, .f32⟩
  | .hbm, ⟨5, _⟩ => ⟨S32x1024, .f32⟩
  | .hbm, ⟨6, _⟩ => ⟨S1024x32, .f32⟩
  | .hbm, ⟨7, _⟩ => ⟨S_, .i32⟩
  | .hbm, ⟨8, _⟩ => ⟨S_, .f32⟩
  | .hbm, ⟨9, _⟩ => ⟨S1024x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel35.lean ====
abbrev S16384x1024 : Shape := ⟨2, ![16384, 1024]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S1024x3088, .bf16⟩
  | .hbm, ⟨3, _⟩ => ⟨S1024x16, .bf16⟩
  | .hbm, ⟨4, _⟩ => ⟨S_, .i32⟩
  | .hbm, ⟨5, _⟩ => ⟨S_, .bf16⟩
  | .hbm, ⟨6, _⟩ => ⟨S1024x128, .bf16⟩
  | .hbm, ⟨7, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S16384x1024 : Shape := ⟨2, ![16384, 1024]⟩
abbrev S1024x3088 : Shape := ⟨2, ![1024, 3088]⟩
abbrev S1024x16 : Shape := ⟨2, ![1024, 16]⟩
abbrev S16384x16 : Shape := ⟨2, ![16384, 16]⟩
abbrev S_ : Shape := ⟨0, ![]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S1024x16, .f32⟩
  | .hbm, ⟨3, _⟩ => ⟨S16384x16, .f32⟩
  | .hbm, ⟨4, _⟩ => ⟨S_, .i32⟩
  | .hbm, ⟨5, _⟩ => ⟨S_, .f32⟩
  | .hbm, ⟨6, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel36.lean ====
abbrev S16384x1024 : Shape := ⟨2, ![16384, 1024]⟩
abbrev S1024x6176 : Shape := ⟨2, ![1024, 6176]⟩
abbrev S1024x32 : Shape := ⟨2, ![1024, 32]⟩
abbrev S_ : Shape := ⟨0, ![]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x6176, .f32⟩
  | .hbm, ⟨2, _⟩ => ⟨S1024x6176, .bf16⟩
  | .hbm, ⟨3, _⟩ => ⟨S1024x32, .bf16⟩
  | .hbm, ⟨4, _⟩ => ⟨S_, .i32⟩
  | .hbm, ⟨5, _⟩ => ⟨S_, .bf16⟩
  | .hbm, ⟨6, _⟩ => ⟨S1024x128, .bf16⟩
  | .hbm, ⟨7, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S16384x1024 : Shape := ⟨2, ![16384, 1024]⟩
abbrev S1024x6176 : Shape := ⟨2, ![1024, 6176]⟩
abbrev S1024x32 : Shape := ⟨2, ![1024, 32]⟩
abbrev S16384x32 : Shape := ⟨2, ![16384, 32]⟩
abbrev S_ : Shape := ⟨0, ![]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6176, .f32⟩
  | .hbm, ⟨2, _⟩ => ⟨S1024x32, .f32⟩
  | .hbm, ⟨3, _⟩ => ⟨S16384x32, .f32⟩
  | .hbm, ⟨4, _⟩ => ⟨S_, .i32⟩
  | .hbm, ⟨5, _⟩ => ⟨S_, .f32⟩
  | .hbm, ⟨6, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel37.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference37Ideal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.FlashOffsets.lean ====
module

public import proofs.«01_k».proof.Proof.Gen.KernelIdeal.Skeleton
public import Idealize.ShloMosaic.Lib.Exec

/-! Where the gradient's body reads and writes: each access's offsets as plain numbers. A trip `k` of the loop over
    full pairs of key tiles works on tiles `2 * k` and `2 * k + 1`; the odd row tile `i` closes with the pair
    `i - 1, i`; the even one with tile `i`. -/

@[expose] public section

set_option maxRecDepth 16384

namespace Cert.KernelIdeal.Flash

open Idealize.ShloMosaic
open Cert.KernelIdeal Cert.KernelIdeal.Gen

theorem trips_eq : ∀ i : grid0.Coords, (k0_t1_loop i).trips = (i 1).val / 2 := by decide +kernel
theorem trips2_eq : ∀ i : grid0.Coords, (k0_t2_loop i).trips = 0 := by decide +kernel

theorem off1_eq : ∀ (i : grid0.Coords) (k : Fin (k0_t1_loop i).trips), k0_off1 i k = ![0, 2048 * k.val, 0] := by decide +kernel
theorem off2_0_eq : ∀ (i : grid0.Coords) (k : Fin (k0_t1_loop i).trips), k0_off2 i k 0#32 = ![0, 2 * k.val, 0, 0] := by decide +kernel
theorem off2_1_eq : ∀ (i : grid0.Coords) (k : Fin (k0_t1_loop i).trips), k0_off2 i k 1#32 = ![0, 2 * k.val + 1, 0, 0] := by decide +kernel
theorem off3_0_eq : ∀ (i : grid0.Coords) (k : Fin (k0_t1_loop i).trips), k0_off3 i k 0#32 = ![0, 2 * k.val, 0, 0] := by decide +kernel
theorem off3_1_eq : ∀ (i : grid0.Coords) (k : Fin (k0_t1_loop i).trips), k0_off3 i k 1#32 = ![0, 2 * k.val + 1, 0, 0] := by decide +kernel

theorem off7_eq : ∀ i : grid0.Coords, k0_cond2 i = 1#1 → k0_off7 i = ![0, 1024 * (((i 1).val - 1)), 0] := by decide +kernel
theorem off8_0_eq : ∀ i : grid0.Coords, k0_cond2 i = 1#1 → k0_off8 i 0#32 = ![0, ((i 1).val - 1), 0, 0] := by decide +kernel
theorem off8_1_eq : ∀ i : grid0.Coords, k0_cond2 i = 1#1 → k0_off8 i 1#32 = ![0, (i 1).val, 0, 0] := by decide +kernel
theorem off9_0_eq : ∀ i : grid0.Coords, k0_cond2 i = 1#1 → k0_off9 i 0#32 = ![0, ((i 1).val - 1), 0, 0] := by decide +kernel
theorem off9_1_eq : ∀ i : grid0.Coords, k0_cond2 i = 1#1 → k0_off9 i 1#32 = ![0, (i 1).val, 0, 0] := by decide +kernel
theorem off10_eq : ∀ i : grid0.Coords, k0_off10 i = ![0, 1024 * (i 1).val, 0] := by decide +kernel
theorem off11_eq : ∀ i : grid0.Coords, k0_off11 i = ![0, (i 1).val, 0, 0] := by decide +kernel
theorem off12_eq : ∀ i : grid0.Coords, k0_off12 i = ![0, (i 1).val, 0, 0] := by decide +kernel
theorem off13_eq : ∀ i : grid0.Coords, k0_off13 i = ![0, (i 1).val, 0, 0] := by decide +kernel

instance (i : grid0.Coords) (k : Fin (k0_t1_loop i).trips) : ClosedOff (k0_off1 i k) := ⟨_, off1_eq i k⟩
instance (i : grid0.Coords) (k : Fin (k0_t1_loop i).trips) : ClosedOff (k0_off2 i k 0#32) := ⟨_, off2_0_eq i k⟩
instance (i : grid0.Coords) (k : Fin (k0_t1_loop i).trips) : ClosedOff (k0_off2 i k 1#32) := ⟨_, off2_1_eq i k⟩
instance (i : grid0.Coords) (k : Fin (k0_t1_loop i).trips) : ClosedOff (k0_off3 i k 0#32) := ⟨_, off3_0_eq i k⟩
instance (i : grid0.Coords) (k : Fin (k0_t1_loop i).trips) : ClosedOff (k0_off3 i k 1#32) := ⟨_, off3_1_eq i k⟩
instance (i : grid0.Coords) [h : Fact (k0_cond2 i = 1#1)] : ClosedOff (k0_off7 i) := ⟨_, off7_eq i h.out⟩
instance (i : grid0.Coords) [h : Fact (k0_cond2 i = 1#1)] : ClosedOff (k0_off8 i 0#32) := ⟨_, off8_0_eq i h.out⟩
instance (i : grid0.Coords) [h : Fact (k0_cond2 i = 1#1)] : ClosedOff (k0_off8 i 1#32) := ⟨_, off8_1_eq i h.out⟩
instance (i : grid0.Coords) [h : Fact (k0_cond2 i = 1#1)] : ClosedOff (k0_off9 i 0#32) := ⟨_, off9_0_eq i h.out⟩
instance (i : grid0.Coords) [h : Fact (k0_cond2 i = 1#1)] : ClosedOff (k0_off9 i 1#32) := ⟨_, off9_1_eq i h.out⟩
instance (i : grid0.Coords) : ClosedOff (k0_off10 i) := ⟨_, off10_eq i⟩
instance (i : grid0.Coords) : ClosedOff (k0_off11 i) := ⟨_, off11_eq i⟩
instance (i : grid0.Coords) : ClosedOff (k0_off12 i) := ⟨_, off12_eq i⟩
instance (i : grid0.Coords) : ClosedOff (k0_off13 i) := ⟨_, off13_eq i⟩

theorem cond2_iff : ∀ i : grid0.Coords, k0_cond2 i = 1#1 ↔ (i 1).val % 2 = 1 := by decide +kernel
theorem cond3_iff : ∀ i : grid0.Coords, k0_cond3 i = 1#1 ↔ (i 1).val % 2 = 0 := by decide +kernel

end Cert.KernelIdeal.Flash
-- ==== Proof.FlashTrip.lean ====
module

public import proofs.«01_k».proof.Proof.FlashOffsets
public import Idealize.ShloMosaic.Lib.Tactic
public import Idealize.ShloMosaic.Lib.Pipeline.Kit

/-! One trip of the loop over full pairs of key tiles. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the trip holds: the keys, the values and the keys' gate rows, read; the five buffers it adds into. -/
abbrev Held (c : Dev nD)
    (arg3 arg4 : Memref sig .tc .vmem S1x16384x64 .bf16) (arg11 : Memref sig .tc .vmem S1x16x1x1024 .f32)
    (arg14 arg15 : Memref sig .tc .vmem S1x16x64x1024 .f32) (arg16 : Memref sig .tc .vmem S1x16x1x1024 .f32)
    (arg17 : Memref sig .tc .vmem S1024x64 .f32) (arg18 : Memref sig .tc .vmem S1024x1 .f32)
    (X3 : BufTy.Contents (Elt F) arg3.view.ty) (X4 : BufTy.Contents (Elt F) arg4.view.ty) (X11 : BufTy.Contents (Elt F) arg11.view.ty)
    (f14 : BufTy.Contents (Elt F) arg14.view.ty) (f15 : BufTy.Contents (Elt F) arg15.view.ty)
    (f16 : BufTy.Contents (Elt F) arg16.view.ty) (f17 : BufTy.Contents (Elt F) arg17.view.ty) (f18 : BufTy.Contents (Elt F) arg18.view.ty) : sProp 𝕄 :=
  iprop((arg3.view.loc (c : Thread nD τ) ↦[arg3.view.set]{fullShare} X3) ∗ (arg4.view.loc (c : Thread nD τ) ↦[arg4.view.set]{fullShare} X4)
    ∗ (arg11.view.loc (c : Thread nD τ) ↦[arg11.view.set]{fullShare} X11)
    ∗ (arg14.view.loc (c : Thread nD τ) ↦[arg14.view.set]{fullShare} f14) ∗ (arg15.view.loc (c : Thread nD τ) ↦[arg15.view.set]{fullShare} f15)
    ∗ (arg16.view.loc (c : Thread nD τ) ↦[arg16.view.set]{fullShare} f16) ∗ (arg17.view.loc (c : Thread nD τ) ↦[arg17.view.set]{fullShare} f17)
    ∗ (arg18.view.loc (c : Thread nD τ) ↦[arg18.view.set]{fullShare} f18))

/-- One trip run: the pieces it writes into the five buffers, as functions of what it finds there. -/
@[irreducible] def trip (𝒱 : Variants) (c : Dev nD) (bd : Option 𝒱.V) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole)
    (arg1 : BitVec 32) (v6 : FVec F S1024x64 .bf16) (v8 : FVec F S1024x64 .bf16) (v12 : FVec F S64x1024 .bf16) (v14 : FVec F S64x1024 .bf16) (v21 : FVec F S1024x1 .f32) (v26 : FVec F S1024x1 .f32) (v27 : FVec F S1024x64 .f32)
    (X3 : BufTy.Contents (Elt F) arg3.view.ty) (X4 : BufTy.Contents (Elt F) arg4.view.ty) (X11 : BufTy.Contents (Elt F) arg11.view.ty)
    (k : Fin (k0_t1_loop i).trips)
    (f14 : BufTy.Contents (Elt F) arg14.view.ty) (f15 : BufTy.Contents (Elt F) arg15.view.ty)
    (f16 : BufTy.Contents (Elt F) arg16.view.ty) (f17 : BufTy.Contents (Elt F) arg17.view.ty) (f18 : BufTy.Contents (Elt F) arg18.view.ty) :
    { L : List (View.Piece (Elt F) S1x16x64x1024 .f32) × List (View.Piece (Elt F) S1x16x64x1024 .f32)
        × List (View.Piece (Elt F) S1x16x1x1024 .f32) × List (View.Piece (Elt F) S1024x64 .f32) × List (View.Piece (Elt F) S1024x1 .f32) //
      ∀ (E : Set ℕ),
      Held (F := F) c arg3 arg4 arg11 arg14 arg15 arg16 arg17 arg18 X3 X4 X11 f14 f15 f16 f17 f18
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 k PUnit.unit)
          (fun _ => Held (F := F) c arg3 arg4 arg11 arg14 arg15 arg16 arg17 arg18 X3 X4 X11
            (arg14.view.writes (Elt F) f14 L.1) (arg15.view.writes (Elt F) f15 L.2.1) (arg16.view.writes (Elt F) f16 L.2.2.1)
            (arg17.view.writes (Elt F) f17 L.2.2.2.1) (arg18.view.writes (Elt F) f18 L.2.2.2.2)) } := by
  refine ⟨⟨?_, ?_, ?_, ?_, ?_⟩, fun E => ?run⟩
  case run =>
    unfold k0_t1_body
    iintro ⟨H3, H4, H11, H14, H15, H16, H17, H18⟩
    sl_exec_parts
    sl_step
    isplitl [H3]; · iexact H3
    isplitl [H4]; · iexact H4
    isplitl [H11]; · iexact H11
    isplitl [H14]; · iexact H14
    isplitl [H15]; · iexact H15
    isplitl [H16]; · iexact H16
    isplitl [H17]; · iexact H17
    iexact H18

end Cert.KernelIdeal.Flash
-- ==== Proof.FlashLoop.lean ====
module

public import proofs.«01_k».proof.Proof.FlashTrip

/-! The loop over full pairs of key tiles, as the trips' effects composed: what the five buffers hold before trip `k` is
    a recursion over the trips. The loop over single left-over trips that follows it in the program never runs. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first `k` of `n` steps, from `s`. -/
def trips {α : Type} {n : ℕ} (f : Fin n → α → α) (s : α) : ℕ → α
  | 0 => s
  | k + 1 => if h : k < n then f ⟨k, h⟩ (trips f s k) else trips f s k

theorem trips_succ {α : Type} {n : ℕ} (f : Fin n → α → α) (s : α) (k : Fin n) : trips f s (k.val + 1) = f k (trips f s k.val) := by
  rw [trips.eq_2]; exact dif_pos k.isLt

section
variable (𝒱 : Variants) (c : Dev nD) (bd : Option 𝒱.V) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole)
    (arg1 : BitVec 32) (v6 : FVec F S1024x64 .bf16) (v8 : FVec F S1024x64 .bf16) (v12 : FVec F S64x1024 .bf16) (v14 : FVec F S64x1024 .bf16) (v21 : FVec F S1024x1 .f32) (v26 : FVec F S1024x1 .f32) (v27 : FVec F S1024x64 .f32)
    (X3 : BufTy.Contents (Elt F) arg3.view.ty) (X4 : BufTy.Contents (Elt F) arg4.view.ty) (X11 : BufTy.Contents (Elt F) arg11.view.ty)

/-- What the five buffers hold. -/
abbrev State (arg14 arg15 : Memref sig .tc .vmem S1x16x64x1024 .f32) (arg16 : Memref sig .tc .vmem S1x16x1x1024 .f32)
    (arg17 : Memref sig .tc .vmem S1024x64 .f32) (arg18 : Memref sig .tc .vmem S1024x1 .f32) : Type :=
  BufTy.Contents (Elt F) arg14.view.ty × BufTy.Contents (Elt F) arg15.view.ty × BufTy.Contents (Elt F) arg16.view.ty
    × BufTy.Contents (Elt F) arg17.view.ty × BufTy.Contents (Elt F) arg18.view.ty

/-- Pieces written into each of the five, newest first. -/
abbrev Lists (F : FTy → Type) : Type :=
  List (View.Piece (Elt F) S1x16x64x1024 .f32) × List (View.Piece (Elt F) S1x16x64x1024 .f32)
    × List (View.Piece (Elt F) S1x16x1x1024 .f32) × List (View.Piece (Elt F) S1024x64 .f32) × List (View.Piece (Elt F) S1024x1 .f32)

/-- The pieces `a` on top of the pieces `b`. -/
def Lists.over (a b : Lists F) : Lists F := (a.1 ++ b.1, a.2.1 ++ b.2.1, a.2.2.1 ++ b.2.2.1, a.2.2.2.1 ++ b.2.2.2.1, a.2.2.2.2 ++ b.2.2.2.2)

/-- The five buffers with pieces written into them. -/
def State.put {arg14 arg15 : Memref sig .tc .vmem S1x16x64x1024 .f32} {arg16 : Memref sig .tc .vmem S1x16x1x1024 .f32} {arg17 : Memref sig .tc .vmem S1024x64 .f32} {arg18 : Memref sig .tc .vmem S1024x1 .f32} (s : State (F := F) arg14 arg15 arg16 arg17 arg18) (L : Lists F) : State (F := F) arg14 arg15 arg16 arg17 arg18 :=
  (arg14.view.writes (Elt F) s.1 L.1, arg15.view.writes (Elt F) s.2.1 L.2.1, arg16.view.writes (Elt F) s.2.2.1 L.2.2.1,
    arg17.view.writes (Elt F) s.2.2.2.1 L.2.2.2.1, arg18.view.writes (Elt F) s.2.2.2.2 L.2.2.2.2)

theorem State.put_over {arg14 arg15 : Memref sig .tc .vmem S1x16x64x1024 .f32} {arg16 : Memref sig .tc .vmem S1x16x1x1024 .f32} {arg17 : Memref sig .tc .vmem S1024x64 .f32} {arg18 : Memref sig .tc .vmem S1024x1 .f32} (s : State (F := F) arg14 arg15 arg16 arg17 arg18) (a b : Lists F) : s.put (a.over b) = (s.put b).put a := by
  simp only [State.put, Lists.over, View.writes_append]

/-- The pieces one trip writes. -/
@[irreducible] def news (k : Fin (k0_t1_loop i).trips) (s : State (F := F) arg14 arg15 arg16 arg17 arg18) : Lists F :=
  (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s.1 s.2.1 s.2.2.1 s.2.2.2.1 s.2.2.2.2).1

set_option maxHeartbeats 2000000 in
/-- One trip, its pieces named. -/
theorem trip_news (k : Fin (k0_t1_loop i).trips) (s : State (F := F) arg14 arg15 arg16 arg17 arg18) (E : Set ℕ) :
    Held (F := F) c arg3 arg4 arg11 arg14 arg15 arg16 arg17 arg18 X3 X4 X11 s.1 s.2.1 s.2.2.1 s.2.2.2.1 s.2.2.2.2
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 k PUnit.unit)
          (fun _ => Held (F := F) c arg3 arg4 arg11 arg14 arg15 arg16 arg17 arg18 X3 X4 X11 (s.put (news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s)).1 (s.put (news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s)).2.1 (s.put (news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s)).2.2.1 (s.put (news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s)).2.2.2.1 (s.put (news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s)).2.2.2.2) := by
  unfold news State.put
  exact (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k s.1 s.2.1 s.2.2.1 s.2.2.2.1 s.2.2.2.2).2 E

/-- The pieces written before trip `k`, from the five buffers at the loop's entry. -/
abbrev pieces (s : State (F := F) arg14 arg15 arg16 arg17 arg18) : ℕ → Lists F :=
  trips (fun k L => (news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k (s.put L)).over L) ([], [], [], [], [])

/-- What holds before trip `k`. -/
abbrev inv (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) : sProp 𝕄 :=
  iprop((arg3.view.loc (c : Thread nD τ) ↦[arg3.view.set]{fullShare} X3) ∗ (arg4.view.loc (c : Thread nD τ) ↦[arg4.view.set]{fullShare} X4)
    ∗ (arg11.view.loc (c : Thread nD τ) ↦[arg11.view.set]{fullShare} X11)
    ∗ (∃ f, (arg14.view.loc (c : Thread nD τ) ↦[arg14.view.set]{fullShare} f) ∗ ⌜f = arg14.view.writes (Elt F) G14 (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 (G14, G15, G16, G17, G18) k).1⌝)
    ∗ (∃ f, (arg15.view.loc (c : Thread nD τ) ↦[arg15.view.set]{fullShare} f) ∗ ⌜f = arg15.view.writes (Elt F) G15 (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 (G14, G15, G16, G17, G18) k).2.1⌝)
    ∗ (∃ f, (arg16.view.loc (c : Thread nD τ) ↦[arg16.view.set]{fullShare} f) ∗ ⌜f = arg16.view.writes (Elt F) G16 (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 (G14, G15, G16, G17, G18) k).2.2.1⌝)
    ∗ (∃ f, (arg17.view.loc (c : Thread nD τ) ↦[arg17.view.set]{fullShare} f) ∗ ⌜f = arg17.view.writes (Elt F) G17 (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 (G14, G15, G16, G17, G18) k).2.2.2.1⌝)
    ∗ (∃ f, (arg18.view.loc (c : Thread nD τ) ↦[arg18.view.set]{fullShare} f) ∗ ⌜f = arg18.view.writes (Elt F) G18 (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 (G14, G15, G16, G17, G18) k).2.2.2.2⌝))

set_option warn.classDefReducibility false in
/-- The loop, by that invariant. -/
@[sl_loop] def loop (E : Set ℕ) (G14 : BufTy.Contents (Elt F) arg14.view.ty) (G15 : BufTy.Contents (Elt F) arg15.view.ty)
    (G16 : BufTy.Contents (Elt F) arg16.view.ty) (G17 : BufTy.Contents (Elt F) arg17.view.ty) (G18 : BufTy.Contents (Elt F) arg18.view.ty) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27) where
  inv := fun k _ => inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 G14 G15 G16 G17 G18 k
  step k acc := by
    iintro ⟨H3, H4, H11, ⟨%f14, H14, %h14⟩, ⟨%f15, H15, %h15⟩, ⟨%f16, H16, %h16⟩, ⟨%f17, H17, %h17⟩, ⟨%f18, H18, %h18⟩⟩
    iapply (wp_wand_r Idealize.ShloMosaic.frame (wpE (defs₀ (F := F)) 𝒱 (c : Thread nD τ) bd) E)
    isplitl [H3 H4 H11 H14 H15 H16 H17 H18]
    · iapply (trip_news 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k
        (State.put (G14, G15, G16, G17, G18) (pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 (G14, G15, G16, G17, G18) k.val)) E)
      subst h14 h15 h16 h17 h18
      unfold State.put
      isplitl [H3]; · iexact H3
      isplitl [H4]; · iexact H4
      isplitl [H11]; · iexact H11
      isplitl [H14]; · iexact H14
      isplitl [H15]; · iexact H15
      isplitl [H16]; · iexact H16
      isplitl [H17]; · iexact H17
      iexact H18
    · iintro %_ ⟨H3, H4, H11, H14, H15, H16, H17, H18⟩
      rw [← State.put_over]
      unfold inv pieces
      rw [trips_succ]
      isplitl [H3]; · iexact H3
      isplitl [H4]; · iexact H4
      isplitl [H11]; · iexact H11
      isplitl [H14]; · iexists _; isplitl [H14]; · iexact H14
                       ipureintro; rfl
      isplitl [H15]; · iexists _; isplitl [H15]; · iexact H15
                       ipureintro; rfl
      isplitl [H16]; · iexists _; isplitl [H16]; · iexact H16
                       ipureintro; rfl
      isplitl [H17]; · iexists _; isplitl [H17]; · iexact H17
                       ipureintro; rfl
      iexists _; isplitl [H18]; · iexact H18
      ipureintro; rfl

set_option warn.classDefReducibility false in
/-- The loop over left-over trips: it has none. -/
@[sl_loop] def noLoop (E : Set ℕ) (v56 : BitVec 32) :
    Idealize.ShloMosaic.LoopInv (M := 𝕄) Idealize.ShloMosaic.frame (wpE (defs₀ (F := F)) 𝒱 (c : Thread nD τ) bd) E
      (k0_t2_loop i).lb (k0_t2_loop i).ub (k0_t2_loop i).st (k0_t2_ok i) ()
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 v56) where
  inv := fun _ _ => iprop(emp)
  step k acc := (k.cast (trips2_eq i)).elim0

end

end Cert.KernelIdeal.Flash
-- ==== Proof.FlashRunA.lean ====
module

public import proofs.«01_k».proof.Proof.FlashLoop
public import proofs.«01_k».proof.Proof.Gen.KernelIdeal.Frame

/-! The body at the first row tile of a head: the key-side buffers are zeroed, no full pair comes before the tile's own keys. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3000000 in
/-- The body at the first row tile of a head: the key-side buffers are zeroed, no full pair comes before the tile's own keys. -/
@[irreducible] def runFirst (c : Dev nD) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole) (h1 : (Scalar.cmpi .ne (Scalar.extui (Scalar.cmpi .eq (BitVec.ofNat 32 (i 1).val) 0#32)) 0#32) = 1#1) (h2 : ¬k0_cond2 i = 1#1) (h3 : k0_cond3 i = 1#1)
    (x2 : Vec F S1x1024x64 .bf16) (x3 : Vec F S1x16384x64 .bf16) (x4 : Vec F S1x16384x64 .bf16) (x5 : Vec F S1x1024x64 .bf16) (x6 : Vec F S1x1024x64 .bf16) (x7 : Vec F S1x64x1024 .bf16) (x8 : Vec F S1x64x1024 .bf16) (x9 : Vec F S1x1024x1 .f32) (x10 : Vec F S1x1024x1 .f32) (x11 : Vec F S1x16x1x1024 .f32) :
    Σ' (W12 : BufTy.Contents (Elt F) arg12.view.ty) (W13 : BufTy.Contents (Elt F) arg13.view.ty) (W14 : BufTy.Contents (Elt F) arg14.view.ty) (W15 : BufTy.Contents (Elt F) arg15.view.ty), { W16 : BufTy.Contents (Elt F) arg16.view.ty //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W12) ∗ (arg13.view.loc (c : Thread nD τ) ↦[arg13.view.set]{fullShare} W13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (∃ d, owns (c : Thread nD τ) arg17 fullShare d) ∗ (∃ d, owns (c : Thread nD τ) arg18 fullShare d)) -∗ K ⟨⟩))
          ⊢ wp frame (wpE (defs₀ (F := F)) Variants.none c none) E (cc0_l0_attn_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_l0_attn_flash_bwd_eq_skeleton]; unfold cc0_l0_attn_flash_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    have hi : (i 1).val < 16 := (i 1).isLt
    sl_exec_parts! (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]
    · iexists _, _; isplitr; swap; · iexact H17
      ipureintro; rfl
    iexists _, _; isplitr; swap; · iexact H18
    ipureintro; rfl

end Cert.KernelIdeal.Flash
-- ==== Proof.FlashRunB.lean ====
module

public import proofs.«01_k».proof.Proof.FlashLoop
public import proofs.«01_k».proof.Proof.Gen.KernelIdeal.Frame

/-! The body at a later even row tile: its full pairs, then its own keys. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3000000 in
/-- The body at a later even row tile: its full pairs, then its own keys. -/
@[irreducible] def runEven (c : Dev nD) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole) (h1 : ¬(Scalar.cmpi .ne (Scalar.extui (Scalar.cmpi .eq (BitVec.ofNat 32 (i 1).val) 0#32)) 0#32) = 1#1) (h2 : ¬k0_cond2 i = 1#1) (h3 : k0_cond3 i = 1#1)
    (x2 : Vec F S1x1024x64 .bf16) (x3 : Vec F S1x16384x64 .bf16) (x4 : Vec F S1x16384x64 .bf16) (x5 : Vec F S1x1024x64 .bf16) (x6 : Vec F S1x1024x64 .bf16) (x7 : Vec F S1x64x1024 .bf16) (x8 : Vec F S1x64x1024 .bf16) (x9 : Vec F S1x1024x1 .f32) (x10 : Vec F S1x1024x1 .f32) (x11 : Vec F S1x16x1x1024 .f32) (x14 : Vec F S1x16x64x1024 .f32) (x15 : Vec F S1x16x64x1024 .f32) (x16 : Vec F S1x16x1x1024 .f32) :
    Σ' (W12 : BufTy.Contents (Elt F) arg12.view.ty) (W13 : BufTy.Contents (Elt F) arg13.view.ty) (W14 : BufTy.Contents (Elt F) arg14.view.ty) (W15 : BufTy.Contents (Elt F) arg15.view.ty), { W16 : BufTy.Contents (Elt F) arg16.view.ty //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W12) ∗ (arg13.view.loc (c : Thread nD τ) ↦[arg13.view.set]{fullShare} W13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (∃ d, owns (c : Thread nD τ) arg17 fullShare d) ∗ (∃ d, owns (c : Thread nD τ) arg18 fullShare d)) -∗ K ⟨⟩))
          ⊢ wp frame (wpE (defs₀ (F := F)) Variants.none c none) E (cc0_l0_attn_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_l0_attn_flash_bwd_eq_skeleton]; unfold cc0_l0_attn_flash_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16
    have hi : (i 1).val < 16 := (i 1).isLt
    sl_exec_parts! (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]
    · iexists _, _; isplitr; swap; · iexact H17
      ipureintro; rfl
    iexists _, _; isplitr; swap; · iexact H18
    ipureintro; rfl

end Cert.KernelIdeal.Flash
-- ==== Proof.FlashRunC.lean ====
module

public import proofs.«01_k».proof.Proof.FlashLoop
public import proofs.«01_k».proof.Proof.Gen.KernelIdeal.Frame

/-! The body at an odd row tile: its full pairs, then the pair that ends in its own keys. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 3000000 in
/-- The body at an odd row tile: its full pairs, then the pair that ends in its own keys. -/
@[irreducible] def runOdd (c : Dev nD) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole) (h1 : ¬(Scalar.cmpi .ne (Scalar.extui (Scalar.cmpi .eq (BitVec.ofNat 32 (i 1).val) 0#32)) 0#32) = 1#1) (h2 : k0_cond2 i = 1#1) (h3 : ¬k0_cond3 i = 1#1)
    (x2 : Vec F S1x1024x64 .bf16) (x3 : Vec F S1x16384x64 .bf16) (x4 : Vec F S1x16384x64 .bf16) (x5 : Vec F S1x1024x64 .bf16) (x6 : Vec F S1x1024x64 .bf16) (x7 : Vec F S1x64x1024 .bf16) (x8 : Vec F S1x64x1024 .bf16) (x9 : Vec F S1x1024x1 .f32) (x10 : Vec F S1x1024x1 .f32) (x11 : Vec F S1x16x1x1024 .f32) (x14 : Vec F S1x16x64x1024 .f32) (x15 : Vec F S1x16x64x1024 .f32) (x16 : Vec F S1x16x1x1024 .f32) :
    Σ' (W12 : BufTy.Contents (Elt F) arg12.view.ty) (W13 : BufTy.Contents (Elt F) arg13.view.ty) (W14 : BufTy.Contents (Elt F) arg14.view.ty) (W15 : BufTy.Contents (Elt F) arg15.view.ty), { W16 : BufTy.Contents (Elt F) arg16.view.ty //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W12) ∗ (arg13.view.loc (c : Thread nD τ) ↦[arg13.view.set]{fullShare} W13) ∗ (arg14.view.loc (c : Thread nD τ) ↦[arg14.view.set]{fullShare} W14) ∗ (arg15.view.loc (c : Thread nD τ) ↦[arg15.view.set]{fullShare} W15) ∗ (arg16.view.loc (c : Thread nD τ) ↦[arg16.view.set]{fullShare} W16) ∗ (∃ d, owns (c : Thread nD τ) arg17 fullShare d) ∗ (∃ d, owns (c : Thread nD τ) arg18 fullShare d)) -∗ K ⟨⟩))
          ⊢ wp frame (wpE (defs₀ (F := F)) Variants.none c none) E (cc0_l0_attn_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_l0_attn_flash_bwd_eq_skeleton]; unfold cc0_l0_attn_flash_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16
    haveI : Fact (k0_cond2 i = 1#1) := ⟨h2⟩
    sl_exec_parts! (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]
    · iexists _, _; isplitr; swap; · iexact H17
      ipureintro; rfl
    iexists _, _; isplitr; swap; · iexact H18
    ipureintro; rfl

end Cert.KernelIdeal.Flash
-- ==== Proof.FlashFrame.lean ====
module

public import proofs.«01_k».proof.Proof.FlashRunA
public import proofs.«01_k».proof.Proof.FlashRunB
public import proofs.«01_k».proof.Proof.FlashRunC
public import Idealize.ShloMosaic.Lib.Claim

/-! The launch of the attention's backward pass: what each grid point leaves in the five result buffers, a recursion along
    the row tiles of a head, and the run of the whole program from it, over any values. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/

/-- Window 0's buffer at point `t`. -/
abbrev buf0 (t : Fin cfg0.N) : Memref sig .tc .vmem S1x1024x64 .bf16 := win0_0.stage (cfg0.slots t 0)
theorem whole0 (t : Fin cfg0.N) : (buf0 t).IsWhole := hstage0_0 ((cfg0.slots t 0).cast nbuf0_0)
/-- Window 1's buffer at point `t`. -/
abbrev buf1 (t : Fin cfg0.N) : Memref sig .tc .vmem S1x16384x64 .bf16 := win0_1.stage (cfg0.slots t 1)
theorem whole1 (t : Fin cfg0.N) : (buf1 t).IsWhole := hstage0_1 ((cfg0.slots t 1).cast nbuf0_1)
/-- Window 2's buffer at point `t`. -/
abbrev buf2 (t : Fin cfg0.N) : Memref sig .tc .vmem S1x16384x64 .bf16 := win0_2.stage (cfg0.slots t 2)
theorem whole2 (t : Fin cfg0.N) : (buf2 t).IsWhole := hstage0_2 ((cfg0.slots t 2).cast nbuf0_2)
/-- Window 3's buffer at point `t`. -/
abbrev buf3 (t : Fin cfg0.N) : Memref sig .tc .vmem S1x1024x64 .bf16 := win0_3.stage (cfg0.slots t 3)
theorem whole3 (t : Fin cfg0.N) : (buf3 t).IsWhole := hstage0_3 ((cfg0.slots t 3).cast nbuf0_3)
/-- Window 4's buffer at point `t`. -/
abbrev buf4 (t : Fin cfg0.N) : Memref sig .tc .vmem S1x1024x64 .bf16 := win0_4.stage (cfg0.slots t 4)
theorem whole4 (t : Fin cfg0.N) : (buf4 t).IsWhole := hstage0_4 ((cfg0.slots t 4).cast nbuf0_4)
/-- Window 5's buffer at point `t`. -/
abbrev buf5 (t : Fin cfg0.N) : Memref sig .tc .vmem S1x64x1024 .bf16 := win0_5.stage (cfg0.slots t 5)
theorem whole5 (t : Fin cfg0.N) : (buf5 t).IsWhole := hstage0_5 ((cfg0.slots t 5).cast nbuf0_5)
/-- Window 6's buffer at point `t`. -/
abbrev buf6 (t : Fin cfg0.N) : Memref sig .tc .vmem S1x64x1024 .bf16 := win0_6.stage (cfg0.slots t 6)
theorem whole6 (t : Fin cfg0.N) : (buf6 t).IsWhole := hstage0_6 ((cfg0.slots t 6).cast nbuf0_6)
/-- Window 7's buffer at point `t`. -/
abbrev buf7 (t : Fin cfg0.N) : Memref sig .tc .vmem S1x1024x1 .f32 := win0_7.stage (cfg0.slots t 7)
theorem whole7 (t : Fin cfg0.N) : (buf7 t).IsWhole := hstage0_7 ((cfg0.slots t 7).cast nbuf0_7)
/-- Window 8's buffer at point `t`. -/
abbrev buf8 (t : Fin cfg0.N) : Memref sig .tc .vmem S1x1024x1 .f32 := win0_8.stage (cfg0.slots t 8)
theorem whole8 (t : Fin cfg0.N) : (buf8 t).IsWhole := hstage0_8 ((cfg0.slots t 8).cast nbuf0_8)
/-- Window 9's buffer at point `t`. -/
abbrev buf9 (t : Fin cfg0.N) : Memref sig .tc .vmem S1x16x1x1024 .f32 := win0_9.stage (cfg0.slots t 9)
theorem whole9 (t : Fin cfg0.N) : (buf9 t).IsWhole := hstage0_9 ((cfg0.slots t 9).cast nbuf0_9)
/-- Window 10's buffer at point `t`. -/
abbrev buf10 (t : Fin cfg0.N) : Memref sig .tc .vmem S1x1024x64 .bf16 := win0_10.stage (cfg0.slots t 10)
theorem whole10 (t : Fin cfg0.N) : (buf10 t).IsWhole := hstage0_10 ((cfg0.slots t 10).cast nbuf0_10)
/-- Window 11's buffer at point `t`. -/
abbrev buf11 (t : Fin cfg0.N) : Memref sig .tc .vmem S1x1024x1 .f32 := win0_11.stage (cfg0.slots t 11)
theorem whole11 (t : Fin cfg0.N) : (buf11 t).IsWhole := hstage0_11 ((cfg0.slots t 11).cast nbuf0_11)
/-- Window 12's buffer at point `t`. -/
abbrev buf12 (t : Fin cfg0.N) : Memref sig .tc .vmem S1x16x64x1024 .f32 := win0_12.stage (cfg0.slots t 12)
theorem whole12 (t : Fin cfg0.N) : (buf12 t).IsWhole := hstage0_12 ((cfg0.slots t 12).cast nbuf0_12)
/-- Window 13's buffer at point `t`. -/
abbrev buf13 (t : Fin cfg0.N) : Memref sig .tc .vmem S1x16x64x1024 .f32 := win0_13.stage (cfg0.slots t 13)
theorem whole13 (t : Fin cfg0.N) : (buf13 t).IsWhole := hstage0_13 ((cfg0.slots t 13).cast nbuf0_13)
/-- Window 14's buffer at point `t`. -/
abbrev buf14 (t : Fin cfg0.N) : Memref sig .tc .vmem S1x16x1x1024 .f32 := win0_14.stage (cfg0.slots t 14)
theorem whole14 (t : Fin cfg0.N) : (buf14 t).IsWhole := hstage0_14 ((cfg0.slots t 14).cast nbuf0_14)

/-- The row tile's own gradient of the queries, while it is summed. -/
abbrev acc0 : Memref sig .tc .vmem S1024x64 .f32 := Memref.whole cc0_scratch0
/-- The row tile's own gradient of the gate sums, while it is summed. -/
abbrev acc1 : Memref sig .tc .vmem S1024x1 .f32 := Memref.whole cc0_scratch1

/-- Between points: the two sums at anything, the generator's register at some state. -/
theorem between_eq (c : Dev nD) : (Pipeline.ΦA spec0 c : sProp 𝕄)
    = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-! ## Which case a point is -/

theorem row_val : ∀ t : Fin cfg0.N, (grid0.coords t 1).val = t.val % 16 := by decide +kernel

/-- The condition of the first row tile of a head, which zeroes the three arrays over the keys. -/
abbrev cond1 (i : grid0.Coords) : Prop :=
  (Scalar.cmpi .ne (Scalar.extui (Scalar.cmpi .eq (BitVec.ofNat 32 (i 1).val) 0#32)) 0#32) = 1#1

theorem cond1_iff : ∀ i : grid0.Coords, cond1 i ↔ (i 1).val = 0 := by decide +kernel

theorem first1 {t : Fin cfg0.N} (h : t.val % 16 = 0) : cond1 (grid0.coords t) := (cond1_iff _).2 ((row_val t).trans h)
theorem later1 {t : Fin cfg0.N} (h : ¬ t.val % 16 = 0) : ¬ cond1 (grid0.coords t) := fun hc => h ((row_val t).symm.trans ((cond1_iff _).1 hc))
theorem even2 {t : Fin cfg0.N} (h : ¬ t.val % 2 = 1) : ¬ k0_cond2 (grid0.coords t) = 1#1 := fun hc => by
  have := (cond2_iff _).1 hc; rw [row_val] at this; omega
theorem even3 {t : Fin cfg0.N} (h : ¬ t.val % 2 = 1) : k0_cond3 (grid0.coords t) = 1#1 := (cond3_iff _).2 (by rw [row_val]; omega)
theorem odd2 {t : Fin cfg0.N} (h : t.val % 2 = 1) : k0_cond2 (grid0.coords t) = 1#1 := (cond2_iff _).2 (by rw [row_val]; omega)
theorem odd3 {t : Fin cfg0.N} (h : t.val % 2 = 1) : ¬ k0_cond3 (grid0.coords t) = 1#1 := fun hc => by
  have := (cond3_iff _).1 hc; rw [row_val] at this; omega
theorem even_of_first {t : Fin cfg0.N} (h : t.val % 16 = 0) : ¬ t.val % 2 = 1 := by omega

/-! ## What a point leaves -/

/-- The five result buffers' contents. -/
abbrev Left (F : FTy → Type) : Type := Vec F S1x1024x64 .bf16 × Vec F S1x1024x1 .f32 × Vec F S1x16x64x1024 .f32 × Vec F S1x16x64x1024 .f32 × Vec F S1x16x1x1024 .f32

/-- The run at the first row tile of a head. -/
abbrev atFirst (c : Dev nD) (t : Fin cfg0.N) (h : t.val % 16 = 0) :=
  runFirst (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) acc0 (Memref.isWhole_whole _) acc1 (Memref.isWhole_whole _) (first1 h) (even2 (even_of_first h)) (even3 (even_of_first h))
    (iblk m c 0 t) (iblk m c 1 t) (iblk m c 2 t) (iblk m c 3 t) (iblk m c 4 t) (iblk m c 5 t) (iblk m c 6 t) (iblk m c 7 t) (iblk m c 8 t) (iblk m c 9 t)

/-- What it leaves. -/
def leftFirst (c : Dev nD) (t : Fin cfg0.N) (h : t.val % 16 = 0) : Left F :=
  ((buf10 t).view.read (Elt F) (atFirst m c t h).1,
    (buf11 t).view.read (Elt F) (atFirst m c t h).2.1,
    (buf12 t).view.read (Elt F) (atFirst m c t h).2.2.1,
    (buf13 t).view.read (Elt F) (atFirst m c t h).2.2.2.1,
    (buf14 t).view.read (Elt F) (atFirst m c t h).2.2.2.2.1)

/-- The run at a later even row tile, over what the point before left. -/
abbrev atEven (c : Dev nD) (t : Fin cfg0.N) (h : ¬ t.val % 16 = 0) (h2 : ¬ t.val % 2 = 1) (s : Left F) :=
  runEven (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) acc0 (Memref.isWhole_whole _) acc1 (Memref.isWhole_whole _) (later1 h) (even2 h2) (even3 h2)
    (iblk m c 0 t) (iblk m c 1 t) (iblk m c 2 t) (iblk m c 3 t) (iblk m c 4 t) (iblk m c 5 t) (iblk m c 6 t) (iblk m c 7 t) (iblk m c 8 t) (iblk m c 9 t) s.2.2.1 s.2.2.2.1 s.2.2.2.2

/-- What it leaves. -/
def leftEven (c : Dev nD) (t : Fin cfg0.N) (h : ¬ t.val % 16 = 0) (h2 : ¬ t.val % 2 = 1) (s : Left F) : Left F :=
  ((buf10 t).view.read (Elt F) (atEven m c t h h2 s).1,
    (buf11 t).view.read (Elt F) (atEven m c t h h2 s).2.1,
    (buf12 t).view.read (Elt F) (atEven m c t h h2 s).2.2.1,
    (buf13 t).view.read (Elt F) (atEven m c t h h2 s).2.2.2.1,
    (buf14 t).view.read (Elt F) (atEven m c t h h2 s).2.2.2.2.1)

/-- The run at an odd row tile, over what the point before left. -/
abbrev atOdd (c : Dev nD) (t : Fin cfg0.N) (h : ¬ t.val % 16 = 0) (h2 : t.val % 2 = 1) (s : Left F) :=
  runOdd (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) acc0 (Memref.isWhole_whole _) acc1 (Memref.isWhole_whole _) (later1 h) (odd2 h2) (odd3 h2)
    (iblk m c 0 t) (iblk m c 1 t) (iblk m c 2 t) (iblk m c 3 t) (iblk m c 4 t) (iblk m c 5 t) (iblk m c 6 t) (iblk m c 7 t) (iblk m c 8 t) (iblk m c 9 t) s.2.2.1 s.2.2.2.1 s.2.2.2.2

/-- What it leaves. -/
def leftOdd (c : Dev nD) (t : Fin cfg0.N) (h : ¬ t.val % 16 = 0) (h2 : t.val % 2 = 1) (s : Left F) : Left F :=
  ((buf10 t).view.read (Elt F) (atOdd m c t h h2 s).1,
    (buf11 t).view.read (Elt F) (atOdd m c t h h2 s).2.1,
    (buf12 t).view.read (Elt F) (atOdd m c t h h2 s).2.2.1,
    (buf13 t).view.read (Elt F) (atOdd m c t h h2 s).2.2.2.1,
    (buf14 t).view.read (Elt F) (atOdd m c t h h2 s).2.2.2.2.1)

/-- What point `n` leaves, along the row tiles of its head. -/
def leftAt (c : Dev nD) : (n : ℕ) → n < cfg0.N → Left F
  | 0, hn => leftFirst m c ⟨0, hn⟩ (Nat.zero_mod 16)
  | n + 1, hn =>
    if h : (n + 1) % 16 = 0 then leftFirst m c ⟨n + 1, hn⟩ h
    else if h2 : (n + 1) % 2 = 1 then leftOdd m c ⟨n + 1, hn⟩ h h2 (leftAt c n (Nat.lt_of_succ_lt hn))
    else leftEven m c ⟨n + 1, hn⟩ h h2 (leftAt c n (Nat.lt_of_succ_lt hn))

theorem before_lt (t : Fin cfg0.N) : t.val - 1 < cfg0.N := Nat.lt_of_le_of_lt (Nat.sub_le _ _) t.isLt

theorem leftAt_first (c : Dev nD) (t : Fin cfg0.N) (h : t.val % 16 = 0) : leftAt m c t.val t.isLt = leftFirst m c t h := by
  obtain ⟨n, hn⟩ := t
  cases n with
  | zero => rfl
  | succ n => exact (dif_pos h).trans rfl

theorem leftAt_odd (c : Dev nD) (t : Fin cfg0.N) (h : ¬ t.val % 16 = 0) (h2 : t.val % 2 = 1) :
    leftAt m c t.val t.isLt = leftOdd m c t h h2 (leftAt m c (t.val - 1) (before_lt t)) := by
  obtain ⟨n, hn⟩ := t
  cases n with
  | zero => exact absurd (Nat.zero_mod 16) h
  | succ n => exact ((dif_neg h).trans (dif_pos h2)).trans rfl

theorem leftAt_even (c : Dev nD) (t : Fin cfg0.N) (h : ¬ t.val % 16 = 0) (h2 : ¬ t.val % 2 = 1) :
    leftAt m c t.val t.isLt = leftEven m c t h h2 (leftAt m c (t.val - 1) (before_lt t)) := by
  obtain ⟨n, hn⟩ := t
  cases n with
  | zero => exact absurd (Nat.zero_mod 16) h
  | succ n => exact ((dif_neg h).trans (dif_neg h2)).trans rfl

/-! ## The proof data -/

/-- The launch's data: the arrays as the region finds them, an input's buffer at its block, the results' at `leftAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (leftAt m c t.val t.isLt).1
    | ⟨11, _⟩ => (leftAt m c t.val t.isLt).2.1
    | ⟨12, _⟩ => (leftAt m c t.val t.isLt).2.2.1
    | ⟨13, _⟩ => (leftAt m c t.val t.isLt).2.2.2.1
    | ⟨14, _⟩ => (leftAt m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (leftAt m c t.val t.isLt).1 := by dsimp only [dats]
theorem after_11 (c : Dev nD) (t : Fin cfg0.N) : (dats m 0 c).after 11 t = (leftAt m c t.val t.isLt).2.1 := by dsimp only [dats]
theorem after_12 (c : Dev nD) (t : Fin cfg0.N) : (dats m 0 c).after 12 t = (leftAt m c t.val t.isLt).2.2.1 := by dsimp only [dats]
theorem after_13 (c : Dev nD) (t : Fin cfg0.N) : (dats m 0 c).after 13 t = (leftAt m c t.val t.isLt).2.2.2.1 := by dsimp only [dats]
theorem after_14 (c : Dev nD) (t : Fin cfg0.N) : (dats m 0 c).after 14 t = (leftAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
/-- Window 12 keeps what the point before left, until the head's last row tile. -/
theorem before_12 (c : Dev nD) (t : Fin cfg0.N) (h : ¬ t.val % 16 = 0) (d) :
    (dats m 0 c).before 12 t d = (leftAt m c (t.val - 1) (before_lt t)).2.2.1 := by
  rw [Dat.before_out_kept _ 12 rfl t (by omega) (Bool.eq_false_iff.mpr fun hf => by
    have := (flush0_12 _).mp hf; dsimp only at this; omega) (fun _ => rfl) (fun _ _ => rfl)]
  dsimp only [dats]
/-- Window 13 keeps what the point before left, until the head's last row tile. -/
theorem before_13 (c : Dev nD) (t : Fin cfg0.N) (h : ¬ t.val % 16 = 0) (d) :
    (dats m 0 c).before 13 t d = (leftAt m c (t.val - 1) (before_lt t)).2.2.2.1 := by
  rw [Dat.before_out_kept _ 13 rfl t (by omega) (Bool.eq_false_iff.mpr fun hf => by
    have := (flush0_13 _).mp hf; dsimp only at this; omega) (fun _ => rfl) (fun _ _ => rfl)]
  dsimp only [dats]
/-- Window 14 keeps what the point before left, until the head's last row tile. -/
theorem before_14 (c : Dev nD) (t : Fin cfg0.N) (h : ¬ t.val % 16 = 0) (d) :
    (dats m 0 c).before 14 t d = (leftAt m c (t.val - 1) (before_lt t)).2.2.2.2 := by
  rw [Dat.before_out_kept _ 14 rfl t (by omega) (Bool.eq_false_iff.mpr fun hf => by
    have := (flush0_14 _).mp hf; dsimp only at this; omega) (fun _ => rfl) (fun _ _ => rfl)]
  dsimp only [dats]

/-! ## The body at a point -/

/-- Before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d)))

/-- After it. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ owns (c : Thread nD τ) (buf12 t) fullShare ((dats m 0 c).after 12 t)
    ∗ owns (c : Thread nD τ) (buf13 t) fullShare ((dats m 0 c).after 13 t)
    ∗ owns (c : Thread nD τ) (buf14 t) fullShare ((dats m 0 c).after 14 t))

/-- A buffer held at contents of its own type is held at what those contents read as. -/
theorem owns_read {S : Shape} {e : EltTy} (c : Dev nD) (M : Memref sig .tc .vmem S e) (W : BufTy.Contents (Elt F) M.view.ty) :
    (M.view.loc (c : Thread nD τ) ↦[M.view.set]{fullShare} W : sProp 𝕄) ⊢ owns (c : Thread nD τ) M fullShare (M.view.read (Elt F) W) := by
  unfold owns
  iintro H
  iexists _; isplitr
  swap; · iexact H
  ipureintro; rfl

/-- The body's triple at the first row tile of a head. -/
theorem soundFirst (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11, after_12, after_13, after_14]
  rw [show (dats m 0 c).Φ t.castSucc = Pipeline.ΦA spec0 c from rfl, between_eq, leftAt_first m c t h]
  unfold leftFirst; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atFirst m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_read c (buf10 t) _); iexact H10
  isplitl [H11]; · iapply (owns_read c (buf11 t) _); iexact H11
  isplitl [H12]; · iapply (owns_read c (buf12 t) _); iexact H12
  isplitl [H13]; · iapply (owns_read c (buf13 t) _); iexact H13
  iapply (owns_read c (buf14 t) _); iexact H14

/-- The body's triple at a later even row tile, over what the point before left. -/
theorem soundEven (c : Dev nD) (t : Fin cfg0.N) (h : ¬ t.val % 16 = 0) (h2 : ¬ t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_12 m c t h, before_13 m c t h, before_14 m c t h]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11, after_12, after_13, after_14]
  rw [show (dats m 0 c).Φ t.castSucc = Pipeline.ΦA spec0 c from rfl, between_eq, leftAt_even m c t h h2]
  unfold leftEven; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atEven m c t h h2 (leftAt m c (t.val - 1) (before_lt t))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_read c (buf10 t) _); iexact H10
  isplitl [H11]; · iapply (owns_read c (buf11 t) _); iexact H11
  isplitl [H12]; · iapply (owns_read c (buf12 t) _); iexact H12
  isplitl [H13]; · iapply (owns_read c (buf13 t) _); iexact H13
  iapply (owns_read c (buf14 t) _); iexact H14

/-- The body's triple at an odd row tile, over what the point before left. -/
theorem soundOdd (c : Dev nD) (t : Fin cfg0.N) (h : ¬ t.val % 16 = 0) (h2 : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_12 m c t h, before_13 m c t h, before_14 m c t h]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11, after_12, after_13, after_14]
  rw [show (dats m 0 c).Φ t.castSucc = Pipeline.ΦA spec0 c from rfl, between_eq, leftAt_odd m c t h h2]
  unfold leftOdd; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atOdd m c t h h2 (leftAt m c (t.val - 1) (before_lt t))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_read c (buf10 t) _); iexact H10
  isplitl [H11]; · iapply (owns_read c (buf11 t) _); iexact H11
  isplitl [H12]; · iapply (owns_read c (buf12 t) _); iexact H12
  isplitl [H13]; · iapply (owns_read c (buf13 t) _); iexact H13
  iapply (owns_read c (buf14 t) _); iexact H14

theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact soundFirst m c t h
  by_cases h2 : t.val % 2 = 1
  · exact soundOdd m c t h h2
  exact soundEven m c t h h2

theorem row_of_table (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_of_table]
  exact triple_restated (sound_body m c t) rfl .rfl fun _ => .rfl

/-! ## The whole program -/

set_option backward.isDefEq.respectTransparency.types false in
/-- The run, with every counter back at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every fair run ends with the result arrays at what the points leave, and every other array as the region found it. -/
theorem run_main : θ_run defs (onTc (τ := τ) (main (F := F))) (s₀ m ρ) (Pipeline.FramePost cfgs (dats m) 0 (V m)) :=
  (θ_run defs _ _).mono (fun _ h => h.1) (run_quiet m ρ)

/-- The frame: every fair run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.KernelIdeal.Flash
-- ==== Proof.FlashClaim.lean ====
/-
  The attention's backward pass: the frames of its two programs, from one run over any values, and the reference's.
-/
module

public import proofs.«01_k».proof.Defs
public import proofs.«01_k».proof.Proof.FlashFrame
public import proofs.«01_k».proof.Proof.Gen.Kernel
public import proofs.«01_k».proof.Proof.Gen.ReferenceIdeal.Run

@[expose] public section

set_option maxRecDepth 16384

noncomputable section

namespace Cert.FlashClaim

open Idealize.ShloMosaic Idealize.ShloMosaic.TcCoe Idealize.SL.Sem

theorem frame_ideal : Cert.quiescent_KernelIdeal := fun m ρ _ => Cert.KernelIdeal.Flash.frame (F := Ideal) m ρ

set_option smartUnfolding false in
set_option maxHeartbeats 4000000 in
/-- The two programs have the same text: the run over any values is also the printed program's. -/
theorem frame_kernel : Cert.quiescent_Kernel := fun m ρ _ =>
  (θ_run Cert.KernelIdeal.defs _ _).mono (fun _ h => h) (Cert.KernelIdeal.Flash.frame (F := Bits) m ρ)

/-- The reference leaves its arguments as they were; it declares no semaphore. -/
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

end Cert.FlashClaim

end
-- ==== Proof.FlashText.lean ====
module

public import proofs.«01_k».proof.Proof.FlashFrame
public import Idealize.ShloMosaic.Lib.MatmulPlain

/-! What one pass over `w` keys (two key tiles, or one) adds to the five results, written once for both widths and with the
    program's 32-row chunks as an index: the same vector operations in the same order as the body has them. -/

@[expose] public section

set_option maxRecDepth 16384

noncomputable section

namespace Cert.KernelIdeal.Flash

open Cert.KernelIdeal Cert.KernelIdeal.Gen
open Idealize.ShloMosaic Idealize.ShloMosaic.TcCoe

variable {F : FTy → Type} [FloatOps F]

/-- `r` rows of `c`. -/
abbrev Mat (r c : ℕ) : Shape := ⟨2, ![r, c]⟩

/-- A block inside a matrix. -/
theorem slices {R C r c o p : ℕ} (h : o + r ≤ R) (h' : p + c ≤ C) : (Mat R C).Slices ![o, p] (Mat r c) :=
  ⟨rfl, fun a => match a with
    | ⟨0, _⟩ => h
    | ⟨1, _⟩ => h'⟩

/-- The widths that a pass has. -/
class Wide (w : ℕ) : Prop where
  pos : 1024 ≤ w
  col : (Mat 32 1).Broadcasts (Mat 32 w)
  row : (Mat 1 w).Broadcasts (Mat 32 w)
  sumRow : (Mat 32 w).Reduces [1] ⟨1, ![32]⟩
  sumCol : (Mat 8 w).Reduces [0] ⟨1, ![w]⟩
  cast : (⟨1, ![w]⟩ : Shape).ShapeCasts (Mat 1 w)
  cat : Shape.Concatenates [Mat 32 w, Mat 32 w, Mat 32 w, Mat 32 w, Mat 32 w, Mat 32 w, Mat 32 w, Mat 32 w] (Mat 256 w) 0
  iota0 : (Mat 32 w).Iotas .tc 32 [0]
  iota1 : (Mat 32 w).Iotas .tc 32 [1]

instance : Wide 2048 := ⟨by decide, broadcasts_S32x1_S32x2048, broadcasts_S1x2048_S32x2048, reduces_S32x2048_S32, reduces_S8x2048_S2048,
  shapeCasts_S2048_S1x2048, concatenates_S32x2048_S32x2048_S32x2048_S32x2048_S32x2048_S32x2048_S32x2048_S32x2048_S256x2048_d0,
  iota_S32x2048_d0_w32, iota_S32x2048_d1_w32⟩

instance : Wide 1024 := ⟨by decide, broadcasts_S32x1_S32x1024, broadcasts_S1x1024_S32x1024, reduces_S32x1024_S32, reduces_S8x1024_S1024,
  shapeCasts_S1024_S1x1024, concatenates_S32x1024_S32x1024_S32x1024_S32x1024_S32x1024_S32x1024_S32x1024_S32x1024_S256x1024_d0,
  iota_S32x1024_d0_w32, iota_S32x1024_d1_w32⟩

/-- What a pass reads: the scaled queries, the output's gradient, both transposed, `delta`, the bias, and the pass's keys, values and
    key gates. -/
structure Pass (F : FTy → Type) (w : ℕ) where
  qs : FVec F S1024x64 .bf16
  dO : FVec F S1024x64 .bf16
  qsT : FVec F S64x1024 .bf16
  dOT : FVec F S64x1024 .bf16
  delta : FVec F S1024x1 .f32
  bias : FVec F S1024x1 .f32
  kj : FVec F (Mat w 64) .bf16
  vj : FVec F (Mat w 64) .bf16
  ck : FVec F (Mat 1 w) .f32

namespace Pass

variable {w : ℕ} [Wide w] (A : Pass F w) (masked : Bool)

/-- The scores of a quarter of the rows. -/
def s (u : Fin 4) : FVec F (Mat 256 w) .f32 :=
  matmul (DotDims.transposedRhs 256 64 w) none (extractStridedSlice S256x64 ![256 * u.val, 0] A.qs (slices (by omega) (by omega))) A.kj
    (constant (Mat 256 w) .f32 0x00000000#32)

/-- The gradient's products with the values. -/
def dp (u : Fin 4) : FVec F (Mat 256 w) .f32 :=
  matmul (DotDims.transposedRhs 256 64 w) none (extractStridedSlice S256x64 ![256 * u.val, 0] A.dO (slices (by omega) (by omega))) A.vj
    (constant (Mat 256 w) .f32 0x00000000#32)

/-- The exponentials of one chunk of 32 rows. -/
def e (u : Fin 4) (q : Fin 8) : FVec F (Mat 32 w) .f32 :=
  exp (addf (extractStridedSlice (Mat 32 w) ![32 * q.val, 0] (A.s u) (slices (by omega) (by omega)))
    (subf (broadcastTo (Mat 32 w) (extractStridedSlice S32x1 ![32 * q.val, 0]
        (extractStridedSlice S256x1 ![256 * u.val, 0] A.bias (slices (by omega) (by omega))) (slices (by omega) (by omega))) Wide.col)
      (broadcastTo (Mat 32 w) A.ck Wide.row)))

/-- The keys that a row of the chunk sees. -/
def sees (u : Fin 4) (q : Fin 8) : IVec (Mat 32 w) 1 :=
  cmpi .sge (addi (iota .tc (Mat 32 w) 32 [0] Wide.iota0) (broadcast (Mat 32 w) (BitVec.ofNat 32 (256 * u.val + 32 * q.val + (w - 1024)))))
    (iota .tc (Mat 32 w) 32 [1] Wide.iota1)

/-- The chunk's weights. -/
def p (u : Fin 4) (q : Fin 8) : FVec F (Mat 32 w) .f32 :=
  match masked with
  | false => A.e u q
  | true => select (sees u q) (A.e u q) (broadcast (Mat 32 w) (Scalar.ofBits .f32 0x00000000#32))

/-- The chunk's score gradients. -/
def ds (u : Fin 4) (q : Fin 8) : FVec F (Mat 32 w) .f32 :=
  mulf (A.p masked u q) (subf (extractStridedSlice (Mat 32 w) ![32 * q.val, 0] (A.dp u) (slices (by omega) (by omega)))
    (broadcastTo (Mat 32 w) (extractStridedSlice S32x1 ![32 * q.val, 0]
        (extractStridedSlice S256x1 ![256 * u.val, 0] A.delta (slices (by omega) (by omega))) (slices (by omega) (by omega))) Wide.col))

/-- A quarter's weights. -/
def pq (u : Fin 4) : FVec F (Mat 256 w) .bf16 :=
  concatenate (Mat 256 w) 0 (List.ofFn fun q : Fin 8 => ⟨Mat 32 w, truncf .bf16 (A.p masked u q) bitsLt_bf16_f32⟩) Wide.cat

/-- A quarter's score gradients. -/
def dsq (u : Fin 4) : FVec F (Mat 256 w) .bf16 :=
  concatenate (Mat 256 w) 0 (List.ofFn fun q : Fin 8 => ⟨Mat 32 w, truncf .bf16 (A.ds masked u q) bitsLt_bf16_f32⟩) Wide.cat

/-- What the pass adds to a quarter of the query gradient's rows. -/
def dq (u : Fin 4) : FVec F S256x64 .f32 :=
  matmul (DotDims.plain 256 w 64) none (A.dsq masked u) A.kj (constant S256x64 .f32 0x00000000#32)

/-- What it adds to the query gates'. -/
def dcq (u : Fin 4) : FVec F S256x1 .f32 :=
  concatenate S256x1 0 (List.ofFn fun q : Fin 8 => ⟨S32x1, shapeCast S32x1
    (multiReduction .add [1] S32 (A.ds masked u q) 0x00000000#32 Wide.sumRow (.inl rfl) rfl) shapeCasts_S32_S32x1⟩)
    concatenates_S32x1_S32x1_S32x1_S32x1_S32x1_S32x1_S32x1_S32x1_S256x1_d0

/-- A quarter's part of what it adds to the values' gradient, and to the keys'. -/
def dvq (u : Fin 4) : FVec F (Mat 64 w) .f32 :=
  matmul (DotDims.plain 64 256 w) none (extractStridedSlice S64x256 ![0, 256 * u.val] A.dOT (slices (by omega) (by omega))) (A.pq masked u)
    (constant (Mat 64 w) .f32 0x00000000#32)

@[inherit_doc dvq] def dkq (u : Fin 4) : FVec F (Mat 64 w) .f32 :=
  matmul (DotDims.plain 64 256 w) none (extractStridedSlice S64x256 ![0, 256 * u.val] A.qsT (slices (by omega) (by omega))) (A.dsq masked u)
    (constant (Mat 64 w) .f32 0x00000000#32)

/-- The four parts' sum. -/
def four (x : Fin 4 → FVec F (Mat 64 w) .f32) : FVec F (Mat 64 w) .f32 :=
  addf (addf (addf (addf (broadcast (Mat 64 w) (Scalar.ofBits .f32 0x00000000#32)) (x 0)) (x 1)) (x 2)) (x 3)

/-- What it adds to the values' gradient, and to the keys'. -/
def dv : FVec F (Mat 64 w) .f32 := four (A.dvq masked)

@[inherit_doc dv] def dk : FVec F (Mat 64 w) .f32 := four (A.dkq masked)

/-- The first `n` groups of eight rows of score gradients, added up. -/
def groups : (n : ℕ) → n ≤ 128 → FVec F (Mat 8 w) .f32
  | 0, _ => broadcast (Mat 8 w) (Scalar.ofBits .f32 0x00000000#32)
  | n + 1, h => addf (groups n (Nat.le_of_succ_le h))
      (extractStridedSlice (Mat 8 w) ![8 * (n % 4), 0] (A.ds masked ⟨n / 32, by omega⟩ ⟨n / 4 % 8, by omega⟩) (slices (by omega) (by omega)))

/-- What it takes from the key gates' gradient. -/
def dck : FVec F (Mat 1 w) .f32 :=
  shapeCast (Mat 1 w) (multiReduction .add [0] ⟨1, ![w]⟩ (A.groups masked 128 le_rfl) 0x00000000#32 Wide.sumCol (.inl rfl) rfl) Wide.cast

end Pass

/-- Two key tiles' gates side by side. -/
def sideBySide (a b : Vec F S1x1x1x1024 .f32) : FVec F (Mat 1 2048) .f32 :=
  concatenate S1x2048 1 [⟨S1x1024, shapeCast S1x1024 a shapeCasts_S1x1x1x1024_S1x1024⟩,
    ⟨S1x1024, shapeCast S1x1024 b shapeCasts_S1x1x1x1024_S1x1024⟩] concatenates_S1x1024_S1x1024_S1x2048_d1

/-- A tile of a transposed gradient with half of a pair's added. -/
def addTile (t : Fin 2) (d : FVec F (Mat 64 2048) .f32) (x : Vec F S1x1x64x1024 .f32) : FVec F S1x1x64x1024 .f32 :=
  shapeCast S1x1x64x1024 (addf (shapeCast S64x1024 x shapeCasts_S1x1x64x1024_S64x1024)
    (extractStridedSlice S64x1024 ![0, 1024 * t.val] d (slices (by omega) (by omega)))) shapeCasts_S64x1024_S1x1x64x1024

/-- A tile of the key gates' gradient with half of a pair's taken from it. -/
def subTile (t : Fin 2) (d : FVec F (Mat 1 2048) .f32) (x : Vec F S1x1x1x1024 .f32) : FVec F S1x1x1x1024 .f32 :=
  shapeCast S1x1x1x1024 (subf (shapeCast S1x1024 x shapeCasts_S1x1x1x1024_S1x1024)
    (extractStridedSlice S1x1024 ![0, 1024 * t.val] d (slices (by omega) (by omega)))) shapeCasts_S1x1024_S1x1x1x1024

/-- A quarter of the query gradient's rows with a pass's added, and of the query gates'. -/
def addRows (x : Vec F S256x64 .f32) (d : FVec F S256x64 .f32) : FVec F S256x64 .f32 :=
  shapeCast S256x64 (addf x d) shapeCasts_S256x64_S256x64

@[inherit_doc addRows] def addGates (x : Vec F S256x1 .f32) (d : FVec F S256x1 .f32) : FVec F S256x1 .f32 :=
  shapeCast S256x1 (addf x d) shapeCasts_S256x1_S256x1

/-- A quarter of the query gradient's rows, and of the query gates'. -/
def rows (u : Fin 4) : Rect S1024x64 :=
  Rect.unit (s := S1024x64) ![256 * u.val, 0] S256x64.size fun a => match a with
    | ⟨0, _⟩ => show 256 * u.val + 256 ≤ 1024 by omega
    | ⟨1, _⟩ => show 0 + 64 ≤ 64 by omega

@[inherit_doc rows] def gates (u : Fin 4) : Rect S1024x1 :=
  Rect.unit (s := S1024x1) ![256 * u.val, 0] S256x1.size fun a => match a with
    | ⟨0, _⟩ => show 256 * u.val + 256 ≤ 1024 by omega
    | ⟨1, _⟩ => show 0 + 1 ≤ 1 by omega

variable {w : ℕ} [Wide w]

/-- What a pass writes into the query gradient's rows, on `f`: the four quarters, the newest first. -/
def rowPieces (A : Pass F w) (masked : Bool) (arg : Memref sig .tc .vmem S1024x64 .f32) (f : BufTy.Contents (Elt F) arg.view.ty) :
    List (View.Piece (Elt F) S1024x64 .f32) :=
  [3, 2, 1, 0].map fun u => ⟨rows u, addRows (View.readAt (Elt F) arg.view (rows u).toLoadRect f) (A.dq masked u)⟩

/-- What it writes into the query gates'. -/
def gatePieces (A : Pass F w) (masked : Bool) (arg : Memref sig .tc .vmem S1024x1 .f32) (f : BufTy.Contents (Elt F) arg.view.ty) :
    List (View.Piece (Elt F) S1024x1 .f32) :=
  [3, 2, 1, 0].map fun u => ⟨gates u, addGates (View.readAt (Elt F) arg.view (gates u).toLoadRect f) (A.dcq masked u)⟩

/-- What a pass over a pair of key tiles writes into a transposed gradient, the tiles at `o`. -/
def tilePieces (o : Fin 2 → Fin 4 → ℕ) (ho : ∀ t a, o t a + S1x1x64x1024.size a ≤ S1x16x64x1024.size a) (d : FVec F (Mat 64 2048) .f32)
    (arg : Memref sig .tc .vmem S1x16x64x1024 .f32) (f : BufTy.Contents (Elt F) arg.view.ty) : List (View.Piece (Elt F) S1x16x64x1024 .f32) :=
  [1, 0].map fun t => ⟨Rect.unit (s := S1x16x64x1024) (o t) S1x1x64x1024.size (ho t),
    addTile t d (View.readAt (Elt F) arg.view (Rect.unit (s := S1x16x64x1024) (o t) S1x1x64x1024.size (ho t)).toLoadRect f)⟩

/-- What it writes into the key gates' gradient. -/
def keyGatePieces (o : Fin 2 → Fin 4 → ℕ) (ho : ∀ t a, o t a + S1x1x1x1024.size a ≤ S1x16x1x1024.size a) (d : FVec F (Mat 1 2048) .f32)
    (arg : Memref sig .tc .vmem S1x16x1x1024 .f32) (f : BufTy.Contents (Elt F) arg.view.ty) : List (View.Piece (Elt F) S1x16x1x1024 .f32) :=
  [1, 0].map fun t => ⟨Rect.unit (s := S1x16x1x1024) (o t) S1x1x1x1024.size (ho t),
    subTile t d (View.readAt (Elt F) arg.view (Rect.unit (s := S1x16x1x1024) (o t) S1x1x1x1024.size (ho t)).toLoadRect f)⟩

end Cert.KernelIdeal.Flash
-- ==== Proof.FlashSums.lean ====
module

public import proofs.«01_k».proof.Proof.FlashText
public import Idealize.ShloMosaic.Lib.Pipeline.ValueKit
public import Idealize.ShloMosaic.Lib.ValueLayout
public import Idealize.ShloMosaic.Lib.ValueLayoutCasts
public import Idealize.ShloMosaic.Lib.WordCmp

/-! What one pass adds, over the reals: the weights and score gradients at a row and a key, and the five sums over them. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5 broadcastTo_1b_ab_apply shapeCast_a_a1_apply shapeCast_a_1a_apply)
open scoped BigOperators

namespace Pass

variable {w : ℕ} [Wide w] (A : Pass Ideal w) (masked : Bool)

/-- The score of a row and a key, with the gates. -/
def score (r : Fin 1024) (c : Fin w) : EReal :=
  (∑ d : Fin 64, A.qs (ix2 r d) * A.kj (ix2 c d)) + (A.bias (ix2 r 0) - A.ck (ix2 0 c))

/-- The weight of a row and a key. -/
def weight (r : Fin 1024) (c : Fin w) : EReal :=
  if masked = true ∧ ¬c.val ≤ r.val + (w - 1024) then 0 else Ideal.exp (A.score r c)

/-- The score's gradient. -/
def grad (r : Fin 1024) (c : Fin w) : EReal :=
  A.weight masked r c * ((∑ d : Fin 64, A.dO (ix2 r d) * A.vj (ix2 c d)) - A.delta (ix2 r 0))

/-- The row of a quarter, and of a chunk. -/
def rowOf (u : Fin 4) (a : Fin 256) : Fin 1024 := ⟨256 * u.val + a.val, by omega⟩

@[inherit_doc rowOf] def chunkRow (q : Fin 8) (a : Fin 32) : Fin 256 := ⟨32 * q.val + a.val, by omega⟩

theorem s_apply (u : Fin 4) (a : Fin 256) (c : Fin w) : A.s u (ix2 a c) = ∑ d : Fin 64, A.qs (ix2 (rowOf u a) d) * A.kj (ix2 c d) := by
  unfold s
  refine (Ideal.matmul_transposedRhs_apply none _ _ _ a c).trans ?_
  rw [show (constant (F := Ideal) (Mat 256 w) .f32 0x00000000#32) (ix2 a c) = 0 by pointwise, zero_add]
  refine Finset.sum_congr rfl fun d _ => congrArg (· * _) (extractStridedSlice_apply _ _ _ _ (ix2 (rowOf u a) d) fun x => ?_)
  fin_cases x <;> simp [rowOf]

theorem dp_apply (u : Fin 4) (a : Fin 256) (c : Fin w) : A.dp u (ix2 a c) = ∑ d : Fin 64, A.dO (ix2 (rowOf u a) d) * A.vj (ix2 c d) := by
  unfold dp
  refine (Ideal.matmul_transposedRhs_apply none _ _ _ a c).trans ?_
  rw [show (constant (F := Ideal) (Mat 256 w) .f32 0x00000000#32) (ix2 a c) = 0 by pointwise, zero_add]
  refine Finset.sum_congr rfl fun d _ => congrArg (· * _) (extractStridedSlice_apply _ _ _ _ (ix2 (rowOf u a) d) fun x => ?_)
  fin_cases x <;> simp [rowOf]

/-- A chunk's rows of a matrix of 256. -/
theorem chunk_apply {c : ℕ} (x : (Mat 256 c).Idx → EReal) (q : Fin 8) (a : Fin 32) (j : Fin c) (h : (Mat 256 c).Slices ![32 * q.val, 0] (Mat 32 c)) :
    extractStridedSlice (Mat 32 c) ![32 * q.val, 0] x h (ix2 a j) = x (ix2 (chunkRow q a) j) :=
  extractStridedSlice_apply _ _ _ _ _ fun x => by fin_cases x <;> simp [chunkRow]

/-- A column of 1024 spread over the keys, at a chunk. -/
theorem spread_apply (x : FVec Ideal S1024x1 .f32) (u : Fin 4) (q : Fin 8) (a : Fin 32) (c : Fin w) (h h') :
    broadcastTo (Mat 32 w) (extractStridedSlice S32x1 ![32 * q.val, 0] (extractStridedSlice S256x1 ![256 * u.val, 0] x h) h') Wide.col (ix2 a c)
      = x (ix2 (rowOf u (chunkRow q a)) 0) := by
  refine (broadcastTo_apply _ _ _ (ix2 a (0 : Fin 1)) fun x => ?_).trans ?_
  · fin_cases x <;> simp
  · refine (chunk_apply _ q a 0 _).trans (extractStridedSlice_apply _ _ _ _ _ fun x => ?_)
    fin_cases x <;> simp [rowOf]

theorem e_apply (u : Fin 4) (q : Fin 8) (a : Fin 32) (c : Fin w) :
    A.e u q (ix2 a c) = Ideal.exp (A.score (rowOf u (chunkRow q a)) c) := by
  show Ideal.exp (extractStridedSlice (Mat 32 w) ![32 * q.val, 0] (A.s u) _ (ix2 a c)
    + (broadcastTo (Mat 32 w) _ Wide.col (ix2 a c) - broadcastTo (Mat 32 w) A.ck Wide.row (ix2 a c))) = _
  rw [chunk_apply, s_apply, spread_apply, broadcastTo_1b_ab_apply]
  rfl

theorem sees_apply (u : Fin 4) (q : Fin 8) (a : Fin 32) (c : Fin w) (hw : w ≤ 2048) :
    sees (w := w) u q (ix2 a c) = BitVec.ofBool (decide (c.val ≤ (rowOf u (chunkRow q a)).val + (w - 1024))) := by
  have := c.isLt
  have h0 : iota .tc (Mat 32 w) 32 [0] Wide.iota0 (ix2 a c) = BitVec.ofNat 32 a.val := by
    unfold iota; simp; rfl
  have h1 : iota .tc (Mat 32 w) 32 [1] Wide.iota1 (ix2 a c) = BitVec.ofNat 32 c.val := by
    unfold iota; simp; rfl
  have e : sees (w := w) u q (ix2 a c) = IntOp.cmpi .sge (iota .tc (Mat 32 w) 32 [0] Wide.iota0 (ix2 a c)
    + BitVec.ofNat 32 (256 * u.val + 32 * q.val + (w - 1024))) (iota .tc (Mat 32 w) 32 [1] Wide.iota1 (ix2 a c)) := rfl
  rw [e, h0, h1, ← BitVec.ofNat_add, WordCmp.cmpi_sge_ofNat (by omega) (by omega)]
  refine congrArg (fun b => BitVec.ofBool b) (decide_eq_decide.mpr ?_)
  show _ ↔ c.val ≤ 256 * u.val + (32 * q.val + a.val) + (w - 1024)
  omega

theorem p_apply (u : Fin 4) (q : Fin 8) (a : Fin 32) (c : Fin w) (hw : w ≤ 2048) :
    A.p masked u q (ix2 a c) = A.weight masked (rowOf u (chunkRow q a)) c := by
  cases masked with
  | false => exact (A.e_apply u q a c).trans (if_neg (fun h => by simp at h)).symm
  | true =>
    show Scalar.select (sees u q (ix2 a c)) (A.e u q (ix2 a c)) (Scalar.ofBits (F := Ideal) .f32 0x00000000#32) = _
    rw [sees_apply u q a c hw, e_apply]
    unfold weight
    by_cases h : c.val ≤ (rowOf u (chunkRow q a)).val + (w - 1024)
    · rw [decide_eq_true h, if_neg (fun x => x.2 h)]
      exact if_pos rfl
    · rw [decide_eq_false h, if_pos ⟨rfl, h⟩]
      exact (if_neg (by decide)).trans (by pointwise)

theorem ds_apply (u : Fin 4) (q : Fin 8) (a : Fin 32) (c : Fin w) (hw : w ≤ 2048) :
    A.ds masked u q (ix2 a c) = A.grad masked (rowOf u (chunkRow q a)) c := by
  show A.p masked u q (ix2 a c) * (extractStridedSlice (Mat 32 w) ![32 * q.val, 0] (A.dp u) _ (ix2 a c) - broadcastTo (Mat 32 w) _ Wide.col (ix2 a c)) = _
  rw [A.p_apply masked u q a c hw, chunk_apply, dp_apply, spread_apply]
  rfl

/-- A row of a quarter is a row of one of its chunks. -/
theorem chunkRow_div (a : Fin 256) : chunkRow ⟨a.val / 32, by omega⟩ ⟨a.val % 32, by omega⟩ = a := by
  apply Fin.ext; show 32 * (a.val / 32) + a.val % 32 = a.val; omega

theorem pq_apply (u : Fin 4) (a : Fin 256) (c : Fin w) (hw : w ≤ 2048) : A.pq masked u (ix2 a c) = A.weight masked (rowOf u a) c := by
  unfold pq
  refine (concatenate_ofFn_apply (t := Mat 256 w) 0 (fun q : Fin 8 => truncf .bf16 (A.p masked u q) bitsLt_bf16_f32) _ rfl 32 rfl (ix2 a c)
    ⟨a.val / 32, by omega⟩ rfl (ix2 (⟨a.val % 32, by omega⟩ : Fin 32) c) rfl ?_).trans ?_
  · intro b hb; fin_cases b
    · exact absurd rfl hb
    · rfl
  · show A.p masked u _ (ix2 _ c) = _
    rw [A.p_apply masked u _ _ c hw, chunkRow_div]

theorem dsq_apply (u : Fin 4) (a : Fin 256) (c : Fin w) (hw : w ≤ 2048) : A.dsq masked u (ix2 a c) = A.grad masked (rowOf u a) c := by
  unfold dsq
  refine (concatenate_ofFn_apply (t := Mat 256 w) 0 (fun q : Fin 8 => truncf .bf16 (A.ds masked u q) bitsLt_bf16_f32) _ rfl 32 rfl (ix2 a c)
    ⟨a.val / 32, by omega⟩ rfl (ix2 (⟨a.val % 32, by omega⟩ : Fin 32) c) rfl ?_).trans ?_
  · intro b hb; fin_cases b
    · exact absurd rfl hb
    · rfl
  · show A.ds masked u _ (ix2 _ c) = _
    rw [A.ds_apply masked u _ _ c hw, chunkRow_div]

theorem dq_apply (u : Fin 4) (a : Fin 256) (d : Fin 64) (hw : w ≤ 2048) :
    A.dq masked u (ix2 a d) = ∑ c : Fin w, A.grad masked (rowOf u a) c * A.kj (ix2 c d) := by
  unfold dq
  refine (Ideal.matmul_plain_apply none _ _ _ a d).trans ?_
  rw [show (constant (F := Ideal) S256x64 .f32 0x00000000#32) (ix2 a d) = 0 by pointwise, zero_add]
  exact Finset.sum_congr rfl fun c _ => congrArg (· * _) (A.dsq_apply masked u a c hw)

theorem dcq_apply (u : Fin 4) (a : Fin 256) (hw : w ≤ 2048) :
    A.dcq masked u (ix2 a 0) = ∑ c : Fin w, A.grad masked (rowOf u a) c := by
  unfold dcq
  refine (concatenate_ofFn_apply (t := S256x1) 0 (fun q : Fin 8 => shapeCast S32x1
    (multiReduction .add [1] S32 (A.ds masked u q) 0x00000000#32 Wide.sumRow (.inl rfl) rfl) shapeCasts_S32_S32x1) _ rfl 32 rfl (ix2 a 0)
    ⟨a.val / 32, by omega⟩ rfl (ix2 (⟨a.val % 32, by omega⟩ : Fin 32) 0) rfl ?_).trans ?_
  · intro b hb; fin_cases b
    · exact absurd rfl hb
    · rfl
  · refine (shapeCast_a_a1_apply _ _ _ _).trans ?_
    pointwise
    exact Finset.sum_congr rfl fun c _ => by rw [ix2_eq_valueIdx, A.ds_apply masked u _ _ c hw, chunkRow_div]

theorem dvq_apply (u : Fin 4) (d : Fin 64) (c : Fin w) (hw : w ≤ 2048) :
    A.dvq masked u (ix2 d c) = ∑ a : Fin 256, A.dOT (ix2 d (rowOf u a)) * A.weight masked (rowOf u a) c := by
  unfold dvq
  refine (Ideal.matmul_plain_apply none _ _ _ d c).trans ?_
  rw [show (constant (F := Ideal) (Mat 64 w) .f32 0x00000000#32) (ix2 d c) = 0 by pointwise, zero_add]
  refine Finset.sum_congr rfl fun a _ => congr (congrArg _ (extractStridedSlice_apply _ _ _ _ (ix2 d (rowOf u a)) fun x => ?_)) (A.pq_apply masked u a c hw)
  fin_cases x <;> simp [rowOf]

theorem dkq_apply (u : Fin 4) (d : Fin 64) (c : Fin w) (hw : w ≤ 2048) :
    A.dkq masked u (ix2 d c) = ∑ a : Fin 256, A.qsT (ix2 d (rowOf u a)) * A.grad masked (rowOf u a) c := by
  unfold dkq
  refine (Ideal.matmul_plain_apply none _ _ _ d c).trans ?_
  rw [show (constant (F := Ideal) (Mat 64 w) .f32 0x00000000#32) (ix2 d c) = 0 by pointwise, zero_add]
  refine Finset.sum_congr rfl fun a _ => congr (congrArg _ (extractStridedSlice_apply _ _ _ _ (ix2 d (rowOf u a)) fun x => ?_)) (A.dsq_apply masked u a c hw)
  fin_cases x <;> simp [rowOf]

/-- The rows of the four quarters are the rows. -/
theorem sum_quarters (f : Fin 1024 → EReal) : (∑ u : Fin 4, ∑ a : Fin 256, f (rowOf u a)) = ∑ r : Fin 1024, f r := by
  rw [← Finset.sum_product', Finset.univ_product_univ]
  refine Fintype.sum_equiv (finProdFinEquiv (m := 4) (n := 256)) _ _ fun x => congrArg f (Fin.ext ?_)
  show 256 * x.1.val + x.2.val = x.2.val + 256 * x.1.val
  omega

theorem four_apply (x : Fin 4 → FVec Ideal (Mat 64 w) .f32) (d : Fin 64) (c : Fin w) : four x (ix2 d c) = ∑ u : Fin 4, x u (ix2 d c) := by
  show (((Scalar.ofBits (F := Ideal) .f32 0x00000000#32 + x 0 (ix2 d c)) + x 1 (ix2 d c)) + x 2 (ix2 d c)) + x 3 (ix2 d c) = _
  rw [show (Scalar.ofBits (F := Ideal) .f32 0x00000000#32 : EReal) = 0 by pointwise, zero_add, Fin.sum_univ_four]

theorem dv_apply (d : Fin 64) (c : Fin w) (hw : w ≤ 2048) :
    A.dv masked (ix2 d c) = ∑ r : Fin 1024, A.dOT (ix2 d r) * A.weight masked r c := by
  rw [dv, four_apply, ← sum_quarters]
  exact Finset.sum_congr rfl fun u _ => A.dvq_apply masked u d c hw

theorem dk_apply (d : Fin 64) (c : Fin w) (hw : w ≤ 2048) :
    A.dk masked (ix2 d c) = ∑ r : Fin 1024, A.qsT (ix2 d r) * A.grad masked r c := by
  rw [dk, four_apply, ← sum_quarters]
  exact Finset.sum_congr rfl fun u _ => A.dkq_apply masked u d c hw

theorem groups_apply (b : Fin 8) (c : Fin w) (hw : w ≤ 2048) : ∀ (n : ℕ) (h : n ≤ 128),
    A.groups masked n h (ix2 b c) = ∑ g : Fin n, A.grad masked ⟨8 * g.val + b.val, by omega⟩ c
  | 0, _ => by
    show Scalar.ofBits (F := Ideal) .f32 0x00000000#32 = _
    rw [Fin.sum_univ_zero]; pointwise
  | n + 1, h => by
    show A.groups masked n _ (ix2 b c) + extractStridedSlice (Mat 8 w) _ _ _ (ix2 b c) = _
    rw [groups_apply b c hw n (Nat.le_of_succ_le h), Fin.sum_univ_castSucc]
    refine congrArg (_ + ·) ((extractStridedSlice_apply _ _ _ _ (ix2 (⟨8 * (n % 4) + b.val, by omega⟩ : Fin 32) c) fun x => ?_).trans ?_)
    · fin_cases x <;> simp
    · rw [A.ds_apply masked _ _ _ c hw]
      refine congrArg (fun r => A.grad masked r c) (Fin.ext ?_)
      show 256 * (n / 32) + (32 * (n / 4 % 8) + (8 * (n % 4) + b.val)) = 8 * n + b.val
      omega

theorem dck_apply (c : Fin w) (hw : w ≤ 2048) : A.dck masked (ix2 0 c) = ∑ r : Fin 1024, A.grad masked r c := by
  unfold dck
  refine (shapeCast_a_1a_apply _ _ _ _).trans ?_
  pointwise
  refine (Finset.sum_congr (g := fun b : Fin 8 => ∑ g : Fin 128, A.grad masked ⟨8 * g.val + b.val, by omega⟩ c) rfl fun b _ =>
    (congrArg (A.groups masked 128 le_rfl) (ix2_eq_valueIdx b c)).trans (A.groups_apply masked b c hw 128 le_rfl)).trans ?_
  rw [Finset.sum_comm, ← Finset.sum_product', Finset.univ_product_univ]
  refine Fintype.sum_equiv (finProdFinEquiv (m := 128) (n := 8)) _ _ fun x => congrArg (fun r => A.grad masked r c) (Fin.ext ?_)
  show 8 * x.1.val + x.2.val = x.2.val + 8 * x.1.val
  omega

end Pass

end Cert.KernelIdeal.Flash
-- ==== Proof.FlashLinkA.lean ====
module

public import proofs.«01_k».proof.Proof.FlashText
public import Idealize.ShloMosaic.Lib.Tactic
public import Idealize.ShloMosaic.Lib.Pipeline.Kit

/-! One trip of the loop over pairs of key tiles, in those operations. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic

variable {F : FTy → Type} [FloatOps F]

/-- The pass that a trip makes. -/
def tripPass (i : grid0.Coords) (arg3 arg4 : Memref sig .tc .vmem S1x16384x64 .bf16) (arg11 : Memref sig .tc .vmem S1x16x1x1024 .f32)
    (v6 v8 : FVec F S1024x64 .bf16) (v12 v14 : FVec F S64x1024 .bf16) (v21 v26 : FVec F S1024x1 .f32)
    (X3 : BufTy.Contents (Elt F) arg3.view.ty) (X4 : BufTy.Contents (Elt F) arg4.view.ty) (X11 : BufTy.Contents (Elt F) arg11.view.ty)
    (k : Fin (k0_t1_loop i).trips) : Pass F 2048 where
  qs := v6
  dO := v8
  qsT := v12
  dOT := v14
  delta := v21
  bias := v26
  kj := shapeCast S2048x64 (View.readAt (Elt F) arg3.view (Rect.unit (s := S1x16384x64) (k0_off1 i k) S1x2048x64.size (k0_off1_inb i k)).toLoadRect X3) shapeCasts_S1x2048x64_S2048x64
  vj := shapeCast S2048x64 (View.readAt (Elt F) arg4.view (Rect.unit (s := S1x16384x64) (k0_off1 i k) S1x2048x64.size (k0_off1_inb i k)).toLoadRect X4) shapeCasts_S1x2048x64_S2048x64
  ck := sideBySide (View.readAt (Elt F) arg11.view (Rect.unit (s := S1x16x1x1024) (k0_off2 i k 0#32) S1x1x1x1024.size (k0_off2_inb i k 0)).toLoadRect X11)
    (View.readAt (Elt F) arg11.view (Rect.unit (s := S1x16x1x1024) (k0_off2 i k 1#32) S1x1x1x1024.size (k0_off2_inb i k 1)).toLoadRect X11)

section
variable (𝒱 : Variants) (c : Dev nD) (bd : Option 𝒱.V) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole)
    (arg1 : BitVec 32) (v6 : FVec F S1024x64 .bf16) (v8 : FVec F S1024x64 .bf16) (v12 : FVec F S64x1024 .bf16) (v14 : FVec F S64x1024 .bf16) (v21 : FVec F S1024x1 .f32) (v26 : FVec F S1024x1 .f32) (v27 : FVec F S1024x64 .f32)
    (X3 : BufTy.Contents (Elt F) arg3.view.ty) (X4 : BufTy.Contents (Elt F) arg4.view.ty) (X11 : BufTy.Contents (Elt F) arg11.view.ty)
    (k : Fin (k0_t1_loop i).trips)
    (f14 : BufTy.Contents (Elt F) arg14.view.ty) (f15 : BufTy.Contents (Elt F) arg15.view.ty)
    (f16 : BufTy.Contents (Elt F) arg16.view.ty) (f17 : BufTy.Contents (Elt F) arg17.view.ty) (f18 : BufTy.Contents (Elt F) arg18.view.ty)

local notation "Π" => tripPass i arg3 arg4 arg11 v6 v8 v12 v14 v21 v26 X3 X4 X11 k

/-- The five lists of pieces that a trip writes. -/
theorem trip_eq : (trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v6 v8 v12 v14 v21 v26 v27 X3 X4 X11 k f14 f15 f16 f17 f18).1 =
    (tilePieces (fun t => k0_off3 i k (BitVec.ofNat 32 t.val)) (k0_off3_inb i k) ((Π).dk false) arg14 f14,
      tilePieces (fun t => k0_off3 i k (BitVec.ofNat 32 t.val)) (k0_off3_inb i k) ((Π).dv false) arg15 f15,
      keyGatePieces (fun t => k0_off2 i k (BitVec.ofNat 32 t.val)) (k0_off2_inb i k) ((Π).dck false) arg16 f16,
      rowPieces Π false arg17 f17, gatePieces Π false arg18 f18) := by
  sl_kernel_rfl

end

end Cert.KernelIdeal.Flash
-- ==== Proof.FlashLinkB.lean ====
module

public import proofs.«01_k».proof.Proof.FlashText
public import Idealize.ShloMosaic.Lib.Tactic
public import Idealize.ShloMosaic.Lib.Pipeline.Kit

/-! What a point's run leaves, in those operations: the passes of the loop, then one last pass over the tiles that the mask cuts. -/

@[expose] public section

set_option maxRecDepth 16384
set_option maxHeartbeats 2000000

noncomputable section

namespace Cert.KernelIdeal.Flash

open Cert.KernelIdeal Cert.KernelIdeal.Gen
open Idealize.ShloMosaic Idealize.ShloMosaic.TcCoe Idealize.ShloMosaic.Tactic

variable {F : FTy → Type} [FloatOps F]

/-- What a memref's whole buffer reads as. -/
abbrev whole1024x64 : Rect S1x1024x64 := Rect.unit ![0, 0, 0] S1x1024x64.size inb_S1x1024x64_S1x1024x64_0_0_0
@[inherit_doc whole1024x64] abbrev whole64x1024 : Rect S1x64x1024 := Rect.unit ![0, 0, 0] S1x64x1024.size inb_S1x64x1024_S1x64x1024_0_0_0
@[inherit_doc whole1024x64] abbrev whole1024x1 : Rect S1x1024x1 := Rect.unit ![0, 0, 0] S1x1024x1.size inb_S1x1024x1_S1x1024x1_0_0_0
@[inherit_doc whole1024x64] abbrev wholeRows : Rect S1024x64 := Rect.unit ![0, 0] S1024x64.size inb_S1024x64_S1024x64_0_0
@[inherit_doc whole1024x64] abbrev wholeGates : Rect S1024x1 := Rect.unit ![0, 0] S1024x1.size inb_S1024x1_S1024x1_0_0

/-- The two running sums, zeroed. -/
abbrev noRows : List (View.Piece (Elt F) S1024x64 .f32) := [⟨wholeRows, k0_pay917 k0_pay916⟩]
@[inherit_doc noRows] abbrev noGates : List (View.Piece (Elt F) S1024x1 .f32) := [⟨wholeGates, k0_pay918⟩]

/-- The three arrays over the keys, zeroed. -/
abbrev noKeys : List (View.Piece (Elt F) S1x16x64x1024 .f32) := [⟨Rect.unit ![0, 0, 0, 0] S1x16x64x1024.size inb_S1x16x64x1024_S1x16x64x1024_0_0_0_0, k0_pay907⟩]
@[inherit_doc noKeys] abbrev noValues : List (View.Piece (Elt F) S1x16x64x1024 .f32) := [⟨Rect.unit ![0, 0, 0, 0] S1x16x64x1024.size inb_S1x16x64x1024_S1x16x64x1024_0_0_0_0, k0_pay908⟩]
@[inherit_doc noKeys] abbrev noKeyGates : List (View.Piece (Elt F) S1x16x1x1024 .f32) := [⟨Rect.unit ![0, 0, 0, 0] S1x16x1x1024.size inb_S1x16x1x1024_S1x16x1x1024_0_0_0_0, k0_pay909⟩]

variable {w : ℕ} [Wide w]

/-- The query gradient's rows after a pass that writes one quarter after the other. -/
def rowsAfter (A : Pass F w) (masked : Bool) (arg : Memref sig .tc .vmem S1024x64 .f32) (f : BufTy.Contents (Elt F) arg.view.ty) : ℕ → BufTy.Contents (Elt F) arg.view.ty
  | 0 => f
  | n + 1 => if h : n < 4 then arg.view.writes (Elt F) (rowsAfter A masked arg f n) [⟨rows ⟨n, h⟩, addRows (View.readAt (Elt F) arg.view (rows ⟨n, h⟩).toLoadRect (rowsAfter A masked arg f n)) (A.dq masked ⟨n, h⟩)⟩]
    else rowsAfter A masked arg f n

/-- The query gates' likewise. -/
def gatesAfter (A : Pass F w) (masked : Bool) (arg : Memref sig .tc .vmem S1024x1 .f32) (f : BufTy.Contents (Elt F) arg.view.ty) : ℕ → BufTy.Contents (Elt F) arg.view.ty
  | 0 => f
  | n + 1 => if h : n < 4 then arg.view.writes (Elt F) (gatesAfter A masked arg f n) [⟨gates ⟨n, h⟩, addGates (View.readAt (Elt F) arg.view (gates ⟨n, h⟩).toLoadRect (gatesAfter A masked arg f n)) (A.dcq masked ⟨n, h⟩)⟩]
    else gatesAfter A masked arg f n

/-- A tile with a whole pass's added, and a tile of gates with it taken from. -/
def addOne (d : FVec F (Mat 64 1024) .f32) (x : Vec F S1x1x64x1024 .f32) : FVec F S1x1x64x1024 .f32 :=
  shapeCast S1x1x64x1024 (addf (shapeCast S64x1024 x shapeCasts_S1x1x64x1024_S64x1024) d) shapeCasts_S64x1024_S1x1x64x1024

@[inherit_doc addOne] def subOne (d : FVec F (Mat 1 1024) .f32) (x : Vec F S1x1x1x1024 .f32) : FVec F S1x1x1x1024 .f32 :=
  shapeCast S1x1x1x1024 (subf (shapeCast S1x1024 x shapeCasts_S1x1x1x1024_S1x1024) d) shapeCasts_S1x1024_S1x1x1x1024

/-- The piece of a tile at `o` that a function of what it held makes. -/
def tilePiece (o : Fin 4 → ℕ) (ho : ∀ a, o a + S1x1x64x1024.size a ≤ S1x16x64x1024.size a) (g : Vec F S1x1x64x1024 .f32 → FVec F S1x1x64x1024 .f32)
    (arg : Memref sig .tc .vmem S1x16x64x1024 .f32) (f : BufTy.Contents (Elt F) arg.view.ty) : View.Piece (Elt F) S1x16x64x1024 .f32 :=
  ⟨Rect.unit (s := S1x16x64x1024) o S1x1x64x1024.size ho, g (View.readAt (Elt F) arg.view (Rect.unit (s := S1x16x64x1024) o S1x1x64x1024.size ho).toLoadRect f)⟩

@[inherit_doc tilePiece] def keyGatePiece (o : Fin 4 → ℕ) (ho : ∀ a, o a + S1x1x1x1024.size a ≤ S1x16x1x1024.size a) (g : Vec F S1x1x1x1024 .f32 → FVec F S1x1x1x1024 .f32)
    (arg : Memref sig .tc .vmem S1x16x1x1024 .f32) (f : BufTy.Contents (Elt F) arg.view.ty) : View.Piece (Elt F) S1x16x1x1024 .f32 :=
  ⟨Rect.unit (s := S1x16x1x1024) o S1x1x1x1024.size ho, g (View.readAt (Elt F) arg.view (Rect.unit (s := S1x16x1x1024) o S1x1x1x1024.size ho).toLoadRect f)⟩

section
variable (c : Dev nD) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole)
    (x2 : Vec F S1x1024x64 .bf16) (x3 : Vec F S1x16384x64 .bf16) (x4 : Vec F S1x16384x64 .bf16) (x5 : Vec F S1x1024x64 .bf16) (x6 : Vec F S1x1024x64 .bf16) (x7 : Vec F S1x64x1024 .bf16) (x8 : Vec F S1x64x1024 .bf16) (x9 : Vec F S1x1024x1 .f32) (x10 : Vec F S1x1024x1 .f32) (x11 : Vec F S1x16x1x1024 .f32) (x14 : Vec F S1x16x64x1024 .f32) (x15 : Vec F S1x16x64x1024 .f32) (x16 : Vec F S1x16x1x1024 .f32)
    (E14 : BufTy.Contents (Elt F) arg14.view.ty) (E15 : BufTy.Contents (Elt F) arg15.view.ty) (E16 : BufTy.Contents (Elt F) arg16.view.ty)

/-- A point's scaled queries, and the rest of what its passes read beside the keys. -/
abbrev inQ : FVec F S1024x64 .bf16 := k0_pay910 (View.readAt (Elt F) arg2.view whole1024x64.toLoadRect (harg2.unread x2))
@[inherit_doc inQ] abbrev inDo : FVec F S1024x64 .bf16 := k0_pay911 (View.readAt (Elt F) arg6.view whole1024x64.toLoadRect (harg6.unread x6))
@[inherit_doc inQ] abbrev inQt : FVec F S64x1024 .bf16 := k0_pay912 (View.readAt (Elt F) arg7.view whole64x1024.toLoadRect (harg7.unread x7))
@[inherit_doc inQ] abbrev inDot : FVec F S64x1024 .bf16 := k0_pay913 (View.readAt (Elt F) arg8.view whole64x1024.toLoadRect (harg8.unread x8))
@[inherit_doc inQ] abbrev inDelta : FVec F S1024x1 .f32 := k0_pay914 (View.readAt (Elt F) arg6.view whole1024x64.toLoadRect (harg6.unread x6))
  (View.readAt (Elt F) arg5.view whole1024x64.toLoadRect (harg5.unread x5))
@[inherit_doc inQ] abbrev inBias : FVec F S1024x1 .f32 := k0_pay915 (View.readAt (Elt F) arg10.view whole1024x1.toLoadRect (harg10.unread x10))
  (View.readAt (Elt F) arg9.view whole1024x1.toLoadRect (harg9.unread x9))

/-- The last pass of an even row tile, over its own key tile. -/
def evenPass (h3 : k0_cond3 i = 1#1) : Pass F 1024 :=
  ⟨inQ arg2 harg2 x2, inDo arg6 harg6 x6, inQt arg7 harg7 x7, inDot arg8 harg8 x8, inDelta arg5 harg5 arg6 harg6 x5 x6, inBias arg9 harg9 arg10 harg10 x9 x10,
    shapeCast S1024x64 (View.readAt (Elt F) arg3.view (Rect.unit (s := S1x16384x64) (k0_off10 i) S1x1024x64.size (k0_off10_inb i h3)).toLoadRect (harg3.unread x3)) shapeCasts_S1x1024x64_S1024x64,
    shapeCast S1024x64 (View.readAt (Elt F) arg4.view (Rect.unit (s := S1x16384x64) (k0_off10 i) S1x1024x64.size (k0_off10_inb i h3)).toLoadRect (harg4.unread x4)) shapeCasts_S1x1024x64_S1024x64,
    shapeCast S1x1024 (View.readAt (Elt F) arg11.view (Rect.unit (s := S1x16x1x1024) (k0_off11 i) S1x1x1x1024.size (k0_off11_inb i h3)).toLoadRect (harg11.unread x11)) shapeCasts_S1x1x1x1024_S1x1024⟩

/-- The last pass of an odd row tile, over its own key tile and the one before. -/
def oddPass (h2 : k0_cond2 i = 1#1) : Pass F 2048 :=
  ⟨inQ arg2 harg2 x2, inDo arg6 harg6 x6, inQt arg7 harg7 x7, inDot arg8 harg8 x8, inDelta arg5 harg5 arg6 harg6 x5 x6, inBias arg9 harg9 arg10 harg10 x9 x10,
    shapeCast S2048x64 (View.readAt (Elt F) arg3.view (Rect.unit (s := S1x16384x64) (k0_off7 i) S1x2048x64.size (k0_off7_inb i h2)).toLoadRect (harg3.unread x3)) shapeCasts_S1x2048x64_S2048x64,
    shapeCast S2048x64 (View.readAt (Elt F) arg4.view (Rect.unit (s := S1x16384x64) (k0_off7 i) S1x2048x64.size (k0_off7_inb i h2)).toLoadRect (harg4.unread x4)) shapeCasts_S1x2048x64_S2048x64,
    sideBySide (View.readAt (Elt F) arg11.view (Rect.unit (s := S1x16x1x1024) (k0_off8 i 0#32) S1x1x1x1024.size (k0_off8_inb i h2 0)).toLoadRect (harg11.unread x11))
      (View.readAt (Elt F) arg11.view (Rect.unit (s := S1x16x1x1024) (k0_off8 i 1#32) S1x1x1x1024.size (k0_off8_inb i h2 1)).toLoadRect (harg11.unread x11))⟩

/-- What the loop's passes write, over the three arrays at `E14`, `E15`, `E16`. -/
abbrev loopLists : Lists F :=
  pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (inQ arg2 harg2 x2) (inDo arg6 harg6 x6) (inQt arg7 harg7 x7) (inDot arg8 harg8 x8)
    (inDelta arg5 harg5 arg6 harg6 x5 x6) (inBias arg9 harg9 arg10 harg10 x9 x10) k0_pay916 (harg3.unread x3) (harg4.unread x4) (harg11.unread x11)
    (E14, E15, E16, arg17.view.writes (Elt F) arg17.view.junk noRows, arg18.view.writes (Elt F) arg18.view.junk noGates) (k0_t1_loop i).trips

local notation "ℓ" => loopLists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11
local notation "Ε" => evenPass i arg2 harg2 arg3 harg3 arg4 harg4 arg5 harg5 arg6 harg6 arg7 harg7 arg8 harg8 arg9 harg9 arg10 harg10 arg11 harg11 x2 x3 x4 x5 x6 x7 x8 x9 x10 x11
local notation "Ω" => oddPass i arg2 harg2 arg3 harg3 arg4 harg4 arg5 harg5 arg6 harg6 arg7 harg7 arg8 harg8 arg9 harg9 arg10 harg10 arg11 harg11 x2 x3 x4 x5 x6 x7 x8 x9 x10 x11
local notation "E₁" => arg14.view.writes (Elt F) arg14.view.junk noKeys
local notation "E₂" => arg15.view.writes (Elt F) arg15.view.junk noValues
local notation "E₃" => arg16.view.writes (Elt F) arg16.view.junk noKeyGates

/-! A later even row tile. -/

theorem runEven_12 (h1 : ¬cond1 i) (h2 : ¬k0_cond2 i = 1#1) (h3 : k0_cond3 i = 1#1) : (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).1 =
    arg12.view.writes (Elt F) arg12.view.junk [⟨whole1024x64, k0_pay3 (View.readAt (Elt F) arg17.view wholeRows.toLoadRect (rowsAfter (Ε h3) true arg17 (arg17.view.writes (Elt F) arg17.view.junk ((ℓ (harg14.unread x14) (harg15.unread x15) (harg16.unread x16)).2.2.2.1 ++ noRows)) 4))⟩] := by
  sl_kernel_rfl

theorem runEven_13 (h1 : ¬cond1 i) (h2 : ¬k0_cond2 i = 1#1) (h3 : k0_cond3 i = 1#1) : (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.1 =
    arg13.view.writes (Elt F) arg13.view.junk [⟨whole1024x1, k0_pay4 (View.readAt (Elt F) arg18.view wholeGates.toLoadRect (gatesAfter (Ε h3) true arg18 (arg18.view.writes (Elt F) arg18.view.junk ((ℓ (harg14.unread x14) (harg15.unread x15) (harg16.unread x16)).2.2.2.2 ++ noGates)) 4))⟩] := by
  sl_kernel_rfl

theorem runEven_14 (h1 : ¬cond1 i) (h2 : ¬k0_cond2 i = 1#1) (h3 : k0_cond3 i = 1#1) : (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.1 =
    arg14.view.writes (Elt F) (harg14.unread x14) (tilePiece (k0_off12 i) (k0_off12_inb i h3) (addOne ((Ε h3).dk true)) arg14 (arg14.view.writes (Elt F) (harg14.unread x14) ((ℓ (harg14.unread x14) (harg15.unread x15) (harg16.unread x16)).1)) :: ((ℓ (harg14.unread x14) (harg15.unread x15) (harg16.unread x16)).1)) := by
  sl_kernel_rfl

theorem runEven_15 (h1 : ¬cond1 i) (h2 : ¬k0_cond2 i = 1#1) (h3 : k0_cond3 i = 1#1) : (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.1 =
    arg15.view.writes (Elt F) (harg15.unread x15) (tilePiece (k0_off12 i) (k0_off12_inb i h3) (addOne ((Ε h3).dv true)) arg15 (arg15.view.writes (Elt F) (harg15.unread x15) ((ℓ (harg14.unread x14) (harg15.unread x15) (harg16.unread x16)).2.1)) :: ((ℓ (harg14.unread x14) (harg15.unread x15) (harg16.unread x16)).2.1)) := by
  sl_kernel_rfl

theorem runEven_16 (h1 : ¬cond1 i) (h2 : ¬k0_cond2 i = 1#1) (h3 : k0_cond3 i = 1#1) : (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.2.1 =
    arg16.view.writes (Elt F) (harg16.unread x16) (keyGatePiece (k0_off13 i) (k0_off13_inb i h3) (subOne ((Ε h3).dck true)) arg16 (arg16.view.writes (Elt F) (harg16.unread x16) ((ℓ (harg14.unread x14) (harg15.unread x15) (harg16.unread x16)).2.2.1)) :: ((ℓ (harg14.unread x14) (harg15.unread x15) (harg16.unread x16)).2.2.1)) := by
  sl_kernel_rfl

/-! An odd row tile. -/

theorem runOdd_12 (h1 : ¬cond1 i) (h2 : k0_cond2 i = 1#1) (h3 : ¬k0_cond3 i = 1#1) : (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).1 =
    arg12.view.writes (Elt F) arg12.view.junk [⟨whole1024x64, k0_pay3 (View.readAt (Elt F) arg17.view wholeRows.toLoadRect (rowsAfter (Ω h2) true arg17 (arg17.view.writes (Elt F) arg17.view.junk ((ℓ (harg14.unread x14) (harg15.unread x15) (harg16.unread x16)).2.2.2.1 ++ noRows)) 4))⟩] := by
  sl_kernel_rfl

theorem runOdd_13 (h1 : ¬cond1 i) (h2 : k0_cond2 i = 1#1) (h3 : ¬k0_cond3 i = 1#1) : (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.1 =
    arg13.view.writes (Elt F) arg13.view.junk [⟨whole1024x1, k0_pay4 (View.readAt (Elt F) arg18.view wholeGates.toLoadRect (gatesAfter (Ω h2) true arg18 (arg18.view.writes (Elt F) arg18.view.junk ((ℓ (harg14.unread x14) (harg15.unread x15) (harg16.unread x16)).2.2.2.2 ++ noGates)) 4))⟩] := by
  sl_kernel_rfl

theorem runOdd_14 (h1 : ¬cond1 i) (h2 : k0_cond2 i = 1#1) (h3 : ¬k0_cond3 i = 1#1) : (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.1 =
    arg14.view.writes (Elt F) (harg14.unread x14) (tilePiece (k0_off9 i 1#32) (k0_off9_inb i h2 1) (addTile 1 ((Ω h2).dk true)) arg14 (arg14.view.writes (Elt F) (harg14.unread x14) ((tilePiece (k0_off9 i 0#32) (k0_off9_inb i h2 0) (addTile 0 ((Ω h2).dk true)) arg14 (arg14.view.writes (Elt F) (harg14.unread x14) ((ℓ (harg14.unread x14) (harg15.unread x15) (harg16.unread x16)).1))) :: ((ℓ (harg14.unread x14) (harg15.unread x15) (harg16.unread x16)).1))) :: ((tilePiece (k0_off9 i 0#32) (k0_off9_inb i h2 0) (addTile 0 ((Ω h2).dk true)) arg14 (arg14.view.writes (Elt F) (harg14.unread x14) ((ℓ (harg14.unread x14) (harg15.unread x15) (harg16.unread x16)).1))) :: ((ℓ (harg14.unread x14) (harg15.unread x15) (harg16.unread x16)).1))) := by
  sl_kernel_rfl

theorem runOdd_15 (h1 : ¬cond1 i) (h2 : k0_cond2 i = 1#1) (h3 : ¬k0_cond3 i = 1#1) : (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.1 =
    arg15.view.writes (Elt F) (harg15.unread x15) (tilePiece (k0_off9 i 1#32) (k0_off9_inb i h2 1) (addTile 1 ((Ω h2).dv true)) arg15 (arg15.view.writes (Elt F) (harg15.unread x15) ((tilePiece (k0_off9 i 0#32) (k0_off9_inb i h2 0) (addTile 0 ((Ω h2).dv true)) arg15 (arg15.view.writes (Elt F) (harg15.unread x15) ((ℓ (harg14.unread x14) (harg15.unread x15) (harg16.unread x16)).2.1))) :: ((ℓ (harg14.unread x14) (harg15.unread x15) (harg16.unread x16)).2.1))) :: ((tilePiece (k0_off9 i 0#32) (k0_off9_inb i h2 0) (addTile 0 ((Ω h2).dv true)) arg15 (arg15.view.writes (Elt F) (harg15.unread x15) ((ℓ (harg14.unread x14) (harg15.unread x15) (harg16.unread x16)).2.1))) :: ((ℓ (harg14.unread x14) (harg15.unread x15) (harg16.unread x16)).2.1))) := by
  sl_kernel_rfl

theorem runOdd_16 (h1 : ¬cond1 i) (h2 : k0_cond2 i = 1#1) (h3 : ¬k0_cond3 i = 1#1) : (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.2.1 =
    arg16.view.writes (Elt F) (harg16.unread x16) (keyGatePiece (k0_off8 i 1#32) (k0_off8_inb i h2 1) (subTile 1 ((Ω h2).dck true)) arg16 (arg16.view.writes (Elt F) (harg16.unread x16) ((keyGatePiece (k0_off8 i 0#32) (k0_off8_inb i h2 0) (subTile 0 ((Ω h2).dck true)) arg16 (arg16.view.writes (Elt F) (harg16.unread x16) ((ℓ (harg14.unread x14) (harg15.unread x15) (harg16.unread x16)).2.2.1))) :: ((ℓ (harg14.unread x14) (harg15.unread x15) (harg16.unread x16)).2.2.1))) :: ((keyGatePiece (k0_off8 i 0#32) (k0_off8_inb i h2 0) (subTile 0 ((Ω h2).dck true)) arg16 (arg16.view.writes (Elt F) (harg16.unread x16) ((ℓ (harg14.unread x14) (harg15.unread x15) (harg16.unread x16)).2.2.1))) :: ((ℓ (harg14.unread x14) (harg15.unread x15) (harg16.unread x16)).2.2.1))) := by
  sl_kernel_rfl

/-! A head's first row tile. -/

theorem runFirst_12 (h1 : cond1 i) (h2 : ¬k0_cond2 i = 1#1) (h3 : k0_cond3 i = 1#1) : (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).1 =
    arg12.view.writes (Elt F) arg12.view.junk [⟨whole1024x64, k0_pay3 (View.readAt (Elt F) arg17.view wholeRows.toLoadRect (rowsAfter (Ε h3) true arg17 (arg17.view.writes (Elt F) arg17.view.junk ((ℓ (E₁) (E₂) (E₃)).2.2.2.1 ++ noRows)) 4))⟩] := by
  sl_kernel_rfl

theorem runFirst_13 (h1 : cond1 i) (h2 : ¬k0_cond2 i = 1#1) (h3 : k0_cond3 i = 1#1) : (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.1 =
    arg13.view.writes (Elt F) arg13.view.junk [⟨whole1024x1, k0_pay4 (View.readAt (Elt F) arg18.view wholeGates.toLoadRect (gatesAfter (Ε h3) true arg18 (arg18.view.writes (Elt F) arg18.view.junk ((ℓ (E₁) (E₂) (E₃)).2.2.2.2 ++ noGates)) 4))⟩] := by
  sl_kernel_rfl

theorem runFirst_14 (h1 : cond1 i) (h2 : ¬k0_cond2 i = 1#1) (h3 : k0_cond3 i = 1#1) : (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.2.1 =
    arg14.view.writes (Elt F) arg14.view.junk (tilePiece (k0_off12 i) (k0_off12_inb i h3) (addOne ((Ε h3).dk true)) arg14 (arg14.view.writes (Elt F) arg14.view.junk ((ℓ (E₁) (E₂) (E₃)).1 ++ noKeys)) :: ((ℓ (E₁) (E₂) (E₃)).1 ++ noKeys)) := by
  sl_kernel_rfl

theorem runFirst_15 (h1 : cond1 i) (h2 : ¬k0_cond2 i = 1#1) (h3 : k0_cond3 i = 1#1) : (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.2.2.1 =
    arg15.view.writes (Elt F) arg15.view.junk (tilePiece (k0_off12 i) (k0_off12_inb i h3) (addOne ((Ε h3).dv true)) arg15 (arg15.view.writes (Elt F) arg15.view.junk ((ℓ (E₁) (E₂) (E₃)).2.1 ++ noValues)) :: ((ℓ (E₁) (E₂) (E₃)).2.1 ++ noValues)) := by
  sl_kernel_rfl

theorem runFirst_16 (h1 : cond1 i) (h2 : ¬k0_cond2 i = 1#1) (h3 : k0_cond3 i = 1#1) : (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.2.2.2.1 =
    arg16.view.writes (Elt F) arg16.view.junk (keyGatePiece (k0_off13 i) (k0_off13_inb i h3) (subOne ((Ε h3).dck true)) arg16 (arg16.view.writes (Elt F) arg16.view.junk ((ℓ (E₁) (E₂) (E₃)).2.2.1 ++ noKeyGates)) :: ((ℓ (E₁) (E₂) (E₃)).2.2.1 ++ noKeyGates)) := by
  sl_kernel_rfl

end

end Cert.KernelIdeal.Flash
-- ==== Proof.FlashPoint.lean ====
module

public import proofs.«01_k».proof.Proof.FlashSums
public import proofs.«01_k».proof.Proof.FlashLinkA
public import proofs.«01_k».proof.Proof.FlashLinkB
public import Idealize.ShloMosaic.Lib.WritesUnit

/-! What the passes of a point add to the arrays that the five buffers hold, over the reals. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

/-! ## A point's numbers -/

/-- A row tile of a head: its number, the scaled queries, the output's gradient, both transposed, `delta`, the bias, and the head's
    keys, values and key gates. -/
structure Point where
  i : ℕ
  q : Fin 1024 → Fin 64 → EReal
  dO : Fin 1024 → Fin 64 → EReal
  qT : Fin 64 → Fin 1024 → EReal
  dOT : Fin 64 → Fin 1024 → EReal
  delta : Fin 1024 → EReal
  bias : Fin 1024 → EReal
  k : ℕ → Fin 64 → EReal
  v : ℕ → Fin 64 → EReal
  ck : ℕ → EReal

namespace Point

variable (P : Point)

/-- The weight of a row and a key. -/
def weight (r : Fin 1024) (n : ℕ) : EReal :=
  if n ≤ 1024 * P.i + r.val then Ideal.exp ((∑ d : Fin 64, P.q r d * P.k n d) + (P.bias r - P.ck n)) else 0

/-- The score's gradient. -/
def grad (r : Fin 1024) (n : ℕ) : EReal :=
  P.weight r n * ((∑ d : Fin 64, P.dO r d * P.v n d) - P.delta r)

/-- What the point adds to a key's gradient, to a value's, and takes from a key gate's. -/
def toKey (d : Fin 64) (n : ℕ) : EReal := ∑ r : Fin 1024, P.qT d r * P.grad r n

@[inherit_doc toKey] def toValue (d : Fin 64) (n : ℕ) : EReal := ∑ r : Fin 1024, P.dOT d r * P.weight r n

@[inherit_doc toKey] def toGate (n : ℕ) : EReal := ∑ r : Fin 1024, P.grad r n

end Point

/-- A pass over `w` keys of the point from key tile `p` on. -/
structure Pass.On {w : ℕ} (A : Pass Ideal w) (P : Point) (p : ℕ) : Prop where
  qs : ∀ r d, A.qs (ix2 r d) = P.q r d
  dO : ∀ r d, A.dO (ix2 r d) = P.dO r d
  qsT : ∀ d r, A.qsT (ix2 d r) = P.qT d r
  dOT : ∀ d r, A.dOT (ix2 d r) = P.dOT d r
  delta : ∀ r, A.delta (ix2 r 0) = P.delta r
  bias : ∀ r, A.bias (ix2 r 0) = P.bias r
  kj : ∀ c d, A.kj (ix2 c d) = P.k (1024 * p + c.val) d
  vj : ∀ c d, A.vj (ix2 c d) = P.v (1024 * p + c.val) d
  ck : ∀ c, A.ck (ix2 0 c) = P.ck (1024 * p + c.val)

namespace Pass.On

variable {w : ℕ} [Wide w] {A : Pass Ideal w} {P : Point} {p : ℕ} (h : A.On P p) (masked : Bool)
  (hm : masked = true → 1024 * p + w = 1024 * P.i + 1024) (hn : masked = false → 1024 * p + w ≤ 1024 * P.i)

include h hm hn

theorem weight_eq (r : Fin 1024) (c : Fin w) : A.weight masked r c = P.weight r (1024 * p + c.val) := by
  have hp := Wide.pos (w := w)
  have hc := c.isLt
  unfold Pass.weight Point.weight Pass.score
  simp only [h.qs, h.kj, h.bias, h.ck]
  cases masked with
  | false =>
    have := hn rfl
    rw [if_neg (fun x => by simp at x), if_pos (by omega)]
  | true =>
    have := hm rfl
    by_cases hv : c.val ≤ r.val + (w - 1024)
    · rw [if_neg (fun x => x.2 hv), if_pos (by omega)]
    · rw [if_pos ⟨rfl, hv⟩, if_neg (by omega)]

theorem grad_eq (r : Fin 1024) (c : Fin w) : A.grad masked r c = P.grad r (1024 * p + c.val) := by
  unfold Pass.grad Point.grad
  rw [h.weight_eq masked hm hn, h.delta]
  simp only [h.dO, h.vj]

variable (hw : w ≤ 2048)
include hw

theorem dv_eq (d : Fin 64) (c : Fin w) : A.dv masked (ix2 d c) = P.toValue d (1024 * p + c.val) :=
  (A.dv_apply masked d c hw).trans (Finset.sum_congr rfl fun r _ => by rw [h.dOT, h.weight_eq masked hm hn])

theorem dk_eq (d : Fin 64) (c : Fin w) : A.dk masked (ix2 d c) = P.toKey d (1024 * p + c.val) :=
  (A.dk_apply masked d c hw).trans (Finset.sum_congr rfl fun r _ => by rw [h.qsT, h.grad_eq masked hm hn])

theorem dck_eq (c : Fin w) : A.dck masked (ix2 0 c) = P.toGate (1024 * p + c.val) :=
  (A.dck_apply masked c hw).trans (Finset.sum_congr rfl fun r _ => h.grad_eq masked hm hn r c)

theorem dq_eq (u : Fin 4) (a : Fin 256) (d : Fin 64) :
    A.dq masked u (ix2 a d) = ∑ x ∈ Finset.range w, P.grad (Pass.rowOf u a) (1024 * p + x) * P.k (1024 * p + x) d := by
  rw [A.dq_apply masked u a d hw, Finset.sum_range]
  exact Finset.sum_congr rfl fun c _ => by rw [h.grad_eq masked hm hn, h.kj]

theorem dcq_eq (u : Fin 4) (a : Fin 256) : A.dcq masked u (ix2 a 0) = ∑ x ∈ Finset.range w, P.grad (Pass.rowOf u a) (1024 * p + x) := by
  rw [A.dcq_apply masked u a hw, Finset.sum_range]
  exact Finset.sum_congr rfl fun c _ => h.grad_eq masked hm hn _ c

end Pass.On

/-! ## Reading a buffer at an index -/

variable {F : FTy → Type} [FloatOps F]

theorem tile_load (arg : Memref sig .tc .vmem S1x16x64x1024 .f32) (f : BufTy.Contents (Elt F) arg.view.ty) {o : Fin 4 → ℕ} (ho) (j : Fin 16)
    (h : o = ![0, j.val, 0, 0]) (d : Fin 64) (c : Fin 1024) :
    View.readAt (Elt F) arg.view (Rect.unit (s := S1x16x64x1024) o S1x1x64x1024.size ho).toLoadRect f (ix4 (0 : Fin 1) (0 : Fin 1) d c)
      = arg.view.read (Elt F) f (ix4 (0 : Fin 1) j d c) := by
  subst h
  refine congrArg (arg.view.read (Elt F) f) (funext fun a => Fin.ext ?_)
  match a with
  | ⟨0, _⟩ => rfl
  | ⟨1, _⟩ => rfl
  | ⟨2, _⟩ => show 0 + 1 * d.val = d.val; omega
  | ⟨3, _⟩ => show 0 + 1 * c.val = c.val; omega

theorem gate_load (arg : Memref sig .tc .vmem S1x16x1x1024 .f32) (f : BufTy.Contents (Elt F) arg.view.ty) {o : Fin 4 → ℕ} (ho) (j : Fin 16)
    (h : o = ![0, j.val, 0, 0]) (c : Fin 1024) :
    View.readAt (Elt F) arg.view (Rect.unit (s := S1x16x1x1024) o S1x1x1x1024.size ho).toLoadRect f (ix4 (0 : Fin 1) (0 : Fin 1) (0 : Fin 1) c)
      = arg.view.read (Elt F) f (ix4 (0 : Fin 1) j (0 : Fin 1) c) := by
  subst h
  refine congrArg (arg.view.read (Elt F) f) (funext fun a => Fin.ext ?_)
  match a with
  | ⟨0, _⟩ => rfl
  | ⟨1, _⟩ => rfl
  | ⟨2, _⟩ => rfl
  | ⟨3, _⟩ => show 0 + 1 * c.val = c.val; omega

theorem row_load (arg : Memref sig .tc .vmem S1024x64 .f32) (f : BufTy.Contents (Elt F) arg.view.ty) (u : Fin 4) (a : Fin 256) (d : Fin 64) :
    View.readAt (Elt F) arg.view (rows u).toLoadRect f (ix2 a d) = arg.view.read (Elt F) f (ix2 (Pass.rowOf u a) d) := by
  refine congrArg (arg.view.read (Elt F) f) (funext fun x => Fin.ext ?_)
  match x with
  | ⟨0, _⟩ => show 256 * u.val + 1 * a.val = 256 * u.val + a.val; omega
  | ⟨1, _⟩ => show 0 + 1 * d.val = d.val; omega

theorem rowGate_load (arg : Memref sig .tc .vmem S1024x1 .f32) (f : BufTy.Contents (Elt F) arg.view.ty) (u : Fin 4) (a : Fin 256) :
    View.readAt (Elt F) arg.view (gates u).toLoadRect f (ix2 a (0 : Fin 1)) = arg.view.read (Elt F) f (ix2 (Pass.rowOf u a) (0 : Fin 1)) := by
  refine congrArg (arg.view.read (Elt F) f) (funext fun x => Fin.ext ?_)
  match x with
  | ⟨0, _⟩ => show 256 * u.val + 1 * a.val = 256 * u.val + a.val; omega
  | ⟨1, _⟩ => rfl

/-- A tile just written reads as what was written, the others as before. -/
theorem tile_read (arg : Memref sig .tc .vmem S1x16x64x1024 .f32) (f : BufTy.Contents (Elt F) arg.view.ty) {o : Fin 4 → ℕ} (ho) (j0 : Fin 16)
    (h : o = ![0, j0.val, 0, 0]) (y : FVec F S1x1x64x1024 .f32) (L) (j : Fin 16) (d : Fin 64) (c : Fin 1024) :
    arg.view.read (Elt F) (arg.view.writes (Elt F) f (⟨Rect.unit (s := S1x16x64x1024) o S1x1x64x1024.size ho, y⟩ :: L)) (ix4 (0 : Fin 1) j d c)
      = if j = j0 then y (ix4 (0 : Fin 1) (0 : Fin 1) d c) else arg.view.read (Elt F) (arg.view.writes (Elt F) f L) (ix4 (0 : Fin 1) j d c) := by
  by_cases hj : j = j0
  · subst hj
    rw [if_pos rfl]
    exact View.read_writes_cons_unit_of_mem _ f ho y L (ix4 (0 : Fin 1) j d c) (ix4 (0 : Fin 1) (0 : Fin 1) d c) h fun a => match a with
      | ⟨0, _⟩ => rfl
      | ⟨1, _⟩ => rfl
      | ⟨2, _⟩ => (Nat.zero_add _).symm
      | ⟨3, _⟩ => (Nat.zero_add _).symm
  · rw [if_neg hj]
    refine View.read_writes_cons_unit_of_not_mem _ f ho y L (ix4 (0 : Fin 1) j d c) h (1 : Fin 4) ?_
    show j.val < j0.val ∨ j0.val + 1 ≤ j.val
    have := fun e => hj (Fin.ext e)
    omega

theorem gate_read (arg : Memref sig .tc .vmem S1x16x1x1024 .f32) (f : BufTy.Contents (Elt F) arg.view.ty) {o : Fin 4 → ℕ} (ho) (j0 : Fin 16)
    (h : o = ![0, j0.val, 0, 0]) (y : FVec F S1x1x1x1024 .f32) (L) (j : Fin 16) (c : Fin 1024) :
    arg.view.read (Elt F) (arg.view.writes (Elt F) f (⟨Rect.unit (s := S1x16x1x1024) o S1x1x1x1024.size ho, y⟩ :: L)) (ix4 (0 : Fin 1) j (0 : Fin 1) c)
      = if j = j0 then y (ix4 (0 : Fin 1) (0 : Fin 1) (0 : Fin 1) c) else arg.view.read (Elt F) (arg.view.writes (Elt F) f L) (ix4 (0 : Fin 1) j (0 : Fin 1) c) := by
  by_cases hj : j = j0
  · subst hj
    rw [if_pos rfl]
    exact View.read_writes_cons_unit_of_mem _ f ho y L (ix4 (0 : Fin 1) j (0 : Fin 1) c) (ix4 (0 : Fin 1) (0 : Fin 1) (0 : Fin 1) c) h fun a => match a with
      | ⟨0, _⟩ => rfl
      | ⟨1, _⟩ => rfl
      | ⟨2, _⟩ => rfl
      | ⟨3, _⟩ => (Nat.zero_add _).symm
  · rw [if_neg hj]
    refine View.read_writes_cons_unit_of_not_mem _ f ho y L (ix4 (0 : Fin 1) j (0 : Fin 1) c) h (1 : Fin 4) ?_
    show j.val < j0.val ∨ j0.val + 1 ≤ j.val
    have := fun e => hj (Fin.ext e)
    omega

theorem row_read (arg : Memref sig .tc .vmem S1024x64 .f32) (f : BufTy.Contents (Elt F) arg.view.ty) (u' : Fin 4) (y : FVec F S256x64 .f32) (L)
    (u : Fin 4) (a : Fin 256) (d : Fin 64) :
    arg.view.read (Elt F) (arg.view.writes (Elt F) f (⟨rows u', y⟩ :: L)) (ix2 (Pass.rowOf u a) d)
      = if u = u' then y (ix2 a d) else arg.view.read (Elt F) (arg.view.writes (Elt F) f L) (ix2 (Pass.rowOf u a) d) := by
  by_cases hj : u = u'
  · subst hj
    rw [if_pos rfl]
    exact View.read_writes_cons_unit_of_mem _ f _ y L (ix2 (Pass.rowOf u a) d) (ix2 a d) rfl fun a => match a with
      | ⟨0, _⟩ => rfl
      | ⟨1, _⟩ => (Nat.zero_add _).symm
  · rw [if_neg hj]
    refine View.read_writes_cons_unit_of_not_mem _ f _ y L (ix2 (Pass.rowOf u a) d) rfl (0 : Fin 2) ?_
    show 256 * u.val + a.val < 256 * u'.val ∨ 256 * u'.val + 256 ≤ 256 * u.val + a.val
    have := fun e => hj (Fin.ext e)
    omega

theorem rowGate_read (arg : Memref sig .tc .vmem S1024x1 .f32) (f : BufTy.Contents (Elt F) arg.view.ty) (u' : Fin 4) (y : FVec F S256x1 .f32) (L)
    (u : Fin 4) (a : Fin 256) :
    arg.view.read (Elt F) (arg.view.writes (Elt F) f (⟨gates u', y⟩ :: L)) (ix2 (Pass.rowOf u a) (0 : Fin 1))
      = if u = u' then y (ix2 a (0 : Fin 1)) else arg.view.read (Elt F) (arg.view.writes (Elt F) f L) (ix2 (Pass.rowOf u a) (0 : Fin 1)) := by
  by_cases hj : u = u'
  · subst hj
    rw [if_pos rfl]
    exact View.read_writes_cons_unit_of_mem _ f _ y L (ix2 (Pass.rowOf u a) (0 : Fin 1)) (ix2 a (0 : Fin 1)) rfl fun a => match a with
      | ⟨0, _⟩ => rfl
      | ⟨1, _⟩ => rfl
  · rw [if_neg hj]
    refine View.read_writes_cons_unit_of_not_mem _ f _ y L (ix2 (Pass.rowOf u a) (0 : Fin 1)) rfl (0 : Fin 2) ?_
    show 256 * u.val + a.val < 256 * u'.val ∨ 256 * u'.val + 256 ≤ 256 * u.val + a.val
    have := fun e => hj (Fin.ext e)
    omega

/-! ## The payloads at an index -/

theorem cast_tile {α : Type} (x : S1x1x64x1024.Idx → α) (h) (d : Fin 64) (c : Fin 1024) : shapeCast S64x1024 x h (ix2 d c) = x (ix4 (0 : Fin 1) (0 : Fin 1) d c) :=
  shapeCast_apply _ _ _ _ (by
    rw [Shape.rowMajor_val_four, Shape.rowMajor_val_two]
    show ((0 * 1 + 0) * 64 + d.val) * 1024 + c.val = d.val * 1024 + c.val
    omega)

theorem cast_tile' {α : Type} (x : S64x1024.Idx → α) (h) (d : Fin 64) (c : Fin 1024) : shapeCast S1x1x64x1024 x h (ix4 (0 : Fin 1) (0 : Fin 1) d c) = x (ix2 d c) :=
  shapeCast_apply _ _ _ _ (by
    rw [Shape.rowMajor_val_two, Shape.rowMajor_val_four]
    show d.val * 1024 + c.val = ((0 * 1 + 0) * 64 + d.val) * 1024 + c.val
    omega)

theorem cast_gate {α : Type} (x : S1x1x1x1024.Idx → α) (h) (c : Fin 1024) : shapeCast S1x1024 x h (ix2 (0 : Fin 1) c) = x (ix4 (0 : Fin 1) (0 : Fin 1) (0 : Fin 1) c) :=
  shapeCast_apply _ _ _ _ (by
    rw [Shape.rowMajor_val_four, Shape.rowMajor_val_two]
    show ((0 * 1 + 0) * 1 + 0) * 1024 + c.val = 0 * 1024 + c.val
    omega)

theorem cast_gate' {α : Type} (x : S1x1024.Idx → α) (h) (c : Fin 1024) : shapeCast S1x1x1x1024 x h (ix4 (0 : Fin 1) (0 : Fin 1) (0 : Fin 1) c) = x (ix2 (0 : Fin 1) c) :=
  shapeCast_apply _ _ _ _ (by
    rw [Shape.rowMajor_val_two, Shape.rowMajor_val_four]
    show 0 * 1024 + c.val = ((0 * 1 + 0) * 1 + 0) * 1024 + c.val
    omega)

/-- A column of one half of a pair of tiles. -/
def half (t : Fin 2) (c : Fin 1024) : Fin 2048 := ⟨1024 * t.val + c.val, by omega⟩

theorem addTile_apply (t : Fin 2) (D : FVec Ideal (Mat 64 2048) .f32) (x : Vec Ideal S1x1x64x1024 .f32) (d : Fin 64) (c : Fin 1024) :
    addTile t D x (ix4 (0 : Fin 1) (0 : Fin 1) d c) = x (ix4 (0 : Fin 1) (0 : Fin 1) d c) + D (ix2 d (half t c)) := by
  refine (cast_tile' _ _ d c).trans (congr (congrArg _ (cast_tile x _ d c)) (extractStridedSlice_apply _ _ _ _ _ fun x => ?_))
  fin_cases x <;> simp [half]

theorem subTile_apply (t : Fin 2) (D : FVec Ideal (Mat 1 2048) .f32) (x : Vec Ideal S1x1x1x1024 .f32) (c : Fin 1024) :
    subTile t D x (ix4 (0 : Fin 1) (0 : Fin 1) (0 : Fin 1) c) = x (ix4 (0 : Fin 1) (0 : Fin 1) (0 : Fin 1) c) - D (ix2 (0 : Fin 1) (half t c)) := by
  refine (cast_gate' _ _ c).trans (congr (congrArg _ (cast_gate x _ c)) (extractStridedSlice_apply _ _ _ _ _ fun x => ?_))
  fin_cases x <;> simp [half]

theorem addOne_apply (D : FVec Ideal (Mat 64 1024) .f32) (x : Vec Ideal S1x1x64x1024 .f32) (d : Fin 64) (c : Fin 1024) :
    addOne D x (ix4 (0 : Fin 1) (0 : Fin 1) d c) = x (ix4 (0 : Fin 1) (0 : Fin 1) d c) + D (ix2 d c) :=
  (cast_tile' _ _ d c).trans (congrArg (· + D (ix2 d c)) (cast_tile x _ d c))

theorem subOne_apply (D : FVec Ideal (Mat 1 1024) .f32) (x : Vec Ideal S1x1x1x1024 .f32) (c : Fin 1024) :
    subOne D x (ix4 (0 : Fin 1) (0 : Fin 1) (0 : Fin 1) c) = x (ix4 (0 : Fin 1) (0 : Fin 1) (0 : Fin 1) c) - D (ix2 (0 : Fin 1) c) :=
  (cast_gate' _ _ c).trans (congrArg (· - D (ix2 (0 : Fin 1) c)) (cast_gate x _ c))

theorem addRows_apply (x : Vec Ideal S256x64 .f32) (D : FVec Ideal S256x64 .f32) (y) : addRows x D y = x y + D y :=
  congrFun (shapeCast_self _ _) y

theorem addGates_apply (x : Vec Ideal S256x1 .f32) (D : FVec Ideal S256x1 .f32) (y) : addGates x D y = x y + D y :=
  congrFun (shapeCast_self _ _) y

end Cert.KernelIdeal.Flash
-- ==== Proof.FlashBlocks.lean ====
module

public import proofs.«01_k».proof.Proof.FlashPoint
public import Idealize.ShloMosaic.Lib.WholeRead

/-! The loop's passes and the last pass, added up: what the five buffers hold once a point is done with the first `n` keys. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

/-- The scale 1/8. -/
def eighth : EReal := ((1 / 8 : ℝ) : EReal)

theorem eighth_bf16 : Ideal.ofBits .bf16 0x3E00#16 = eighth := by
  unfold eighth; simp [Ideal.ofBits, Ideal.ieee]; rw [← EReal.coe_mul]; norm_num

theorem eighth_f32 : Ideal.ofBits .f32 0x3E000000#32 = eighth := by
  unfold eighth; simp [Ideal.ofBits, Ideal.ieee]; rw [← EReal.coe_mul]; norm_num

/-! ## The point that a run's blocks make -/

/-- The blocks' numbers. -/
def pointOf (i : ℕ) (x2 : Vec Ideal S1x1024x64 .bf16) (x3 : Vec Ideal S1x16384x64 .bf16) (x4 : Vec Ideal S1x16384x64 .bf16) (x5 : Vec Ideal S1x1024x64 .bf16) (x6 : Vec Ideal S1x1024x64 .bf16) (x7 : Vec Ideal S1x64x1024 .bf16) (x8 : Vec Ideal S1x64x1024 .bf16) (x9 : Vec Ideal S1x1024x1 .f32) (x10 : Vec Ideal S1x1024x1 .f32) (x11 : Vec Ideal S1x16x1x1024 .f32) : Point where
  i := i
  q r d := x2 (ix3 (0 : Fin 1) r d) * eighth
  dO r d := x6 (ix3 (0 : Fin 1) r d)
  qT d r := x7 (ix3 (0 : Fin 1) d r) * eighth
  dOT d r := x8 (ix3 (0 : Fin 1) d r)
  delta r := ∑ d : Fin 64, x6 (ix3 (0 : Fin 1) r d) * x5 (ix3 (0 : Fin 1) r d)
  bias r := x10 (ix3 (0 : Fin 1) r (0 : Fin 1)) - x9 (ix3 (0 : Fin 1) r (0 : Fin 1))
  k n d := if h : n < 16384 then x3 (ix3 (0 : Fin 1) ⟨n, h⟩ d) else 0
  v n d := if h : n < 16384 then x4 (ix3 (0 : Fin 1) ⟨n, h⟩ d) else 0
  ck n := if h : n < 16384 then x11 (ix4 (0 : Fin 1) (⟨n / 1024, by omega⟩ : Fin 16) (0 : Fin 1) (⟨n % 1024, by omega⟩ : Fin 1024)) else 0

theorem pay910_apply (x : Vec Ideal S1x1024x64 .bf16) (r : Fin 1024) (d : Fin 64) : k0_pay910 x (ix2 r d) = x (ix3 (0 : Fin 1) r d) * eighth := by
  rw [← eighth_bf16]; unfold k0_pay910; pointwise; simp only [ix3_eq_valueIdx]

theorem pay911_apply (x : Vec Ideal S1x1024x64 .bf16) (r : Fin 1024) (d : Fin 64) : k0_pay911 x (ix2 r d) = x (ix3 (0 : Fin 1) r d) := by
  unfold k0_pay911; pointwise; simp only [ix3_eq_valueIdx]

theorem pay912_apply (x : Vec Ideal S1x64x1024 .bf16) (r : Fin 64) (d : Fin 1024) : k0_pay912 x (ix2 r d) = x (ix3 (0 : Fin 1) r d) * eighth := by
  rw [← eighth_bf16]; unfold k0_pay912; pointwise; simp only [ix3_eq_valueIdx]

theorem pay913_apply (x : Vec Ideal S1x64x1024 .bf16) (r : Fin 64) (d : Fin 1024) : k0_pay913 x (ix2 r d) = x (ix3 (0 : Fin 1) r d) := by
  unfold k0_pay913; pointwise; simp only [ix3_eq_valueIdx]

theorem pay914_apply (x y : Vec Ideal S1x1024x64 .bf16) (r : Fin 1024) :
    k0_pay914 x y (ix2 r (0 : Fin 1)) = ∑ d : Fin 64, x (ix3 (0 : Fin 1) r d) * y (ix3 (0 : Fin 1) r d) := by
  unfold k0_pay914; pointwise
  refine Finset.sum_congr rfl fun d _ => congr (congrArg _ ?_) (congrArg y (ix3_eq_valueIdx _ _ _))
  exact (congrArg (k0_pay911 x) (ix2_eq_valueIdx _ _)).trans (pay911_apply x _ d)

theorem pay915_apply (x y : Vec Ideal S1x1024x1 .f32) (r : Fin 1024) :
    k0_pay915 x y (ix2 r (0 : Fin 1)) = x (ix3 (0 : Fin 1) r (0 : Fin 1)) - y (ix3 (0 : Fin 1) r (0 : Fin 1)) := by
  unfold k0_pay915; pointwise; simp only [ix3_eq_valueIdx]

theorem pay3_apply (x : Vec Ideal S1024x64 .f32) (r : Fin 1024) (d : Fin 64) : k0_pay3 x (ix3 (0 : Fin 1) r d) = x (ix2 r d) * eighth := by
  rw [← eighth_f32]; unfold k0_pay3; pointwise; simp only [ix2_eq_valueIdx]

theorem pay4_apply (x : Vec Ideal S1024x1 .f32) (r : Fin 1024) : k0_pay4 x (ix3 (0 : Fin 1) r (0 : Fin 1)) = x (ix2 r (0 : Fin 1)) := by
  unfold k0_pay4; pointwise; simp only [ix2_eq_valueIdx]

/-- Keys (or values) loaded from key tile `p` on. -/
theorem keys_load {w : ℕ} (arg : Memref sig .tc .vmem S1x16384x64 .bf16) (harg : arg.IsWhole) (x : Vec Ideal S1x16384x64 .bf16) {o : Fin 3 → ℕ} (ho) (h')
    (p : ℕ) (h : o = ![0, 1024 * p, 0]) (c : Fin w) (d : Fin 64) (hc : 1024 * p + c.val < 16384) :
    shapeCast (Mat w 64) (View.readAt (Elt Ideal) arg.view (Rect.unit (s := S1x16384x64) o ![1, w, 64] ho).toLoadRect (harg.unread x)) h' (ix2 c d)
      = x (ix3 (0 : Fin 1) (⟨1024 * p + c.val, hc⟩ : Fin 16384) d) := by
  subst h
  refine (shapeCast_apply _ _ _ (ix3 (0 : Fin 1) c d) ?_).trans ?_
  · rw [Shape.rowMajor_val_three, Shape.rowMajor_val_two]
    show (0 * w + c.val) * 64 + d.val = c.val * 64 + d.val
    rw [Nat.zero_mul, Nat.zero_add]
  · refine (Memref.IsWhole.readAt_unread harg x _ _).trans (congrArg x (funext fun a => Fin.ext ?_))
    match a with
    | ⟨0, _⟩ => rfl
    | ⟨1, _⟩ => show 1024 * p + 1 * c.val = 1024 * p + c.val; omega
    | ⟨2, _⟩ => show 0 + 1 * d.val = d.val; omega

/-- A tile of key gates loaded. -/
theorem keyGates_load (arg : Memref sig .tc .vmem S1x16x1x1024 .f32) (harg : arg.IsWhole) (x : Vec Ideal S1x16x1x1024 .f32) {o : Fin 4 → ℕ} (ho) (h')
    (j : Fin 16) (h : o = ![0, j.val, 0, 0]) (c : Fin 1024) :
    shapeCast S1x1024 (View.readAt (Elt Ideal) arg.view (Rect.unit (s := S1x16x1x1024) o S1x1x1x1024.size ho).toLoadRect (harg.unread x)) h' (ix2 (0 : Fin 1) c)
      = x (ix4 (0 : Fin 1) j (0 : Fin 1) c) := by
  refine (cast_gate _ _ c).trans ((gate_load arg _ ho j h c).trans ?_)
  rw [harg.read_unread]

/-- Two tiles of gates side by side. -/
theorem sideBySide_apply (a b : Vec Ideal S1x1x1x1024 .f32) (c : Fin 2048) :
    sideBySide a b (ix2 (0 : Fin 1) c) = if h : c.val < 1024 then a (ix4 (0 : Fin 1) (0 : Fin 1) (0 : Fin 1) (⟨c.val, h⟩ : Fin 1024))
      else b (ix4 (0 : Fin 1) (0 : Fin 1) (0 : Fin 1) (⟨c.val - 1024, by omega⟩ : Fin 1024)) := by
  unfold sideBySide
  by_cases h : c.val < 1024
  · rw [dif_pos h]
    refine (concatenate_pair_apply_left (t := S1x2048) (s₁ := S1x1024) (s₂ := S1x1024) (1 : Fin 2) _ _ concatenates_S1x1024_S1x1024_S1x2048_d1
      (ix2 (0 : Fin 1) c) rfl (ix2 (0 : Fin 1) (⟨c.val, h⟩ : Fin 1024)) (fun b => match b with | ⟨0, _⟩ => rfl | ⟨1, _⟩ => rfl)).trans (cast_gate _ _ _)
  · rw [dif_neg h]
    refine (concatenate_pair_apply_right (t := S1x2048) (s₁ := S1x1024) (s₂ := S1x1024) (1 : Fin 2) _ _ concatenates_S1x1024_S1x1024_S1x2048_d1
      (ix2 (0 : Fin 1) c) rfl rfl (ix2 (0 : Fin 1) (⟨c.val - 1024, by omega⟩ : Fin 1024)) (fun b hb => match b, hb with | ⟨0, _⟩, _ => rfl | ⟨1, _⟩, hb => absurd rfl hb)
      (by show c.val - 1024 + 1024 = c.val; omega)).trans (cast_gate _ _ _)

end Cert.KernelIdeal.Flash
-- ==== Proof.FlashSteps.lean ====
module

public import proofs.«01_k».proof.Proof.FlashBlocks
public import proofs.«01_k».proof.Proof.FlashLinkA
public import proofs.«01_k».proof.Proof.FlashLinkB

/-! What one more pass does to each of the five buffers: a pass over key tiles adds its part to those tiles, and a sum over the keys goes on by the pass's keys. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

/-- A part that counts once its key is among the first `N`. -/
def upTo (N n : ℕ) (x : EReal) : EReal := if n < N then x else 0

theorem upTo_of_le {N n : ℕ} (x : EReal) (h : N ≤ n) : upTo N n x = 0 := if_neg (by omega)
theorem upTo_of_lt {N n : ℕ} (x : EReal) (h : n < N) : upTo N n x = x := if_pos h
theorem upTo_congr {M N n : ℕ} (x : EReal) (h : n < M ↔ n < N) : upTo M n x = upTo N n x := by
  unfold upTo; simp only [h]

/-! ## The arrays over the keys -/

section
variable (arg : Memref sig .tc .vmem S1x16x64x1024 .f32) (f : BufTy.Contents (Elt Ideal) arg.view.ty)
  (K : Fin 16 → Fin 64 → Fin 1024 → EReal) (T : Fin 64 → ℕ → EReal)

/-- A gradient over the keys that has the parts of the first `N` keys. -/
def TilesAt (N : ℕ) : Prop := ∀ (j : Fin 16) (d : Fin 64) (c : Fin 1024),
  arg.view.read (Elt Ideal) f (ix4 (0 : Fin 1) j d c) = K j d c + upTo N (1024 * j.val + c.val) (T d (1024 * j.val + c.val))

variable {arg f K T}

/-- One more key tile. -/
theorem TilesAt.more {L : List (View.Piece (Elt Ideal) S1x16x64x1024 .f32)} (j0 : Fin 16) (hL : TilesAt arg (arg.view.writes (Elt Ideal) f L) K T (1024 * j0.val))
    {o : Fin 4 → ℕ} (ho) (h : o = ![0, j0.val, 0, 0]) (y : FVec Ideal S1x1x64x1024 .f32)
    (hy : ∀ d c, y (ix4 (0 : Fin 1) (0 : Fin 1) d c) = K j0 d c + T d (1024 * j0.val + c.val)) :
    TilesAt arg (arg.view.writes (Elt Ideal) f (⟨Rect.unit (s := S1x16x64x1024) o S1x1x64x1024.size ho, y⟩ :: L)) K T (1024 * j0.val + 1024) := fun j d c => by
  have hc := c.isLt
  refine (tile_read arg f ho j0 h y L j d c).trans ?_
  by_cases e : j = j0
  · subst e; rw [if_pos rfl, hy, upTo_of_lt _ (by omega)]
  · rw [if_neg e, hL, upTo_congr]
    have := fun x => e (Fin.ext x); omega

/-- What a tile that is not yet done holds. -/
theorem TilesAt.load {N : ℕ} (hf : TilesAt arg f K T N) (j0 : Fin 16) (hN : N ≤ 1024 * j0.val) {o : Fin 4 → ℕ} (ho) (h : o = ![0, j0.val, 0, 0]) (d : Fin 64) (c : Fin 1024) :
    View.readAt (Elt Ideal) arg.view (Rect.unit (s := S1x16x64x1024) o S1x1x64x1024.size ho).toLoadRect f (ix4 (0 : Fin 1) (0 : Fin 1) d c) = K j0 d c :=
  (tile_load arg f ho j0 h d c).trans ((hf j0 d c).trans (by rw [upTo_of_le _ (by omega), add_zero]))

theorem TilesAt.one {L : List (View.Piece (Elt Ideal) S1x16x64x1024 .f32)} (j0 : Fin 16) (hL : TilesAt arg (arg.view.writes (Elt Ideal) f L) K T (1024 * j0.val))
    {o : Fin 4 → ℕ} (ho) (h : o = ![0, j0.val, 0, 0]) (D : FVec Ideal (Mat 64 1024) .f32) (hD : ∀ d c, D (ix2 d c) = T d (1024 * j0.val + c.val)) :
    TilesAt arg (arg.view.writes (Elt Ideal) f (tilePiece o ho (addOne D) arg (arg.view.writes (Elt Ideal) f L) :: L)) K T (1024 * j0.val + 1024) :=
  hL.more j0 ho h _ fun d c => (addOne_apply D _ d c).trans (by rw [hL.load j0 le_rfl ho h d c, hD])

theorem TilesAt.two {L : List (View.Piece (Elt Ideal) S1x16x64x1024 .f32)} (p q : Fin 16) (hq : q.val = p.val + 1) (hL : TilesAt arg (arg.view.writes (Elt Ideal) f L) K T (1024 * p.val))
    {o o' : Fin 4 → ℕ} (ho) (ho') (h : o = ![0, p.val, 0, 0]) (h' : o' = ![0, q.val, 0, 0]) (D : FVec Ideal (Mat 64 2048) .f32) (hD : ∀ d c, D (ix2 d c) = T d (1024 * p.val + c.val)) :
    TilesAt arg (arg.view.writes (Elt Ideal) f (tilePiece o' ho' (addTile 1 D) arg (arg.view.writes (Elt Ideal) f (tilePiece o ho (addTile 0 D) arg (arg.view.writes (Elt Ideal) f L) :: L))
      :: tilePiece o ho (addTile 0 D) arg (arg.view.writes (Elt Ideal) f L) :: L)) K T (1024 * p.val + 2048) := by
  have h1 : TilesAt arg (arg.view.writes (Elt Ideal) f (tilePiece o ho (addTile 0 D) arg (arg.view.writes (Elt Ideal) f L) :: L)) K T (1024 * p.val + 1024) :=
    hL.more p ho h _ fun d c => (addTile_apply 0 D _ d c).trans (by
      rw [hL.load p le_rfl ho h d c, hD]
      show _ + T d (1024 * p.val + (1024 * 0 + c.val)) = _
      rw [Nat.mul_zero, Nat.zero_add])
  have e : 1024 * p.val + 1024 = 1024 * q.val := by omega
  rw [show 1024 * p.val + 2048 = 1024 * q.val + 1024 by omega]
  rw [e] at h1
  exact h1.more q ho' h' _ fun d c => (addTile_apply 1 D _ d c).trans (by
      rw [h1.load q le_rfl ho' h' d c, hD]
      show _ + T d (1024 * p.val + (1024 * 1 + c.val)) = _
      rw [show 1024 * p.val + (1024 * 1 + c.val) = 1024 * q.val + c.val by omega])

theorem TilesAt.pair (p q : Fin 16) (hq : q.val = p.val + 1) (hf : TilesAt arg f K T (1024 * p.val)) {o : Fin 2 → Fin 4 → ℕ} (ho) (h : o 0 = ![0, p.val, 0, 0]) (h' : o 1 = ![0, q.val, 0, 0])
    (D : FVec Ideal (Mat 64 2048) .f32) (hD : ∀ d c, D (ix2 d c) = T d (1024 * p.val + c.val)) :
    TilesAt arg (arg.view.writes (Elt Ideal) f (tilePieces o ho D arg f)) K T (1024 * p.val + 2048) := by
  have h1 : TilesAt arg (arg.view.writes (Elt Ideal) f [tilePiece (o 0) (ho 0) (addTile 0 D) arg f]) K T (1024 * p.val + 1024) :=
    TilesAt.more (L := []) p hf (ho 0) h _ fun d c => (addTile_apply 0 D _ d c).trans (by
      rw [hf.load p le_rfl (ho 0) h d c, hD]
      show _ + T d (1024 * p.val + (1024 * 0 + c.val)) = _
      rw [Nat.mul_zero, Nat.zero_add])
  have e : 1024 * p.val + 1024 = 1024 * q.val := by omega
  rw [show 1024 * p.val + 2048 = 1024 * q.val + 1024 by omega]
  rw [e] at h1
  exact h1.more q (ho 1) h' _ fun d c => (addTile_apply 1 D _ d c).trans (by
      rw [hf.load q (by omega) (ho 1) h' d c, hD]
      show _ + T d (1024 * p.val + (1024 * 1 + c.val)) = _
      rw [show 1024 * p.val + (1024 * 1 + c.val) = 1024 * q.val + c.val by omega])

end

section
variable (arg : Memref sig .tc .vmem S1x16x1x1024 .f32) (f : BufTy.Contents (Elt Ideal) arg.view.ty)
  (K : Fin 16 → Fin 1024 → EReal) (T : ℕ → EReal)

/-- The key gates' gradient, which takes the parts away. -/
def KeyGatesAt (N : ℕ) : Prop := ∀ (j : Fin 16) (c : Fin 1024),
  arg.view.read (Elt Ideal) f (ix4 (0 : Fin 1) j (0 : Fin 1) c) = K j c - upTo N (1024 * j.val + c.val) (T (1024 * j.val + c.val))

variable {arg f K T}

theorem KeyGatesAt.more {L : List (View.Piece (Elt Ideal) S1x16x1x1024 .f32)} (j0 : Fin 16) (hL : KeyGatesAt arg (arg.view.writes (Elt Ideal) f L) K T (1024 * j0.val))
    {o : Fin 4 → ℕ} (ho) (h : o = ![0, j0.val, 0, 0]) (y : FVec Ideal S1x1x1x1024 .f32)
    (hy : ∀ c, y (ix4 (0 : Fin 1) (0 : Fin 1) (0 : Fin 1) c) = K j0 c - T (1024 * j0.val + c.val)) :
    KeyGatesAt arg (arg.view.writes (Elt Ideal) f (⟨Rect.unit (s := S1x16x1x1024) o S1x1x1x1024.size ho, y⟩ :: L)) K T (1024 * j0.val + 1024) := fun j c => by
  have hc := c.isLt
  refine (gate_read arg f ho j0 h y L j c).trans ?_
  by_cases e : j = j0
  · subst e; rw [if_pos rfl, hy, upTo_of_lt _ (by omega)]
  · rw [if_neg e, hL, upTo_congr]
    have := fun x => e (Fin.ext x); omega

theorem KeyGatesAt.load {N : ℕ} (hf : KeyGatesAt arg f K T N) (j0 : Fin 16) (hN : N ≤ 1024 * j0.val) {o : Fin 4 → ℕ} (ho) (h : o = ![0, j0.val, 0, 0]) (c : Fin 1024) :
    View.readAt (Elt Ideal) arg.view (Rect.unit (s := S1x16x1x1024) o S1x1x1x1024.size ho).toLoadRect f (ix4 (0 : Fin 1) (0 : Fin 1) (0 : Fin 1) c) = K j0 c :=
  (gate_load arg f ho j0 h c).trans ((hf j0 c).trans (by rw [upTo_of_le _ (by omega)]; exact sub_zero _))

theorem KeyGatesAt.one {L : List (View.Piece (Elt Ideal) S1x16x1x1024 .f32)} (j0 : Fin 16) (hL : KeyGatesAt arg (arg.view.writes (Elt Ideal) f L) K T (1024 * j0.val))
    {o : Fin 4 → ℕ} (ho) (h : o = ![0, j0.val, 0, 0]) (D : FVec Ideal (Mat 1 1024) .f32) (hD : ∀ c, D (ix2 (0 : Fin 1) c) = T (1024 * j0.val + c.val)) :
    KeyGatesAt arg (arg.view.writes (Elt Ideal) f (keyGatePiece o ho (subOne D) arg (arg.view.writes (Elt Ideal) f L) :: L)) K T (1024 * j0.val + 1024) :=
  hL.more j0 ho h _ fun c => (subOne_apply D _ c).trans (by rw [hL.load j0 le_rfl ho h c, hD])

theorem KeyGatesAt.two {L : List (View.Piece (Elt Ideal) S1x16x1x1024 .f32)} (p q : Fin 16) (hq : q.val = p.val + 1) (hL : KeyGatesAt arg (arg.view.writes (Elt Ideal) f L) K T (1024 * p.val))
    {o o' : Fin 4 → ℕ} (ho) (ho') (h : o = ![0, p.val, 0, 0]) (h' : o' = ![0, q.val, 0, 0]) (D : FVec Ideal (Mat 1 2048) .f32) (hD : ∀ c, D (ix2 (0 : Fin 1) c) = T (1024 * p.val + c.val)) :
    KeyGatesAt arg (arg.view.writes (Elt Ideal) f (keyGatePiece o' ho' (subTile 1 D) arg (arg.view.writes (Elt Ideal) f (keyGatePiece o ho (subTile 0 D) arg (arg.view.writes (Elt Ideal) f L) :: L))
      :: keyGatePiece o ho (subTile 0 D) arg (arg.view.writes (Elt Ideal) f L) :: L)) K T (1024 * p.val + 2048) := by
  have h1 : KeyGatesAt arg (arg.view.writes (Elt Ideal) f (keyGatePiece o ho (subTile 0 D) arg (arg.view.writes (Elt Ideal) f L) :: L)) K T (1024 * p.val + 1024) :=
    hL.more p ho h _ fun c => (subTile_apply 0 D _ c).trans (by
      rw [hL.load p le_rfl ho h c, hD]
      show _ - T (1024 * p.val + (1024 * 0 + c.val)) = _
      rw [Nat.mul_zero, Nat.zero_add])
  have e : 1024 * p.val + 1024 = 1024 * q.val := by omega
  rw [show 1024 * p.val + 2048 = 1024 * q.val + 1024 by omega]
  rw [e] at h1
  exact h1.more q ho' h' _ fun c => (subTile_apply 1 D _ c).trans (by
      rw [h1.load q le_rfl ho' h' c, hD]
      show _ - T (1024 * p.val + (1024 * 1 + c.val)) = _
      rw [show 1024 * p.val + (1024 * 1 + c.val) = 1024 * q.val + c.val by omega])

theorem KeyGatesAt.pair (p q : Fin 16) (hq : q.val = p.val + 1) (hf : KeyGatesAt arg f K T (1024 * p.val)) {o : Fin 2 → Fin 4 → ℕ} (ho) (h : o 0 = ![0, p.val, 0, 0]) (h' : o 1 = ![0, q.val, 0, 0])
    (D : FVec Ideal (Mat 1 2048) .f32) (hD : ∀ c, D (ix2 (0 : Fin 1) c) = T (1024 * p.val + c.val)) :
    KeyGatesAt arg (arg.view.writes (Elt Ideal) f (keyGatePieces o ho D arg f)) K T (1024 * p.val + 2048) := by
  have h1 : KeyGatesAt arg (arg.view.writes (Elt Ideal) f [keyGatePiece (o 0) (ho 0) (subTile 0 D) arg f]) K T (1024 * p.val + 1024) :=
    KeyGatesAt.more (L := []) p hf (ho 0) h _ fun c => (subTile_apply 0 D _ c).trans (by
      rw [hf.load p le_rfl (ho 0) h c, hD]
      show _ - T (1024 * p.val + (1024 * 0 + c.val)) = _
      rw [Nat.mul_zero, Nat.zero_add])
  have e : 1024 * p.val + 1024 = 1024 * q.val := by omega
  rw [show 1024 * p.val + 2048 = 1024 * q.val + 1024 by omega]
  rw [e] at h1
  exact h1.more q (ho 1) h' _ fun c => (subTile_apply 1 D _ c).trans (by
      rw [hf.load q (by omega) (ho 1) h' c, hD]
      show _ - T (1024 * p.val + (1024 * 1 + c.val)) = _
      rw [show 1024 * p.val + (1024 * 1 + c.val) = 1024 * q.val + c.val by omega])

end

/-! ## The sums over the keys -/

/-- Every row lies in a quarter. -/
theorem rowOf_div (r : Fin 1024) : Pass.rowOf ⟨r.val / 256, by omega⟩ ⟨r.val % 256, by omega⟩ = r :=
  Fin.ext (Nat.div_add_mod r.val 256)

section
variable {w : ℕ} [Wide w] (A : Pass Ideal w) (masked : Bool)
variable (arg : Memref sig .tc .vmem S1024x64 .f32) (f : BufTy.Contents (Elt Ideal) arg.view.ty)

theorem rowPieces_read (r : Fin 1024) (d : Fin 64) :
    arg.view.read (Elt Ideal) (arg.view.writes (Elt Ideal) f (rowPieces A masked arg f)) (ix2 r d)
      = arg.view.read (Elt Ideal) f (ix2 r d) + A.dq masked ⟨r.val / 256, by omega⟩ (ix2 (⟨r.val % 256, by omega⟩ : Fin 256) d) := by
  obtain ⟨u, a, rfl⟩ : ∃ u a, r = Pass.rowOf u a := ⟨_, _, (rowOf_div r).symm⟩
  have hu : (⟨(Pass.rowOf u a).val / 256, by omega⟩ : Fin 4) = u := Fin.ext (by show (256 * u.val + a.val) / 256 = u.val; omega)
  have ha : (⟨(Pass.rowOf u a).val % 256, by omega⟩ : Fin 256) = a := Fin.ext (by show (256 * u.val + a.val) % 256 = a.val; omega)
  rw [hu, ha, ← row_load arg f u a d]
  unfold rowPieces
  simp only [List.map_cons, List.map_nil]
  simp only [row_read, addRows_apply]
  fin_cases u <;> simp <;> exact addRows_apply _ _ _

theorem rowsAfter_read (u : Fin 4) (a : Fin 256) (d : Fin 64) : ∀ n, n ≤ 4 →
    arg.view.read (Elt Ideal) (rowsAfter A masked arg f n) (ix2 (Pass.rowOf u a) d)
      = if u.val < n then arg.view.read (Elt Ideal) f (ix2 (Pass.rowOf u a) d) + A.dq masked u (ix2 a d) else arg.view.read (Elt Ideal) f (ix2 (Pass.rowOf u a) d)
  | 0, _ => by rw [if_neg (Nat.not_lt_zero _)]; rfl
  | n + 1, hn => by
    have ih := rowsAfter_read u a d n (by omega)
    rw [rowsAfter.eq_2, dif_pos (by omega : n < 4)]
    refine (row_read arg _ _ _ [] u a d).trans ?_
    by_cases h : u = ⟨n, by omega⟩
    · subst h
      rw [if_pos rfl, if_pos (Nat.lt_succ_self _)]
      refine (addRows_apply _ _ _).trans (congrArg (· + A.dq masked ⟨n, _⟩ (ix2 a d)) ((row_load arg _ _ a d).trans (ih.trans (if_neg (lt_irrefl _)))))
    · rw [if_neg h]
      refine ih.trans ?_
      have : u.val ≠ n := fun e => h (Fin.ext e)
      simp only [show u.val < n + 1 ↔ u.val < n by omega]

end

section
variable {w : ℕ} [Wide w] (A : Pass Ideal w) (masked : Bool)
variable (arg : Memref sig .tc .vmem S1024x1 .f32) (f : BufTy.Contents (Elt Ideal) arg.view.ty)

theorem gatePieces_read (r : Fin 1024) :
    arg.view.read (Elt Ideal) (arg.view.writes (Elt Ideal) f (gatePieces A masked arg f)) (ix2 r (0 : Fin 1))
      = arg.view.read (Elt Ideal) f (ix2 r (0 : Fin 1)) + A.dcq masked ⟨r.val / 256, by omega⟩ (ix2 (⟨r.val % 256, by omega⟩ : Fin 256) (0 : Fin 1)) := by
  obtain ⟨u, a, rfl⟩ : ∃ u a, r = Pass.rowOf u a := ⟨_, _, (rowOf_div r).symm⟩
  have hu : (⟨(Pass.rowOf u a).val / 256, by omega⟩ : Fin 4) = u := Fin.ext (by show (256 * u.val + a.val) / 256 = u.val; omega)
  have ha : (⟨(Pass.rowOf u a).val % 256, by omega⟩ : Fin 256) = a := Fin.ext (by show (256 * u.val + a.val) % 256 = a.val; omega)
  rw [hu, ha, ← rowGate_load arg f u a]
  unfold gatePieces
  simp only [List.map_cons, List.map_nil]
  simp only [rowGate_read, addGates_apply]
  fin_cases u <;> simp <;> exact addGates_apply _ _ _

theorem gatesAfter_read (u : Fin 4) (a : Fin 256) : ∀ n, n ≤ 4 →
    arg.view.read (Elt Ideal) (gatesAfter A masked arg f n) (ix2 (Pass.rowOf u a) (0 : Fin 1))
      = if u.val < n then arg.view.read (Elt Ideal) f (ix2 (Pass.rowOf u a) (0 : Fin 1)) + A.dcq masked u (ix2 a (0 : Fin 1)) else arg.view.read (Elt Ideal) f (ix2 (Pass.rowOf u a) (0 : Fin 1))
  | 0, _ => by rw [if_neg (Nat.not_lt_zero _)]; rfl
  | n + 1, hn => by
    have ih := gatesAfter_read u a n (by omega)
    rw [gatesAfter.eq_2, dif_pos (by omega : n < 4)]
    refine (rowGate_read arg _ _ _ [] u a).trans ?_
    by_cases h : u = ⟨n, by omega⟩
    · subst h
      rw [if_pos rfl, if_pos (Nat.lt_succ_self _)]
      refine (addGates_apply _ _ _).trans (congrArg (· + A.dcq masked ⟨n, _⟩ (ix2 a (0 : Fin 1))) ((rowGate_load arg _ _ a).trans (ih.trans (if_neg (lt_irrefl _)))))
    · rw [if_neg h]
      refine ih.trans ?_
      have : u.val ≠ n := fun e => h (Fin.ext e)
      simp only [show u.val < n + 1 ↔ u.val < n by omega]

end

/-- The query rows' sum over the first `N` keys. -/
def RowsAt (P : Point) (arg : Memref sig .tc .vmem S1024x64 .f32) (f : BufTy.Contents (Elt Ideal) arg.view.ty) (N : ℕ) : Prop :=
  ∀ r d, arg.view.read (Elt Ideal) f (ix2 r d) = ∑ n ∈ Finset.range N, P.grad r n * P.k n d

/-- The query gates' sum over the first `N` keys. -/
def GatesAt (P : Point) (arg : Memref sig .tc .vmem S1024x1 .f32) (f : BufTy.Contents (Elt Ideal) arg.view.ty) (N : ℕ) : Prop :=
  ∀ r, arg.view.read (Elt Ideal) f (ix2 r (0 : Fin 1)) = ∑ n ∈ Finset.range N, P.grad r n

section
variable {w : ℕ} [Wide w] {A : Pass Ideal w} {P : Point} {p : ℕ} (h : A.On P p) (masked : Bool)
  (hm : masked = true → 1024 * p + w = 1024 * P.i + 1024) (hn : masked = false → 1024 * p + w ≤ 1024 * P.i) (hw : w ≤ 2048)
include h hm hn hw

theorem RowsAt.pieces {arg : Memref sig .tc .vmem S1024x64 .f32} {f : BufTy.Contents (Elt Ideal) arg.view.ty} (hf : RowsAt P arg f (1024 * p)) :
    RowsAt P arg (arg.view.writes (Elt Ideal) f (rowPieces A masked arg f)) (1024 * p + w) := fun r d => by
  rw [rowPieces_read, hf, h.dq_eq masked hm hn hw, rowOf_div, Finset.sum_range_add]

theorem GatesAt.pieces {arg : Memref sig .tc .vmem S1024x1 .f32} {f : BufTy.Contents (Elt Ideal) arg.view.ty} (hf : GatesAt P arg f (1024 * p)) :
    GatesAt P arg (arg.view.writes (Elt Ideal) f (gatePieces A masked arg f)) (1024 * p + w) := fun r => by
  rw [gatePieces_read, hf, h.dcq_eq masked hm hn hw, rowOf_div, Finset.sum_range_add]

theorem RowsAt.after {arg : Memref sig .tc .vmem S1024x64 .f32} {f : BufTy.Contents (Elt Ideal) arg.view.ty} (hf : RowsAt P arg f (1024 * p)) :
    RowsAt P arg (rowsAfter A masked arg f 4) (1024 * p + w) := fun r d => by
  obtain ⟨u, a, rfl⟩ : ∃ u a, r = Pass.rowOf u a := ⟨_, _, (rowOf_div r).symm⟩
  rw [rowsAfter_read A masked arg f u a d 4 le_rfl, if_pos u.isLt, hf, h.dq_eq masked hm hn hw, Finset.sum_range_add]

theorem GatesAt.after {arg : Memref sig .tc .vmem S1024x1 .f32} {f : BufTy.Contents (Elt Ideal) arg.view.ty} (hf : GatesAt P arg f (1024 * p)) :
    GatesAt P arg (gatesAfter A masked arg f 4) (1024 * p + w) := fun r => by
  obtain ⟨u, a, rfl⟩ : ∃ u a, r = Pass.rowOf u a := ⟨_, _, (rowOf_div r).symm⟩
  rw [gatesAfter_read A masked arg f u a 4 le_rfl, if_pos u.isLt, hf, h.dcq_eq masked hm hn hw, Finset.sum_range_add]

end

end Cert.KernelIdeal.Flash
-- ==== Proof.FlashLoopValue.lean ====
module

public import proofs.«01_k».proof.Proof.FlashBlocks
public import proofs.«01_k».proof.Proof.FlashSteps
public import proofs.«01_k».proof.Proof.FlashLinkA
public import proofs.«01_k».proof.Proof.FlashLinkB

/-! The loop's passes and the last pass, run over a point's blocks: each is the part of the sums that its keys make, so the five buffers hold the sums over the keys done so far. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

section
variable {s : Shape} {e : EltTy}

/-- A whole buffer loaded. -/
theorem whole_load (arg : Memref sig .tc .vmem s e) (harg : arg.IsWhole) (x : Vec Ideal s e) {o : Fin s.rank → ℕ} (ho) (h : ∀ a, o a = 0) :
    View.readAt (Elt Ideal) arg.view (Rect.unit (s := s) o s.size ho).toLoadRect (harg.unread x) = x :=
  funext fun y => (Memref.IsWhole.readAt_unread harg x _ y).trans (congrArg x (funext fun a => Fin.ext (by
    show o a + 1 * (y a).val = (y a).val
    rw [h a]; omega)))

end

theorem zero3 : ∀ a : Fin 3, (![0, 0, 0] : Fin 3 → ℕ) a = 0 := by decide

section
variable (x2 : Vec Ideal S1x1024x64 .bf16) (x3 : Vec Ideal S1x16384x64 .bf16) (x4 : Vec Ideal S1x16384x64 .bf16) (x5 : Vec Ideal S1x1024x64 .bf16) (x6 : Vec Ideal S1x1024x64 .bf16) (x7 : Vec Ideal S1x64x1024 .bf16) (x8 : Vec Ideal S1x64x1024 .bf16) (x9 : Vec Ideal S1x1024x1 .f32) (x10 : Vec Ideal S1x1024x1 .f32) (x11 : Vec Ideal S1x16x1x1024 .f32)

theorem k_at (i : ℕ) (n : Fin 16384) (d : Fin 64) : x3 (ix3 (0 : Fin 1) n d) = (pointOf i x2 x3 x4 x5 x6 x7 x8 x9 x10 x11).k n.val d := by
  show _ = dite _ _ _
  rw [dif_pos n.isLt]

theorem v_at (i : ℕ) (n : Fin 16384) (d : Fin 64) : x4 (ix3 (0 : Fin 1) n d) = (pointOf i x2 x3 x4 x5 x6 x7 x8 x9 x10 x11).v n.val d := by
  show _ = dite _ _ _
  rw [dif_pos n.isLt]

end

/-- The point at grid coordinates `i`. -/
abbrev pointAt (i : grid0.Coords) (x2 : Vec Ideal S1x1024x64 .bf16) (x3 : Vec Ideal S1x16384x64 .bf16) (x4 : Vec Ideal S1x16384x64 .bf16) (x5 : Vec Ideal S1x1024x64 .bf16) (x6 : Vec Ideal S1x1024x64 .bf16) (x7 : Vec Ideal S1x64x1024 .bf16) (x8 : Vec Ideal S1x64x1024 .bf16) (x9 : Vec Ideal S1x1024x1 .f32) (x10 : Vec Ideal S1x1024x1 .f32) (x11 : Vec Ideal S1x16x1x1024 .f32) : Point := pointOf (i 1).val x2 x3 x4 x5 x6 x7 x8 x9 x10 x11

section
variable (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole)
variable (x2 : Vec Ideal S1x1024x64 .bf16) (x3 : Vec Ideal S1x16384x64 .bf16) (x4 : Vec Ideal S1x16384x64 .bf16) (x5 : Vec Ideal S1x1024x64 .bf16) (x6 : Vec Ideal S1x1024x64 .bf16) (x7 : Vec Ideal S1x64x1024 .bf16) (x8 : Vec Ideal S1x64x1024 .bf16) (x9 : Vec Ideal S1x1024x1 .f32) (x10 : Vec Ideal S1x1024x1 .f32) (x11 : Vec Ideal S1x16x1x1024 .f32)

local notation "ρ" => pointAt i x2 x3 x4 x5 x6 x7 x8 x9 x10 x11

/-- A pass over a point's blocks whose keys are those from tile `p` on. -/
theorem on_of {w : ℕ} (p : ℕ) (hp : 1024 * p + w ≤ 16384) {kj vj : FVec Ideal (Mat w 64) .bf16} {ck : FVec Ideal (Mat 1 w) .f32}
    (hk : ∀ (c : Fin w) d, kj (ix2 c d) = x3 (ix3 (0 : Fin 1) (⟨1024 * p + c.val, by omega⟩ : Fin 16384) d))
    (hv : ∀ (c : Fin w) d, vj (ix2 c d) = x4 (ix3 (0 : Fin 1) (⟨1024 * p + c.val, by omega⟩ : Fin 16384) d))
    (hc : ∀ c : Fin w, ck (ix2 (0 : Fin 1) c) = (ρ).ck (1024 * p + c.val)) :
    Pass.On ⟨inQ arg2 harg2 x2, inDo arg6 harg6 x6, inQt arg7 harg7 x7, inDot arg8 harg8 x8, inDelta arg5 harg5 arg6 harg6 x5 x6, inBias arg9 harg9 arg10 harg10 x9 x10, kj, vj, ck⟩ ρ p where
  qs r d := (pay910_apply _ r d).trans (congrArg (fun x : Vec Ideal S1x1024x64 .bf16 => x (ix3 (0 : Fin 1) r d) * eighth) (whole_load arg2 harg2 x2 _ zero3))
  dO r d := (pay911_apply _ r d).trans (congrFun (whole_load arg6 harg6 x6 _ zero3) _)
  qsT d r := (pay912_apply _ d r).trans (congrArg (fun x : Vec Ideal S1x64x1024 .bf16 => x (ix3 (0 : Fin 1) d r) * eighth) (whole_load arg7 harg7 x7 _ zero3))
  dOT d r := (pay913_apply _ d r).trans (congrFun (whole_load arg8 harg8 x8 _ zero3) _)
  delta r := (pay914_apply _ _ r).trans (Finset.sum_congr rfl fun d _ =>
    congr (congrArg _ (congrFun (whole_load arg6 harg6 x6 _ zero3) _)) (congrFun (whole_load arg5 harg5 x5 _ zero3) _))
  bias r := (pay915_apply _ _ r).trans (congr (congrArg _ (congrFun (whole_load arg10 harg10 x10 _ zero3) _)) (congrFun (whole_load arg9 harg9 x9 _ zero3) _))
  kj c d := (hk c d).trans (k_at x2 x3 x4 x5 x6 x7 x8 x9 x10 x11 (i 1).val ⟨1024 * p + c.val, by omega⟩ d)
  vj c d := (hv c d).trans (v_at x2 x3 x4 x5 x6 x7 x8 x9 x10 x11 (i 1).val ⟨1024 * p + c.val, by omega⟩ d)
  ck c := hc c

theorem ck_at (j : Fin 16) (c : Fin 1024) (n : ℕ) (hn : n = 1024 * j.val + c.val) : x11 (ix4 (0 : Fin 1) j (0 : Fin 1) c) = (ρ).ck n := by
  have hj := j.isLt
  have hc := c.isLt
  subst hn
  refine Eq.trans ?_ (dif_pos (show 1024 * j.val + c.val < 16384 by omega)).symm
  have e1 : (⟨(1024 * j.val + c.val) / 1024, by omega⟩ : Fin 16) = j := Fin.ext (by show (1024 * j.val + c.val) / 1024 = j.val; omega)
  have e2 : (⟨(1024 * j.val + c.val) % 1024, by omega⟩ : Fin 1024) = c := Fin.ext (by show (1024 * j.val + c.val) % 1024 = c.val; omega)
  rw [e1, e2]

/-- Two tiles of key gates loaded and set side by side. -/
theorem ck_two (p : ℕ) (hp : p + 1 < 16) {o o' : Fin 4 → ℕ} (ho) (ho') (h : o = ![0, p, 0, 0]) (h' : o' = ![0, p + 1, 0, 0]) (c : Fin 2048) :
    sideBySide (View.readAt (Elt Ideal) arg11.view (Rect.unit (s := S1x16x1x1024) o S1x1x1x1024.size ho).toLoadRect (harg11.unread x11))
      (View.readAt (Elt Ideal) arg11.view (Rect.unit (s := S1x16x1x1024) o' S1x1x1x1024.size ho').toLoadRect (harg11.unread x11)) (ix2 (0 : Fin 1) c) = (ρ).ck (1024 * p + c.val) := by
  refine (sideBySide_apply _ _ c).trans ?_
  split
  next hc =>
    refine (gate_load arg11 _ ho ⟨p, by omega⟩ h _).trans ?_
    rw [harg11.read_unread]
    exact ck_at i x2 x3 x4 x5 x6 x7 x8 x9 x10 x11 _ _ _ rfl
  next hc =>
    refine (gate_load arg11 _ ho' ⟨p + 1, by omega⟩ h' _).trans ?_
    rw [harg11.read_unread]
    exact ck_at i x2 x3 x4 x5 x6 x7 x8 x9 x10 x11 _ _ _ (by show 1024 * p + c.val = 1024 * (p + 1) + (c.val - 1024); omega)

theorem even_on (h3 : k0_cond3 i = 1#1) : (evenPass i arg2 harg2 arg3 harg3 arg4 harg4 arg5 harg5 arg6 harg6 arg7 harg7 arg8 harg8 arg9 harg9 arg10 harg10 arg11 harg11 x2 x3 x4 x5 x6 x7 x8 x9 x10 x11 h3).On ρ (i 1).val := by
  have hi : (i 1).val < 16 := (i 1).isLt
  refine on_of i arg2 harg2 arg5 harg5 arg6 harg6 arg7 harg7 arg8 harg8 arg9 harg9 arg10 harg10 x2 x3 x4 x5 x6 x7 x8 x9 x10 x11 (i 1).val (by omega) ?_ ?_ ?_
  · exact fun c d => keys_load arg3 harg3 x3 _ _ (i 1).val (off10_eq i) c d (by omega)
  · exact fun c d => keys_load arg4 harg4 x4 _ _ (i 1).val (off10_eq i) c d (by omega)
  · exact fun c => (keyGates_load arg11 harg11 x11 _ _ ⟨(i 1).val, hi⟩ (off11_eq i) c).trans (ck_at i x2 x3 x4 x5 x6 x7 x8 x9 x10 x11 _ _ _ rfl)

theorem odd_on (h2 : k0_cond2 i = 1#1) : (oddPass i arg2 harg2 arg3 harg3 arg4 harg4 arg5 harg5 arg6 harg6 arg7 harg7 arg8 harg8 arg9 harg9 arg10 harg10 arg11 harg11 x2 x3 x4 x5 x6 x7 x8 x9 x10 x11 h2).On ρ ((i 1).val - 1) := by
  have hi : (i 1).val < 16 := (i 1).isLt
  have ho := (cond2_iff i).mp h2
  refine on_of i arg2 harg2 arg5 harg5 arg6 harg6 arg7 harg7 arg8 harg8 arg9 harg9 arg10 harg10 x2 x3 x4 x5 x6 x7 x8 x9 x10 x11 ((i 1).val - 1) (by omega) ?_ ?_ ?_
  · exact fun c d => keys_load arg3 harg3 x3 _ _ ((i 1).val - 1) (off7_eq i h2) c d (by omega)
  · exact fun c d => keys_load arg4 harg4 x4 _ _ ((i 1).val - 1) (off7_eq i h2) c d (by omega)
  · exact fun c => ck_two i arg11 harg11 x2 x3 x4 x5 x6 x7 x8 x9 x10 x11 _ (by omega) _ _ (off8_0_eq i h2) ((off8_1_eq i h2).trans (by rw [show (i 1).val - 1 + 1 = (i 1).val by omega])) c

theorem trip_on (k : Fin (k0_t1_loop i).trips) : (tripPass i arg3 arg4 arg11 (inQ arg2 harg2 x2) (inDo arg6 harg6 x6) (inQt arg7 harg7 x7) (inDot arg8 harg8 x8)
    (inDelta arg5 harg5 arg6 harg6 x5 x6) (inBias arg9 harg9 arg10 harg10 x9 x10) (harg3.unread x3) (harg4.unread x4) (harg11.unread x11) k).On ρ (2 * k.val) := by
  have hi : (i 1).val < 16 := (i 1).isLt
  have hk : k.val < (i 1).val / 2 := (trips_eq i) ▸ k.isLt
  refine on_of i arg2 harg2 arg5 harg5 arg6 harg6 arg7 harg7 arg8 harg8 arg9 harg9 arg10 harg10 x2 x3 x4 x5 x6 x7 x8 x9 x10 x11 (2 * k.val) (by omega) ?_ ?_ ?_
  · exact fun c d => keys_load arg3 harg3 x3 _ _ (2 * k.val) ((off1_eq i k).trans (by rw [show 1024 * (2 * k.val) = 2048 * k.val by omega])) c d (by omega)
  · exact fun c d => keys_load arg4 harg4 x4 _ _ (2 * k.val) ((off1_eq i k).trans (by rw [show 1024 * (2 * k.val) = 2048 * k.val by omega])) c d (by omega)
  · exact fun c => ck_two i arg11 harg11 x2 x3 x4 x5 x6 x7 x8 x9 x10 x11 _ (by omega) _ _ (off2_0_eq i k) (off2_1_eq i k) c

end

/-! ## The loop -/

section
variable (c : Dev nD) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole)
variable (x2 : Vec Ideal S1x1024x64 .bf16) (x3 : Vec Ideal S1x16384x64 .bf16) (x4 : Vec Ideal S1x16384x64 .bf16) (x5 : Vec Ideal S1x1024x64 .bf16) (x6 : Vec Ideal S1x1024x64 .bf16) (x7 : Vec Ideal S1x64x1024 .bf16) (x8 : Vec Ideal S1x64x1024 .bf16) (x9 : Vec Ideal S1x1024x1 .f32) (x10 : Vec Ideal S1x1024x1 .f32) (x11 : Vec Ideal S1x16x1x1024 .f32)

local notation "ρ" => pointAt i x2 x3 x4 x5 x6 x7 x8 x9 x10 x11

local notation "Θ" => tripPass i arg3 arg4 arg11 (inQ arg2 harg2 x2) (inDo arg6 harg6 x6) (inQt arg7 harg7 x7) (inDot arg8 harg8 x8)
    (inDelta arg5 harg5 arg6 harg6 x5 x6) (inBias arg9 harg9 arg10 harg10 x9 x10) (harg3.unread x3) (harg4.unread x4) (harg11.unread x11)

/-- The five buffers over the first `N` keys. -/
structure HoldsAt (P : Point) (K V : Fin 16 → Fin 64 → Fin 1024 → EReal) (G : Fin 16 → Fin 1024 → EReal) (N : ℕ) {arg14 arg15 : Memref sig .tc .vmem S1x16x64x1024 .f32} {arg16 : Memref sig .tc .vmem S1x16x1x1024 .f32}
    {arg17 : Memref sig .tc .vmem S1024x64 .f32} {arg18 : Memref sig .tc .vmem S1024x1 .f32} (s : State (F := Ideal) arg14 arg15 arg16 arg17 arg18) : Prop where
  dk : TilesAt arg14 s.1 K P.toKey N
  dv : TilesAt arg15 s.2.1 V P.toValue N
  dck : KeyGatesAt arg16 s.2.2.1 G P.toGate N
  dq : RowsAt P arg17 s.2.2.2.1 N
  dcq : GatesAt P arg18 s.2.2.2.2 N

variable {K V : Fin 16 → Fin 64 → Fin 1024 → EReal} {G : Fin 16 → Fin 1024 → EReal}

theorem HoldsAt.put {P : Point} {N : ℕ} {s : State (F := Ideal) arg14 arg15 arg16 arg17 arg18} {L14 L15 L16 L17 L18} (h14 : TilesAt arg14 (arg14.view.writes (Elt Ideal) s.1 L14) K P.toKey N)
    (h15 : TilesAt arg15 (arg15.view.writes (Elt Ideal) s.2.1 L15) V P.toValue N) (h16 : KeyGatesAt arg16 (arg16.view.writes (Elt Ideal) s.2.2.1 L16) G P.toGate N)
    (h17 : RowsAt P arg17 (arg17.view.writes (Elt Ideal) s.2.2.2.1 L17) N) (h18 : GatesAt P arg18 (arg18.view.writes (Elt Ideal) s.2.2.2.2 L18) N) :
    HoldsAt P K V G N (s.put (L14, L15, L16, L17, L18)) := ⟨h14, h15, h16, h17, h18⟩

theorem news_eq (k : Fin (k0_t1_loop i).trips) (s : State (F := Ideal) arg14 arg15 arg16 arg17 arg18) : news Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (inQ arg2 harg2 x2) (inDo arg6 harg6 x6) (inQt arg7 harg7 x7) (inDot arg8 harg8 x8)
      (inDelta arg5 harg5 arg6 harg6 x5 x6) (inBias arg9 harg9 arg10 harg10 x9 x10) k0_pay916 (harg3.unread x3) (harg4.unread x4) (harg11.unread x11) k s =
    (tilePieces (fun t => k0_off3 i k (BitVec.ofNat 32 t.val)) (k0_off3_inb i k) ((Θ k).dk false) arg14 s.1,
      tilePieces (fun t => k0_off3 i k (BitVec.ofNat 32 t.val)) (k0_off3_inb i k) ((Θ k).dv false) arg15 s.2.1,
      keyGatePieces (fun t => k0_off2 i k (BitVec.ofNat 32 t.val)) (k0_off2_inb i k) ((Θ k).dck false) arg16 s.2.2.1,
      rowPieces (Θ k) false arg17 s.2.2.2.1, gatePieces (Θ k) false arg18 s.2.2.2.2) := by
  unfold news
  exact trip_eq ..

/-- One trip of the loop. -/
theorem HoldsAt.trip (k : Fin (k0_t1_loop i).trips) {s : State (F := Ideal) arg14 arg15 arg16 arg17 arg18} (h : HoldsAt ρ K V G (1024 * (2 * k.val)) s) :
    HoldsAt ρ K V G (1024 * (2 * k.val) + 2048) (s.put (news Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (inQ arg2 harg2 x2) (inDo arg6 harg6 x6) (inQt arg7 harg7 x7) (inDot arg8 harg8 x8)
      (inDelta arg5 harg5 arg6 harg6 x5 x6) (inBias arg9 harg9 arg10 harg10 x9 x10) k0_pay916 (harg3.unread x3) (harg4.unread x4) (harg11.unread x11) k s)) := by
  have hi : (i 1).val < 16 := (i 1).isLt
  have hk : k.val < (i 1).val / 2 := (trips_eq i) ▸ k.isLt
  have on := trip_on i arg2 harg2 arg3 harg3 arg4 harg4 arg5 harg5 arg6 harg6 arg7 harg7 arg8 harg8 arg9 harg9 arg10 harg10 arg11 harg11 x2 x3 x4 x5 x6 x7 x8 x9 x10 x11 k
  have hm : false = true → 1024 * (2 * k.val) + 2048 = 1024 * (ρ).i + 1024 := fun e => absurd e (by decide)
  have hn : false = false → 1024 * (2 * k.val) + 2048 ≤ 1024 * (ρ).i := fun _ => by show _ ≤ 1024 * (i 1).val; omega
  rw [news_eq]
  refine HoldsAt.put _ _ _ _ _ ?_ ?_ ?_ ?_ ?_
  · exact h.dk.pair ⟨2 * k.val, by omega⟩ ⟨2 * k.val + 1, by omega⟩ rfl (k0_off3_inb i k) (off3_0_eq i k) (off3_1_eq i k) _ fun d c => on.dk_eq false hm hn le_rfl d c
  · exact h.dv.pair ⟨2 * k.val, by omega⟩ ⟨2 * k.val + 1, by omega⟩ rfl (k0_off3_inb i k) (off3_0_eq i k) (off3_1_eq i k) _ fun d c => on.dv_eq false hm hn le_rfl d c
  · exact h.dck.pair ⟨2 * k.val, by omega⟩ ⟨2 * k.val + 1, by omega⟩ rfl (k0_off2_inb i k) (off2_0_eq i k) (off2_1_eq i k) _ fun c => on.dck_eq false hm hn le_rfl c
  · exact RowsAt.pieces on false hm hn le_rfl h.dq
  · exact GatesAt.pieces on false hm hn le_rfl h.dcq

variable (E14 : BufTy.Contents (Elt Ideal) arg14.view.ty) (E15 : BufTy.Contents (Elt Ideal) arg15.view.ty) (E16 : BufTy.Contents (Elt Ideal) arg16.view.ty)

/-- After the loop. -/
theorem HoldsAt.loop (h : HoldsAt ρ K V G 0 ((E14, E15, E16, arg17.view.writes (Elt Ideal) arg17.view.junk noRows, arg18.view.writes (Elt Ideal) arg18.view.junk noGates) : State (F := Ideal) arg14 arg15 arg16 arg17 arg18)) :
    HoldsAt ρ K V G (1024 * (2 * ((i 1).val / 2))) (State.put ((E14, E15, E16, arg17.view.writes (Elt Ideal) arg17.view.junk noRows, arg18.view.writes (Elt Ideal) arg18.view.junk noGates) : State (F := Ideal) arg14 arg15 arg16 arg17 arg18)
      (loopLists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11 E14 E15 E16)) := by
  have key : ∀ n, n ≤ (k0_t1_loop i).trips → HoldsAt ρ K V G (1024 * (2 * n)) (State.put ((E14, E15, E16, arg17.view.writes (Elt Ideal) arg17.view.junk noRows, arg18.view.writes (Elt Ideal) arg18.view.junk noGates) : State (F := Ideal) arg14 arg15 arg16 arg17 arg18)
      (pieces Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (inQ arg2 harg2 x2) (inDo arg6 harg6 x6) (inQt arg7 harg7 x7) (inDot arg8 harg8 x8)
    (inDelta arg5 harg5 arg6 harg6 x5 x6) (inBias arg9 harg9 arg10 harg10 x9 x10) k0_pay916 (harg3.unread x3) (harg4.unread x4) (harg11.unread x11)
    (E14, E15, E16, arg17.view.writes (Elt Ideal) arg17.view.junk noRows, arg18.view.writes (Elt Ideal) arg18.view.junk noGates) n)) := by
    intro n
    induction n with
    | zero => exact fun _ => h
    | succ n ih =>
      intro hn
      have e := trips_succ (fun k L => (news Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) (inQ arg2 harg2 x2) (inDo arg6 harg6 x6) (inQt arg7 harg7 x7) (inDot arg8 harg8 x8)
        (inDelta arg5 harg5 arg6 harg6 x5 x6) (inBias arg9 harg9 arg10 harg10 x9 x10) k0_pay916 (harg3.unread x3) (harg4.unread x4) (harg11.unread x11) k
        (State.put ((E14, E15, E16, arg17.view.writes (Elt Ideal) arg17.view.junk noRows, arg18.view.writes (Elt Ideal) arg18.view.junk noGates) : State (F := Ideal) arg14 arg15 arg16 arg17 arg18) L)).over L) ([], [], [], [], []) ⟨n, hn⟩
      rw [pieces, e, State.put_over]
      rw [show 1024 * (2 * (n + 1)) = 1024 * (2 * n) + 2048 by omega]
      exact HoldsAt.trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11 ⟨n, hn⟩ (ih (by omega))
  rw [← trips_eq i]
  exact key _ le_rfl

end

end Cert.KernelIdeal.Flash
-- ==== Proof.FlashPointValue.lean ====
module

public import proofs.«01_k».proof.Proof.FlashBlocks
public import proofs.«01_k».proof.Proof.FlashLoopValue
public import Idealize.ShloMosaic.Lib.VecWindow
public import proofs.«01_k».proof.Proof.FlashLinkA
public import proofs.«01_k».proof.Proof.FlashLinkB

/-! A point's run, as sums over all the keys: the query rows get theirs, and the arrays over the keys get this row tile's part. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

/-! ## Keys beyond the mask have no part -/

theorem Point.weight_beyond (P : Point) (r : Fin 1024) (n : ℕ) (h : 1024 * P.i + 1024 ≤ n) : P.weight r n = 0 := if_neg (by omega)

theorem Point.grad_beyond (P : Point) (r : Fin 1024) (n : ℕ) (h : 1024 * P.i + 1024 ≤ n) : P.grad r n = 0 := by
  unfold Point.grad; rw [P.weight_beyond r n h, zero_mul]

theorem Point.toKey_upTo (P : Point) (d : Fin 64) (n : ℕ) : upTo (1024 * P.i + 1024) n (P.toKey d n) = P.toKey d n := by
  by_cases h : n < 1024 * P.i + 1024
  · exact upTo_of_lt _ h
  · rw [upTo_of_le _ (by omega)]
    exact (Finset.sum_eq_zero fun r _ => by rw [P.grad_beyond r n (by omega), mul_zero]).symm

theorem Point.toValue_upTo (P : Point) (d : Fin 64) (n : ℕ) : upTo (1024 * P.i + 1024) n (P.toValue d n) = P.toValue d n := by
  by_cases h : n < 1024 * P.i + 1024
  · exact upTo_of_lt _ h
  · rw [upTo_of_le _ (by omega)]
    exact (Finset.sum_eq_zero fun r _ => by rw [P.weight_beyond r n (by omega), mul_zero]).symm

theorem Point.toGate_upTo (P : Point) (n : ℕ) : upTo (1024 * P.i + 1024) n (P.toGate n) = P.toGate n := by
  by_cases h : n < 1024 * P.i + 1024
  · exact upTo_of_lt _ h
  · rw [upTo_of_le _ (by omega)]
    exact (Finset.sum_eq_zero fun r _ => P.grad_beyond r n (by omega)).symm

theorem sum_seen (f : ℕ → EReal) (N : ℕ) (hN : N ≤ 16384) (hf : ∀ n, N ≤ n → f n = 0) : ∑ n ∈ Finset.range N, f n = ∑ n : Fin 16384, f n.val := by
  rw [← Fin.sum_univ_eq_sum_range, Fin.sum_univ_eq_sum_range f N, Fin.sum_univ_eq_sum_range f 16384]
  exact Finset.sum_subset (Finset.range_mono hN) fun n _ h => hf n (by simpa using h)

/-! ## What a point does -/

/-- The five results after a point, the arrays over the keys at `K`, `V` and `G` before it. -/
structure Done (P : Point) (K V : Fin 16 → Fin 64 → Fin 1024 → EReal) (G : Fin 16 → Fin 1024 → EReal) (y12 : Vec Ideal S1x1024x64 .bf16) (y13 : Vec Ideal S1x1024x1 .f32)
    (y14 y15 : Vec Ideal S1x16x64x1024 .f32) (y16 : Vec Ideal S1x16x1x1024 .f32) : Prop where
  dq : ∀ r d, y12 (ix3 (0 : Fin 1) r d) = (∑ n : Fin 16384, P.grad r n.val * P.k n.val d) * eighth
  dcq : ∀ r, y13 (ix3 (0 : Fin 1) r (0 : Fin 1)) = ∑ n : Fin 16384, P.grad r n.val
  dk : ∀ j d c, y14 (ix4 (0 : Fin 1) j d c) = K j d c + P.toKey d (1024 * j.val + c.val)
  dv : ∀ j d c, y15 (ix4 (0 : Fin 1) j d c) = V j d c + P.toValue d (1024 * j.val + c.val)
  dck : ∀ j c, y16 (ix4 (0 : Fin 1) j (0 : Fin 1) c) = G j c - P.toGate (1024 * j.val + c.val)

section
variable {P : Point} {K V : Fin 16 → Fin 64 → Fin 1024 → EReal} {G : Fin 16 → Fin 1024 → EReal}
  {arg12 : Memref sig .tc .vmem S1x1024x64 .bf16} {arg13 : Memref sig .tc .vmem S1x1024x1 .f32}
  {arg14 arg15 : Memref sig .tc .vmem S1x16x64x1024 .f32} {arg16 : Memref sig .tc .vmem S1x16x1x1024 .f32}
  {arg17 : Memref sig .tc .vmem S1024x64 .f32} {arg18 : Memref sig .tc .vmem S1024x1 .f32}

theorem Done.of (hP : P.i < 16) {f14 : BufTy.Contents (Elt Ideal) arg14.view.ty} {f15 : BufTy.Contents (Elt Ideal) arg15.view.ty} {f16 : BufTy.Contents (Elt Ideal) arg16.view.ty}
    {f17 : BufTy.Contents (Elt Ideal) arg17.view.ty} {f18 : BufTy.Contents (Elt Ideal) arg18.view.ty}
    {f12 : BufTy.Contents (Elt Ideal) arg12.view.ty} {f13 : BufTy.Contents (Elt Ideal) arg13.view.ty}
    (h14 : TilesAt arg14 f14 K P.toKey (1024 * P.i + 1024)) (h15 : TilesAt arg15 f15 V P.toValue (1024 * P.i + 1024)) (h16 : KeyGatesAt arg16 f16 G P.toGate (1024 * P.i + 1024))
    (h17 : RowsAt P arg17 f17 (1024 * P.i + 1024)) (h18 : GatesAt P arg18 f18 (1024 * P.i + 1024))
    (h12 : f12 = arg12.view.writes (Elt Ideal) arg12.view.junk [⟨whole1024x64, k0_pay3 (View.readAt (Elt Ideal) arg17.view wholeRows.toLoadRect f17)⟩])
    (h13 : f13 = arg13.view.writes (Elt Ideal) arg13.view.junk [⟨whole1024x1, k0_pay4 (View.readAt (Elt Ideal) arg18.view wholeGates.toLoadRect f18)⟩]) :
    Done P K V G (arg12.view.read (Elt Ideal) f12) (arg13.view.read (Elt Ideal) f13) (arg14.view.read (Elt Ideal) f14) (arg15.view.read (Elt Ideal) f15) (arg16.view.read (Elt Ideal) f16) where
  dq r d := by
    rw [h12, View.read_writes_full, pay3_apply]
    rw [View.readAt_full, h17, sum_seen _ _ (by omega)]
    exact fun n hn => by rw [P.grad_beyond r n hn, zero_mul]
  dcq r := by
    rw [h13, View.read_writes_full, pay4_apply]
    rw [View.readAt_full, h18, sum_seen _ _ (by omega)]
    exact fun n hn => P.grad_beyond r n hn
  dk j d c := (h14 j d c).trans (by rw [P.toKey_upTo])
  dv j d c := (h15 j d c).trans (by rw [P.toValue_upTo])
  dck j c := (h16 j c).trans (by rw [P.toGate_upTo])

theorem noRows_at : RowsAt P arg17 (arg17.view.writes (Elt Ideal) arg17.view.junk noRows) 0 := fun r d => by
  rw [View.read_writes_full]
  unfold k0_pay917 k0_pay916
  pointwise
  exact Finset.sum_range_zero _ |>.symm

theorem noGates_at : GatesAt P arg18 (arg18.view.writes (Elt Ideal) arg18.view.junk noGates) 0 := fun r => by
  rw [View.read_writes_full]
  unfold k0_pay918
  pointwise
  exact Finset.sum_range_zero _ |>.symm

theorem noKeys_at (T : Fin 64 → ℕ → EReal) : TilesAt arg14 (arg14.view.writes (Elt Ideal) arg14.view.junk noKeys) (fun _ _ _ => 0) T 0 := fun j d c => by
  rw [View.read_writes_full, upTo_of_le _ (Nat.zero_le _), add_zero]
  unfold k0_pay907
  pointwise

theorem noValues_at (T : Fin 64 → ℕ → EReal) : TilesAt arg14 (arg14.view.writes (Elt Ideal) arg14.view.junk noValues) (fun _ _ _ => 0) T 0 := fun j d c => by
  rw [View.read_writes_full, upTo_of_le _ (Nat.zero_le _), add_zero]
  unfold k0_pay908
  pointwise

theorem noKeyGates_at (T : ℕ → EReal) : KeyGatesAt arg16 (arg16.view.writes (Elt Ideal) arg16.view.junk noKeyGates) (fun _ _ => 0) T 0 := fun j c => by
  rw [View.read_writes_full, upTo_of_le _ (Nat.zero_le _), sub_zero]
  unfold k0_pay909
  pointwise

theorem unread_tiles (harg : arg14.IsWhole) (x : Vec Ideal S1x16x64x1024 .f32) (T : Fin 64 → ℕ → EReal) : TilesAt arg14 (harg.unread x) (fun j d c => x (ix4 (0 : Fin 1) j d c)) T 0 := fun j d c => by
  rw [harg.read_unread, upTo_of_le _ (Nat.zero_le _), add_zero]

theorem unread_keyGates (harg : arg16.IsWhole) (x : Vec Ideal S1x16x1x1024 .f32) (T : ℕ → EReal) : KeyGatesAt arg16 (harg.unread x) (fun j c => x (ix4 (0 : Fin 1) j (0 : Fin 1) c)) T 0 := fun j c => by
  rw [harg.read_unread, upTo_of_le _ (Nat.zero_le _), sub_zero]

end

section
variable (c : Dev nD) (i : grid0.Coords) (arg2 : Memref sig .tc .vmem S1x1024x64 .bf16) (harg2 : arg2.IsWhole) (arg3 : Memref sig .tc .vmem S1x16384x64 .bf16) (harg3 : arg3.IsWhole) (arg4 : Memref sig .tc .vmem S1x16384x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1x64x1024 .bf16) (harg7 : arg7.IsWhole) (arg8 : Memref sig .tc .vmem S1x64x1024 .bf16) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1x16x1x1024 .f32) (harg11 : arg11.IsWhole) (arg12 : Memref sig .tc .vmem S1x1024x64 .bf16) (harg12 : arg12.IsWhole) (arg13 : Memref sig .tc .vmem S1x1024x1 .f32) (harg13 : arg13.IsWhole) (arg14 : Memref sig .tc .vmem S1x16x64x1024 .f32) (harg14 : arg14.IsWhole) (arg15 : Memref sig .tc .vmem S1x16x64x1024 .f32) (harg15 : arg15.IsWhole) (arg16 : Memref sig .tc .vmem S1x16x1x1024 .f32) (harg16 : arg16.IsWhole) (arg17 : Memref sig .tc .vmem S1024x64 .f32) (harg17 : arg17.IsWhole) (arg18 : Memref sig .tc .vmem S1024x1 .f32) (harg18 : arg18.IsWhole)
variable (x2 : Vec Ideal S1x1024x64 .bf16) (x3 : Vec Ideal S1x16384x64 .bf16) (x4 : Vec Ideal S1x16384x64 .bf16) (x5 : Vec Ideal S1x1024x64 .bf16) (x6 : Vec Ideal S1x1024x64 .bf16) (x7 : Vec Ideal S1x64x1024 .bf16) (x8 : Vec Ideal S1x64x1024 .bf16) (x9 : Vec Ideal S1x1024x1 .f32) (x10 : Vec Ideal S1x1024x1 .f32) (x11 : Vec Ideal S1x16x1x1024 .f32)

local notation "ρ" => pointAt i x2 x3 x4 x5 x6 x7 x8 x9 x10 x11
local notation "ℓ" => loopLists c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11

theorem even_done (h1 : ¬cond1 i) (h2 : ¬k0_cond2 i = 1#1) (h3 : k0_cond3 i = 1#1) (x14 : Vec Ideal S1x16x64x1024 .f32) (x15 : Vec Ideal S1x16x64x1024 .f32) (x16 : Vec Ideal S1x16x1x1024 .f32) :
    Done ρ (fun j d c => x14 (ix4 (0 : Fin 1) j d c)) (fun j d c => x15 (ix4 (0 : Fin 1) j d c)) (fun j c => x16 (ix4 (0 : Fin 1) j (0 : Fin 1) c))
      (arg12.view.read (Elt Ideal) (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).1) (arg13.view.read (Elt Ideal) (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.1)
      (arg14.view.read (Elt Ideal) (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.1) (arg15.view.read (Elt Ideal) (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.1)
      (arg16.view.read (Elt Ideal) (runEven c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.2.1) := by
  have hi : (i 1).val < 16 := (i 1).isLt
  have he := (cond3_iff i).mp h3
  have on := even_on i arg2 harg2 arg3 harg3 arg4 harg4 arg5 harg5 arg6 harg6 arg7 harg7 arg8 harg8 arg9 harg9 arg10 harg10 arg11 harg11 x2 x3 x4 x5 x6 x7 x8 x9 x10 x11 h3
  have hm : true = true → 1024 * (i 1).val + 1024 = 1024 * (ρ).i + 1024 := fun _ => rfl
  have hn : true = false → 1024 * (i 1).val + 1024 ≤ 1024 * (ρ).i := fun e => absurd e (by decide)
  have L := HoldsAt.loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11 (harg14.unread x14) (harg15.unread x15) (harg16.unread x16)
    (K := fun j d c => x14 (ix4 (0 : Fin 1) j d c)) (V := fun j d c => x15 (ix4 (0 : Fin 1) j d c)) (G := fun j c => x16 (ix4 (0 : Fin 1) j (0 : Fin 1) c))
    ⟨unread_tiles harg14 x14 _, unread_tiles harg15 x15 _, unread_keyGates harg16 x16 _, noRows_at, noGates_at⟩
  rw [show 1024 * (2 * ((i 1).val / 2)) = 1024 * (i 1).val by omega] at L
  have l17 := L.dq
  have l18 := L.dcq
  simp only [State.put, ← View.writes_append] at l17 l18
  refine Done.of (arg17 := arg17) (arg18 := arg18) (f17 := rowsAfter (evenPass i arg2 harg2 arg3 harg3 arg4 harg4 arg5 harg5 arg6 harg6 arg7 harg7 arg8 harg8 arg9 harg9 arg10 harg10 arg11 harg11 x2 x3 x4 x5 x6 x7 x8 x9 x10 x11 h3) true arg17 (arg17.view.writes (Elt Ideal) arg17.view.junk ((ℓ (harg14.unread x14) (harg15.unread x15) (harg16.unread x16)).2.2.2.1 ++ noRows)) 4)
    (f18 := gatesAfter (evenPass i arg2 harg2 arg3 harg3 arg4 harg4 arg5 harg5 arg6 harg6 arg7 harg7 arg8 harg8 arg9 harg9 arg10 harg10 arg11 harg11 x2 x3 x4 x5 x6 x7 x8 x9 x10 x11 h3) true arg18 (arg18.view.writes (Elt Ideal) arg18.view.junk ((ℓ (harg14.unread x14) (harg15.unread x15) (harg16.unread x16)).2.2.2.2 ++ noGates)) 4) hi ?_ ?_ ?_ ?_ ?_ ?_ ?_
  · rw [runEven_14]
    exact L.dk.one (i 1) (k0_off12_inb i h3) (off12_eq i) _ fun d c => on.dk_eq true hm hn (by decide) d c
  · rw [runEven_15]
    exact L.dv.one (i 1) (k0_off12_inb i h3) (off12_eq i) _ fun d c => on.dv_eq true hm hn (by decide) d c
  · rw [runEven_16]
    exact L.dck.one (i 1) (k0_off13_inb i h3) (off13_eq i) _ fun c => on.dck_eq true hm hn (by decide) c
  · exact RowsAt.after on true hm hn (by decide) l17
  · exact GatesAt.after on true hm hn (by decide) l18
  · exact runEven_12 ..
  · exact runEven_13 ..

theorem odd_done (h1 : ¬cond1 i) (h2 : k0_cond2 i = 1#1) (h3 : ¬k0_cond3 i = 1#1) (x14 : Vec Ideal S1x16x64x1024 .f32) (x15 : Vec Ideal S1x16x64x1024 .f32) (x16 : Vec Ideal S1x16x1x1024 .f32) :
    Done ρ (fun j d c => x14 (ix4 (0 : Fin 1) j d c)) (fun j d c => x15 (ix4 (0 : Fin 1) j d c)) (fun j c => x16 (ix4 (0 : Fin 1) j (0 : Fin 1) c))
      (arg12.view.read (Elt Ideal) (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).1) (arg13.view.read (Elt Ideal) (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.1)
      (arg14.view.read (Elt Ideal) (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.1) (arg15.view.read (Elt Ideal) (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.1)
      (arg16.view.read (Elt Ideal) (runOdd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11 x14 x15 x16).2.2.2.2.1) := by
  have hi : (i 1).val < 16 := (i 1).isLt
  have he := (cond2_iff i).mp h2
  have on := odd_on i arg2 harg2 arg3 harg3 arg4 harg4 arg5 harg5 arg6 harg6 arg7 harg7 arg8 harg8 arg9 harg9 arg10 harg10 arg11 harg11 x2 x3 x4 x5 x6 x7 x8 x9 x10 x11 h2
  have hp : 1024 * ((i 1).val - 1) + 2048 = 1024 * (i 1).val + 1024 := by omega
  have hm : true = true → 1024 * ((i 1).val - 1) + 2048 = 1024 * (ρ).i + 1024 := fun _ => hp
  have hn : true = false → 1024 * ((i 1).val - 1) + 2048 ≤ 1024 * (ρ).i := fun e => absurd e (by decide)
  have L := HoldsAt.loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11 (harg14.unread x14) (harg15.unread x15) (harg16.unread x16)
    (K := fun j d c => x14 (ix4 (0 : Fin 1) j d c)) (V := fun j d c => x15 (ix4 (0 : Fin 1) j d c)) (G := fun j c => x16 (ix4 (0 : Fin 1) j (0 : Fin 1) c))
    ⟨unread_tiles harg14 x14 _, unread_tiles harg15 x15 _, unread_keyGates harg16 x16 _, noRows_at, noGates_at⟩
  rw [show 1024 * (2 * ((i 1).val / 2)) = 1024 * ((i 1).val - 1) by omega] at L
  have l17 := L.dq
  have l18 := L.dcq
  simp only [State.put, ← View.writes_append] at l17 l18
  have e : ((i 1).val) = (i 1).val - 1 + 1 := by omega
  refine Done.of (arg17 := arg17) (arg18 := arg18) (f17 := rowsAfter (oddPass i arg2 harg2 arg3 harg3 arg4 harg4 arg5 harg5 arg6 harg6 arg7 harg7 arg8 harg8 arg9 harg9 arg10 harg10 arg11 harg11 x2 x3 x4 x5 x6 x7 x8 x9 x10 x11 h2) true arg17 (arg17.view.writes (Elt Ideal) arg17.view.junk ((ℓ (harg14.unread x14) (harg15.unread x15) (harg16.unread x16)).2.2.2.1 ++ noRows)) 4)
    (f18 := gatesAfter (oddPass i arg2 harg2 arg3 harg3 arg4 harg4 arg5 harg5 arg6 harg6 arg7 harg7 arg8 harg8 arg9 harg9 arg10 harg10 arg11 harg11 x2 x3 x4 x5 x6 x7 x8 x9 x10 x11 h2) true arg18 (arg18.view.writes (Elt Ideal) arg18.view.junk ((ℓ (harg14.unread x14) (harg15.unread x15) (harg16.unread x16)).2.2.2.2 ++ noGates)) 4) hi ?_ ?_ ?_ ?_ ?_ ?_ ?_
  · rw [runOdd_14, ← hm rfl]
    exact L.dk.two ⟨(i 1).val - 1, by omega⟩ (i 1) e (k0_off9_inb i h2 0) (k0_off9_inb i h2 1) (off9_0_eq i h2) (off9_1_eq i h2) _ fun d c => on.dk_eq true hm hn (by decide) d c
  · rw [runOdd_15, ← hm rfl]
    exact L.dv.two ⟨(i 1).val - 1, by omega⟩ (i 1) e (k0_off9_inb i h2 0) (k0_off9_inb i h2 1) (off9_0_eq i h2) (off9_1_eq i h2) _ fun d c => on.dv_eq true hm hn (by decide) d c
  · rw [runOdd_16, ← hm rfl]
    exact L.dck.two ⟨(i 1).val - 1, by omega⟩ (i 1) e (k0_off8_inb i h2 0) (k0_off8_inb i h2 1) (off8_0_eq i h2) (off8_1_eq i h2) _ fun c => on.dck_eq true hm hn (by decide) c
  · rw [← hm rfl]; exact RowsAt.after on true hm hn (by decide) l17
  · rw [← hm rfl]; exact GatesAt.after on true hm hn (by decide) l18
  · exact runOdd_12 ..
  · exact runOdd_13 ..

theorem first_done (h1 : cond1 i) (h2 : ¬k0_cond2 i = 1#1) (h3 : k0_cond3 i = 1#1) :
    Done ρ (fun _ _ _ => 0) (fun _ _ _ => 0) (fun _ _ => 0)
      (arg12.view.read (Elt Ideal) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).1) (arg13.view.read (Elt Ideal) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.1)
      (arg14.view.read (Elt Ideal) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.2.1) (arg15.view.read (Elt Ideal) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.2.2.1)
      (arg16.view.read (Elt Ideal) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 h2 h3 x2 x3 x4 x5 x6 x7 x8 x9 x10 x11).2.2.2.2.1) := by
  have hi : (i 1).val < 16 := (i 1).isLt
  have he := (cond3_iff i).mp h3
  have on := even_on i arg2 harg2 arg3 harg3 arg4 harg4 arg5 harg5 arg6 harg6 arg7 harg7 arg8 harg8 arg9 harg9 arg10 harg10 arg11 harg11 x2 x3 x4 x5 x6 x7 x8 x9 x10 x11 h3
  have hm : true = true → 1024 * (i 1).val + 1024 = 1024 * (ρ).i + 1024 := fun _ => rfl
  have hn : true = false → 1024 * (i 1).val + 1024 ≤ 1024 * (ρ).i := fun e => absurd e (by decide)
  have L := HoldsAt.loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 x7 x8 x9 x10 x11 (arg14.view.writes (Elt Ideal) arg14.view.junk noKeys) (arg15.view.writes (Elt Ideal) arg15.view.junk noValues) (arg16.view.writes (Elt Ideal) arg16.view.junk noKeyGates)
    (K := fun _ _ _ => 0) (V := fun _ _ _ => 0) (G := fun _ _ => 0) ⟨noKeys_at _, noValues_at _, noKeyGates_at _, noRows_at, noGates_at⟩
  rw [show 1024 * (2 * ((i 1).val / 2)) = 1024 * (i 1).val by omega] at L
  have l14 := L.dk
  have l15 := L.dv
  have l16 := L.dck
  have l17 := L.dq
  have l18 := L.dcq
  simp only [State.put, ← View.writes_append] at l14 l15 l16 l17 l18
  refine Done.of (arg17 := arg17) (arg18 := arg18) (f17 := rowsAfter (evenPass i arg2 harg2 arg3 harg3 arg4 harg4 arg5 harg5 arg6 harg6 arg7 harg7 arg8 harg8 arg9 harg9 arg10 harg10 arg11 harg11 x2 x3 x4 x5 x6 x7 x8 x9 x10 x11 h3) true arg17 (arg17.view.writes (Elt Ideal) arg17.view.junk ((ℓ (arg14.view.writes (Elt Ideal) arg14.view.junk noKeys) (arg15.view.writes (Elt Ideal) arg15.view.junk noValues) (arg16.view.writes (Elt Ideal) arg16.view.junk noKeyGates)).2.2.2.1 ++ noRows)) 4)
    (f18 := gatesAfter (evenPass i arg2 harg2 arg3 harg3 arg4 harg4 arg5 harg5 arg6 harg6 arg7 harg7 arg8 harg8 arg9 harg9 arg10 harg10 arg11 harg11 x2 x3 x4 x5 x6 x7 x8 x9 x10 x11 h3) true arg18 (arg18.view.writes (Elt Ideal) arg18.view.junk ((ℓ (arg14.view.writes (Elt Ideal) arg14.view.junk noKeys) (arg15.view.writes (Elt Ideal) arg15.view.junk noValues) (arg16.view.writes (Elt Ideal) arg16.view.junk noKeyGates)).2.2.2.2 ++ noGates)) 4) hi ?_ ?_ ?_ ?_ ?_ ?_ ?_
  · rw [runFirst_14]
    exact l14.one (i 1) (k0_off12_inb i h3) (off12_eq i) _ fun d c => on.dk_eq true hm hn (by decide) d c
  · rw [runFirst_15]
    exact l15.one (i 1) (k0_off12_inb i h3) (off12_eq i) _ fun d c => on.dv_eq true hm hn (by decide) d c
  · rw [runFirst_16]
    exact l16.one (i 1) (k0_off13_inb i h3) (off13_eq i) _ fun c => on.dck_eq true hm hn (by decide) c
  · exact RowsAt.after on true hm hn (by decide) l17
  · exact GatesAt.after on true hm hn (by decide) l18
  · exact runFirst_12 ..
  · exact runFirst_13 ..

end

end Cert.KernelIdeal.Flash
-- ==== Proof.FlashHead.lean ====
module

public import proofs.«01_k».proof.Proof.FlashFrame
public import proofs.«01_k».proof.Proof.FlashPointValue

/-! What the points of a head leave: each row tile's results, and over the keys the sums of the row tiles so far. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

variable (m : (ℓ : Loc nD τ sig) → Buf (Elt Ideal) ℓ) (c : Dev nD)

/-- The numbers of grid point `t`. -/
def at_ (t : Fin cfg0.N) : Point :=
  pointAt (grid0.coords t) (iblk m c 0 t) (iblk m c 1 t) (iblk m c 2 t) (iblk m c 3 t) (iblk m c 4 t) (iblk m c 5 t) (iblk m c 6 t) (iblk m c 7 t) (iblk m c 8 t) (iblk m c 9 t)

/-- What a point leaves over given sums. -/
abbrev DoneAt (t : Fin cfg0.N) (K V : Fin 16 → Fin 64 → Fin 1024 → EReal) (G : Fin 16 → Fin 1024 → EReal) (s : Left Ideal) : Prop :=
  Done (at_ m c t) K V G s.1 s.2.1 s.2.2.1 s.2.2.2.1 s.2.2.2.2

theorem done_first (t : Fin cfg0.N) (h : t.val % 16 = 0) :
    DoneAt m c t (fun _ _ _ => 0) (fun _ _ _ => 0) (fun _ _ => 0) (leftAt m c t.val t.isLt) := by
  rw [leftAt_first m c t h]
  exact first_done ..

theorem done_later (t : Fin cfg0.N) (h : ¬ t.val % 16 = 0) (s : Left Ideal) (hs : s = leftAt m c (t.val - 1) (before_lt t)) :
    DoneAt m c t (fun j d n => s.2.2.1 (ix4 (0 : Fin 1) j d n)) (fun j d n => s.2.2.2.1 (ix4 (0 : Fin 1) j d n)) (fun j n => s.2.2.2.2 (ix4 (0 : Fin 1) j (0 : Fin 1) n))
      (leftAt m c t.val t.isLt) := by
  subst hs
  by_cases h2 : t.val % 2 = 1
  · rw [leftAt_odd m c t h h2]
    exact odd_done ..
  · rw [leftAt_even m c t h h2]
    exact even_done ..

/-! ## The query rows -/

theorem left_dq (t : Fin cfg0.N) (r : Fin 1024) (d : Fin 64) :
    (leftAt m c t.val t.isLt).1 (ix3 (0 : Fin 1) r d) = (∑ n : Fin 16384, (at_ m c t).grad r n.val * (at_ m c t).k n.val d) * eighth := by
  by_cases h : t.val % 16 = 0
  · exact (done_first m c t h).dq r d
  · exact (done_later m c t h _ rfl).dq r d

theorem left_dcq (t : Fin cfg0.N) (r : Fin 1024) :
    (leftAt m c t.val t.isLt).2.1 (ix3 (0 : Fin 1) r (0 : Fin 1)) = ∑ n : Fin 16384, (at_ m c t).grad r n.val := by
  by_cases h : t.val % 16 = 0
  · exact (done_first m c t h).dcq r
  · exact (done_later m c t h _ rfl).dcq r

/-! ## The keys -/

/-- Something of point `n`, where there is one. -/
def part (f : Point → EReal) (n : ℕ) : EReal := if h : n < cfg0.N then f (at_ m c ⟨n, h⟩) else 0

theorem part_of (f : Point → EReal) (n : ℕ) (h : n < cfg0.N) : part m c f n = f (at_ m c ⟨n, h⟩) := dif_pos h

/-- What is added to from point to point of a head is the sum of the points so far. -/
theorem summed (f : Point → EReal) (g : Left Ideal → EReal)
    (first : ∀ t : Fin cfg0.N, t.val % 16 = 0 → g (leftAt m c t.val t.isLt) = 0 + f (at_ m c t))
    (later : ∀ t : Fin cfg0.N, ¬ t.val % 16 = 0 → g (leftAt m c t.val t.isLt) = g (leftAt m c (t.val - 1) (before_lt t)) + f (at_ m c t))
    (b : ℕ) : ∀ i : ℕ, i < 16 → ∀ hn : 16 * b + i < cfg0.N,
      g (leftAt m c (16 * b + i) hn) = ∑ i' ∈ Finset.range (i + 1), part m c f (16 * b + i')
  | 0, _, hn => by
    rw [Finset.sum_range_one]
    exact (first ⟨16 * b + 0, hn⟩ (by show (16 * b + 0) % 16 = 0; omega)).trans ((zero_add _).trans (part_of m c f _ hn).symm)
  | i + 1, hi, hn => by
    rw [Finset.sum_range_succ, ← summed f g first later b i (by omega) (by omega)]
    exact (later ⟨16 * b + (i + 1), hn⟩ (by show ¬ (16 * b + (i + 1)) % 16 = 0; omega)).trans (congrArg _ (part_of m c f _ hn).symm)

/-- The sum over the row tiles of head `b`. -/
def overRows (f : Point → EReal) (b : ℕ) : EReal := ∑ i ∈ Finset.range 16, part m c f (16 * b + i)

theorem summed_last (f : Point → EReal) (g : Left Ideal → EReal)
    (first : ∀ t : Fin cfg0.N, t.val % 16 = 0 → g (leftAt m c t.val t.isLt) = 0 + f (at_ m c t))
    (later : ∀ t : Fin cfg0.N, ¬ t.val % 16 = 0 → g (leftAt m c t.val t.isLt) = g (leftAt m c (t.val - 1) (before_lt t)) + f (at_ m c t))
    (t : Fin cfg0.N) (h : t.val % 16 = 15) : g (leftAt m c t.val t.isLt) = overRows m c f (t.val / 16) := by
  have e : t.val = 16 * (t.val / 16) + 15 := by omega
  have := summed m c f g first later (t.val / 16) 15 (by omega) (e ▸ t.isLt)
  refine Eq.trans ?_ this
  congr 2

set_option maxHeartbeats 2000000 in
theorem left_dk (t : Fin cfg0.N) (h : t.val % 16 = 15) (j : Fin 16) (d : Fin 64) (n : Fin 1024) :
    (leftAt m c t.val t.isLt).2.2.1 (ix4 (0 : Fin 1) j d n) = overRows m c (fun P => P.toKey d (1024 * j.val + n.val)) (t.val / 16) :=
  summed_last m c _ (fun s => s.2.2.1 (ix4 (0 : Fin 1) j d n)) (fun t h => (done_first m c t h).dk j d n) (fun t h => (done_later m c t h _ rfl).dk j d n) t h

set_option maxHeartbeats 2000000 in
theorem left_dv (t : Fin cfg0.N) (h : t.val % 16 = 15) (j : Fin 16) (d : Fin 64) (n : Fin 1024) :
    (leftAt m c t.val t.isLt).2.2.2.1 (ix4 (0 : Fin 1) j d n) = overRows m c (fun P => P.toValue d (1024 * j.val + n.val)) (t.val / 16) :=
  summed_last m c _ (fun s => s.2.2.2.1 (ix4 (0 : Fin 1) j d n)) (fun t h => (done_first m c t h).dv j d n) (fun t h => (done_later m c t h _ rfl).dv j d n) t h

set_option maxHeartbeats 2000000 in
theorem left_dck (t : Fin cfg0.N) (h : t.val % 16 = 15) (j : Fin 16) (n : Fin 1024) :
    (leftAt m c t.val t.isLt).2.2.2.2 (ix4 (0 : Fin 1) j (0 : Fin 1) n) = overRows m c (fun P => -P.toGate (1024 * j.val + n.val)) (t.val / 16) :=
  summed_last m c _ (fun s => s.2.2.2.2 (ix4 (0 : Fin 1) j (0 : Fin 1) n)) (fun t h => ((done_first m c t h).dck j n).trans (sub_eq_add_neg _ _)) (fun t h => ((done_later m c t h _ rfl).dck j n).trans (sub_eq_add_neg _ _)) t h

end Cert.KernelIdeal.Flash
-- ==== Proof.FlashArrays.lean ====
module

public import proofs.«01_k».proof.Proof.FlashHead
public import Idealize.ShloMosaic.Lib.Pipeline.ValueKit

/-! The blocks that a point gets, and the arrays that the points leave. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

/-- Where each window's block lies: the head, and the row tile where there is one. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0] ∧ win0_4.index t = ![t.val / 16, t.val % 16, 0]
    ∧ win0_5.index t = ![t.val / 16, 0, t.val % 16] ∧ win0_6.index t = ![t.val / 16, 0, t.val % 16]
    ∧ win0_7.index t = ![t.val / 16, t.val % 16, 0] ∧ win0_8.index t = ![t.val / 16, t.val % 16, 0] ∧ win0_9.index t = ![t.val / 16, 0, 0, 0]
    ∧ win0_10.index t = ![t.val / 16, t.val % 16, 0] ∧ win0_11.index t = ![t.val / 16, t.val % 16, 0]
    ∧ win0_12.index t = ![t.val / 16, 0, 0, 0] ∧ win0_13.index t = ![t.val / 16, 0, 0, 0] ∧ win0_14.index t = ![t.val / 16, 0, 0, 0] :=
  (by decide +kernel : ∀ t : Fin grid0.N, _)

section Blocks
variable {F : FTy → Type} [FloatOps F] (t : Fin cfg0.N) (b : Fin 16) (hb : b.val = t.val / 16)
include hb

theorem read_q (W : Vec F S16x16384x64 .bf16) (r : Fin 1024) (d : Fin 64) (s : Fin 16384) (hs : s.val = 1024 * (t.val % 16) + r.val) :
    (win0_0.blk t).view.read (Elt F) W (ix3 (0 : Fin 1) r d) = W (ix3 b s d) := by
  blk_point [idx t]
  all_goals first | exact hb.symm | (show t.val % 16 * 1024 + r.val = s.val; omega) | rfl

theorem read_k (W : Vec F S16x16384x64 .bf16) (n : Fin 16384) (d : Fin 64) :
    (win0_1.blk t).view.read (Elt F) W (ix3 (0 : Fin 1) n d) = W (ix3 b n d) := by
  blk_point [idx t]
  all_goals first | exact hb.symm | rfl

theorem read_cq (W : Vec F S16x16384x1 .f32) (r : Fin 1024) (s : Fin 16384) (hs : s.val = 1024 * (t.val % 16) + r.val) :
    (win0_8.blk t).view.read (Elt F) W (ix3 (0 : Fin 1) r (0 : Fin 1)) = W (ix3 b s (0 : Fin 1)) := by
  blk_point [idx t]
  all_goals first | exact hb.symm | (show t.val % 16 * 1024 + r.val = s.val; omega) | rfl

theorem read_qT (W : Vec F S16x64x16384 .bf16) (r : Fin 1024) (d : Fin 64) (s : Fin 16384) (hs : s.val = 1024 * (t.val % 16) + r.val) :
    (win0_5.blk t).view.read (Elt F) W (ix3 (0 : Fin 1) d r) = W (ix3 b d s) := by
  blk_point [idx t]
  all_goals first | exact hb.symm | (show t.val % 16 * 1024 + r.val = s.val; omega) | rfl

theorem read_ck (W : Vec F S16x16x1x1024 .f32) (j : Fin 16) (n : Fin 1024) :
    (win0_9.blk t).view.read (Elt F) W (ix4 (0 : Fin 1) j (0 : Fin 1) n) = W (ix4 b j (0 : Fin 1) n) := by
  blk_point [idx t]
  all_goals first | exact hb.symm | rfl

end Blocks

/-! ## The numbers of a head -/

/-- The arrays that the kernel reads, as numbers of a head. -/
structure Heads where
  q : Fin 16 → Fin 16384 → Fin 64 → EReal
  k : Fin 16 → Fin 16384 → Fin 64 → EReal
  v : Fin 16 → Fin 16384 → Fin 64 → EReal
  o : Fin 16 → Fin 16384 → Fin 64 → EReal
  dO : Fin 16 → Fin 16384 → Fin 64 → EReal
  lse : Fin 16 → Fin 16384 → EReal
  cq : Fin 16 → Fin 16384 → EReal
  ck : Fin 16 → Fin 16384 → EReal

/-- Row `r` of tile `j`. -/
def tile (j : Fin 16) (r : Fin 1024) : Fin 16384 := ⟨1024 * j.val + r.val, by have := j.isLt; have := r.isLt; omega⟩

namespace Heads
variable (H : Heads)

/-- A query's weight of a key. -/
def weight (b : Fin 16) (s n : Fin 16384) : EReal :=
  if n ≤ s then Ideal.exp ((∑ d : Fin 64, H.q b s d * eighth * H.k b n d) + (H.cq b s - H.lse b s - H.ck b n)) else 0

/-- The score's gradient. -/
def grad (b : Fin 16) (s n : Fin 16384) : EReal :=
  H.weight b s n * ((∑ d : Fin 64, H.dO b s d * H.v b n d) - ∑ d : Fin 64, H.dO b s d * H.o b s d)

def dq (b : Fin 16) (s : Fin 16384) (d : Fin 64) : EReal := (∑ n : Fin 16384, H.grad b s n * H.k b n d) * eighth
def dcq (b : Fin 16) (s : Fin 16384) : EReal := ∑ n : Fin 16384, H.grad b s n
def dk (b : Fin 16) (n : Fin 16384) (d : Fin 64) : EReal := ∑ i : Fin 16, ∑ r : Fin 1024, H.q b (tile i r) d * eighth * H.grad b (tile i r) n
def dv (b : Fin 16) (n : Fin 16384) (d : Fin 64) : EReal := ∑ i : Fin 16, ∑ r : Fin 1024, H.dO b (tile i r) d * H.weight b (tile i r) n
def dck (b : Fin 16) (n : Fin 16384) : EReal := ∑ i : Fin 16, -∑ r : Fin 1024, H.grad b (tile i r) n

end Heads

variable (m : (ℓ : Loc nD τ sig) → Buf (Elt Ideal) ℓ) (c : Dev nD) (H : Heads)

/-- The kernel reads these numbers. -/
structure Reads : Prop where
  q : ∀ b s d, V m c main_v54 (ix3 b s d) = H.q b s d
  k : ∀ b s d, V m c main_v55 (ix3 b s d) = H.k b s d
  v : ∀ b s d, V m c main_v56 (ix3 b s d) = H.v b s d
  o : ∀ b s d, V m c main_v53 (ix3 b s d) = H.o b s d
  dO : ∀ b s d, V m c main_v57 (ix3 b s d) = H.dO b s d
  qT : ∀ b s d, V m c main_v60 (ix3 b d s) = H.q b s d
  dOT : ∀ b s d, V m c main_v61 (ix3 b d s) = H.dO b s d
  lse : ∀ b s, V m c main_v24 (ix3 b s (0 : Fin 1)) = H.lse b s
  cq : ∀ b s, V m c main_v58 (ix3 b s (0 : Fin 1)) = H.cq b s
  ck : ∀ b j n, V m c main_v59 (ix4 b j (0 : Fin 1) n) = H.ck b (tile j n)

end Cert.KernelIdeal.Flash
-- ==== Proof.FlashResults.lean ====
module

public import proofs.«01_k».proof.Proof.FlashArrays

/-! The five result arrays after the run, in the numbers that the kernel reads. -/

@[expose] public section

set_option maxRecDepth 16384

noncomputable section

namespace Cert.KernelIdeal.Flash

open Cert.KernelIdeal Cert.KernelIdeal.Gen
open Idealize.ShloMosaic hiding ix0 ix1 ix2 ix3 ix4 ix5
open Idealize.ShloMosaic.TcCoe
open Idealize.ShloMosaic.ValueIdx (ix0 ix1 ix2 ix3 ix4 ix5)
open scoped BigOperators

variable {m : (ℓ : Loc nD τ sig) → Buf (Elt Ideal) ℓ} {c : Dev nD} {H : Heads} (h : Reads m c H)

section Points
variable (t : Fin cfg0.N) (b i : Fin 16) (hb : b.val = t.val / 16) (hi : i.val = t.val % 16)
include h hb hi

theorem at_q (r : Fin 1024) (d : Fin 64) : (at_ m c t).q r d = H.q b (tile i r) d * eighth :=
  congrArg (· * eighth) ((read_q (F := Ideal) t b hb (V m c main_v54) r d (tile i r) (by rw [← hi]; rfl)).trans (h.q b _ d))

theorem at_dO (r : Fin 1024) (d : Fin 64) : (at_ m c t).dO r d = H.dO b (tile i r) d :=
  (read_q (F := Ideal) t b hb (V m c main_v57) r d (tile i r) (by rw [← hi]; rfl)).trans (h.dO b _ d)

theorem at_o (r : Fin 1024) (d : Fin 64) : iblk m c 3 t (ix3 (0 : Fin 1) r d) = H.o b (tile i r) d :=
  (read_q (F := Ideal) t b hb (V m c main_v53) r d (tile i r) (by rw [← hi]; rfl)).trans (h.o b _ d)

theorem at_delta (r : Fin 1024) : (at_ m c t).delta r = ∑ d : Fin 64, H.dO b (tile i r) d * H.o b (tile i r) d :=
  Eq.trans (b := ∑ d : Fin 64, (at_ m c t).dO r d * iblk m c 3 t (ix3 (0 : Fin 1) r d)) rfl
    (Finset.sum_congr rfl fun d _ => congrArg₂ (· * ·) (at_dO h t b i hb hi r d) (at_o h t b i hb hi r d))

theorem at_qT (r : Fin 1024) (d : Fin 64) : (at_ m c t).qT d r = H.q b (tile i r) d * eighth :=
  congrArg (· * eighth) ((read_qT (F := Ideal) t b hb (V m c main_v60) r d (tile i r) (by rw [← hi]; rfl)).trans (h.qT b _ d))

theorem at_dOT (r : Fin 1024) (d : Fin 64) : (at_ m c t).dOT d r = H.dO b (tile i r) d :=
  (read_qT (F := Ideal) t b hb (V m c main_v61) r d (tile i r) (by rw [← hi]; rfl)).trans (h.dOT b _ d)

theorem at_bias (r : Fin 1024) : (at_ m c t).bias r = H.cq b (tile i r) - H.lse b (tile i r) :=
  congrArg₂ (· - ·) ((read_cq (F := Ideal) t b hb (V m c main_v58) r (tile i r) (by rw [← hi]; rfl)).trans (h.cq b _))
    ((read_cq (F := Ideal) t b hb (V m c main_v24) r (tile i r) (by rw [← hi]; rfl)).trans (h.lse b _))

theorem at_k (n : Fin 16384) (d : Fin 64) : (at_ m c t).k n.val d = H.k b n d :=
  (dif_pos n.isLt).trans ((read_k (F := Ideal) t b hb (V m c main_v55) n d).trans (h.k b n d))

theorem at_v (n : Fin 16384) (d : Fin 64) : (at_ m c t).v n.val d = H.v b n d :=
  (dif_pos n.isLt).trans ((read_k (F := Ideal) t b hb (V m c main_v56) n d).trans (h.v b n d))

theorem at_ck (n : Fin 16384) : (at_ m c t).ck n.val = H.ck b n :=
  (dif_pos n.isLt).trans ((read_ck (F := Ideal) t b hb (V m c main_v59) _ _).trans ((h.ck b _ _).trans (congrArg (H.ck b) (Fin.ext (Nat.div_add_mod _ _)))))

theorem at_i : (at_ m c t).i = i.val := (row_val t).trans hi.symm

theorem at_weight (r : Fin 1024) (n : Fin 16384) : (at_ m c t).weight r n.val = H.weight b (tile i r) n := by
  unfold Point.weight Heads.weight
  rw [at_i h t b i hb hi, at_bias h t b i hb hi, at_ck h t b i hb hi]
  simp only [at_q h t b i hb hi, at_k h t b i hb hi]
  rfl

theorem at_grad (r : Fin 1024) (n : Fin 16384) : (at_ m c t).grad r n.val = H.grad b (tile i r) n := by
  unfold Point.grad Heads.grad
  rw [at_weight h t b i hb hi, at_delta h t b i hb hi]
  simp only [at_dO h t b i hb hi, at_v h t b i hb hi]

theorem at_dq (r : Fin 1024) (d : Fin 64) : (leftAt m c t.val t.isLt).1 (ix3 (0 : Fin 1) r d) = H.dq b (tile i r) d := by
  rw [left_dq]; unfold Heads.dq
  simp only [at_grad h t b i hb hi, at_k h t b i hb hi]

theorem at_dcq (r : Fin 1024) : (leftAt m c t.val t.isLt).2.1 (ix3 (0 : Fin 1) r (0 : Fin 1)) = H.dcq b (tile i r) := by
  rw [left_dcq]; unfold Heads.dcq
  simp only [at_grad h t b i hb hi]

end Points

/-! ## The sums over the row tiles -/

section Sums
include h

theorem overRows_eq (f : Point → EReal) (b : Fin 16) (g : Fin 16 → EReal) (hf : ∀ (t : Fin cfg0.N) (i : Fin 16), b.val = t.val / 16 → i.val = t.val % 16 → f (at_ m c t) = g i) :
    overRows m c f b.val = ∑ i : Fin 16, g i := by
  unfold overRows
  rw [Finset.sum_range]
  refine Finset.sum_congr rfl fun i _ => ?_
  have hN : cfg0.N = 256 := N_0
  have h1 := b.isLt
  have h2 := i.isLt
  have hn : 16 * b.val + i.val < cfg0.N := by omega
  rw [part_of m c f _ hn]
  exact hf _ i (by show b.val = (16 * b.val + i.val) / 16; omega) (by show i.val = (16 * b.val + i.val) % 16; omega)

theorem overRows_dk (b j : Fin 16) (n : Fin 1024) (d : Fin 64) : overRows m c (fun P => P.toKey d (1024 * j.val + n.val)) b.val = H.dk b (tile j n) d :=
  overRows_eq h _ b _ fun t i hb hi => Finset.sum_congr rfl fun r _ => congrArg₂ (· * ·) (at_qT h t b i hb hi r d) (at_grad h t b i hb hi r (tile j n))

theorem overRows_dv (b j : Fin 16) (n : Fin 1024) (d : Fin 64) : overRows m c (fun P => P.toValue d (1024 * j.val + n.val)) b.val = H.dv b (tile j n) d :=
  overRows_eq h _ b _ fun t i hb hi => Finset.sum_congr rfl fun r _ => congrArg₂ (· * ·) (at_dOT h t b i hb hi r d) (at_weight h t b i hb hi r (tile j n))

theorem overRows_dck (b j : Fin 16) (n : Fin 1024) : overRows m c (fun P => -P.toGate (1024 * j.val + n.val)) b.val = H.dck b (tile j n) :=
  overRows_eq h _ b _ fun t i hb hi => congrArg (- ·) (Finset.sum_congr rfl fun r _ => at_grad h t b i hb hi r (tile j n))

end Sums

/-! ## The arrays -/

section Arrays

/-- The result arrays of these numbers. -/
def dqArray (H : Heads) : Vec Ideal S16x16384x64 .bf16 := fun y => H.dq (y 0) (y 1) (y 2)
def dcqArray (H : Heads) : Vec Ideal S16x16384x1 .f32 := fun y => H.dcq (y 0) (y 1)
def dkArray (H : Heads) : Vec Ideal S16x16x64x1024 .f32 := fun y => H.dk (y 0) (tile (y 1) (y 3)) (y 2)
def dvArray (H : Heads) : Vec Ideal S16x16x64x1024 .f32 := fun y => H.dv (y 0) (tile (y 1) (y 3)) (y 2)
def dckArray (H : Heads) : Vec Ideal S16x16x1x1024 .f32 := fun y => H.dck (y 0) (tile (y 1) (y 3))

theorem dqArray_at (H : Heads) (x : S16x16384x64.Idx) (b : Fin 16) (s : Fin 16384) (d : Fin 64) (e0 : x 0 = b) (e1 : x 1 = s) (e2 : x 2 = d) : dqArray H x = H.dq b s d := by
  subst e0 e1 e2; rfl
theorem dcqArray_at (H : Heads) (x : S16x16384x1.Idx) (b : Fin 16) (s : Fin 16384) (e0 : x 0 = b) (e1 : x 1 = s) : dcqArray H x = H.dcq b s := by
  subst e0 e1; rfl
theorem dkArray_at (H : Heads) (x : S16x16x64x1024.Idx) (b j : Fin 16) (d : Fin 64) (n : Fin 1024) (e0 : x 0 = b) (e1 : x 1 = j) (e2 : x 2 = d) (e3 : x 3 = n) :
    dkArray H x = H.dk b (tile j n) d := by
  subst e0 e1 e2 e3; rfl
theorem dvArray_at (H : Heads) (x : S16x16x64x1024.Idx) (b j : Fin 16) (d : Fin 64) (n : Fin 1024) (e0 : x 0 = b) (e1 : x 1 = j) (e2 : x 2 = d) (e3 : x 3 = n) :
    dvArray H x = H.dv b (tile j n) d := by
  subst e0 e1 e2 e3; rfl
theorem dckArray_at (H : Heads) (x : S16x16x1x1024.Idx) (b j : Fin 16) (n : Fin 1024) (e0 : x 0 = b) (e1 : x 1 = j) (e3 : x 3 = n) :
    dckArray H x = H.dck b (tile j n) := by
  subst e0 e1 e3; rfl

theorem rows_point (G : Vec Ideal S1x1024x64 .bf16) (y : S1x1024x64.Idx) : G y = G (ix3 (0 : Fin 1) (y 1 : Fin 1024) (y 2 : Fin 64)) :=
  congrArg G ((ValueIdx.eq_ix3 y).trans (congrArg (fun a => ix3 a (y 1 : Fin 1024) (y 2 : Fin 64)) (Subsingleton.elim (α := Fin 1) _ _)))
theorem column_point (G : Vec Ideal S1x1024x1 .f32) (y : S1x1024x1.Idx) : G y = G (ix3 (0 : Fin 1) (y 1 : Fin 1024) (0 : Fin 1)) :=
  congrArg G ((ValueIdx.eq_ix3 y).trans (congrArg₂ (fun a b => ix3 a (y 1 : Fin 1024) b) (Subsingleton.elim (α := Fin 1) _ _) (Subsingleton.elim (α := Fin 1) _ _)))
theorem tiles_point (G : Vec Ideal S1x16x64x1024 .f32) (y : S1x16x64x1024.Idx) : G y = G (ix4 (0 : Fin 1) (y 1 : Fin 16) (y 2 : Fin 64) (y 3 : Fin 1024)) :=
  congrArg G ((ValueIdx.eq_ix4 y).trans (congrArg (fun a => ix4 a (y 1 : Fin 16) (y 2 : Fin 64) (y 3 : Fin 1024)) (Subsingleton.elim (α := Fin 1) _ _)))
theorem gates_point (G : Vec Ideal S1x16x1x1024 .f32) (y : S1x16x1x1024.Idx) : G y = G (ix4 (0 : Fin 1) (y 1 : Fin 16) (0 : Fin 1) (y 3 : Fin 1024)) :=
  congrArg G ((ValueIdx.eq_ix4 y).trans (congrArg₂ (fun a b => ix4 a (y 1 : Fin 16) b (y 3 : Fin 1024)) (Subsingleton.elim (α := Fin 1) _ _) (Subsingleton.elim (α := Fin 1) _ _)))

include h

theorem final_dq : (dats m 0 c).arrAt 10 cfg0.N = dqArray H := by
  refine (dats m 0 c).arrAt_eq_of_covers 10 (dqArray H) (by decide +kernel) fun t hf y => ?_
  have ht : t.val < 256 := lt_of_lt_of_eq t.isLt N_0
  have e0 : ((win0_10.blk t).view.emb y) 0 = (⟨t.val / 16, by omega⟩ : Fin 16) := Fin.ext (by blk_simp [idx t])
  have e1 : ((win0_10.blk t).view.emb y) 1 = (tile ⟨t.val % 16, by omega⟩ (y 1) : Fin 16384) := Fin.ext (by blk_simp [idx t]; exact congrArg (· + _) (Nat.mul_comm _ _))
  have e2 : ((win0_10.blk t).view.emb y) 2 = (y 2 : Fin 64) := Fin.ext (by blk_simp [idx t])
  blk_simp [idx t]
  rw [after_10]
  exact (rows_point _ y).trans ((at_dq h t _ _ rfl rfl _ _).trans (dqArray_at H _ _ _ _ e0 e1 e2).symm)

theorem final_dcq : (dats m 0 c).arrAt 11 cfg0.N = dcqArray H := by
  refine (dats m 0 c).arrAt_eq_of_covers 11 (dcqArray H) (by decide +kernel) fun t hf y => ?_
  have ht : t.val < 256 := lt_of_lt_of_eq t.isLt N_0
  have e0 : ((win0_11.blk t).view.emb y) 0 = (⟨t.val / 16, by omega⟩ : Fin 16) := Fin.ext (by blk_simp [idx t])
  have e1 : ((win0_11.blk t).view.emb y) 1 = (tile ⟨t.val % 16, by omega⟩ (y 1) : Fin 16384) := Fin.ext (by blk_simp [idx t]; exact congrArg (· + _) (Nat.mul_comm _ _))
  blk_simp [idx t]
  rw [after_11]
  exact (column_point _ y).trans ((at_dcq h t _ _ rfl rfl _).trans (dcqArray_at H _ _ _ e0 e1).symm)

theorem final_dk : (dats m 0 c).arrAt 12 cfg0.N = dkArray H := by
  refine (dats m 0 c).arrAt_eq_of_covers 12 (dkArray H) (by decide +kernel) fun t hf y => ?_
  have ht : t.val < 256 := lt_of_lt_of_eq t.isLt N_0
  have h15 : t.val % 16 = 15 := (flush0_12 t).mp hf
  have e0 : ((win0_12.blk t).view.emb y) 0 = (⟨t.val / 16, by omega⟩ : Fin 16) := Fin.ext (by blk_simp [idx t])
  have e1 : ((win0_12.blk t).view.emb y) 1 = (y 1 : Fin 16) := Fin.ext (by blk_simp [idx t])
  have e2 : ((win0_12.blk t).view.emb y) 2 = (y 2 : Fin 64) := Fin.ext (by blk_simp [idx t])
  have e3 : ((win0_12.blk t).view.emb y) 3 = (y 3 : Fin 1024) := Fin.ext (by blk_simp [idx t])
  blk_simp [idx t]
  rw [after_12]
  exact (tiles_point _ y).trans ((left_dk m c t h15 _ _ _).trans ((overRows_dk h ⟨t.val / 16, by omega⟩ _ _ _).trans (dkArray_at H _ _ _ _ _ e0 e1 e2 e3).symm))

theorem final_dv : (dats m 0 c).arrAt 13 cfg0.N = dvArray H := by
  refine (dats m 0 c).arrAt_eq_of_covers 13 (dvArray H) (by decide +kernel) fun t hf y => ?_
  have ht : t.val < 256 := lt_of_lt_of_eq t.isLt N_0
  have h15 : t.val % 16 = 15 := (flush0_13 t).mp hf
  have e0 : ((win0_13.blk t).view.emb y) 0 = (⟨t.val / 16, by omega⟩ : Fin 16) := Fin.ext (by blk_simp [idx t])
  have e1 : ((win0_13.blk t).view.emb y) 1 = (y 1 : Fin 16) := Fin.ext (by blk_simp [idx t])
  have e2 : ((win0_13.blk t).view.emb y) 2 = (y 2 : Fin 64) := Fin.ext (by blk_simp [idx t])
  have e3 : ((win0_13.blk t).view.emb y) 3 = (y 3 : Fin 1024) := Fin.ext (by blk_simp [idx t])
  blk_simp [idx t]
  rw [after_13]
  exact (tiles_point _ y).trans ((left_dv m c t h15 _ _ _).trans ((overRows_dv h ⟨t.val / 16, by omega⟩ _ _ _).trans (dvArray_at H _ _ _ _ _ e0 e1 e2 e3).symm))

theorem final_dck : (dats m 0 c).arrAt 14 cfg0.N = dckArray H := by
  refine (dats m 0 c).arrAt_eq_of_covers 14 (dckArray H) (by decide +kernel) fun t hf y => ?_
  have ht : t.val < 256 := lt_of_lt_of_eq t.isLt N_0
  have h15 : t.val % 16 = 15 := (flush0_14 t).mp hf
  have e0 : ((win0_14.blk t).view.emb y) 0 = (⟨t.val / 16, by omega⟩ : Fin 16) := Fin.ext (by blk_simp [idx t])
  have e1 : ((win0_14.blk t).view.emb y) 1 = (y 1 : Fin 16) := Fin.ext (by blk_simp [idx t])
  have e3 : ((win0_14.blk t).view.emb y) 3 = (y 3 : Fin 1024) := Fin.ext (by blk_simp [idx t])
  blk_simp [idx t]
  rw [after_14]
  exact (gates_point _ y).trans ((left_dck m c t h15 _ _).trans ((overRows_dck h ⟨t.val / 16, by omega⟩ _ _).trans (dckArray_at H _ _ _ _ e0 e1 e3).symm))

end Arrays

end Cert.KernelIdeal.Flash
-- ==== Proof.FlashHost.lean ====
module

public import proofs.«01_k».proof.Proof.FlashResults
public import proofs.«01_k».proof.Proof.Gen.ReferenceIdeal.Read
public import Idealize.ShloMosaic.Lib.Claim
public import Idealize.ShloMosaic.Lib.StableHlo.RunRead

/-! What the host prepares for the kernel: casts and transposes of the arguments, the forward's result, and the scores' logarithmic sums. -/

@[expose] public section

set_option maxRecDepth 16384

noncomputable section

namespace Cert.KernelIdeal.Flash

open Cert.KernelIdeal Cert.KernelIdeal.Gen
open Cert.ReferenceIdeal.Read
open Idealize.ShloMosaic hiding ix0 ix1 ix2 ix3 ix4 ix5
open Idealize.ShloMosaic.TcCoe
open Idealize.ShloMosaic.ValueIdx (ix0 ix1 ix2 ix3 ix4 ix5)
open scoped BigOperators

section
variable {F : FTy → Type} [FloatOps F]
variable (m : (ℓ : Loc nD τ sig) → Buf (Elt F) ℓ) (c : Dev nD)

theorem V_q : V m c main_v54 = truncf .bf16 (m ((c : Thread nD τ).loc main_arg0)) bitsLt_bf16_f32 := by
  unfold V; after_reads_simp
theorem V_k : V m c main_v55 = truncf .bf16 (m ((c : Thread nD τ).loc main_arg1)) bitsLt_bf16_f32 := by
  unfold V; after_reads_simp
theorem V_v : V m c main_v56 = truncf .bf16 (m ((c : Thread nD τ).loc main_arg2)) bitsLt_bf16_f32 := by
  unfold V; after_reads_simp
theorem V_dO : V m c main_v57 = truncf .bf16 (m ((c : Thread nD τ).loc main_arg5)) bitsLt_bf16_f32 := by
  unfold V; after_reads_simp
theorem V_cq : V m c main_v58 = shapeCast S16x16384x1 (m ((c : Thread nD τ).loc main_arg3)) shapeCasts_S16x16384_S16x16384x1 := by
  unfold V; after_reads_simp; rfl
theorem V_ck : V m c main_v59 = shapeCast S16x16x1x1024 (m ((c : Thread nD τ).loc main_arg4)) shapeCasts_S16x16384_S16x16x1x1024 := by
  unfold V; after_reads_simp; rfl
theorem V_qT : V m c main_v60 = transpose S16x64x16384 [0, 2, 1] (truncf .bf16 (m ((c : Thread nD τ).loc main_arg0)) bitsLt_bf16_f32) transposes_S16x16384x64_S16x64x16384_0_2_1 := by
  unfold V; after_reads_simp
theorem V_dOT : V m c main_v61 = transpose S16x64x16384 [0, 2, 1] (truncf .bf16 (m ((c : Thread nD τ).loc main_arg5)) bitsLt_bf16_f32) transposes_S16x16384x64_S16x64x16384_0_2_1 := by
  unfold V; after_reads_simp

/-- The forward's result is the reference's. -/
theorem V_o : V m c main_v53 = truncf .bf16 (val_main_v44 (F := F) (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 := by
  unfold V; after_reads_simp; rfl

/-- The scores' largest of a row, and the sum's logarithm over the scores less it. -/
def logSum (s : Vec F Cert.ReferenceIdeal.S16x16384x16384 .f32) (top : Vec F S16x16384 .f32) : Vec F S16x16384x1 .f32 :=
  addf (broadcastInDim S16x16384x1 ![0, 1] bcast_S16x16384_S16x16384x1_0_1 top)
    (Host.log (broadcastInDim S16x16384x1 ![0, 1] bcast_S16x16384_S16x16384x1_0_1
      (Host.reduceAdd (Host.exp (subf s (broadcastInDim S16x16384x16384 ![0, 1, 2] bcast_S16x16384x1_S16x16384x16384_0_1_2
        (broadcastInDim S16x16384x1 ![0, 1] bcast_S16x16384_S16x16384x1_0_1 top)))) (constant S_ .f32 0x00000000#32) reducesTo_S16x16384x16384_S16x16384_d2 h_S_)))

theorem V_lse : V m c main_v24 = logSum (val_main_v15_0 (F := F) (m ((c : Thread nD τ).loc main_arg0)) (m ((c : Thread nD τ).loc main_arg1)) (m ((c : Thread nD τ).loc main_arg3)) (m ((c : Thread nD τ).loc main_arg4)))
    (val_main_v16 (F := F) (m ((c : Thread nD τ).loc main_arg0)) (m ((c : Thread nD τ).loc main_arg1)) (m ((c : Thread nD τ).loc main_arg3)) (m ((c : Thread nD τ).loc main_arg4))) := by
  unfold V; after_reads_simp; rfl

end

end Cert.KernelIdeal.Flash
-- ==== Proof.FlashMath.lean ====
module

public import proofs.«01_k».proof.Proof.FlashArrays

/-! The attention's gradient over the real numbers, and the kernel's numbers as its values. -/

@[expose] public section

set_option maxRecDepth 16384

noncomputable section

namespace Cert.FlashMath

open Idealize.ShloMosaic
open Cert.KernelIdeal.Flash (Heads tile eighth)
open scoped BigOperators

/-- A finite sum of reals, as an extended real. -/
theorem coe_sum {ι : Type} (S : Finset ι) (f : ι → ℝ) : ((∑ i ∈ S, f i : ℝ) : EReal) = ∑ i ∈ S, (f i : EReal) := by
  classical
  induction S using Finset.induction_on with
  | empty => rfl
  | insert a S h ih => rw [Finset.sum_insert h, Finset.sum_insert h, EReal.coe_add, ih]

/-- A sum over the rows, tile by tile. -/
theorem sum_tiles (f : Fin 16384 → ℝ) : ∑ i : Fin 16, ∑ r : Fin 1024, f (tile i r) = ∑ s : Fin 16384, f s := by
  rw [← Fintype.sum_prod_type', ← Equiv.sum_comp (finProdFinEquiv : Fin 16 × Fin 1024 ≃ Fin 16384)]
  refine Finset.sum_congr rfl fun p _ => congrArg f (Fin.ext ?_)
  show 1024 * p.1.val + p.2.val = p.2.val + 1024 * p.1.val
  omega

/-- The arguments, as reals. -/
structure Args where
  q : Fin 16 → Fin 16384 → Fin 64 → ℝ
  k : Fin 16 → Fin 16384 → Fin 64 → ℝ
  v : Fin 16 → Fin 16384 → Fin 64 → ℝ
  cq : Fin 16 → Fin 16384 → ℝ
  ck : Fin 16 → Fin 16384 → ℝ
  dO : Fin 16 → Fin 16384 → Fin 64 → ℝ

namespace Args

variable (A : Args)

/-- A query's score of a key. -/
def score (b : Fin 16) (s n : Fin 16384) : ℝ := (∑ d : Fin 64, A.q b s d * A.k b n d) * (1 / 8) + A.cq b s - A.ck b n

/-- The output's cotangent against a value row. -/
def seen (b : Fin 16) (s n : Fin 16384) : ℝ := ∑ d : Fin 64, A.dO b s d * A.v b n d

variable (T : Fin 16 → Fin 16384 → ℝ)

/-- The score's exponential, less any number `T` of its row; the mask leaves the keys up to the query. -/
def e (b : Fin 16) (s n : Fin 16384) : ℝ := if n ≤ s then Real.exp (A.score b s n - T b s) else 0

def Z (b : Fin 16) (s : Fin 16384) : ℝ := ∑ n : Fin 16384, A.e T b s n

theorem e_nonneg (b : Fin 16) (s n : Fin 16384) : 0 ≤ A.e T b s n := by
  unfold e; split
  · exact (Real.exp_pos _).le
  · exact le_rfl

theorem Z_pos (b : Fin 16) (s : Fin 16384) : 0 < A.Z T b s :=
  Finset.sum_pos' (fun n _ => A.e_nonneg T b s n) ⟨s, Finset.mem_univ _, by unfold e; rw [if_pos (le_refl s)]; exact Real.exp_pos _⟩

/-- The softmax. -/
def y (b : Fin 16) (s n : Fin 16384) : ℝ := A.e T b s n / A.Z T b s

/-- The attention's output. -/
def out (b : Fin 16) (s : Fin 16384) (d : Fin 64) : ℝ := ∑ n : Fin 16384, A.y T b s n * A.v b n d

/-- The score's gradient, as softmax's derivative gives it. -/
def g (b : Fin 16) (s n : Fin 16384) : ℝ :=
  (A.seen b s n / A.Z T b s + -∑ j : Fin 16384, A.seen b s j * (1 / (A.Z T b s * A.Z T b s)) * A.e T b s j) * A.e T b s n

def dq (b : Fin 16) (s : Fin 16384) (d : Fin 64) : ℝ := ∑ n : Fin 16384, A.g T b s n * (1 / 8) * A.k b n d
def dk (b : Fin 16) (n : Fin 16384) (d : Fin 64) : ℝ := ∑ s : Fin 16384, A.g T b s n * (1 / 8) * A.q b s d
def dv (b : Fin 16) (n : Fin 16384) (d : Fin 64) : ℝ := ∑ s : Fin 16384, A.dO b s d * A.y T b s n
def dcq (b : Fin 16) (s : Fin 16384) : ℝ := ∑ n : Fin 16384, A.g T b s n
def dck (b : Fin 16) (n : Fin 16384) : ℝ := ∑ s : Fin 16384, -A.g T b s n

/-! ## The kernel's way -/

/-- The softmax from the logarithmic sum. -/
theorem exp_lse (b : Fin 16) (s n : Fin 16384) (h : n ≤ s) : Real.exp (A.score b s n - (T b s + Real.log (A.Z T b s))) = A.y T b s n := by
  rw [← sub_sub, Real.exp_sub, Real.exp_log (A.Z_pos T b s), y, e, if_pos h]

/-- The output's cotangent against the output. -/
theorem delta_eq (b : Fin 16) (s : Fin 16384) : ∑ d : Fin 64, A.dO b s d * A.out T b s d = ∑ n : Fin 16384, A.y T b s n * A.seen b s n := by
  unfold out seen
  simp only [Finset.mul_sum]
  rw [Finset.sum_comm]
  exact Finset.sum_congr rfl fun n _ => Finset.sum_congr rfl fun d _ => by ring

theorem g_eq (b : Fin 16) (s n : Fin 16384) : A.y T b s n * (A.seen b s n - ∑ d : Fin 64, A.dO b s d * A.out T b s d) = A.g T b s n := by
  rw [delta_eq, g]
  have hz := (A.Z_pos T b s).ne'
  have h : ∑ j : Fin 16384, A.seen b s j * (1 / (A.Z T b s * A.Z T b s)) * A.e T b s j = (∑ n : Fin 16384, A.y T b s n * A.seen b s n) / A.Z T b s := by
    rw [Finset.sum_div]
    refine Finset.sum_congr rfl fun j _ => ?_
    unfold y
    field_simp
  rw [h]
  unfold y
  field_simp
  ring

/-- What the kernel reads. -/
def heads : Heads where
  q b s d := A.q b s d
  k b s d := A.k b s d
  v b s d := A.v b s d
  o b s d := A.out T b s d
  dO b s d := A.dO b s d
  lse b s := ((T b s + Real.log (A.Z T b s) : ℝ) : EReal)
  cq b s := A.cq b s
  ck b s := A.ck b s

theorem weight_eq (b : Fin 16) (s n : Fin 16384) : (A.heads T).weight b s n = (A.y T b s n : EReal) := by
  unfold Heads.weight
  by_cases h : n ≤ s
  · rw [if_pos h, ← A.exp_lse T b s n h]
    have : (∑ d : Fin 64, (A.heads T).q b s d * eighth * (A.heads T).k b n d) + ((A.heads T).cq b s - (A.heads T).lse b s - (A.heads T).ck b n)
        = ((A.score b s n - (T b s + Real.log (A.Z T b s)) : ℝ) : EReal) := by
      simp only [heads, eighth, ← EReal.coe_mul, ← coe_sum, ← EReal.coe_sub, ← EReal.coe_add]
      congr 1
      unfold score
      rw [Finset.sum_mul]
      rw [Finset.sum_congr rfl fun d _ => show A.q b s d * (1 / 8) * A.k b n d = A.q b s d * A.k b n d * (1 / 8) by ring]
      ring
    rw [this]; rfl
  · rw [if_neg h, y, e, if_neg h, zero_div]; rfl

theorem grad_eq (b : Fin 16) (s n : Fin 16384) : (A.heads T).grad b s n = (A.g T b s n : EReal) := by
  unfold Heads.grad
  rw [weight_eq, ← g_eq]
  simp only [heads, ← EReal.coe_mul, ← coe_sum, ← EReal.coe_sub]
  rfl

theorem dq_eq (b : Fin 16) (s : Fin 16384) (d : Fin 64) : (A.heads T).dq b s d = (A.dq T b s d : EReal) := by
  unfold Heads.dq dq
  simp only [grad_eq]
  simp only [heads, eighth, ← EReal.coe_mul, ← coe_sum]
  rw [Finset.sum_mul]
  exact congrArg _ (Finset.sum_congr rfl fun n _ => by ring)

theorem dcq_eq (b : Fin 16) (s : Fin 16384) : (A.heads T).dcq b s = (A.dcq T b s : EReal) := by
  unfold Heads.dcq dcq
  simp only [grad_eq, ← coe_sum]

theorem dk_eq (b : Fin 16) (n : Fin 16384) (d : Fin 64) : (A.heads T).dk b n d = (A.dk T b n d : EReal) := by
  unfold Heads.dk dk
  simp only [grad_eq]
  simp only [heads, eighth, ← EReal.coe_mul, ← coe_sum]
  rw [sum_tiles fun s => A.q b s d * (1 / 8) * A.g T b s n]
  exact congrArg _ (Finset.sum_congr rfl fun n _ => by ring)

theorem dv_eq (b : Fin 16) (n : Fin 16384) (d : Fin 64) : (A.heads T).dv b n d = (A.dv T b n d : EReal) := by
  unfold Heads.dv dv
  simp only [weight_eq]
  simp only [heads, ← EReal.coe_mul, ← coe_sum]
  rw [sum_tiles fun s => A.dO b s d * A.y T b s n]

theorem dck_eq (b : Fin 16) (n : Fin 16384) : (A.heads T).dck b n = (A.dck T b n : EReal) := by
  unfold Heads.dck dck
  simp only [grad_eq, ← coe_sum, ← EReal.coe_neg, ← Finset.sum_neg_distrib]
  rw [sum_tiles fun s => -A.g T b s n]

end Args

end Cert.FlashMath
-- ==== Proof.FlashReference.lean ====
module

public import proofs.«01_k».proof.Proof.FlashMath
public import proofs.«01_k».proof.Proof.Gen.ReferenceIdeal.Read
public import Idealize.ShloMosaic.Lib.WordCmp
public import Idealize.ShloMosaic.Lib.IdealHost
public import Idealize.ShloMosaic.Lib.Pointwise

/-! What the reference computes from real arguments: the values of `FlashMath`. -/

@[expose] public section

set_option maxRecDepth 16384

noncomputable section

namespace Cert.ReferenceIdeal.Flash

open Cert.ReferenceIdeal Cert.ReferenceIdeal.Gen Cert.ReferenceIdeal.Read Cert.FlashMath
open Cert.KernelIdeal.Flash (tile eighth eighth_f32)
open Idealize.ShloMosaic hiding ix0 ix1 ix2 ix3 ix4 ix5
open Idealize.ShloMosaic.TcCoe
open Idealize.ShloMosaic.ValueIdx (ix0 ix1 ix2 ix3 ix4 ix5)
open scoped BigOperators

variable (A : Args)

/-- The arguments are these real numbers. -/
structure Reals (x0 x1 x2 : FVec Ideal S16x16384x64 .f32) (x3 x4 : FVec Ideal S16x16384 .f32) (x5 : FVec Ideal S16x16384x64 .f32) : Prop where
  q : ∀ b s d, x0 (ix3 b s d) = (A.q b s d : EReal)
  k : ∀ b s d, x1 (ix3 b s d) = (A.k b s d : EReal)
  v : ∀ b s d, x2 (ix3 b s d) = (A.v b s d : EReal)
  cq : ∀ b s, x3 (ix2 b s) = (A.cq b s : EReal)
  ck : ∀ b s, x4 (ix2 b s) = (A.ck b s : EReal)
  dO : ∀ b s d, x5 (ix3 b s d) = (A.dO b s d : EReal)

variable {A} {x0 x1 x2 : FVec Ideal S16x16384x64 .f32} {x3 x4 : FVec Ideal S16x16384 .f32} {x5 : FVec Ideal S16x16384x64 .f32} (h : Reals A x0 x1 x2 x3 x4 x5)

theorem zero_f32 : (FloatOps.ofBits .f32 0x00000000#32 : Ideal .f32) = (0 : EReal) := Ideal.ofBits_zero_f32
theorem one_f32 : (FloatOps.ofBits .f32 0x3F800000#32 : Ideal .f32) = ((1 : ℝ) : EReal) := by
  show Ideal.ofBits .f32 0x3F800000#32 = _
  simp [Ideal.ofBits, Ideal.ieee]
  rw [← EReal.coe_mul]; norm_num
theorem bottom_f32 : (FloatOps.ofBits .f32 0xFF800000#32 : Ideal .f32) = (⊥ : EReal) := by
  show Ideal.ofBits .f32 0xFF800000#32 = ⊥
  simp [Ideal.ofBits, Ideal.ieee]

/-- A comparison word chooses as its proposition does. -/
theorem choose (p : Prop) [Decidable p] (a b : EReal) : Scalar.select (BitVec.ofBool (decide p)) a b = if p then a else b := by
  by_cases h : p
  · rw [decide_eq_true h, if_pos h]; rfl
  · rw [decide_eq_false h, if_neg h]; rfl

/-- The mask leaves the keys up to the query. -/
theorem mask_at (b : Fin 16) (s n : Fin 16384) : val_main_v15_1 (F := Ideal) (ix3 b s n) = BitVec.ofBool (decide (n ≤ s)) := by
  simp only [val_main_v15_1_apply, val_main_v14_apply, val_main_v12_apply, val_main_v13_apply, val_main_v10_apply, val_main_v11_apply, val_main_v9_apply]
  have hs := s.isLt
  have hn := n.isLt
  show IntOp.cmpi CmpIPredicate.sle (BitVec.ofNat 32 n.val) (BitVec.ofNat 32 s.val) = _
  have e : ∀ x : Fin 16384, (BitVec.ofNat 32 x.val).toNat = x.val := fun x => by
    have := x.isLt
    rw [BitVec.toNat_ofNat]; exact Nat.mod_eq_of_lt (by omega)
  rw [WordCmp.cmpi_sle_of_lt (by rw [e]; omega) (by rw [e]; omega), e, e]
  rfl

include h

theorem products_at (b : Fin 16) (s n : Fin 16384) : val_main_v0 (F := Ideal) x0 x1 (ix3 b s n) = ((∑ d : Fin 64, A.q b s d * A.k b n d : ℝ) : EReal) := by
  rw [val_main_v0_apply, coe_sum]
  refine Finset.sum_congr rfl fun d _ => ?_
  rw [EReal.coe_mul, ← h.q, ← h.k]
  exact congrArg₂ (· * ·) (congrArg x0 (ValueIdx.eq_ix3 _)) (congrArg x1 (ValueIdx.eq_ix3 _))

theorem score_at (b : Fin 16) (s n : Fin 16384) : val_main_v8 (F := Ideal) x0 x1 x3 x4 (ix3 b s n) = (A.score b s n : EReal) := by
  have e3 : val_main_v4 (F := Ideal) x3 (ix3 b s n) = (A.cq b s : EReal) := by
    rw [val_main_v4_apply, val_main_v3_apply, ← h.cq]; exact congrArg x3 (ValueIdx.eq_ix2 _)
  have e4 : val_main_v7 (F := Ideal) x4 (ix3 b s n) = (A.ck b n : EReal) := by
    rw [val_main_v7_apply, val_main_v6_apply, ← h.ck]; exact congrArg x4 (ValueIdx.eq_ix2 _)
  have e1 : val_main_v1 (F := Ideal) (ix3 b s n) = eighth := by
    rw [val_main_v1_apply, val_main_cst_apply]; exact eighth_f32
  rw [val_main_v8_apply, val_main_v5_apply, val_main_v2_apply, products_at h, e1, e3, e4]
  rfl

theorem masked_at (b : Fin 16) (s n : Fin 16384) : val_main_v15_0 (F := Ideal) x0 x1 x3 x4 (ix3 b s n) = if n ≤ s then (A.score b s n : EReal) else ⊥ := by
  rw [val_main_v15_0_apply, mask_at, choose, score_at h, val_main_call0_v2_apply, val_main_call0_v0_apply, val_main_cst_0_apply, bottom_f32]

omit h in
/-- The largest of a list's numbers and a first one, against all of them. -/
theorem largest {ι : Type} (f : ι → EReal) : ∀ (L : List ι) (a : EReal), a ≠ ⊤ → (∀ i ∈ L, f i ≠ ⊤) →
    L.foldl (fun r i => max r (f i)) a ≠ ⊤ ∧ a ≤ L.foldl (fun r i => max r (f i)) a ∧ ∀ i ∈ L, f i ≤ L.foldl (fun r i => max r (f i)) a
  | [], a, ha, _ => ⟨ha, le_rfl, fun _ hi => absurd hi List.not_mem_nil⟩
  | j :: L, a, ha, hf => by
    have hm : max a (f j) ≠ ⊤ := by
      rcases max_choice a (f j) with e | e <;> rw [e]
      · exact ha
      · exact hf j List.mem_cons_self
    obtain ⟨h1, h2, h3⟩ := largest f L (max a (f j)) hm fun i hi => hf i (List.mem_cons_of_mem _ hi)
    refine ⟨h1, (le_max_left _ _).trans h2, fun i hi => ?_⟩
    rcases List.mem_cons.mp hi with e | e
    · subst e; exact (le_max_right _ _).trans h2
    · exact h3 i e

/-- The largest score of a row is a real number: no score is `⊤`, and the query's own is a real number. -/
theorem top_real (b : Fin 16) (s : Fin 16384) : ∃ T : ℝ, val_main_v16 (F := Ideal) x0 x1 x3 x4 (ix2 b s) = (T : EReal) := by
  have hl := largest (fun n => val_main_v15_0 (F := Ideal) x0 x1 x3 x4 (S16x16384x16384.rowMajor.symm n))
    ((List.finRange S16x16384x16384.numel).filter fun n => reducesTo_S16x16384x16384_S16x16384_d2.drop (S16x16384x16384.rowMajor.symm n) = ix2 b s) ⊥ bot_ne_top
    (fun n _ => by
      refine ((congrArg (val_main_v15_0 (F := Ideal) x0 x1 x3 x4) (ValueIdx.eq_ix3 (S16x16384x16384.rowMajor.symm n))).trans (masked_at h _ _ _)).trans_ne ?_
      split
      · exact EReal.coe_ne_top _
      · exact bot_ne_top)
  have hv : val_main_v16 (F := Ideal) x0 x1 x3 x4 (ix2 b s)
      = ((List.finRange S16x16384x16384.numel).filter fun n => reducesTo_S16x16384x16384_S16x16384_d2.drop (S16x16384x16384.rowMajor.symm n) = ix2 b s).foldl
        (fun r n => max r (val_main_v15_0 (F := Ideal) x0 x1 x3 x4 (S16x16384x16384.rowMajor.symm n))) ⊥ := by
    unfold val_main_v16 Host.reduce
    rw [val_main_cst_1_apply, bottom_f32]
    rfl
  rw [← hv] at hl
  have hself := hl.2.2 (S16x16384x16384.rowMajor (ix3 b s s)) (List.mem_filter.mpr ⟨List.mem_finRange _, decide_eq_true (by
    rw [Equiv.symm_apply_apply]
    exact funext fun a => Fin.ext (by match a with | ⟨0, _⟩ => rfl | ⟨1, _⟩ => rfl))⟩)
  rw [Equiv.symm_apply_apply, masked_at h, if_pos le_rfl] at hself
  exact ⟨_, (EReal.coe_toReal hl.1 (fun e => by rw [e] at hself; exact absurd (le_bot_iff.mp hself) (EReal.coe_ne_bot _))).symm⟩

variable {T : Fin 16 → Fin 16384 → ℝ} (hT : ∀ b s, val_main_v16 (F := Ideal) x0 x1 x3 x4 (ix2 b s) = (T b s : EReal))

omit h in
/-- A score less its row's number, exponentiated. -/
theorem exp_masked (A : Args) (T : Fin 16 → Fin 16384 → ℝ) (b : Fin 16) (s n : Fin 16384) :
    Ideal.exp ((if n ≤ s then (A.score b s n : EReal) else ⊥) - (T b s : EReal)) = (A.e T b s n : EReal) := by
  unfold Args.e
  split
  · rw [← EReal.coe_sub]; rfl
  · rw [EReal.bot_sub]; rfl

include hT

theorem e_at (b : Fin 16) (s n : Fin 16384) : val_main_v36 (F := Ideal) x0 x1 x3 x4 (ix3 b s n) = (A.e T b s n : EReal) := by
  have e : val_main_v34 (F := Ideal) x0 x1 x3 x4 (ix3 b s n) = (T b s : EReal) := by
    rw [val_main_v34_apply, val_main_v33_apply, val_main_v23_apply, val_main_v22_apply, val_main_cst_3_apply, bottom_f32, ← hT]
    exact (max_bot_left _).trans (congrArg _ (ValueIdx.eq_ix2 _))
  rw [val_main_v36_apply, val_main_v35_apply, masked_at h, e]
  exact exp_masked A T b s n

theorem Z_at (b : Fin 16) (s : Fin 16384) : val_main_v37 (F := Ideal) x0 x1 x3 x4 (ix2 b s) = (A.Z T b s : EReal) := by
  rw [val_main_v37_apply, val_main_cst_9_apply, zero_f32, zero_add, Args.Z, coe_sum]
  exact Finset.sum_congr rfl fun n _ => (congrArg _ (ValueIdx.eq_ix3 _)).trans (e_at h hT b s n)

theorem Zc_at (b : Fin 16) (s : Fin 16384) : val_main_v38 (F := Ideal) x0 x1 x3 x4 (ix3 b s (0 : Fin 1)) = (A.Z T b s : EReal) := by
  rw [val_main_v38_apply]
  exact (congrArg _ (ValueIdx.eq_ix2 _)).trans (Z_at h hT b s)

omit h hT in
theorem div_real {x z : ℝ} (hz : 0 < z) : Ideal.div (x : EReal) (z : EReal) = ((x / z : ℝ) : EReal) := by
  rw [Ideal.div_coe hz.ne', ← EReal.coe_mul, mul_one_div]

theorem y_at (b : Fin 16) (s n : Fin 16384) : val_main_v40 (F := Ideal) x0 x1 x3 x4 (ix3 b s n) = (A.y T b s n : EReal) := by
  have e : val_main_v39 (F := Ideal) x0 x1 x3 x4 (ix3 b s n) = (A.Z T b s : EReal) := by
    rw [val_main_v39_apply]
    exact (congrArg _ (ValueIdx.eq_ix3 _)).trans (Zc_at h hT b s)
  rw [val_main_v40_apply, e_at h hT, e]
  exact div_real (A.Z_pos T b s)

theorem out_at (b : Fin 16) (s : Fin 16384) (d : Fin 64) : val_main_v44 (F := Ideal) x0 x1 x2 x3 x4 (ix3 b s d) = (A.out T b s d : EReal) := by
  rw [val_main_v44_apply, Args.out, coe_sum]
  refine Finset.sum_congr rfl fun n _ => ?_
  rw [EReal.coe_mul, ← h.v, ← y_at h hT]
  exact congrArg₂ (· * ·) (congrArg _ (ValueIdx.eq_ix3 _)) (congrArg x2 (ValueIdx.eq_ix3 _))

omit hT in
theorem seen_at (b : Fin 16) (s n : Fin 16384) : val_main_v47 (F := Ideal) x2 x5 (ix3 b s n) = (A.seen b s n : EReal) := by
  rw [val_main_v47_apply, Args.seen, coe_sum]
  refine Finset.sum_congr rfl fun d _ => ?_
  rw [EReal.coe_mul, ← h.v, ← h.dO]
  exact congrArg₂ (· * ·) (congrArg x5 (ValueIdx.eq_ix3 _)) (congrArg x2 (ValueIdx.eq_ix3 _))

theorem weighted_at (b : Fin 16) (s n : Fin 16384) :
    val_main_v50 (F := Ideal) x0 x1 x2 x3 x4 x5 (ix3 b s n) = ((A.seen b s n * (1 / (A.Z T b s * A.Z T b s)) * A.e T b s n : ℝ) : EReal) := by
  have e : val_main_v48 (F := Ideal) x0 x1 x3 x4 (ix3 b s n) = ((1 / (A.Z T b s * A.Z T b s) : ℝ) : EReal) := by
    rw [val_main_v48_apply]
    refine (congrArg _ (ValueIdx.eq_ix3 _)).trans (b := val_main_v43 (F := Ideal) x0 x1 x3 x4 (ix3 b s (0 : Fin 1))) ?_
    rw [val_main_v43_apply, val_main_v42_apply, val_main_cst_10_apply, one_f32, val_main_v41_apply, Zc_at h hT]
    have hz := A.Z_pos T b s
    exact (congrArg (Ideal.div _) (EReal.coe_mul _ _).symm).trans (div_real (mul_pos hz hz))
  rw [val_main_v50_apply, val_main_v49_apply, seen_at h, e, e_at h hT]
  rfl

theorem mean_at (b : Fin 16) (s : Fin 16384) : val_main_v56 (F := Ideal) x0 x1 x2 x3 x4 x5 (ix2 b s)
    = ((-∑ j : Fin 16384, A.seen b s j * (1 / (A.Z T b s * A.Z T b s)) * A.e T b s j : ℝ) : EReal) := by
  rw [val_main_v56_apply, val_main_cst_12_apply, zero_f32, zero_add, Fin.sum_univ_one, val_main_v53_apply, val_main_v52_apply, EReal.coe_neg, coe_sum]
  refine congrArg (fun x : EReal => -x) ((congrArg _ (a₂ := ix2 b s) (funext fun a => Fin.ext ?_)).trans ?_)
  · have hs := s.isLt
    match a with
    | ⟨0, _⟩ => show ((b.val * 16384 + s.val) * 1 + 0) / 16384 = b.val; omega
    | ⟨1, _⟩ => show ((b.val * 16384 + s.val) * 1 + 0) % 16384 = s.val; omega
  · rw [val_main_v51_apply, val_main_cst_11_apply, zero_f32, zero_add]
    exact Finset.sum_congr rfl fun n _ => (congrArg _ (ValueIdx.eq_ix3 _)).trans (weighted_at h hT b s n)

theorem g_at (b : Fin 16) (s n : Fin 16384) : val_main_v60 (F := Ideal) x0 x1 x2 x3 x4 x5 (ix3 b s n) = (A.g T b s n : EReal) := by
  have e1 : val_main_v54 (F := Ideal) x0 x1 x3 x4 (ix3 b s n) = (A.Z T b s : EReal) := by
    rw [val_main_v54_apply]
    exact (congrArg _ (ValueIdx.eq_ix3 _)).trans (Zc_at h hT b s)
  have e2 : val_main_v57 (F := Ideal) x0 x1 x2 x3 x4 x5 (ix3 b s n) = ((-∑ j : Fin 16384, A.seen b s j * (1 / (A.Z T b s * A.Z T b s)) * A.e T b s j : ℝ) : EReal) := by
    rw [val_main_v57_apply]
    exact (congrArg _ (ValueIdx.eq_ix2 _)).trans (mean_at h hT b s)
  rw [val_main_v60_apply, mask_at, choose, val_main_v59_apply, val_main_v58_apply, val_main_v55_apply, seen_at h, e1, e2, e_at h hT, val_main_call1_v0_apply, val_main_call1_cst_apply, zero_f32]
  split
  · refine (congrArg (fun x : EReal => (x + _) * _) (div_real (A.Z_pos T b s))).trans ?_
    rfl
  · next hn => rw [Args.g, Args.e, if_neg hn, mul_zero]; rfl

theorem scaled_at (b : Fin 16) (s n : Fin 16384) : val_main_v69 (F := Ideal) x0 x1 x2 x3 x4 x5 (ix3 b s n) = ((A.g T b s n * (1 / 8) : ℝ) : EReal) := by
  rw [val_main_v69_apply, g_at h hT, val_main_v68_apply, val_main_cst_17_apply]
  exact (congrArg (fun x : EReal => (A.g T b s n : EReal) * x) eighth_f32).trans rfl

/-! ## The results -/

theorem dq_at (b : Fin 16) (s : Fin 16384) (d : Fin 64) : val_main_v72 (F := Ideal) x0 x1 x2 x3 x4 x5 (ix3 b s d) = (A.dq T b s d : EReal) := by
  rw [val_main_v72_apply]
  refine Eq.trans (b := val_main_v71 (F := Ideal) x0 x1 x2 x3 x4 x5 (ix3 b s d)) rfl ?_
  rw [val_main_v71_apply, Args.dq, coe_sum]
  refine Finset.sum_congr rfl fun n _ => ?_
  rw [EReal.coe_mul, ← h.k, ← scaled_at h hT]
  exact congrArg₂ (· * ·) (congrArg _ (ValueIdx.eq_ix3 _)) (congrArg x1 (ValueIdx.eq_ix3 _))

theorem dkRow_at (b : Fin 16) (n : Fin 16384) (d : Fin 64) : val_main_v70 (F := Ideal) x0 x1 x2 x3 x4 x5 (ix3 b n d) = (A.dk T b n d : EReal) := by
  rw [val_main_v70_apply, Args.dk, coe_sum]
  refine Finset.sum_congr rfl fun s _ => ?_
  rw [EReal.coe_mul, ← h.q, ← scaled_at h hT]
  exact congrArg₂ (· * ·) (congrArg _ (ValueIdx.eq_ix3 _)) (congrArg x0 (ValueIdx.eq_ix3 _))

theorem dvRow_at (b : Fin 16) (n : Fin 16384) (d : Fin 64) : val_main_v46 (F := Ideal) x0 x1 x3 x4 x5 (ix3 b n d) = (A.dv T b n d : EReal) := by
  rw [val_main_v46_apply, val_main_v45_apply, Args.dv, coe_sum]
  refine Finset.sum_congr rfl fun s _ => ?_
  rw [EReal.coe_mul, ← h.dO, ← y_at h hT]
  exact congrArg₂ (· * ·) (congrArg x5 (ValueIdx.eq_ix3 _)) (congrArg _ (ValueIdx.eq_ix3 _))

theorem dk_at (b j : Fin 16) (d : Fin 64) (n : Fin 1024) : val_main_v75 (F := Ideal) x0 x1 x2 x3 x4 x5 (ix4 b j d n) = (A.dk T b (tile j n) d : EReal) := by
  rw [val_main_v75_apply, val_main_v74_apply]
  refine (congrArg _ (a₂ := ix3 b (tile j n) d) (funext fun a => Fin.ext ?_)).trans (dkRow_at h hT b (tile j n) d)
  have h1 := b.isLt; have h2 := j.isLt; have h3 := d.isLt; have h4 := n.isLt
  match a with
  | ⟨0, _⟩ => show (((b.val * 16 + j.val) * 1024 + n.val) * 64 + d.val) / 1048576 = b.val; omega
  | ⟨1, _⟩ => show (((b.val * 16 + j.val) * 1024 + n.val) * 64 + d.val) / 64 % 16384 = 1024 * j.val + n.val; omega
  | ⟨2, _⟩ => show (((b.val * 16 + j.val) * 1024 + n.val) * 64 + d.val) % 64 = d.val; omega

theorem dv_at (b j : Fin 16) (d : Fin 64) (n : Fin 1024) : val_main_v77 (F := Ideal) x0 x1 x3 x4 x5 (ix4 b j d n) = (A.dv T b (tile j n) d : EReal) := by
  rw [val_main_v77_apply, val_main_v76_apply]
  refine (congrArg _ (a₂ := ix3 b (tile j n) d) (funext fun a => Fin.ext ?_)).trans (dvRow_at h hT b (tile j n) d)
  have h1 := b.isLt; have h2 := j.isLt; have h3 := d.isLt; have h4 := n.isLt
  match a with
  | ⟨0, _⟩ => show (((b.val * 16 + j.val) * 1024 + n.val) * 64 + d.val) / 1048576 = b.val; omega
  | ⟨1, _⟩ => show (((b.val * 16 + j.val) * 1024 + n.val) * 64 + d.val) / 64 % 16384 = 1024 * j.val + n.val; omega
  | ⟨2, _⟩ => show (((b.val * 16 + j.val) * 1024 + n.val) * 64 + d.val) % 64 = d.val; omega

theorem dcq_at (b : Fin 16) (s : Fin 16384) : val_main_v73 (F := Ideal) x0 x1 x2 x3 x4 x5 (ix3 b s (0 : Fin 1)) = (A.dcq T b s : EReal) := by
  have h1 := b.isLt; have h2 := s.isLt
  rw [val_main_v73_apply]
  refine (congrArg _ (a₂ := ix2 b s) (funext fun a => Fin.ext ?_)).trans ?_
  · match a with
    | ⟨0, _⟩ => show ((b.val * 16384 + s.val) * 1 + 0) / 16384 = b.val; omega
    | ⟨1, _⟩ => show ((b.val * 16384 + s.val) * 1 + 0) % 16384 = s.val; omega
  rw [val_main_v67_apply, val_main_cst_16_apply, zero_f32, zero_add, Fin.sum_univ_one, val_main_v66_apply]
  refine (congrArg _ (a₂ := ix2 b s) (funext fun a => Fin.ext ?_)).trans ?_
  · match a with
    | ⟨0, _⟩ => show ((b.val * 16384 + s.val) * 1 + 0) / 16384 = b.val; omega
    | ⟨1, _⟩ => show ((b.val * 16384 + s.val) * 1 + 0) % 16384 = s.val; omega
  rw [val_main_v65_apply, val_main_cst_15_apply, zero_f32, zero_add, Args.dcq, coe_sum]
  exact Finset.sum_congr rfl fun n _ => (congrArg _ (ValueIdx.eq_ix3 _)).trans (g_at h hT b s n)

theorem dck_at (b j : Fin 16) (n : Fin 1024) : val_main_v78 (F := Ideal) x0 x1 x2 x3 x4 x5 (ix4 b j (0 : Fin 1) n) = (A.dck T b (tile j n) : EReal) := by
  have h1 := b.isLt; have h2 := j.isLt; have h4 := n.isLt
  rw [val_main_v78_apply]
  refine (congrArg _ (a₂ := ix2 b (tile j n)) (funext fun a => Fin.ext ?_)).trans ?_
  · match a with
    | ⟨0, _⟩ => show (((b.val * 16 + j.val) * 1 + 0) * 1024 + n.val) / 16384 = b.val; omega
    | ⟨1, _⟩ => show (((b.val * 16 + j.val) * 1 + 0) * 1024 + n.val) % 16384 = 1024 * j.val + n.val; omega
  generalize tile j n = k
  have h2 := k.isLt
  rw [val_main_v64_apply, val_main_cst_14_apply, zero_f32, zero_add, Fin.sum_univ_one, val_main_v63_apply]
  refine (congrArg _ (a₂ := ix2 b k) (funext fun a => Fin.ext ?_)).trans ?_
  · match a with
    | ⟨0, _⟩ => show ((b.val * 1 + 0) * 16384 + k.val) / 16384 = b.val; omega
    | ⟨1, _⟩ => show ((b.val * 1 + 0) * 16384 + k.val) % 16384 = k.val; omega
  rw [val_main_v62_apply, val_main_cst_13_apply, zero_f32, zero_add, Args.dck, coe_sum]
  refine Finset.sum_congr rfl fun s _ => ?_
  rw [val_main_v61_apply, EReal.coe_neg, ← g_at h hT]
  exact congrArg (fun x : EReal => -x) (congrArg _ (ValueIdx.eq_ix3 _))

end Cert.ReferenceIdeal.Flash
-- ==== Proof.FlashEqual.lean ====
module

public import proofs.«01_k».proof.Defs
public import proofs.«01_k».proof.Proof.FlashHost
public import proofs.«01_k».proof.Proof.FlashReference
public import proofs.«01_k».proof.Proof.Gen.ReferenceIdeal
public import proofs.«01_k».proof.Proof.Gen.ReferenceIdeal.Run

/-!
  The attention's gradient: from finite arguments kernel and reference end with the same five arrays.
  The kernel's blockwise sums are those of `FlashResults`, the reference's sums those of `FlashReference`,
  and both are the real numbers of `FlashMath`.
-/

@[expose] public section

set_option maxRecDepth 16384

noncomputable section

namespace Cert.KernelIdeal.Flash

open Cert.KernelIdeal Cert.KernelIdeal.Gen
open Cert.ReferenceIdeal.Flash (Reals zero_f32 e_at out_at top_real)
open Cert.ReferenceIdeal.Read (val_main_v15_0 val_main_v16 val_main_v44)
open Cert.FlashMath
open Idealize.ShloMosaic hiding ix0 ix1 ix2 ix3 ix4 ix5
open Idealize.ShloMosaic.TcCoe Idealize.SL.Sem
open Idealize.ShloMosaic.ValueIdx (ix0 ix1 ix2 ix3 ix4 ix5)
open scoped BigOperators

/-! ## What the kernel reads, from real arguments -/

/-- A row's number laid as a column. -/
theorem column_at (x : Vec Ideal S16x16384 .f32) (b : Fin 16) (s : Fin 16384) :
    broadcastInDim S16x16384x1 ![0, 1] bcast_S16x16384_S16x16384x1_0_1 x (ix3 b s (0 : Fin 1)) = x (ix2 b s) :=
  broadcastInDim_apply _ bcast_S16x16384_S16x16384x1_0_1 x _ (ix2 b s) (fun a => match a with
    | ⟨0, _⟩ => by show b.val = if (16 : Nat) = 1 then 0 else b.val; rw [if_neg (by decide)]
    | ⟨1, _⟩ => by show s.val = if (16384 : Nat) = 1 then 0 else s.val; rw [if_neg (by decide)])

/-- A column repeated along the keys. -/
theorem along_at (x : Vec Ideal S16x16384x1 .f32) (b : Fin 16) (s n : Fin 16384) :
    broadcastInDim S16x16384x16384 ![0, 1, 2] bcast_S16x16384x1_S16x16384x16384_0_1_2 x (ix3 b s n) = x (ix3 b s (0 : Fin 1)) :=
  broadcastInDim_apply _ bcast_S16x16384x1_S16x16384x16384_0_1_2 x _ (ix3 b s (0 : Fin 1)) (fun a => match a with
    | ⟨0, _⟩ => by show b.val = if (16 : Nat) = 1 then 0 else b.val; rw [if_neg (by decide)]
    | ⟨1, _⟩ => by show s.val = if (16384 : Nat) = 1 then 0 else s.val; rw [if_neg (by decide)]
    | ⟨2, _⟩ => by show (0 : Nat) = if (1 : Nat) = 1 then 0 else n.val; rw [if_pos rfl])

/-- The host's sum over the keys. -/
theorem keySum_at (x : Vec Ideal S16x16384x16384 .f32) (b : Fin 16) (s : Fin 16384) :
    Host.reduceAdd x (constant (F := Ideal) S_ .f32 0x00000000#32) reducesTo_S16x16384x16384_S16x16384_d2 h_S_ (ix2 b s) = ∑ n : Fin 16384, x (ix3 b s n) := by
  simp only [Host.reduceAdd, Ideal.hostReduceAdd_def]
  rw [Ideal.hostReduceAdd_single reducesTo_S16x16384x16384_S16x16384_d2 (by decide)]
  refine (congrArg₂ (· + ·) (zero_f32) (Finset.sum_congr rfl fun k _ => ?_)).trans (zero_add _)
  exact congrArg x (funext fun a => Fin.ext (by match a with | ⟨0, _⟩ => rfl | ⟨1, _⟩ => rfl | ⟨2, _⟩ => rfl))

theorem addLog_at (x y : Vec Ideal S16x16384 .f32) (b : Fin 16) (s : Fin 16384) :
    (addf (broadcastInDim S16x16384x1 ![0, 1] bcast_S16x16384_S16x16384x1_0_1 x) (Host.log (broadcastInDim S16x16384x1 ![0, 1] bcast_S16x16384_S16x16384x1_0_1 y)) : FVec Ideal S16x16384x1 .f32) (ix3 b s (0 : Fin 1))
      = (x (ix2 b s) + Ideal.log (y (ix2 b s)) : EReal) :=
  Eq.trans (b := (broadcastInDim S16x16384x1 ![0, 1] bcast_S16x16384_S16x16384x1_0_1 x (ix3 b s (0 : Fin 1)) : EReal)
      + Ideal.log (broadcastInDim S16x16384x1 ![0, 1] bcast_S16x16384_S16x16384x1_0_1 y (ix3 b s (0 : Fin 1)))) rfl (by rw [column_at, column_at])

theorem expLess_at (S : Vec Ideal S16x16384x16384 .f32) (top : Vec Ideal S16x16384 .f32) (b : Fin 16) (s n : Fin 16384) :
    (Host.exp (subf S (broadcastInDim S16x16384x16384 ![0, 1, 2] bcast_S16x16384x1_S16x16384x16384_0_1_2
        (broadcastInDim S16x16384x1 ![0, 1] bcast_S16x16384_S16x16384x1_0_1 top))) : FVec Ideal S16x16384x16384 .f32) (ix3 b s n) = Ideal.exp (S (ix3 b s n) - top (ix2 b s)) :=
  Eq.trans (b := Ideal.exp (S (ix3 b s n) - broadcastInDim S16x16384x16384 ![0, 1, 2] bcast_S16x16384x1_S16x16384x16384_0_1_2
        (broadcastInDim S16x16384x1 ![0, 1] bcast_S16x16384_S16x16384x1_0_1 top) (ix3 b s n))) rfl (by rw [along_at, column_at])

theorem logSum_at (S : Vec Ideal S16x16384x16384 .f32) (top : Vec Ideal S16x16384 .f32) (b : Fin 16) (s : Fin 16384) :
    logSum S top (ix3 b s (0 : Fin 1)) = top (ix2 b s) + Ideal.log (∑ n : Fin 16384, Ideal.exp (S (ix3 b s n) - top (ix2 b s))) := by
  unfold logSum
  rw [addLog_at, keySum_at]
  exact congrArg (fun z : EReal => top (ix2 b s) + Ideal.log z) (Finset.sum_congr rfl fun n _ => expLess_at S top b s n)

variable {m : (ℓ : Loc nD τ sig) → Buf (Elt Ideal) ℓ} {c : Dev nD} {A : Args}

section
variable (h : Reals A (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))
variable {T : Fin 16 → Fin 16384 → ℝ}
  (hT : ∀ b s, val_main_v16 (F := Ideal) (m ((c : Thread nD τ).loc main_arg0)) (m ((c : Thread nD τ).loc main_arg1)) (m ((c : Thread nD τ).loc main_arg3)) (m ((c : Thread nD τ).loc main_arg4)) (ix2 b s) = (T b s : EReal))
include h hT

theorem lse_at (b : Fin 16) (s : Fin 16384) : V m c main_v24 (ix3 b s (0 : Fin 1)) = ((T b s + Real.log (A.Z T b s) : ℝ) : EReal) := by
  rw [V_lse, logSum_at, hT]
  have e : ∑ n : Fin 16384, Ideal.exp (val_main_v15_0 (F := Ideal) (m ((c : Thread nD τ).loc main_arg0)) (m ((c : Thread nD τ).loc main_arg1)) (m ((c : Thread nD τ).loc main_arg3)) (m ((c : Thread nD τ).loc main_arg4)) (ix3 b s n) - (T b s : EReal)) = (A.Z T b s : EReal) := by
    rw [Args.Z, coe_sum]
    refine Finset.sum_congr rfl fun n _ => ?_
    rw [Cert.ReferenceIdeal.Flash.masked_at h]
    exact Cert.ReferenceIdeal.Flash.exp_masked A T b s n
  rw [e]
  refine (congrArg ((T b s : EReal) + ·) (show Ideal.log (A.Z T b s : EReal) = ((Real.log (A.Z T b s) : ℝ) : EReal) from ?_)).trans (EReal.coe_add _ _).symm
  exact if_neg (not_le.mpr (A.Z_pos T b s))

/-- The kernel reads the numbers of the real arguments. -/
theorem reads : Reads m c (A.heads T) where
  q b s d := by rw [V_q]; exact h.q b s d
  k b s d := by rw [V_k]; exact h.k b s d
  v b s d := by rw [V_v]; exact h.v b s d
  dO b s d := by rw [V_dO]; exact h.dO b s d
  o b s d := by rw [V_o]; exact out_at h hT b s d
  qT b s d := by
    rw [V_qT]
    exact (transpose_apply [0, 2, 1] _ transposes_S16x16384x64_S16x64x16384_0_2_1 _ (ix3 b s d) (fun a => match a with
      | ⟨0, _⟩ => rfl | ⟨1, _⟩ => rfl | ⟨2, _⟩ => rfl)).trans (h.q b s d)
  dOT b s d := by
    rw [V_dOT]
    exact (transpose_apply [0, 2, 1] _ transposes_S16x16384x64_S16x64x16384_0_2_1 _ (ix3 b s d) (fun a => match a with
      | ⟨0, _⟩ => rfl | ⟨1, _⟩ => rfl | ⟨2, _⟩ => rfl)).trans (h.dO b s d)
  lse b s := lse_at h hT b s
  cq b s := by
    rw [V_cq]
    refine (shapeCast_apply _ shapeCasts_S16x16384_S16x16384x1 _ (ix2 b s) ?_).trans (h.cq b s)
    rewrite [Shape.rowMajor_val_two, Shape.rowMajor_val_three]
    show b.val * 16384 + s.val = (b.val * 16384 + s.val) * 1 + 0
    omega
  ck b j n := by
    rw [V_ck]
    refine (shapeCast_apply _ shapeCasts_S16x16384_S16x16x1x1024 _ (ix2 b (tile j n)) ?_).trans (h.ck b (tile j n))
    rewrite [Shape.rowMajor_val_two, Shape.rowMajor_val_four]
    show b.val * 16384 + (1024 * j.val + n.val) = ((b.val * 16 + j.val) * 1 + 0) * 1024 + n.val
    omega

end

/-! ## The two programs' results -/

/-- A number whose absolute value is below the largest is real. -/
theorem real_of {x : EReal} (e : FloatOps.cmpf (F := Ideal) .olt (max x (-x) : EReal) (FloatOps.ofBits .f32 0x7F800000#32 : Ideal .f32) = 1#1) :
    x = (x.toReal : EReal) := by
  have ht : (FloatOps.ofBits .f32 0x7F800000#32 : Ideal .f32) = (⊤ : EReal) := by
    show Ideal.ofBits .f32 0x7F800000#32 = ⊤
    simp [Ideal.ofBits, Ideal.ieee]
  rw [ht] at e
  have hlt : max x (-x) < ⊤ := by
    by_contra hn
    have e' : BitVec.ofBool (decide (max x (-x) < ⊤)) = 1#1 := e
    rw [decide_eq_false hn] at e'
    exact absurd e' (by decide)
  refine (EReal.coe_toReal (fun h => ?_) fun h => ?_).symm
  · rw [h] at hlt; exact absurd hlt (by simp)
  · rw [h] at hlt; exact absurd hlt (by simp)

/-- The real numbers of the arguments. -/
def argsOf (m : (ℓ : Loc nD τ sig) → Buf (Elt Ideal) ℓ) (c : Dev nD) : Args where
  q b s d := (m ((c : Thread nD τ).loc main_arg0) (ix3 b s d) : EReal).toReal
  k b s d := (m ((c : Thread nD τ).loc main_arg1) (ix3 b s d) : EReal).toReal
  v b s d := (m ((c : Thread nD τ).loc main_arg2) (ix3 b s d) : EReal).toReal
  cq b s := (m ((c : Thread nD τ).loc main_arg3) (ix2 b s) : EReal).toReal
  ck b s := (m ((c : Thread nD τ).loc main_arg4) (ix2 b s) : EReal).toReal
  dO b s d := (m ((c : Thread nD τ).loc main_arg5) (ix3 b s d) : EReal).toReal

/-- The precondition's side conditions. -/
theorem finite_facts : Cert.Pre_finite.Facts := ⟨by decide, by decide⟩

theorem reals_of [Cert.Pre_finite.Facts] (hp : Cert.Pre_KernelIdeal_finite m) (c : Dev nD) :
    Reals (argsOf m c) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  obtain ⟨p0, p1, p2, p3, p4, p5⟩ := hp c
  exact ⟨fun b s d => real_of (congrFun p0 (ix3 b s d)), fun b s d => real_of (congrFun p1 (ix3 b s d)), fun b s d => real_of (congrFun p2 (ix3 b s d)),
    fun b s => real_of (congrFun p3 (ix2 b s)), fun b s => real_of (congrFun p4 (ix2 b s)), fun b s d => real_of (congrFun p5 (ix3 b s d))⟩

/-! ## The reference's arrays -/

section
variable {x0 x1 x2 : FVec Ideal S16x16384x64 .f32} {x3 x4 : FVec Ideal S16x16384 .f32} {x5 : FVec Ideal S16x16384x64 .f32} (h : Reals A x0 x1 x2 x3 x4 x5)
variable {T : Fin 16 → Fin 16384 → ℝ} (hT : ∀ b s, val_main_v16 (F := Ideal) x0 x1 x3 x4 (ix2 b s) = (T b s : EReal))
include h hT

theorem reference_dq : Cert.ReferenceIdeal.Read.val_main_v72 (F := Ideal) x0 x1 x2 x3 x4 x5 = dqArray (A.heads T) :=
  funext fun y => (congrArg _ (ValueIdx.eq_ix3 y)).trans ((Cert.ReferenceIdeal.Flash.dq_at h hT (y 0) (y 1) (y 2)).trans (A.dq_eq T (y 0) (y 1) (y 2)).symm)

theorem reference_dk : Cert.ReferenceIdeal.Read.val_main_v75 (F := Ideal) x0 x1 x2 x3 x4 x5 = dkArray (A.heads T) :=
  funext fun y => (congrArg _ (ValueIdx.eq_ix4 y)).trans ((Cert.ReferenceIdeal.Flash.dk_at h hT (y 0) (y 1) (y 2) (y 3)).trans (A.dk_eq T (y 0) (tile (y 1) (y 3)) (y 2)).symm)

theorem reference_dv : Cert.ReferenceIdeal.Read.val_main_v77 (F := Ideal) x0 x1 x3 x4 x5 = dvArray (A.heads T) :=
  funext fun y => (congrArg _ (ValueIdx.eq_ix4 y)).trans ((Cert.ReferenceIdeal.Flash.dv_at h hT (y 0) (y 1) (y 2) (y 3)).trans (A.dv_eq T (y 0) (tile (y 1) (y 3)) (y 2)).symm)

theorem reference_dcq : Cert.ReferenceIdeal.Read.val_main_v73 (F := Ideal) x0 x1 x2 x3 x4 x5 = dcqArray (A.heads T) :=
  funext fun y => (congrArg _ ((ValueIdx.eq_ix3 y).trans (congrArg (ix3 (y 0) (y 1)) (Subsingleton.elim (α := Fin 1) _ _)))).trans
    ((Cert.ReferenceIdeal.Flash.dcq_at h hT (y 0) (y 1)).trans (A.dcq_eq T (y 0) (y 1)).symm)

theorem reference_dck : Cert.ReferenceIdeal.Read.val_main_v78 (F := Ideal) x0 x1 x2 x3 x4 x5 = dckArray (A.heads T) :=
  funext fun y => (congrArg _ ((ValueIdx.eq_ix4 y).trans (congrArg (fun z => ix4 (y 0) (y 1) z (y 3)) (Subsingleton.elim (α := Fin 1) _ _)))).trans
    ((Cert.ReferenceIdeal.Flash.dck_at h hT (y 0) (y 1) (y 3)).trans (A.dck_eq T (y 0) (tile (y 1) (y 3))).symm)

end

section
variable {r : PUnit × MemSt nD τ sig (Elt Ideal)} (h : Pipeline.FramePost cfgs (dats (F := Ideal) m) 0 (V m) r) (c : Dev nD)
include h

theorem ends_dq : r.2.mem ((c.tc : Thread nD τ).loc main_v62_0) = (dats (F := Ideal) m 0 c).arrAt 10 cfg0.N := (h c).1 10
theorem ends_dcq : r.2.mem ((c.tc : Thread nD τ).loc main_v62_1) = (dats (F := Ideal) m 0 c).arrAt 11 cfg0.N := (h c).1 11
theorem ends_dk : r.2.mem ((c.tc : Thread nD τ).loc main_v62_2) = (dats (F := Ideal) m 0 c).arrAt 12 cfg0.N := (h c).1 12
theorem ends_dv : r.2.mem ((c.tc : Thread nD τ).loc main_v62_3) = (dats (F := Ideal) m 0 c).arrAt 13 cfg0.N := (h c).1 13
theorem ends_dck : r.2.mem ((c.tc : Thread nD τ).loc main_v62_4) = (dats (F := Ideal) m 0 c).arrAt 14 cfg0.N := (h c).1 14

end

/-- From finite arguments, kernel and reference end with the same five arrays. -/
theorem equal [Cert.Pre_finite.Facts] : Cert.algebraic_KernelIdeal_ReferenceIdeal_pre_finite := by
  intro m g m' g' hp hagree
  have hr := reals_of hp
  choose T hT using fun c => fun b s => top_real (hr c) b s
  refine ⟨fun c => dqArray ((argsOf m c).heads (T c)), fun c => dcqArray ((argsOf m c).heads (T c)), fun c => dkArray ((argsOf m c).heads (T c)),
    fun c => dvArray ((argsOf m c).heads (T c)), fun c => dckArray ((argsOf m c).heads (T c)), ?_, ?_⟩
  · refine (θ_run Cert.KernelIdeal.defs _ _).mono (fun r h c => ?_) (θ_run_and (run_main (F := Ideal) m g) (frame (F := Ideal) m g))
    have hw := reads (hr c) (hT c)
    exact ⟨(ends_dq h.1 c).trans (final_dq hw), (ends_dcq h.1 c).trans (final_dcq hw), (ends_dk h.1 c).trans (final_dk hw),
      (ends_dv h.1 c).trans (final_dv hw), (ends_dck h.1 c).trans (final_dck hw), h.2.1 c⟩
  · refine (θ_run Cert.ReferenceIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.ReferenceIdeal.Value.run (F := Ideal) m' g')
    · rw [Cert.ReferenceIdeal.Read.val_main_v72_eq, (hagree c).1, (hagree c).2.1, (hagree c).2.2.1, (hagree c).2.2.2.1, (hagree c).2.2.2.2.1, (hagree c).2.2.2.2.2]
      exact reference_dq (hr c) (hT c)
    · rw [Cert.ReferenceIdeal.Read.val_main_v73_eq, (hagree c).1, (hagree c).2.1, (hagree c).2.2.1, (hagree c).2.2.2.1, (hagree c).2.2.2.2.1, (hagree c).2.2.2.2.2]
      exact reference_dcq (hr c) (hT c)
    · rw [Cert.ReferenceIdeal.Read.val_main_v75_eq, (hagree c).1, (hagree c).2.1, (hagree c).2.2.1, (hagree c).2.2.2.1, (hagree c).2.2.2.2.1, (hagree c).2.2.2.2.2]
      exact reference_dk (hr c) (hT c)
    · rw [Cert.ReferenceIdeal.Read.val_main_v77_eq, (hagree c).1, (hagree c).2.1, (hagree c).2.2.2.1, (hagree c).2.2.2.2.1, (hagree c).2.2.2.2.2]
      exact reference_dv (hr c) (hT c)
    · rw [Cert.ReferenceIdeal.Read.val_main_v78_eq, (hagree c).1, (hagree c).2.1, (hagree c).2.2.1, (hagree c).2.2.2.1, (hagree c).2.2.2.2.1, (hagree c).2.2.2.2.2]
      exact reference_dck (hr c) (hT c)

end Cert.KernelIdeal.Flash

end
-- ==== Proof.GateMath.lean ====
/-
  The mathematics of the forget gate's gradient, free of both programs: the logistic factor in the two forms that the
  programs compute it in, sums over the tail of a row, and the host's windowed sum read as such a tail.
-/
module

public import Idealize.ShloMosaic.Lib.Pointwise
public import Idealize.ShloMosaic.Lib.IdealHost

@[expose] public section

set_option maxRecDepth 16384

noncomputable section

namespace Cert.GateMath

open Idealize.ShloMosaic
open scoped BigOperators

/-! ## The logistic factor -/

/-- The logistic function of `-u`, as `1 / (1 + e^u)`. -/
def sig (u : EReal) : EReal := Ideal.div 1 (1 + Ideal.exp u)

/-- `log (1 + e^x)` in the form that avoids overflow: `max x 0 + log1p (e^(-|x|))`. -/
def softplus (x : EReal) : EReal := max x 0 + Ideal.log1p (Ideal.exp (-max x (-x)))

/-- At a real number, `e^(x - log (1 + e^x))` is the logistic function of `x`. -/
theorem exp_sub_softplus_real (x : ℝ) :
    Real.exp (x - (max x 0 + Real.log (1 + Real.exp (-max x (-x))))) = 1 * (1 + Real.exp (-x))⁻¹ := by
  have hpos : 0 < 1 + Real.exp (-max x (-x)) := by positivity
  rw [Real.exp_sub, Real.exp_add, Real.exp_log hpos]
  rcases le_total 0 x with h | h
  · rw [max_eq_left h, max_eq_left (by linarith : -x ≤ x)]
    have := Real.exp_pos x
    field_simp
  · rw [max_eq_right h, max_eq_right (by linarith : x ≤ -x), Real.exp_zero, neg_neg, Real.exp_neg]
    have := Real.exp_pos x
    field_simp
    ring

theorem coe_max (a b : ℝ) : ((max a b : ℝ) : EReal) = max (a : EReal) b :=
  (EReal.coe_strictMono.monotone.map_max)

theorem softplus_coe (x : ℝ) :
    softplus x = ((max x 0 + Real.log (1 + Real.exp (-max x (-x))) : ℝ) : EReal) := by
  have hpos : ¬ 1 + Real.exp (-max x (-x)) ≤ 0 := not_le.mpr (by positivity)
  have e1 : (max (x : EReal) (-(x : EReal))) = ((max x (-x) : ℝ) : EReal) := by
    rw [coe_max, EReal.coe_neg]
  have e2 : (max (x : EReal) 0) = ((max x 0 : ℝ) : EReal) := by rw [coe_max, EReal.coe_zero]
  unfold softplus Ideal.log1p
  rw [e1, e2, ← EReal.coe_neg]
  show _ + Ideal.log (1 + ((Real.exp (-max x (-x)) : ℝ) : EReal)) = _
  rw [← EReal.coe_one, ← EReal.coe_add]
  show _ + (if _ then _ else _) = _
  rw [if_neg hpos, ← EReal.coe_add]

/-- The derivative of `log_sigmoid` as its two programs compute it: `e^(x - softplus x)`, an infinite `x` or
    `softplus x` counted as zero, is `1 / (1 + e^(-x))`, at every extended real `x`. -/
theorem exp_sub_softplus (x : EReal) :
    Ideal.exp ((if x = ⊤ then 0 else x) - (if softplus x = ⊤ then 0 else softplus x)) = sig (-x) := by
  induction x with
  | bot =>
    have h : softplus ⊥ = 0 := by
      unfold softplus Ideal.log1p
      rw [EReal.neg_bot, max_eq_right bot_le, max_eq_right bot_le, EReal.neg_top]
      show 0 + Ideal.log (1 + 0) = 0
      rw [add_zero, zero_add, ← EReal.coe_one]
      show (if _ then _ else _) = _
      rw [if_neg (by norm_num), Real.log_one, EReal.coe_zero]
    rw [h, if_neg bot_ne_top, if_neg EReal.zero_ne_top, sub_zero, sig, EReal.neg_bot]
    show (0 : EReal) = Ideal.div 1 (1 + ⊤)
    rw [Ideal.div, EReal.add_top_of_ne_bot (by exact EReal.coe_ne_bot 1), if_neg EReal.top_ne_zero, EReal.inv_top, mul_zero]
  | top =>
    have h : softplus ⊤ = ⊤ := by
      unfold softplus Ideal.log1p
      rw [max_eq_left le_top, max_eq_left le_top, EReal.neg_top]
      show ⊤ + Ideal.log (1 + 0) = ⊤
      rw [add_zero, ← EReal.coe_one]
      show ⊤ + (if _ then _ else _) = _
      rw [if_neg (by norm_num)]
      exact EReal.top_add_of_ne_bot (EReal.coe_ne_bot _)
    rw [h, if_pos rfl, sub_zero, sig, EReal.neg_top, ← EReal.coe_zero]
    show ((Real.exp 0 : ℝ) : EReal) = Ideal.div 1 (1 + (0 : EReal))
    rw [Real.exp_zero, add_zero, Ideal.div, if_neg one_ne_zero, EReal.coe_one, one_mul, ← EReal.coe_one, ← EReal.coe_inv, inv_one]
  | coe x =>
    rw [softplus_coe, if_neg (EReal.coe_ne_top _), if_neg (EReal.coe_ne_top _), ← EReal.coe_sub, sig, ← EReal.coe_neg]
    show ((Real.exp _ : ℝ) : EReal) = Ideal.div 1 (1 + ((Real.exp _ : ℝ) : EReal))
    rw [exp_sub_softplus_real, ← EReal.coe_one, ← EReal.coe_add, Ideal.div,
      if_neg (by rw [← EReal.coe_zero]; exact fun h => absurd (EReal.coe_injective h) (by positivity)), ← EReal.coe_inv, ← EReal.coe_mul]

/-! ## Sums over the tail of a row -/

/-- A row of `N` numbers as a function of every natural number, zero past its end. -/
def ext {N : ℕ} (f : Fin N → EReal) (s : ℕ) : EReal := if h : s < N then f ⟨s, h⟩ else 0

theorem ext_of_lt {N : ℕ} (f : Fin N → EReal) {s : ℕ} (h : s < N) : ext f s = f ⟨s, h⟩ := dif_pos h

/-- The sum of a row from position `p` to its end. -/
def tail {N : ℕ} (f : Fin N → EReal) (p : ℕ) : EReal := ∑ s ∈ Finset.Ico p N, ext f s

theorem tail_end {N : ℕ} (f : Fin N → EReal) : tail f N = 0 := by simp [tail]

theorem tail_zero {N : ℕ} (f : Fin N → EReal) : tail f 0 = ∑ s, f s := by
  unfold tail
  rw [← Finset.range_eq_Ico, ← Fin.sum_univ_eq_sum_range]
  exact Finset.sum_congr rfl fun s _ => ext_of_lt f s.isLt

/-- The tail from position `b + j`: the part of the `T` positions from `b` on that lie at or after it, and the tail
    behind those `T` positions. -/
theorem tail_block {N : ℕ} (f : Fin N → EReal) (b T j : ℕ) (hj : j ≤ T) (hb : b + T ≤ N) :
    (∑ k ∈ Finset.range T, if j ≤ k then ext f (b + k) else 0) + tail f (b + T) = tail f (b + j) := by
  unfold tail
  rw [← Finset.sum_Ico_consecutive (ext f) (by omega : b + j ≤ b + T) hb]
  refine congrArg (· + _) ?_
  rw [← Finset.sum_filter, Finset.sum_Ico_eq_sum_range, show b + T - (b + j) = T - j by omega]
  have : (Finset.range T).filter (fun k => j ≤ k) = Finset.Ico j T := by
    ext k; simp only [Finset.mem_filter, Finset.mem_range, Finset.mem_Ico]; omega
  rw [this, Finset.sum_Ico_eq_sum_range]
  exact Finset.sum_congr rfl fun k _ => by rw [Nat.add_assoc]

/-- All of a block of `T` positions from `b` on, and the tail behind it. -/
theorem tail_block_all {N : ℕ} (f : Fin N → EReal) (b T : ℕ) (hb : b + T ≤ N) :
    tail f (b + T) + (∑ k ∈ Finset.range T, ext f (b + k)) = tail f b := by
  have h := tail_block f b T 0 (Nat.zero_le _) hb
  simp only [Nat.zero_le, if_true, Nat.add_zero] at h
  rw [add_comm, h]

/-! ## The host's windowed sum over the rest of a row -/

theorem foldl_add_eq_sum {n : ℕ} (g : Fin n → EReal) (z : EReal) :
    (List.finRange n).foldl (fun r k => r + g k) z = z + ∑ k, g k := by
  have : ∀ (l : List (Fin n)) (z : EReal), l.foldl (fun r k => r + g k) z = z + (l.map g).sum := by
    intro l
    induction l with
    | nil => intro z; simp
    | cons a l ih => intro z; simp [ih, add_assoc]
  rw [this, ← List.ofFn_eq_map, List.sum_ofFn]

/-- A window of one row's whole length, padded behind the row by one less than that and moved by one position at a
    time, sums at position `j` the row from `j` to its end. -/
theorem reduceWindow_tail {A N M : ℕ} (hM : M + 1 = N) (x : (⟨2, ![A, N]⟩ : Shape).Idx → EReal)
    (h : (⟨2, ![A, N]⟩ : Shape).ReduceWindows (![1, N] : Fin 2 → Nat) ![1, 1] ![0, 0] ![0, M] ⟨2, ![A, N]⟩) (r : Fin A) (j : Fin N) :
    Ideal.hostReduceWindowAdd ![1, N] ![1, 1] ![0, 0] ![0, M] h x 0 (ix2 r j) = tail (fun s => x (ix2 r s)) j.val := by
  unfold Ideal.hostReduceWindowAdd Host.reduceWindow
  rw [foldl_add_eq_sum (n := (⟨2, ![1, N]⟩ : Shape).numel), zero_add]
  rw [← Equiv.sum_comp (⟨2, ![1, N]⟩ : Shape).rowMajor]
  rw [sum_idx2]
  rw [Fin.sum_univ_one]
  have hj := j.isLt
  have hr := r.isLt
  refine (Finset.sum_congr rfl (g := fun k : Fin N => ext (fun s => x (ix2 r s)) (j.val + k.val)) fun k _ => ?_).trans ?_
  · have hs : (⟨2, ![1, N]⟩ : Shape).rowMajor.symm ((⟨2, ![1, N]⟩ : Shape).rowMajor (ix2 (0 : Fin 1) k)) = ix2 (0 : Fin 1) k := Equiv.symm_apply_apply _ _
    have hs0 : ((⟨2, ![1, N]⟩ : Shape).rowMajor.symm ((⟨2, ![1, N]⟩ : Shape).rowMajor (ix2 (0 : Fin 1) k)) 0).val = 0 := by rw [hs]; rfl
    have hs1 : ((⟨2, ![1, N]⟩ : Shape).rowMajor.symm ((⟨2, ![1, N]⟩ : Shape).rowMajor (ix2 (0 : Fin 1) k)) 1).val = k.val := by rw [hs]; rfl
    dsimp only
    split
    · next hin =>
      have h1 := (hin 1).2
      change j.val * 1 + ((⟨2, ![1, N]⟩ : Shape).rowMajor.symm ((⟨2, ![1, N]⟩ : Shape).rowMajor (ix2 (0 : Fin 1) k)) 1).val - 0 < N at h1
      rw [hs1] at h1
      rw [ext_of_lt _ (by omega : j.val + k.val < N)]
      refine congrArg x (funext fun a => Fin.ext ?_)
      match a with
      | ⟨0, _⟩ =>
        show r.val * 1 + ((⟨2, ![1, N]⟩ : Shape).rowMajor.symm ((⟨2, ![1, N]⟩ : Shape).rowMajor (ix2 (0 : Fin 1) k)) 0).val - 0 = r.val
        rw [hs0]; omega
      | ⟨1, _⟩ =>
        show j.val * 1 + ((⟨2, ![1, N]⟩ : Shape).rowMajor.symm ((⟨2, ![1, N]⟩ : Shape).rowMajor (ix2 (0 : Fin 1) k)) 1).val - 0 = j.val + k.val
        rw [hs1]; omega
    · next hin =>
      rw [ext, dif_neg]
      intro hk
      refine hin fun a => ?_
      match a with
      | ⟨0, _⟩ =>
        show 0 ≤ r.val * 1 + ((⟨2, ![1, N]⟩ : Shape).rowMajor.symm ((⟨2, ![1, N]⟩ : Shape).rowMajor (ix2 (0 : Fin 1) k)) 0).val
          ∧ r.val * 1 + ((⟨2, ![1, N]⟩ : Shape).rowMajor.symm ((⟨2, ![1, N]⟩ : Shape).rowMajor (ix2 (0 : Fin 1) k)) 0).val - 0 < A
        rw [hs0]; omega
      | ⟨1, _⟩ =>
        show 0 ≤ j.val * 1 + ((⟨2, ![1, N]⟩ : Shape).rowMajor.symm ((⟨2, ![1, N]⟩ : Shape).rowMajor (ix2 (0 : Fin 1) k)) 1).val
          ∧ j.val * 1 + ((⟨2, ![1, N]⟩ : Shape).rowMajor.symm ((⟨2, ![1, N]⟩ : Shape).rowMajor (ix2 (0 : Fin 1) k)) 1).val - 0 < N
        rw [hs1]; omega
  rw [Fin.sum_univ_eq_sum_range (fun k => ext (fun s => x (ix2 r s)) (j.val + k)) N]
  unfold tail
  rw [Finset.sum_Ico_eq_sum_range, ← Finset.sum_subset (Finset.range_mono (Nat.sub_le N j.val))]
  intro k _ hk
  rw [ext, dif_neg]
  simp only [Finset.mem_range] at hk
  omega

/-! ## The gradient -/

/-- A row of the cumulated gates' cotangent, its two parts added. -/
def row (q k : FVec Ideal ⟨2, ![16, 16384]⟩ .f32) (r : Fin 16) (s : Fin 16384) : EReal := q (ix2 r s) + k (ix2 r s)

/-- A row of the gradient of the gate's pre-activation. -/
def grad (q k z : FVec Ideal ⟨2, ![16, 16384]⟩ .f32) (b : FVec Ideal ⟨2, ![16, 1]⟩ .f32) (r : Fin 16) (s : Fin 16384) : EReal :=
  tail (row q k r) s.val * sig (z (ix2 r s) + b (ix2 r 0))

/-- The gradient of the pre-activations, as an array. -/
def gradZ (q k z : FVec Ideal ⟨2, ![16, 16384]⟩ .f32) (b : FVec Ideal ⟨2, ![16, 1]⟩ .f32) : FVec Ideal ⟨2, ![16, 16384]⟩ .f32 :=
  fun i => grad q k z b (i 0) (i 1)

/-- The gradient of the bias: the gradient of the pre-activations summed along each row. -/
def gradB (q k z : FVec Ideal ⟨2, ![16, 16384]⟩ .f32) (b : FVec Ideal ⟨2, ![16, 1]⟩ .f32) : FVec Ideal ⟨2, ![16, 1]⟩ .f32 :=
  fun i => ∑ s, grad q k z b (i 0) s

end Cert.GateMath

end
-- ==== Proof.GateKernel.lean ====
/-
  What the forget gate's kernel computes: one block's values at an index, the carried tail sum after each grid point,
  and the two result arrays.
-/
module

public import proofs.«01_k».proof.Proof.Gen.Kernel2Ideal.Value
public import proofs.«01_k».proof.Proof.GateMath
public import Idealize.ShloMosaic.Lib.Pipeline.ValueKit
public import Idealize.ShloMosaic.Lib.WordCmp

@[expose] public section

set_option maxRecDepth 16384

noncomputable section

namespace Cert.Kernel2Ideal.Gate

open Cert.Kernel2Ideal Cert.Kernel2Ideal.Gen Cert.Kernel2Ideal.Value Cert.GateMath
open Idealize.ShloMosaic Idealize.ShloMosaic.TcCoe Idealize.SL.Sem
open Idealize.ShloMosaic.Pipeline (Dat)
open scoped BigOperators

/-! ## One block at an index -/

/-- A number times the 0/1 mask that compares two lanes. -/
theorem mask_mul (a : EReal) (k j : Fin 512) :
    a * FloatOps.sitofp (F := Ideal) FTy.f32 (BitVec.setWidth 32 (IntOp.cmpi CmpIPredicate.sge (BitVec.ofNat 32 k.val) (BitVec.ofNat 32 j.val)))
      = if j ≤ k then a else 0 := by
  have hk := k.isLt
  have hj := j.isLt
  rw [WordCmp.cmpi_sge_ofNat (by omega) (by omega)]
  show a * (((BitVec.setWidth 32 (BitVec.ofBool (decide (j.val ≤ k.val)))).toInt : ℝ) : EReal) = _
  by_cases h : j.val ≤ k.val
  · rw [decide_eq_true h, if_pos (Fin.le_def.mpr h)]
    simp
  · rw [decide_eq_false h, if_neg (fun q => h (Fin.le_def.mp q))]
    simp

theorem pay4_apply (v8 v9 : FVec Ideal S16x512 .f32) (v12 : FVec Ideal S16x1 .f32) (r : Fin 16) (j : Fin 512) :
    k0_pay4 (F := Ideal) v8 v9 v12 (ix2 r j)
      = (∑ k : Fin 512, if j ≤ k then v8 (ix2 r k) + v9 (ix2 r k) else 0) + v12 (ix2 r 0) := by
  unfold k0_pay4
  pointwise
  refine congrArg (· + _) (Finset.sum_congr rfl fun k _ => ?_)
  rw [mask_mul]

theorem pay5_apply (v8 v9 : FVec Ideal S16x512 .f32) (v12 : FVec Ideal S16x1 .f32) (r : Fin 16) :
    k0_pay5 (F := Ideal) v8 v9 v12 (ix2 r 0) = k0_pay4 (F := Ideal) v8 v9 v12 (ix2 r 0) := by
  unfold k0_pay5
  pointwise

theorem pay6_apply (v8 v9 : FVec Ideal S16x512 .f32) (v12 : FVec Ideal S16x1 .f32) (v19 : FVec Ideal S16x512 .f32) (v20 : FVec Ideal S16x1 .f32)
    (r : Fin 16) (j : Fin 512) :
    k0_pay6 (F := Ideal) v8 v9 v12 v19 v20 (ix2 r j) = k0_pay4 (F := Ideal) v8 v9 v12 (ix2 r j) * GateMath.sig (v19 (ix2 r j) + v20 (ix2 r 0)) := by
  unfold k0_pay6
  pointwise
  rw [GateMath.sig, zero_sub, zero_sub, neg_neg]

theorem pay1_apply (v32 : FVec Ideal S16x512 .f32) (v34 : FVec Ideal S16x1 .f32) (r : Fin 16) :
    k0_pay1 (F := Ideal) v32 v34 (ix2 r 0) = v34 (ix2 r 0) + ∑ k : Fin 512, v32 (ix2 r k) := by
  unfold k0_pay1
  pointwise

theorem zero2_apply (r : Fin 16) : k0_pay2 (F := Ideal) (ix2 r 0) = 0 := by
  unfold k0_pay2
  pointwise

theorem zero3_apply (r : Fin 16) : k0_pay3 (F := Ideal) (ix2 r 0) = 0 := by
  unfold k0_pay3
  pointwise

section
variable {F : FTy → Type} [FloatOps F]
variable (m : (ℓ : Loc nD τ sig) → Buf (Elt F) ℓ)

theorem idx : ∀ t : Fin cfg0.N, win0_0.index t = ![0, 31 - t.val] ∧ win0_1.index t = ![0, 31 - t.val]
    ∧ win0_2.index t = ![0, 31 - t.val] ∧ win0_3.index t = ![0, 0] ∧ win0_4.index t = ![0, 31 - t.val] ∧ win0_5.index t = ![0, 0] :=
  (by decide +kernel : ∀ t : Fin grid0.N, _)

theorem step_A (c : Dev nD) (t : Fin cfg0.N) (h : t.val % 32 = 0) :
    outsAt0 m c t.val t.isLt =
      (k0_pay6 (iblk m c 0 t) (iblk m c 1 t) k0_pay2 (iblk m c 2 t) (iblk m c 3 t),
       k0_pay1 (k0_pay6 (iblk m c 0 t) (iblk m c 1 t) k0_pay2 (iblk m c 2 t) (iblk m c 3 t)) k0_pay3,
       k0_pay5 (iblk m c 0 t) (iblk m c 1 t) k0_pay2) := by
  rw [outsAt0_A m c t h]
  refine Prod.ext ?_ (Prod.ext ?_ ?_)
  all_goals (dsimp only; frame_out)

theorem step_B (c : Dev nD) (t : Fin cfg0.N) (h : ¬t.val % 32 = 0) :
    outsAt0 m c t.val t.isLt =
      (k0_pay6 (iblk m c 0 t) (iblk m c 1 t) (outsAt0 m c (t.val - 1) (Nat.lt_of_le_of_lt (Nat.sub_le _ _) t.isLt)).2.2 (iblk m c 2 t) (iblk m c 3 t),
       k0_pay1 (k0_pay6 (iblk m c 0 t) (iblk m c 1 t) (outsAt0 m c (t.val - 1) (Nat.lt_of_le_of_lt (Nat.sub_le _ _) t.isLt)).2.2 (iblk m c 2 t) (iblk m c 3 t))
        (outsAt0 m c (t.val - 1) (Nat.lt_of_le_of_lt (Nat.sub_le _ _) t.isLt)).2.1,
       k0_pay5 (iblk m c 0 t) (iblk m c 1 t) (outsAt0 m c (t.val - 1) (Nat.lt_of_le_of_lt (Nat.sub_le _ _) t.isLt)).2.2) := by
  rw [outsAt0_B m c t h]
  refine Prod.ext ?_ (Prod.ext ?_ ?_)
  all_goals
    dsimp only; frame_out
    rw [show View.read (Elt F) (View.whole cc0_scratch0) ((Memref.isWhole_whole cc0_scratch0).unread (outsAt0 m c (t.val - 1) (Nat.lt_of_le_of_lt (Nat.sub_le _ _) t.isLt)).2.2)
        = (outsAt0 m c (t.val - 1) (Nat.lt_of_le_of_lt (Nat.sub_le _ _) t.isLt)).2.2 from (Memref.isWhole_whole cc0_scratch0).read_unread _]

/-! ## The blocks of the arguments -/

theorem blk0 (c : Dev nD) (t : Fin cfg0.N) (r : Fin 16) (j : Fin 512) (s : Fin 16384) (hs : s.val = (31 - t.val) * 512 + j.val) :
    iblk m c 0 t (ix2 r j) = m ((c : Thread nD τ).loc main_arg0) (ix2 r s) := by
  have ht : t.val < 32 := lt_of_lt_of_eq t.isLt N_0
  blk_point [iblk, V, idx t]

theorem blk1 (c : Dev nD) (t : Fin cfg0.N) (r : Fin 16) (j : Fin 512) (s : Fin 16384) (hs : s.val = (31 - t.val) * 512 + j.val) :
    iblk m c 1 t (ix2 r j) = m ((c : Thread nD τ).loc main_arg1) (ix2 r s) := by
  have ht : t.val < 32 := lt_of_lt_of_eq t.isLt N_0
  blk_point [iblk, V, idx t]

theorem blk2 (c : Dev nD) (t : Fin cfg0.N) (r : Fin 16) (j : Fin 512) (s : Fin 16384) (hs : s.val = (31 - t.val) * 512 + j.val) :
    iblk m c 2 t (ix2 r j) = m ((c : Thread nD τ).loc main_arg2) (ix2 r s) := by
  have ht : t.val < 32 := lt_of_lt_of_eq t.isLt N_0
  blk_point [iblk, V, idx t]

theorem blk3 (c : Dev nD) (t : Fin cfg0.N) (r : Fin 16) :
    iblk m c 3 t (ix2 r 0) = m ((c : Thread nD τ).loc main_arg3) (ix2 r 0) := by
  have ht : t.val < 32 := lt_of_lt_of_eq t.isLt N_0
  blk_point [iblk, V, idx t]

end

/-! ## After each grid point, over the extended reals -/

section
variable (m : (ℓ : Loc nD τ sig) → Buf (Elt Ideal) ℓ) (c : Dev nD)

/-- The four arguments: the two parts of the cumulated gates' cotangent, the pre-activation and the bias. -/
abbrev argQ : FVec Ideal S16x16384 .f32 := m ((c : Thread nD τ).loc main_arg0)
abbrev argK : FVec Ideal S16x16384 .f32 := m ((c : Thread nD τ).loc main_arg1)
abbrev argZ : FVec Ideal S16x16384 .f32 := m ((c : Thread nD τ).loc main_arg2)
abbrev argB : FVec Ideal S16x1 .f32 := m ((c : Thread nD τ).loc main_arg3)

/-- One block's tail sums, from the tail behind the block. -/
theorem pay4_block (t : Fin cfg0.N) (acc : FVec Ideal S16x1 .f32) (r : Fin 16) (j : Fin 512)
    (hacc : acc (ix2 r 0) = tail (row (argQ m c) (argK m c) r) ((31 - t.val) * 512 + 512)) :
    k0_pay4 (F := Ideal) (iblk m c 0 t) (iblk m c 1 t) acc (ix2 r j) = tail (row (argQ m c) (argK m c) r) ((31 - t.val) * 512 + j.val) := by
  have ht : t.val < 32 := lt_of_lt_of_eq t.isLt N_0
  rw [pay4_apply, hacc, ← tail_block (row (argQ m c) (argK m c) r) ((31 - t.val) * 512) 512 j.val (by omega) (by omega),
    ← Fin.sum_univ_eq_sum_range (fun k => if j.val ≤ k then ext (row (argQ m c) (argK m c) r) ((31 - t.val) * 512 + k) else 0)]
  refine congrArg (· + _) (Finset.sum_congr rfl fun k _ => ?_)
  have hk := k.isLt
  rw [ext_of_lt _ (by omega : (31 - t.val) * 512 + k.val < 16384), row, blk0 m c t r k ⟨_, by omega⟩ rfl, blk1 m c t r k ⟨_, by omega⟩ rfl]
  rfl

/-- One block of the gradient, from the tail behind the block. -/
theorem pay6_block (t : Fin cfg0.N) (acc : FVec Ideal S16x1 .f32) (r : Fin 16) (j : Fin 512)
    (hacc : acc (ix2 r 0) = tail (row (argQ m c) (argK m c) r) ((31 - t.val) * 512 + 512)) :
    k0_pay6 (F := Ideal) (iblk m c 0 t) (iblk m c 1 t) acc (iblk m c 2 t) (iblk m c 3 t) (ix2 r j)
      = ext (grad (argQ m c) (argK m c) (argZ m c) (argB m c) r) ((31 - t.val) * 512 + j.val) := by
  have ht : t.val < 32 := lt_of_lt_of_eq t.isLt N_0
  have hj := j.isLt
  rw [pay6_apply, pay4_block m c t acc r j hacc, ext_of_lt _ (by omega : (31 - t.val) * 512 + j.val < 16384), grad,
    blk2 m c t r j ⟨_, by omega⟩ rfl, blk3]

/-- One block's part of the bias gradient, behind the part of the blocks before. -/
theorem pay1_block (t : Fin cfg0.N) (acc : FVec Ideal S16x1 .f32) (b : FVec Ideal S16x1 .f32) (r : Fin 16)
    (hacc : acc (ix2 r 0) = tail (row (argQ m c) (argK m c) r) ((31 - t.val) * 512 + 512)) (hb : b (ix2 r 0) = tail (grad (argQ m c) (argK m c) (argZ m c) (argB m c) r) ((31 - t.val) * 512 + 512)) :
    k0_pay1 (F := Ideal) (k0_pay6 (F := Ideal) (iblk m c 0 t) (iblk m c 1 t) acc (iblk m c 2 t) (iblk m c 3 t)) b (ix2 r 0)
      = tail (grad (argQ m c) (argK m c) (argZ m c) (argB m c) r) ((31 - t.val) * 512) := by
  have ht : t.val < 32 := lt_of_lt_of_eq t.isLt N_0
  rw [pay1_apply, hb, ← tail_block_all (grad (argQ m c) (argK m c) (argZ m c) (argB m c) r) ((31 - t.val) * 512) 512 (by omega),
    ← Fin.sum_univ_eq_sum_range (fun k => ext (grad (argQ m c) (argK m c) (argZ m c) (argB m c) r) ((31 - t.val) * 512 + k))]
  exact congrArg (_ + ·) (Finset.sum_congr rfl fun k _ => pay6_block m c t acc r k hacc)

/-- What every point leaves: its block of the gradient, the bias gradient's sum so far, and the tail sum to carry. -/
def Holds (n : ℕ) (o : Vec Ideal S16x512 .f32 × Vec Ideal S16x1 .f32 × Vec Ideal S16x1 .f32) : Prop :=
  (∀ r j, o.1 (ix2 r j) = ext (grad (argQ m c) (argK m c) (argZ m c) (argB m c) r) ((31 - n) * 512 + j.val))
    ∧ (∀ r, o.2.1 (ix2 r 0) = tail (grad (argQ m c) (argK m c) (argZ m c) (argB m c) r) ((31 - n) * 512))
    ∧ ∀ r, o.2.2 (ix2 r 0) = tail (row (argQ m c) (argK m c) r) ((31 - n) * 512)

/-- A point's step: from what the tail behind its block is, what it leaves. -/
theorem holds_step (t : Fin cfg0.N) (acc b : FVec Ideal S16x1 .f32)
    (hacc : ∀ r, acc (ix2 r 0) = tail (row (argQ m c) (argK m c) r) ((31 - t.val) * 512 + 512))
    (hb : ∀ r, b (ix2 r 0) = tail (grad (argQ m c) (argK m c) (argZ m c) (argB m c) r) ((31 - t.val) * 512 + 512)) :
    Holds m c t.val (k0_pay6 (F := Ideal) (iblk m c 0 t) (iblk m c 1 t) acc (iblk m c 2 t) (iblk m c 3 t),
       k0_pay1 (F := Ideal) (k0_pay6 (F := Ideal) (iblk m c 0 t) (iblk m c 1 t) acc (iblk m c 2 t) (iblk m c 3 t)) b,
       k0_pay5 (F := Ideal) (iblk m c 0 t) (iblk m c 1 t) acc) :=
  ⟨fun r j => pay6_block m c t acc r j (hacc r), fun r => pay1_block m c t acc b r (hacc r) (hb r),
    fun r => (pay5_apply _ _ _ r).trans (pay4_block m c t acc r 0 (hacc r))⟩

theorem holds : ∀ (n : ℕ) (h : n < cfg0.N), Holds m c n (outsAt0 m c n h)
  | 0, h => by
    rw [step_A m c ⟨0, h⟩ rfl]
    exact holds_step m c ⟨0, h⟩ _ _ (fun r => (zero2_apply r).trans (tail_end _).symm) (fun r => (zero3_apply r).trans (tail_end _).symm)
  | n + 1, h => by
    have hN : n + 1 < 32 := lt_of_lt_of_eq h N_0
    have hB : ¬(⟨n + 1, h⟩ : Fin cfg0.N).val % 32 = 0 := by dsimp only; omega
    have ih := holds n (Nat.lt_of_succ_lt h)
    have e : (31 - (n + 1)) * 512 + 512 = (31 - n) * 512 := by omega
    rw [step_B m c ⟨n + 1, h⟩ hB]
    refine holds_step m c ⟨n + 1, h⟩ _ _ (fun r => ?_) (fun r => ?_)
    · dsimp only; rw [e]; exact ih.2.2 r
    · dsimp only; rw [e]; exact ih.2.1 r

/-! ## The two results -/

theorem final4 : (dats m 0 c).arrAt 4 cfg0.N = GateMath.gradZ (argQ m c) (argK m c) (argZ m c) (argB m c) := by
  refine (dats m 0 c).arrAt_eq_of_covers 4 (gradZ (argQ m c) (argK m c) (argZ m c) (argB m c)) (by decide +kernel) fun t hf y => ?_
  have ht : t.val < 32 := lt_of_lt_of_eq t.isLt N_0
  blk_simp [idx t]
  rw [after0_4, eq_ix2 y]
  have e0 : ((win0_4.blk t).view.emb (ix2 (y 0) (y 1))) 0 = y 0 := Fin.ext (by blk_simp [idx t])
  have e1 : (((win0_4.blk t).view.emb (ix2 (y 0) (y 1))) 1).val = (31 - t.val) * 512 + (y 1).val := by blk_simp [idx t]
  rw [(holds m c t.val t.isLt).1 (y 0) (y 1), gradZ, e0]
  have hy : (31 - t.val) * 512 + (y 1).val < 16384 := by idx_bounds y; omega
  rw [ext_of_lt _ hy]
  exact congrArg _ (Fin.ext e1.symm)

theorem final5 : (dats m 0 c).arrAt 5 cfg0.N = gradB (argQ m c) (argK m c) (argZ m c) (argB m c) := by
  refine (dats m 0 c).arrAt_eq_of_covers 5 (gradB (argQ m c) (argK m c) (argZ m c) (argB m c)) (by decide +kernel) fun t hf y => ?_
  have ht : t.val < 32 := lt_of_lt_of_eq t.isLt N_0
  have h31 : 31 - t.val = 0 := by have := (flush0_5 t).mp hf; omega
  blk_simp [idx t]
  rw [after0_5]
  have hy : y = (ix2 (y 0) 0 : S16x1.Idx) := (eq_ix2 y).trans (congrArg (ix2 (y 0)) (Subsingleton.elim (α := Fin 1) _ _))
  have e0 : ((win0_5.blk t).view.emb y) 0 = y 0 := Fin.ext (by blk_simp [idx t])
  have h := (holds m c t.val t.isLt).2.1 (y 0)
  rw [← hy, h31, Nat.zero_mul] at h
  rw [h, gradB, e0]
  exact tail_zero _

end

end Cert.Kernel2Ideal.Gate

end
-- ==== Proof.GateReference.lean ====
/-
  What the forget gate's reference computes: its two results as the gradient's mathematics.
-/
module

public import proofs.«01_k».proof.Proof.Gen.Reference2Ideal.Read
public import proofs.«01_k».proof.Proof.GateMath
public import Idealize.ShloMosaic.Lib.IdealHost

@[expose] public section

set_option maxRecDepth 16384

noncomputable section

namespace Cert.Reference2Ideal.Gate

open Cert.Reference2Ideal Cert.Reference2Ideal.Gen Cert.Reference2Ideal.Read Cert.GateMath
open Idealize.ShloMosaic Idealize.ShloMosaic.TcCoe Idealize.SL.Sem
open scoped BigOperators

variable (x0 x1 x2 : FVec Ideal S16x16384 .f32) (x3 : FVec Ideal S16x1 .f32)

/-- The bias spread over the rows, read at an index. -/
theorem v0_apply (r : Fin 16) (j : Fin 16384) : val_main_v0 (F := Ideal) x3 (ix2 r j) = x3 (ix2 r 0) := by
  rw [val_main_v0_apply]
  exact congrArg x3 (funext fun a => Fin.ext (by match a with | ⟨0, _⟩ => rfl | ⟨1, _⟩ => rfl))

/-- A comparison word chooses as its proposition does. -/
theorem select_ofBool (p : Prop) [Decidable p] (a b : EReal) : Scalar.select (BitVec.ofBool (decide p)) a b = if p then a else b := by
  by_cases h : p
  · rw [decide_eq_true h, if_pos h]; rfl
  · rw [decide_eq_false h, if_neg h]; rfl

/-- The derivative of `log_sigmoid`, as the reference computes it, is the logistic factor. -/
theorem v2_1_apply (r : Fin 16) (j : Fin 16384) :
    val_main_v2_1 (F := Ideal) x2 x3 (ix2 r j) = GateMath.sig (x2 (ix2 r j) + x3 (ix2 r 0)) := by
  have hz : (FloatOps.ofBits .f32 0x00000000#32 : Ideal .f32) = 0 := Ideal.ofBits_zero_f32
  have hi : (FloatOps.ofBits .f32 0x7F800000#32 : Ideal .f32) = (⊤ : EReal) := by
    show Ideal.ofBits .f32 0x7F800000#32 = ⊤
    simp [Ideal.ofBits, Ideal.ieee]
  have hx : val_main_call0_v0 (F := Ideal) x2 x3 (ix2 r j) = -(x2 (ix2 r j) + x3 (ix2 r 0)) := by
    rw [val_main_call0_v0_apply, val_main_v1_apply, v0_apply]; rfl
  have hs : val_main_call0_v1_0 (F := Ideal) x2 x3 (ix2 r j) = softplus (-(x2 (ix2 r j) + x3 (ix2 r 0))) := by
    simp only [val_main_call0_v1_0_apply, val_main_call0_call0_v4_apply, val_main_call0_call0_v3_apply, val_main_call0_call0_v2_apply,
      val_main_call0_call0_cst_apply, val_main_call0_call0_v11_apply, val_main_call0_call0_v1_apply, val_main_call0_call0_v0_apply,
      val_main_call0_call0_v10_apply, val_main_call0_call0_v9_apply, val_main_call0_call0_v8_apply, val_main_call0_call0_v7_apply, hx, hz]
    generalize -(x2 (ix2 r j) + x3 (ix2 r 0)) = u
    show Scalar.select (BitVec.ofBool (decide ((u - 0 : EReal) ≠ u - 0))) _ (max u 0 + Ideal.log1p (Ideal.exp (-max (u - 0 : EReal) (-(u - 0))))) = _
    rw [select_ofBool, if_neg (fun h => h rfl), sub_zero]
    rfl
  simp only [val_main_v2_1_apply, val_main_call0_call0_v21_apply, val_main_call0_call0_v16_apply, val_main_call0_call0_v14_apply,
    val_main_call0_call0_v13_apply, val_main_call0_call0_cst_0_apply, val_main_call0_call0_v15_apply, val_main_call0_call0_cst_1_apply,
    val_main_call0_call0_v20_apply, val_main_call0_call0_v18_apply, val_main_call0_call0_v17_apply, val_main_call0_call0_cst_2_apply,
    val_main_call0_call0_v19_apply, val_main_call0_call0_cst_3_apply, hx, hs, hz, hi]
  have h := exp_sub_softplus (-(x2 (ix2 r j) + x3 (ix2 r 0)))
  rw [neg_neg] at h
  rw [← h]
  show Ideal.exp (Scalar.select (BitVec.ofBool (decide _)) _ _ - Scalar.select (BitVec.ofBool (decide _)) _ _) = _
  rw [select_ofBool, select_ofBool]

/-- The cumulated sum's gradient: the row of cotangents summed from each position to the end. -/
theorem v5_apply (r : Fin 16) (j : Fin 16384) : val_main_v5 (F := Ideal) x0 x1 (ix2 r j) = tail (row x0 x1 r) j.val := by
  unfold val_main_v5 Host.reduceWindowAdd
  rw [Ideal.hostReduceWindowAdd_def, val_main_call2_call0_v0_apply, val_main_call2_call0_cst_apply]
  rw [show (FloatOps.ofBits .f32 0x00000000#32 : Ideal .f32) = (0 : EReal) from Ideal.ofBits_zero_f32]
  exact reduceWindow_tail (M := 16383) rfl _ _ r j

theorem v6_apply (r : Fin 16) (j : Fin 16384) : val_main_v6 (F := Ideal) x0 x1 x2 x3 (ix2 r j) = grad x0 x1 x2 x3 r j := by
  rw [val_main_v6_apply, val_main_call3_v1_apply, val_main_call3_v0_apply, v5_apply, v2_1_apply, grad]
  show -(-tail (row x0 x1 r) j.val * GateMath.sig _) = _
  rw [EReal.neg_mul, neg_neg]

theorem v8_apply (r : Fin 16) : val_main_v8 (F := Ideal) x0 x1 x2 x3 (ix2 r 0) = ∑ j, grad x0 x1 x2 x3 r j := by
  rw [val_main_v8_apply, val_main_v7_apply, val_main_cst_apply]
  rw [show (FloatOps.ofBits .f32 0x00000000#32 : Ideal .f32) = (0 : EReal) from Ideal.ofBits_zero_f32, zero_add]
  refine Finset.sum_congr rfl fun k _ => ?_
  rw [← v6_apply]
  refine congrArg _ (funext fun a => Fin.ext ?_)
  match a with
  | ⟨0, _⟩ => show r.val * 1 + 0 = r.val; omega
  | ⟨1, _⟩ => rfl

theorem v6_eq : val_main_v6 (F := Ideal) x0 x1 x2 x3 = gradZ x0 x1 x2 x3 := by
  funext i
  rw [eq_ix2 i]
  exact v6_apply x0 x1 x2 x3 (i 0) (i 1)

theorem v8_eq : val_main_v8 (F := Ideal) x0 x1 x2 x3 = gradB x0 x1 x2 x3 := by
  funext i
  have hi : i = (ix2 (i 0) 0 : S16x1.Idx) := (eq_ix2 i).trans (congrArg (ix2 (i 0)) (Subsingleton.elim (α := Fin 1) _ _))
  have h := v8_apply x0 x1 x2 x3 (i 0)
  rw [← hi] at h
  exact h

end Cert.Reference2Ideal.Gate

end
-- ==== Proof.GateClaim.lean ====
/-
  The forget gate's claims: its two frames, the reference's frame, and the equation of the results.
-/
module

public import proofs.«01_k».proof.Defs
public import proofs.«01_k».proof.Proof.Gen.Kernel2.Frame
public import proofs.«01_k».proof.Proof.GateKernel
public import proofs.«01_k».proof.Proof.GateReference
public import proofs.«01_k».proof.Proof.Gen.Reference2Ideal
public import proofs.«01_k».proof.Proof.Gen.Reference2Ideal.Run

@[expose] public section

set_option maxRecDepth 16384

noncomputable section

namespace Cert.GateClaim

open Idealize.ShloMosaic Idealize.ShloMosaic.TcCoe Idealize.SL.Sem

/-- The reference leaves its arguments as they were; it declares no semaphore. -/
theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- Kernel and reference end with the same two arrays, `GateMath.gradZ` and `GateMath.gradB` of the arguments. -/
theorem equal : Cert.algebraic_Kernel2Ideal_Reference2Ideal := by
  intro m g m' g' _ hagree
  refine ⟨fun c => GateMath.gradZ (Kernel2Ideal.Gate.argQ m c) (Kernel2Ideal.Gate.argK m c) (Kernel2Ideal.Gate.argZ m c) (Kernel2Ideal.Gate.argB m c),
    fun c => GateMath.gradB (Kernel2Ideal.Gate.argQ m c) (Kernel2Ideal.Gate.argK m c) (Kernel2Ideal.Gate.argZ m c) (Kernel2Ideal.Gate.argB m c), ?_, ?_⟩
  · exact (θ_run Cert.Kernel2Ideal.defs _ _).mono (fun r h c => ⟨(h c).1.trans (Kernel2Ideal.Gate.final4 m c),
      (h c).2.1.trans (Kernel2Ideal.Gate.final5 m c), (h c).2.2⟩) (Cert.Kernel2Ideal.Value.run_blocks (F := Ideal) m g)
  · refine (θ_run Cert.Reference2Ideal.defs _ _).mono (fun r h c => ⟨(h c).1.trans ?_, (h c).2.1.trans ?_, (h c).2.2⟩)
      (Cert.Reference2Ideal.Value.run (F := Ideal) m' g')
    · rw [Reference2Ideal.Read.val_main_v6_eq, Reference2Ideal.Gate.v6_eq, (hagree c).1, (hagree c).2.1, (hagree c).2.2.1, (hagree c).2.2.2]
    · rw [Reference2Ideal.Read.val_main_v8_eq, Reference2Ideal.Gate.v8_eq, (hagree c).1, (hagree c).2.1, (hagree c).2.2.1, (hagree c).2.2.2]

end Cert.GateClaim

end
-- ==== Proof.ProductMath.lean ====
/-
  Sums taken block by block: a sum over `Fin K` is reached by adding the sums of consecutive blocks, from the left.
  Addition of extended reals is commutative and associative, so nothing is asked of the terms.
-/
module

public import Idealize.ShloMosaic.Lib.Pointwise

@[expose] public section

noncomputable section

namespace Cert.ProductMath

open scoped BigOperators

variable {K : ℕ}

/-- A family over `Fin K` at a natural number, 0 beyond its range. -/
def term (f : Fin K → EReal) (n : ℕ) : EReal := if h : n < K then f ⟨n, h⟩ else 0

theorem term_of_lt (f : Fin K → EReal) {n : ℕ} (h : n < K) : term f n = f ⟨n, h⟩ := dif_pos h

/-- The sum of the first `n` terms. -/
def upto (f : Fin K → EReal) (n : ℕ) : EReal := ∑ s ∈ Finset.range n, term f s

theorem upto_zero (f : Fin K → EReal) : upto f 0 = 0 := Finset.sum_range_zero _

/-- All the terms. -/
theorem upto_all (f : Fin K → EReal) : upto f K = ∑ k, f k := by
  rw [upto, ← Fin.sum_univ_eq_sum_range (fun s => term f s)]
  exact Finset.sum_congr rfl fun k _ => term_of_lt f k.isLt

/-- The first `a` terms and the block of `t` terms behind them. -/
theorem upto_block (f : Fin K → EReal) (a t : ℕ) (g : Fin t → EReal) (h : a + t ≤ K)
    (hg : ∀ r : Fin t, g r = f ⟨a + r.val, by omega⟩) : upto f a + ∑ r, g r = upto f (a + t) := by
  rw [upto, upto, Finset.sum_range_add, ← Fin.sum_univ_eq_sum_range (fun s => term f (a + s))]
  exact congrArg _ (Finset.sum_congr rfl fun r _ => (hg r).trans (term_of_lt f (by omega : a + r.val < K)).symm)

/-- Within a run a point's number in it grows by one. -/
theorem run_succ (n p : ℕ) (h : ¬(p + 1) % n = 0) : p / n = (p + 1) / n ∧ (p + 1) % n = p % n + 1 := by
  have hd : ¬n ∣ p + 1 := fun q => h (Nat.mod_eq_zero_of_dvd q)
  refine ⟨by rw [Nat.succ_div, if_neg hd, Nat.add_zero], ?_⟩
  have e1 := Nat.div_add_mod p n
  have e2 := Nat.div_add_mod (p + 1) n
  rw [Nat.succ_div, if_neg hd, Nat.add_zero] at e2
  omega

/-- A value that starts a run of `n` points with the first block's sum, and takes one block's sum at every further point
    of the run, holds the sum up to the point's block. `f` may be the run's own, so all is asked of run `b` only. -/
theorem upto_run (n t N b : ℕ) (f : Fin K → EReal) (o g : (p : ℕ) → p < N → EReal)
    (hg : ∀ p h, p / n = b → upto f (p % n * t) + g p h = upto f (p % n * t + t))
    (hfirst : ∀ p h, p / n = b → p % n = 0 → o p h = g p h)
    (hnext : ∀ p (h : p + 1 < N), (p + 1) / n = b → ¬(p + 1) % n = 0 → o (p + 1) h = o p (Nat.lt_of_succ_lt h) + g (p + 1) h) :
    ∀ p h, p / n = b → o p h = upto f (p % n * t + t) := by
  have start : ∀ p h, p / n = b → p % n = 0 → o p h = upto f (p % n * t + t) := fun p h hb h0 => by
    rw [hfirst p h hb h0, ← hg p h hb, h0, Nat.zero_mul, upto_zero, zero_add]
  intro p
  induction p with
  | zero => exact fun h hb => start 0 h hb (Nat.zero_mod n)
  | succ p ih =>
    intro h hb
    by_cases h0 : (p + 1) % n = 0
    · exact start (p + 1) h hb h0
    · have e := run_succ n p h0
      rw [hnext p h hb h0, ← hg (p + 1) h hb, ih _ (e.1.trans hb), e.2, Nat.add_mul, Nat.one_mul]

/-- A sum whose terms are 0 from the `a`-th on is the sum of the first `a`. -/
theorem sum_first {a : ℕ} (ha : a ≤ K) (f : Fin K → EReal) (h : ∀ k, a ≤ k.val → f k = 0) :
    ∑ k, f k = ∑ k : Fin a, f (Fin.castLE ha k) := by
  obtain ⟨b, rfl⟩ := Nat.exists_eq_add_of_le ha
  rw [Fin.sum_univ_add, Finset.sum_eq_zero (fun i _ => h (Fin.natAdd a i) (Nat.le_add_right a i.val)), add_zero]
  rfl

open Idealize.ShloMosaic in
/-- The integer 0 as a float. -/
theorem int_zero (φ : FTy) : (FloatOps.sitofp (F := Ideal) φ (0#32 : BitVec 32) : EReal) = 0 := by
  show (((0#32 : BitVec 32).toInt : ℝ) : EReal) = 0
  simp

end Cert.ProductMath

end
-- ==== Proof.ProductDa.lean ====
/-
  The gradient that the down projection passes back: one grid point's block of the product, and the result array.
-/
module

public import proofs.«01_k».proof.Proof.Gen.Kernel3Ideal.Value
public import proofs.«01_k».proof.Proof.ProductMath
public import Idealize.ShloMosaic.Lib.Pipeline.ValueKit

@[expose] public section

set_option maxRecDepth 16384

noncomputable section

namespace Cert.Kernel3Ideal.Da

open Cert.Kernel3Ideal Cert.Kernel3Ideal.Gen Cert.Kernel3Ideal.Value
open Idealize.ShloMosaic Idealize.ShloMosaic.TcCoe Idealize.SL.Sem
open Idealize.ShloMosaic.Pipeline (Dat)
open scoped BigOperators

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- One block of the product at an index. -/
theorem pay1_apply (x0 : FVec Ideal S1024x1024 .f32) (x1 : FVec Ideal S1024x1408 .bf16) (r : Fin 1024) (j : Fin 1408) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the cotangent of the down projection, and its weight. -/
abbrev argDr : FVec Ideal S16384x1024 .f32 := m ((c : Thread nD τ).loc main_arg0)
abbrev argW : FVec Ideal S2816x1024 .f32 := m ((c : Thread nD τ).loc main_arg1)

/-- The cotangent times the transposed weight. -/
def result (dr : FVec Ideal S16384x1024 .f32) (w : FVec Ideal S2816x1024 .f32) : FVec Ideal S16384x2816 .bf16 :=
  fun i => ∑ k : Fin 1024, dr (ix2 (i 0) k) * w (ix2 (i 1) k)

/-- The weight as the kernel's call receives it: transposed, narrowed to bf16. -/
theorem weight (k : Fin 1024) (n : Fin 2816) : V m c main_v1 (ix2 k n) = argW m c (ix2 n k) := by
  unfold_abbrev_sides
  after_results
  pointwise

theorem blk0 (t : Fin cfg0.N) (r k : Fin 1024) (s : Fin 16384) (hs : s.val = t.val / 2 * 1024 + r.val) :
    iblk m c 0 t (ix2 r k) = argDr m c (ix2 s k) := by
  have ht : t.val < 32 := lt_of_lt_of_eq t.isLt N_0
  blk_point [iblk, V, idx t]

theorem blk1 (t : Fin cfg0.N) (k : Fin 1024) (j : Fin 1408) (n : Fin 2816) (hn : n.val = t.val % 2 * 1408 + j.val) :
    iblk m c 1 t (ix2 k j) = argW m c (ix2 n k) := by
  have ht : t.val < 32 := lt_of_lt_of_eq t.isLt N_0
  refine Eq.trans (b := V m c main_v1 (ix2 k n)) ?_ (weight m c k n)
  blk_point [iblk, idx t]

/-- What a grid point leaves in its block. -/
theorem out_eq (x0 : FVec Ideal S1024x1024 .f32) (x1 : FVec Ideal S1024x1408 .bf16) :
    out0_2 (F := Ideal) x0 x1 = (k0_pay1 (F := Ideal) x0 x1 : FVec Ideal S1024x1408 .bf16) := by
  frame_out

theorem final2 : (dats m 0 c).arrAt 2 cfg0.N = result (argDr m c) (argW m c) := by
  refine (dats m 0 c).arrAt_eq_of_covers 2 (result (argDr m c) (argW m c)) (by decide +kernel) fun t hf y => ?_
  have ht : t.val < 32 := lt_of_lt_of_eq t.isLt N_0
  blk_simp [idx t]
  rw [after0_2, out_eq, eq_ix2 y]
  have e0 : (((win0_2.blk t).view.emb (ix2 (y 0) (y 1))) 0).val = t.val / 2 * 1024 + (y 0).val := by blk_simp [idx t]
  have e1 : (((win0_2.blk t).view.emb (ix2 (y 0) (y 1))) 1).val = t.val % 2 * 1408 + (y 1).val := by blk_simp [idx t]
  refine (pay1_apply _ _ (y 0) (y 1)).trans (Finset.sum_congr rfl fun k _ => by rw [blk0 m c t (y 0) k _ e0, blk1 m c t k (y 1) _ e1])

end

end Cert.Kernel3Ideal.Da

end
-- ==== Proof.ProductGwDown.lean ====
/-
  The gradient of the down projection's weight: the block of the result grows by one product at each grid point,
  over sixteen points, and holds the whole sum at the last.
-/
module

public import proofs.«01_k».proof.Proof.Gen.Kernel4Ideal.Value
public import proofs.«01_k».proof.Proof.ProductMath
public import Idealize.ShloMosaic.Lib.Pipeline.ValueKit

@[expose] public section

set_option maxRecDepth 16384

noncomputable section

namespace Cert.Kernel4Ideal.GwDown

open Cert.Kernel4Ideal Cert.Kernel4Ideal.Gen Cert.Kernel4Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- One block's product at an index. -/
theorem pay1_apply (x0 : FVec Ideal S1024x1408 .bf16) (x1 : FVec Ideal S1024x1024 .f32) (r : Fin 1408) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1408 .bf16) (x1 : FVec Ideal S1024x1024 .f32) (acc : FVec Ideal S1408x1024 .f32) (r : Fin 1408) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the activation, and the cotangent of the down projection. -/
abbrev argA : FVec Ideal S16384x2816 .f32 := m ((c : Thread nD τ).loc main_arg0)
abbrev argDr : FVec Ideal S16384x1024 .f32 := m ((c : Thread nD τ).loc main_arg1)

/-- The products that one element of the gradient sums, one per row. -/
def prods (a : FVec Ideal S16384x2816 .f32) (dr : FVec Ideal S16384x1024 .f32) (n : Fin 2816) (j : Fin 1024) : Fin 16384 → EReal :=
  fun s => a (ix2 s n) * dr (ix2 s j)

/-- The transposed activation times the cotangent. -/
def result (a : FVec Ideal S16384x2816 .f32) (dr : FVec Ideal S16384x1024 .f32) : FVec Ideal S2816x1024 .f32 :=
  fun i => ∑ s, prods a dr (i 0) (i 1) s

/-- The activation as the kernel's call receives it: narrowed to bf16. -/
theorem activation (s : Fin 16384) (n : Fin 2816) : V m c main_v0 (ix2 s n) = argA m c (ix2 s n) := by
  unfold_abbrev_sides
  after_results
  pointwise

theorem blk0 (t : Fin cfg0.N) (k : Fin 1024) (r : Fin 1408) (s : Fin 16384) (n : Fin 2816)
    (hs : s.val = t.val % 16 * 1024 + k.val) (hn : n.val = t.val / 16 * 1408 + r.val) :
    iblk m c 0 t (ix2 k r) = argA m c (ix2 s n) := by
  have ht : t.val < 32 := lt_of_lt_of_eq t.isLt N_0
  refine Eq.trans (b := V m c main_v0 (ix2 s n)) ?_ (activation m c s n)
  blk_point [iblk, idx t]

theorem blk1 (t : Fin cfg0.N) (k j : Fin 1024) (s : Fin 16384) (hs : s.val = t.val % 16 * 1024 + k.val) :
    iblk m c 1 t (ix2 k j) = argDr m c (ix2 s j) := by
  have ht : t.val < 32 := lt_of_lt_of_eq t.isLt N_0
  blk_point [iblk, V, idx t]

theorem step_A (t : Fin cfg0.N) (h : t.val % 16 = 0) :
    outsAt0 m c t.val t.isLt = (k0_pay1 (F := Ideal) (iblk m c 0 t) (iblk m c 1 t) : FVec Ideal S1408x1024 .f32) := by
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1408x1024 .f32) := by
  rw [outsAt0_B m c t h (by omega)]
  frame_out

/-- One point's product: the rows of its block. -/
theorem product (t : Fin cfg0.N) (r : Fin 1408) (j : Fin 1024) (q : Fin 2816) (hq : q.val = t.val / 16 * 1408 + r.val) :
    upto (prods (argA m c) (argDr m c) q j) (t.val % 16 * 1024) + k0_pay1 (F := Ideal) (iblk m c 0 t) (iblk m c 1 t) (ix2 r j)
      = upto (prods (argA m c) (argDr m c) q j) (t.val % 16 * 1024 + 1024) := by
  rw [pay1_apply]
  exact upto_block _ _ _ _ (by omega) fun k => congrArg₂ (· * ·) (blk0 m c t k r _ q rfl hq) (blk1 m c t k j _ rfl)

/-- After a point the block holds the sum over the rows of the blocks so far. -/
theorem holds (t : Fin cfg0.N) (r : Fin 1408) (j : Fin 1024) (q : Fin 2816) (hq : q.val = t.val / 16 * 1408 + r.val) :
    outsAt0 m c t.val t.isLt (ix2 r j) = upto (prods (argA m c) (argDr m c) q j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h hb => product m c ⟨p, h⟩ r j q (by rw [hq, ← hb]))
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argA m c) (argDr m c) := by
  refine (dats m 0 c).arrAt_eq_of_covers 2 (result (argA m c) (argDr m c)) (by decide +kernel) fun t hf y => ?_
  have ht : t.val < 32 := lt_of_lt_of_eq t.isLt N_0
  have hl : t.val % 16 = 15 := (flush0_2 t).mp hf
  blk_simp [idx t]
  rw [after0_2, eq_ix2 y]
  have e0 : (((win0_2.blk t).view.emb (ix2 (y 0) (y 1))) 0).val = t.val / 16 * 1408 + (y 0).val := by blk_simp [idx t]
  have e1 : ((win0_2.blk t).view.emb (ix2 (y 0) (y 1))) 1 = y 1 := Fin.ext (by blk_simp [idx t])
  refine (holds m c t (y 0) (y 1) _ e0).trans ?_
  rw [hl, result, e1]
  exact upto_all _

end

end Cert.Kernel4Ideal.GwDown

end
-- ==== Proof.ProductDx1U.lean ====
/-
  The gradient that the up projection's value half passes back, with the scaled residual added: two products are
  summed in the carried buffer, and the second point of each pair writes the sum and the residual's part.
-/
module

public import proofs.«01_k».proof.Proof.Gen.Kernel5Ideal.Value
public import proofs.«01_k».proof.Proof.ProductMath
public import Idealize.ShloMosaic.Lib.Pipeline.ValueKit

@[expose] public section

set_option maxRecDepth 16384

noncomputable section

namespace Cert.Kernel5Ideal.Dx1U

open Cert.Kernel5Ideal Cert.Kernel5Ideal.Gen Cert.Kernel5Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

/-- One block's product at an index. -/
theorem pay1_apply (x0 : FVec Ideal S1024x1408 .bf16) (x1 : FVec Ideal S1408x1024 .bf16) (r j : Fin 1024) :
    k0_pay1 (F := Ideal) x0 x1 (ix2 r j) = ∑ k : Fin 1408, x0 (ix2 r k) * x1 (ix2 k j) := by
  unfold k0_pay1
  pointwise

theorem pay2_apply (x0 : FVec Ideal S1024x1408 .bf16) (x1 : FVec Ideal S1408x1024 .bf16) (r j : Fin 1024) :
    k0_pay2 (F := Ideal) x0 x1 (ix2 r j) = k0_pay1 (F := Ideal) x0 x1 (ix2 r j) := by
  unfold k0_pay2
  pointwise

/-- … added to what the carried buffer held. -/
theorem pay3_apply (x0 : FVec Ideal S1024x1408 .bf16) (x1 : FVec Ideal S1408x1024 .bf16) (acc : FVec Ideal S1024x1024 .f32) (r j : Fin 1024) :
    k0_pay3 (F := Ideal) x0 x1 acc (ix2 r j) = acc (ix2 r j) + k0_pay1 (F := Ideal) x0 x1 (ix2 r j) := by
  unfold k0_pay3
  pointwise

/-- The residual's factor, `4 ^ (1/4)` as a float word. -/
abbrev alpha : EReal := Scalar.ofBits (F := Ideal) .f32 0x3FB504F3#32

/-- The sum and the residual's part. -/
theorem pay4_apply (acc dr : FVec Ideal S1024x1024 .f32) (r j : Fin 1024) :
    k0_pay4 (F := Ideal) acc dr (ix2 r j) = acc (ix2 r j) + alpha * dr (ix2 r j) := by
  unfold k0_pay4
  rfl

section
variable (m : (ℓ : Loc nD τ sig) → Buf (Elt Ideal) ℓ) (c : Dev nD)

/-- The three arguments: the cotangent of the value half, the up projection's weight, the residual's cotangent. -/
abbrev argDu : FVec Ideal S16384x2816 .f32 := m ((c : Thread nD τ).loc main_arg0)
abbrev argW : FVec Ideal S1024x5632 .f32 := m ((c : Thread nD τ).loc main_arg1)
abbrev argDr : FVec Ideal S16384x1024 .f32 := m ((c : Thread nD τ).loc main_arg2)

/-- The products that one element of the gradient sums, one per column of the weight's first half. -/
def prods (du : FVec Ideal S16384x2816 .f32) (w : FVec Ideal S1024x5632 .f32) (s : Fin 16384) (j : Fin 1024) : Fin 2816 → EReal :=
  fun n => du (ix2 s n) * w (ix2 j ⟨n.val, by omega⟩)

/-- The cotangent times the weight's transposed first half, and the scaled residual. -/
def result (du : FVec Ideal S16384x2816 .f32) (w : FVec Ideal S1024x5632 .f32) (dr : FVec Ideal S16384x1024 .f32) : FVec Ideal S16384x1024 .f32 :=
  fun i => (∑ n, prods du w (i 0) (i 1) n) + alpha * dr (ix2 (i 0) (i 1))

/-- The cotangent as the kernel's call receives it: narrowed to bf16. -/
theorem cotangent (s : Fin 16384) (n : Fin 2816) : V m c main_v0 (ix2 s n) = argDu m c (ix2 s n) := by
  unfold_abbrev_sides
  after_results
  pointwise

/-- The weight as the kernel's call receives it: narrowed to bf16, transposed, its first half. -/
theorem weight (n : Fin 2816) (j : Fin 1024) : V m c main_v3 (ix2 n j) = argW m c (ix2 j ⟨n.val, by omega⟩) := by
  unfold_abbrev_sides
  after_results
  pointwise

theorem blk0 (t : Fin cfg0.N) (r : Fin 1024) (k : Fin 1408) (s : Fin 16384) (n : Fin 2816)
    (hs : s.val = t.val / 2 * 1024 + r.val) (hn : n.val = t.val % 2 * 1408 + k.val) :
    iblk m c 0 t (ix2 r k) = argDu m c (ix2 s n) := by
  have ht : t.val < 32 := lt_of_lt_of_eq t.isLt N_0
  refine Eq.trans (b := V m c main_v0 (ix2 s n)) ?_ (cotangent m c s n)
  blk_point [iblk, idx t]

theorem blk1 (t : Fin cfg0.N) (k : Fin 1408) (j : Fin 1024) (n : Fin 2816) (hn : n.val = t.val % 2 * 1408 + k.val) :
    iblk m c 1 t (ix2 k j) = argW m c (ix2 j ⟨n.val, by omega⟩) := by
  have ht : t.val < 32 := lt_of_lt_of_eq t.isLt N_0
  refine Eq.trans (b := V m c main_v3 (ix2 n j)) ?_ (weight m c n j)
  blk_point [iblk, idx t]

theorem blk2 (t : Fin cfg0.N) (r j : Fin 1024) (s : Fin 16384) (hs : s.val = t.val / 2 * 1024 + r.val) :
    iblk m c 2 t (ix2 r j) = argDr m c (ix2 s j) := by
  have ht : t.val < 32 := lt_of_lt_of_eq t.isLt N_0
  blk_point [iblk, V, idx t]

theorem step_A (t : Fin cfg0.N) (h : t.val % 2 = 0) :
    (outsAt0 m c t.val t.isLt).2 = (k0_pay2 (F := Ideal) (iblk m c 0 t) (iblk m c 1 t) : FVec Ideal S1024x1024 .f32) := by
  rw [outsAt0_A m c t h (by omega) (by omega)]
  dsimp only
  frame_out

theorem step_B (t : Fin cfg0.N) (h : t.val % 2 = 1) :
    outsAt0 m c t.val t.isLt =
      ((k0_pay4 (F := Ideal) (k0_pay3 (F := Ideal) (iblk m c 0 t) (iblk m c 1 t) (outsAt0 m c (t.val - 1) (Nat.lt_of_le_of_lt (Nat.sub_le _ _) t.isLt)).2)
          (iblk m c 2 t) : FVec Ideal S1024x1024 .f32),
       (k0_pay3 (F := Ideal) (iblk m c 0 t) (iblk m c 1 t) (outsAt0 m c (t.val - 1) (Nat.lt_of_le_of_lt (Nat.sub_le _ _) t.isLt)).2 : FVec Ideal S1024x1024 .f32)) := by
  rw [outsAt0_B m c t (by omega) h h]
  refine Prod.ext ?_ ?_
  all_goals
    dsimp only; frame_out
    rw [show View.read (Elt Ideal) (View.whole cc0_scratch0) ((Memref.isWhole_whole cc0_scratch0).unread (outsAt0 m c (t.val - 1) (Nat.lt_of_le_of_lt (Nat.sub_le _ _) t.isLt)).2)
        = (outsAt0 m c (t.val - 1) (Nat.lt_of_le_of_lt (Nat.sub_le _ _) t.isLt)).2 from (Memref.isWhole_whole cc0_scratch0).read_unread _]

/-- One point's product: the columns of its block. -/
theorem product (t : Fin cfg0.N) (r j : Fin 1024) (s : Fin 16384) (hs : s.val = t.val / 2 * 1024 + r.val) :
    upto (prods (argDu m c) (argW m c) s j) (t.val % 2 * 1408) + k0_pay1 (F := Ideal) (iblk m c 0 t) (iblk m c 1 t) (ix2 r j)
      = upto (prods (argDu m c) (argW m c) s j) (t.val % 2 * 1408 + 1408) := by
  rw [pay1_apply]
  exact upto_block _ _ _ _ (by omega) fun k => congrArg₂ (· * ·) (blk0 m c t r k s _ hs rfl) (blk1 m c t k j _ rfl)

/-- The first point of a pair leaves the first half of the sum. -/
theorem first (t : Fin cfg0.N) (h : t.val % 2 = 0) (r j : Fin 1024) (s : Fin 16384) (hs : s.val = t.val / 2 * 1024 + r.val) :
    (outsAt0 m c t.val t.isLt).2 (ix2 r j) = upto (prods (argDu m c) (argW m c) s j) 1408 := by
  have e := product m c t r j s hs
  rw [h, Nat.zero_mul, upto_zero, zero_add, Nat.zero_add] at e
  rw [step_A m c t h, pay2_apply, e]

/-- The second point writes the whole sum and the residual's part. -/
theorem second (t : Fin cfg0.N) (h : t.val % 2 = 1) (r j : Fin 1024) (s : Fin 16384) (hs : s.val = t.val / 2 * 1024 + r.val) :
    (outsAt0 m c t.val t.isLt).1 (ix2 r j) = (∑ n, prods (argDu m c) (argW m c) s j n) + alpha * argDr m c (ix2 s j) := by
  have e := product m c t r j s hs
  rw [h, Nat.one_mul] at e
  rw [step_B m c t h]
  dsimp only
  rw [pay4_apply, pay3_apply, first m c ⟨t.val - 1, by omega⟩ (by dsimp only; omega) r j s (by dsimp only; omega), e, blk2 m c t r j s hs]
  exact congrArg (· + _) (upto_all _)

theorem final3 : (dats m 0 c).arrAt 3 cfg0.N = result (argDu m c) (argW m c) (argDr m c) := by
  refine (dats m 0 c).arrAt_eq_of_covers 3 (result (argDu m c) (argW m c) (argDr m c)) (by decide +kernel) fun t hf y => ?_
  have ht : t.val < 32 := lt_of_lt_of_eq t.isLt N_0
  have hl : t.val % 2 = 1 := (flush0_3 t).mp hf
  blk_simp [idx t]
  rw [after0_3, eq_ix2 y]
  have e0 : (((win0_3.blk t).view.emb (ix2 (y 0) (y 1))) 0).val = t.val / 2 * 1024 + (y 0).val := by blk_simp [idx t]
  have e1 : ((win0_3.blk t).view.emb (ix2 (y 0) (y 1))) 1 = y 1 := Fin.ext (by blk_simp [idx t])
  refine (second m c t hl (y 0) (y 1) _ e0).trans ?_
  rw [result, e1]

end

end Cert.Kernel5Ideal.Dx1U

end
-- ==== Proof.ProductDx1G.lean ====
/-
  The gradient that the up projection's gate half passes back, added to the gradient that came so far: two products are
  summed in the carried buffer, and the second point of each pair writes the sum and what came so far.
-/
module

public import proofs.«01_k».proof.Proof.Gen.Kernel6Ideal.Value
public import proofs.«01_k».proof.Proof.ProductMath
public import Idealize.ShloMosaic.Lib.Pipeline.ValueKit

@[expose] public section

set_option maxRecDepth 16384

noncomputable section

namespace Cert.Kernel6Ideal.Dx1G

open Cert.Kernel6Ideal Cert.Kernel6Ideal.Gen Cert.Kernel6Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

/-- One block's product at an index. -/
theorem pay1_apply (x0 : FVec Ideal S1024x1408 .bf16) (x1 : FVec Ideal S1408x1024 .bf16) (r j : Fin 1024) :
    k0_pay1 (F := Ideal) x0 x1 (ix2 r j) = ∑ k : Fin 1408, x0 (ix2 r k) * x1 (ix2 k j) := by
  unfold k0_pay1
  pointwise

theorem pay2_apply (x0 : FVec Ideal S1024x1408 .bf16) (x1 : FVec Ideal S1408x1024 .bf16) (r j : Fin 1024) :
    k0_pay2 (F := Ideal) x0 x1 (ix2 r j) = k0_pay1 (F := Ideal) x0 x1 (ix2 r j) := by
  unfold k0_pay2
  pointwise

/-- … added to what the carried buffer held. -/
theorem pay3_apply (x0 : FVec Ideal S1024x1408 .bf16) (x1 : FVec Ideal S1408x1024 .bf16) (acc : FVec Ideal S1024x1024 .f32) (r j : Fin 1024) :
    k0_pay3 (F := Ideal) x0 x1 acc (ix2 r j) = acc (ix2 r j) + k0_pay1 (F := Ideal) x0 x1 (ix2 r j) := by
  unfold k0_pay3
  pointwise

/-- The sum and what came so far. -/
theorem pay4_apply (acc dx : FVec Ideal S1024x1024 .f32) (r j : Fin 1024) :
    k0_pay4 (F := Ideal) acc dx (ix2 r j) = acc (ix2 r j) + dx (ix2 r j) := by
  unfold k0_pay4
  pointwise

section
variable (m : (ℓ : Loc nD τ sig) → Buf (Elt Ideal) ℓ) (c : Dev nD)

/-- The three arguments: the cotangent of the gate half, the up projection's weight, the gradient so far. -/
abbrev argDg : FVec Ideal S16384x2816 .f32 := m ((c : Thread nD τ).loc main_arg0)
abbrev argW : FVec Ideal S1024x5632 .f32 := m ((c : Thread nD τ).loc main_arg1)
abbrev argDx : FVec Ideal S16384x1024 .f32 := m ((c : Thread nD τ).loc main_arg2)

/-- The products that one element of the gradient sums, one per column of the weight's second half. -/
def prods (dg : FVec Ideal S16384x2816 .f32) (w : FVec Ideal S1024x5632 .f32) (s : Fin 16384) (j : Fin 1024) : Fin 2816 → EReal :=
  fun n => dg (ix2 s n) * w (ix2 j ⟨2816 + n.val, by omega⟩)

/-- The cotangent times the weight's transposed second half, and the gradient so far. -/
def result (dg : FVec Ideal S16384x2816 .f32) (w : FVec Ideal S1024x5632 .f32) (dx : FVec Ideal S16384x1024 .f32) : FVec Ideal S16384x1024 .f32 :=
  fun i => (∑ n, prods dg w (i 0) (i 1) n) + dx (ix2 (i 0) (i 1))

/-- The cotangent as the kernel's call receives it: narrowed to bf16. -/
theorem cotangent (s : Fin 16384) (n : Fin 2816) : V m c main_v0 (ix2 s n) = argDg m c (ix2 s n) := by
  unfold_abbrev_sides
  after_results
  pointwise

/-- The weight as the kernel's call receives it: narrowed to bf16, transposed, its second half. -/
theorem weight (n : Fin 2816) (j : Fin 1024) : V m c main_v3 (ix2 n j) = argW m c (ix2 j ⟨2816 + n.val, by omega⟩) := by
  unfold_abbrev_sides
  after_results
  pointwise

theorem blk0 (t : Fin cfg0.N) (r : Fin 1024) (k : Fin 1408) (s : Fin 16384) (n : Fin 2816)
    (hs : s.val = t.val / 2 * 1024 + r.val) (hn : n.val = t.val % 2 * 1408 + k.val) :
    iblk m c 0 t (ix2 r k) = argDg m c (ix2 s n) := by
  have ht : t.val < 32 := lt_of_lt_of_eq t.isLt N_0
  refine Eq.trans (b := V m c main_v0 (ix2 s n)) ?_ (cotangent m c s n)
  blk_point [iblk, idx t]

theorem blk1 (t : Fin cfg0.N) (k : Fin 1408) (j : Fin 1024) (n : Fin 2816) (hn : n.val = t.val % 2 * 1408 + k.val) :
    iblk m c 1 t (ix2 k j) = argW m c (ix2 j ⟨2816 + n.val, by omega⟩) := by
  have ht : t.val < 32 := lt_of_lt_of_eq t.isLt N_0
  refine Eq.trans (b := V m c main_v3 (ix2 n j)) ?_ (weight m c n j)
  blk_point [iblk, idx t]

theorem blk2 (t : Fin cfg0.N) (r j : Fin 1024) (s : Fin 16384) (hs : s.val = t.val / 2 * 1024 + r.val) :
    iblk m c 2 t (ix2 r j) = argDx m c (ix2 s j) := by
  have ht : t.val < 32 := lt_of_lt_of_eq t.isLt N_0
  blk_point [iblk, V, idx t]

theorem step_A (t : Fin cfg0.N) (h : t.val % 2 = 0) :
    (outsAt0 m c t.val t.isLt).2 = (k0_pay2 (F := Ideal) (iblk m c 0 t) (iblk m c 1 t) : FVec Ideal S1024x1024 .f32) := by
  rw [outsAt0_A m c t h (by omega) (by omega)]
  dsimp only
  frame_out

theorem step_B (t : Fin cfg0.N) (h : t.val % 2 = 1) :
    outsAt0 m c t.val t.isLt =
      ((k0_pay4 (F := Ideal) (k0_pay3 (F := Ideal) (iblk m c 0 t) (iblk m c 1 t) (outsAt0 m c (t.val - 1) (Nat.lt_of_le_of_lt (Nat.sub_le _ _) t.isLt)).2)
          (iblk m c 2 t) : FVec Ideal S1024x1024 .f32),
       (k0_pay3 (F := Ideal) (iblk m c 0 t) (iblk m c 1 t) (outsAt0 m c (t.val - 1) (Nat.lt_of_le_of_lt (Nat.sub_le _ _) t.isLt)).2 : FVec Ideal S1024x1024 .f32)) := by
  rw [outsAt0_B m c t (by omega) h h]
  refine Prod.ext ?_ ?_
  all_goals
    dsimp only; frame_out
    rw [show View.read (Elt Ideal) (View.whole cc0_scratch0) ((Memref.isWhole_whole cc0_scratch0).unread (outsAt0 m c (t.val - 1) (Nat.lt_of_le_of_lt (Nat.sub_le _ _) t.isLt)).2)
        = (outsAt0 m c (t.val - 1) (Nat.lt_of_le_of_lt (Nat.sub_le _ _) t.isLt)).2 from (Memref.isWhole_whole cc0_scratch0).read_unread _]

/-- One point's product: the columns of its block. -/
theorem product (t : Fin cfg0.N) (r j : Fin 1024) (s : Fin 16384) (hs : s.val = t.val / 2 * 1024 + r.val) :
    upto (prods (argDg m c) (argW m c) s j) (t.val % 2 * 1408) + k0_pay1 (F := Ideal) (iblk m c 0 t) (iblk m c 1 t) (ix2 r j)
      = upto (prods (argDg m c) (argW m c) s j) (t.val % 2 * 1408 + 1408) := by
  rw [pay1_apply]
  exact upto_block _ _ _ _ (by omega) fun k => congrArg₂ (· * ·) (blk0 m c t r k s _ hs rfl) (blk1 m c t k j _ rfl)

/-- The first point of a pair leaves the first half of the sum. -/
theorem first (t : Fin cfg0.N) (h : t.val % 2 = 0) (r j : Fin 1024) (s : Fin 16384) (hs : s.val = t.val / 2 * 1024 + r.val) :
    (outsAt0 m c t.val t.isLt).2 (ix2 r j) = upto (prods (argDg m c) (argW m c) s j) 1408 := by
  have e := product m c t r j s hs
  rw [h, Nat.zero_mul, upto_zero, zero_add, Nat.zero_add] at e
  rw [step_A m c t h, pay2_apply, e]

/-- The second point writes the whole sum and the gradient so far. -/
theorem second (t : Fin cfg0.N) (h : t.val % 2 = 1) (r j : Fin 1024) (s : Fin 16384) (hs : s.val = t.val / 2 * 1024 + r.val) :
    (outsAt0 m c t.val t.isLt).1 (ix2 r j) = (∑ n, prods (argDg m c) (argW m c) s j n) + argDx m c (ix2 s j) := by
  have e := product m c t r j s hs
  rw [h, Nat.one_mul] at e
  rw [step_B m c t h]
  dsimp only
  rw [pay4_apply, pay3_apply, first m c ⟨t.val - 1, by omega⟩ (by dsimp only; omega) r j s (by dsimp only; omega), e, blk2 m c t r j s hs]
  exact congrArg (· + _) (upto_all _)

theorem final3 : (dats m 0 c).arrAt 3 cfg0.N = result (argDg m c) (argW m c) (argDx m c) := by
  refine (dats m 0 c).arrAt_eq_of_covers 3 (result (argDg m c) (argW m c) (argDx m c)) (by decide +kernel) fun t hf y => ?_
  have ht : t.val < 32 := lt_of_lt_of_eq t.isLt N_0
  have hl : t.val % 2 = 1 := (flush0_3 t).mp hf
  blk_simp [idx t]
  rw [after0_3, eq_ix2 y]
  have e0 : (((win0_3.blk t).view.emb (ix2 (y 0) (y 1))) 0).val = t.val / 2 * 1024 + (y 0).val := by blk_simp [idx t]
  have e1 : ((win0_3.blk t).view.emb (ix2 (y 0) (y 1))) 1 = y 1 := Fin.ext (by blk_simp [idx t])
  refine (second m c t hl (y 0) (y 1) _ e0).trans ?_
  rw [result, e1]

end

end Cert.Kernel6Ideal.Dx1G

end
-- ==== Proof.ProductGwUp.lean ====
/-
  The gradient of one half of the up projection's weight: the block of the result grows by one product at each grid point,
  over sixteen points, and holds the whole sum at the last.
-/
module

public import proofs.«01_k».proof.Proof.Gen.Kernel7Ideal.Value
public import proofs.«01_k».proof.Proof.ProductMath
public import Idealize.ShloMosaic.Lib.Pipeline.ValueKit

@[expose] public section

set_option maxRecDepth 16384

noncomputable section

namespace Cert.Kernel7Ideal.GwUp

open Cert.Kernel7Ideal Cert.Kernel7Ideal.Gen Cert.Kernel7Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One block's product at an index. -/
theorem pay1_apply (x0 : FVec Ideal S1024x1024 .f32) (x1 : FVec Ideal S1024x1408 .bf16) (r : Fin 1024) (j : Fin 1408) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x1408 .bf16) (acc : FVec Ideal S1024x1408 .f32) (r : Fin 1024) (j : Fin 1408) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's input, and the cotangent of one half of the up projection. -/
abbrev argX : FVec Ideal S16384x1024 .f32 := m ((c : Thread nD τ).loc main_arg0)
abbrev argDu : FVec Ideal S16384x2816 .f32 := m ((c : Thread nD τ).loc main_arg1)

/-- The products that one element of the gradient sums, one per row. -/
def prods (x : FVec Ideal S16384x1024 .f32) (du : FVec Ideal S16384x2816 .f32) (r : Fin 1024) (n : Fin 2816) : Fin 16384 → EReal :=
  fun s => x (ix2 s r) * du (ix2 s n)

/-- The transposed input times the cotangent. -/
def result (x : FVec Ideal S16384x1024 .f32) (du : FVec Ideal S16384x2816 .f32) : FVec Ideal S1024x2816 .f32 :=
  fun i => ∑ s, prods x du (i 0) (i 1) s

/-- The cotangent as the kernel's call receives it: narrowed to bf16. -/
theorem cotangent (s : Fin 16384) (n : Fin 2816) : V m c main_v0 (ix2 s n) = argDu m c (ix2 s n) := by
  unfold_abbrev_sides
  after_results
  pointwise

theorem blk0 (t : Fin cfg0.N) (k r : Fin 1024) (s : Fin 16384) (hs : s.val = t.val % 16 * 1024 + k.val) :
    iblk m c 0 t (ix2 k r) = argX m c (ix2 s r) := by
  have ht : t.val < 32 := lt_of_lt_of_eq t.isLt N_0
  blk_point [iblk, V, idx t]

theorem blk1 (t : Fin cfg0.N) (k : Fin 1024) (j : Fin 1408) (s : Fin 16384) (n : Fin 2816)
    (hs : s.val = t.val % 16 * 1024 + k.val) (hn : n.val = t.val / 16 * 1408 + j.val) :
    iblk m c 1 t (ix2 k j) = argDu m c (ix2 s n) := by
  have ht : t.val < 32 := lt_of_lt_of_eq t.isLt N_0
  refine Eq.trans (b := V m c main_v0 (ix2 s n)) ?_ (cotangent m c s n)
  blk_point [iblk, idx t]

theorem step_A (t : Fin cfg0.N) (h : t.val % 16 = 0) :
    outsAt0 m c t.val t.isLt = (k0_pay1 (F := Ideal) (iblk m c 0 t) (iblk m c 1 t) : FVec Ideal S1024x1408 .f32) := by
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1408 .f32) := by
  rw [outsAt0_B m c t h (by omega)]
  frame_out

/-- One point's product: the rows of its block. -/
theorem product (t : Fin cfg0.N) (r : Fin 1024) (j : Fin 1408) (q : Fin 2816) (hq : q.val = t.val / 16 * 1408 + j.val) :
    upto (prods (argX m c) (argDu m c) r q) (t.val % 16 * 1024) + k0_pay1 (F := Ideal) (iblk m c 0 t) (iblk m c 1 t) (ix2 r j)
      = upto (prods (argX m c) (argDu m c) r q) (t.val % 16 * 1024 + 1024) := by
  rw [pay1_apply]
  exact upto_block _ _ _ _ (by omega) fun k => congrArg₂ (· * ·) (blk0 m c t k r _ rfl) (blk1 m c t k j _ q rfl hq)

/-- After a point the block holds the sum over the rows of the blocks so far. -/
theorem holds (t : Fin cfg0.N) (r : Fin 1024) (j : Fin 1408) (q : Fin 2816) (hq : q.val = t.val / 16 * 1408 + j.val) :
    outsAt0 m c t.val t.isLt (ix2 r j) = upto (prods (argX m c) (argDu m c) r q) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h hb => product m c ⟨p, h⟩ r j q (by rw [hq, ← hb]))
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDu m c) := by
  refine (dats m 0 c).arrAt_eq_of_covers 2 (result (argX m c) (argDu m c)) (by decide +kernel) fun t hf y => ?_
  have ht : t.val < 32 := lt_of_lt_of_eq t.isLt N_0
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : (((win0_2.blk t).view.emb (ix2 (y 0) (y 1))) 1).val = t.val / 16 * 1408 + (y 1).val := by blk_simp [idx t]
  refine (holds m c t (y 0) (y 1) _ e1).trans ?_
  rw [hl, result, e0]
  exact upto_all _

end

end Cert.Kernel7Ideal.GwUp

end
-- ==== Proof.ProductFfnUp.lean ====
/-
  The feed-forward layer's up projection: one grid point's block of the product, and the result array.
-/
module

public import proofs.«01_k».proof.Proof.Gen.Kernel8Ideal.Value
public import proofs.«01_k».proof.Proof.ProductMath
public import Idealize.ShloMosaic.Lib.Pipeline.ValueKit

@[expose] public section

set_option maxRecDepth 16384

noncomputable section

namespace Cert.Kernel8Ideal.FfnUp

open Cert.Kernel8Ideal Cert.Kernel8Ideal.Gen Cert.Kernel8Ideal.Value
open Idealize.ShloMosaic Idealize.ShloMosaic.TcCoe Idealize.SL.Sem
open Idealize.ShloMosaic.Pipeline (Dat)
open scoped BigOperators

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- One block of the product at an index. -/
theorem pay1_apply (x0 : FVec Ideal S1024x1024 .f32) (x1 : FVec Ideal S1024x1408 .bf16) (r : Fin 1024) (j : Fin 1408) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the layer's input, and the weight. -/
abbrev argX : FVec Ideal S16384x1024 .f32 := m ((c : Thread nD τ).loc main_arg0)
abbrev argW : FVec Ideal S1024x5632 .f32 := m ((c : Thread nD τ).loc main_arg1)

/-- The input times the weight. -/
def result (x : FVec Ideal S16384x1024 .f32) (w : FVec Ideal S1024x5632 .f32) : FVec Ideal S16384x5632 .bf16 :=
  fun i => ∑ k : Fin 1024, x (ix2 (i 0) k) * w (ix2 k (i 1))

/-- The weight as the kernel's call receives it: narrowed to bf16. -/
theorem weight (k : Fin 1024) (n : Fin 5632) : V m c main_v0 (ix2 k n) = argW m c (ix2 k n) := by
  unfold_abbrev_sides
  after_results
  pointwise

theorem blk0 (t : Fin cfg0.N) (r k : Fin 1024) (s : Fin 16384) (hs : s.val = t.val / 4 * 1024 + r.val) :
    iblk m c 0 t (ix2 r k) = argX m c (ix2 s k) := by
  have ht : t.val < 64 := lt_of_lt_of_eq t.isLt N_0
  blk_point [iblk, V, idx t]

theorem blk1 (t : Fin cfg0.N) (k : Fin 1024) (j : Fin 1408) (n : Fin 5632) (hn : n.val = t.val % 4 * 1408 + j.val) :
    iblk m c 1 t (ix2 k j) = argW m c (ix2 k n) := by
  have ht : t.val < 64 := lt_of_lt_of_eq t.isLt N_0
  refine Eq.trans (b := V m c main_v0 (ix2 k n)) ?_ (weight m c k n)
  blk_point [iblk, idx t]

/-- What a grid point leaves in its block. -/
theorem out_eq (x0 : FVec Ideal S1024x1024 .f32) (x1 : FVec Ideal S1024x1408 .bf16) :
    out0_2 (F := Ideal) x0 x1 = (k0_pay1 (F := Ideal) x0 x1 : FVec Ideal S1024x1408 .bf16) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 64 := lt_of_lt_of_eq t.isLt N_0
  blk_simp [idx t]
  rw [after0_2, out_eq, eq_ix2 y]
  have e0 : (((win0_2.blk t).view.emb (ix2 (y 0) (y 1))) 0).val = t.val / 4 * 1024 + (y 0).val := by blk_simp [idx t]
  have e1 : (((win0_2.blk t).view.emb (ix2 (y 0) (y 1))) 1).val = t.val % 4 * 1408 + (y 1).val := by blk_simp [idx t]
  refine (pay1_apply _ _ (y 0) (y 1)).trans (Finset.sum_congr rfl fun k _ => by rw [blk0 m c t (y 0) k _ e0, blk1 m c t k (y 1) _ e1])

end

end Cert.Kernel8Ideal.FfnUp

end
-- ==== Proof.ProductFfnDown.lean ====
/-
  The feed-forward layer's down projection: two products are summed in the carried buffer, and the second point of
  each pair writes the sum.
-/
module

public import proofs.«01_k».proof.Proof.Gen.Kernel9Ideal.Value
public import proofs.«01_k».proof.Proof.ProductMath
public import Idealize.ShloMosaic.Lib.Pipeline.ValueKit

@[expose] public section

set_option maxRecDepth 16384

noncomputable section

namespace Cert.Kernel9Ideal.FfnDown

open Cert.Kernel9Ideal Cert.Kernel9Ideal.Gen Cert.Kernel9Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- One block's product at an index. -/
theorem pay1_apply (x0 : FVec Ideal S1024x1408 .bf16) (x1 : FVec Ideal S1408x1024 .bf16) (r j : Fin 1024) :
    k0_pay1 (F := Ideal) x0 x1 (ix2 r j) = ∑ k : Fin 1408, x0 (ix2 r k) * x1 (ix2 k j) := by
  unfold k0_pay1
  pointwise

theorem pay2_apply (x0 : FVec Ideal S1024x1408 .bf16) (x1 : FVec Ideal S1408x1024 .bf16) (r j : Fin 1024) :
    k0_pay2 (F := Ideal) x0 x1 (ix2 r j) = k0_pay1 (F := Ideal) x0 x1 (ix2 r j) := by
  unfold k0_pay2
  pointwise

/-- … added to what the carried buffer held. -/
theorem pay3_apply (x0 : FVec Ideal S1024x1408 .bf16) (x1 : FVec Ideal S1408x1024 .bf16) (acc : FVec Ideal S1024x1024 .f32) (r j : Fin 1024) :
    k0_pay3 (F := Ideal) x0 x1 acc (ix2 r j) = acc (ix2 r j) + k0_pay1 (F := Ideal) x0 x1 (ix2 r j) := by
  unfold k0_pay3
  pointwise

section
variable (m : (ℓ : Loc nD τ sig) → Buf (Elt Ideal) ℓ) (c : Dev nD)

/-- The two arguments: the activation and the weight. -/
abbrev argA : FVec Ideal S16384x2816 .f32 := m ((c : Thread nD τ).loc main_arg0)
abbrev argW : FVec Ideal S2816x1024 .f32 := m ((c : Thread nD τ).loc main_arg1)

/-- The products that one element sums, one per column of the activation. -/
def prods (a : FVec Ideal S16384x2816 .f32) (w : FVec Ideal S2816x1024 .f32) (s : Fin 16384) (j : Fin 1024) : Fin 2816 → EReal :=
  fun n => a (ix2 s n) * w (ix2 n j)

/-- The activation times the weight. -/
def result (a : FVec Ideal S16384x2816 .f32) (w : FVec Ideal S2816x1024 .f32) : FVec Ideal S16384x1024 .f32 :=
  fun i => ∑ n, prods a w (i 0) (i 1) n

/-- The activation as the kernel's call receives it: narrowed to bf16. -/
theorem activation (s : Fin 16384) (n : Fin 2816) : V m c main_v0 (ix2 s n) = argA m c (ix2 s n) := by
  unfold_abbrev_sides
  after_results
  pointwise

/-- The weight as the kernel's call receives it: narrowed to bf16. -/
theorem weight (n : Fin 2816) (j : Fin 1024) : V m c main_v1 (ix2 n j) = argW m c (ix2 n j) := by
  unfold_abbrev_sides
  after_results
  pointwise

theorem blk0 (t : Fin cfg0.N) (r : Fin 1024) (k : Fin 1408) (s : Fin 16384) (n : Fin 2816)
    (hs : s.val = t.val / 2 * 1024 + r.val) (hn : n.val = t.val % 2 * 1408 + k.val) :
    iblk m c 0 t (ix2 r k) = argA m c (ix2 s n) := by
  have ht : t.val < 32 := lt_of_lt_of_eq t.isLt N_0
  refine Eq.trans (b := V m c main_v0 (ix2 s n)) ?_ (activation m c s n)
  blk_point [iblk, idx t]

theorem blk1 (t : Fin cfg0.N) (k : Fin 1408) (j : Fin 1024) (n : Fin 2816) (hn : n.val = t.val % 2 * 1408 + k.val) :
    iblk m c 1 t (ix2 k j) = argW m c (ix2 n j) := by
  have ht : t.val < 32 := lt_of_lt_of_eq t.isLt N_0
  refine Eq.trans (b := V m c main_v1 (ix2 n j)) ?_ (weight m c n j)
  blk_point [iblk, idx t]

theorem step_A (t : Fin cfg0.N) (h : t.val % 2 = 0) :
    (outsAt0 m c t.val t.isLt).2 = (k0_pay2 (F := Ideal) (iblk m c 0 t) (iblk m c 1 t) : FVec Ideal S1024x1024 .f32) := by
  rw [outsAt0_A m c t h (by omega) (by omega)]
  dsimp only
  frame_out

theorem step_B (t : Fin cfg0.N) (h : t.val % 2 = 1) :
    outsAt0 m c t.val t.isLt =
      ((k0_pay3 (F := Ideal) (iblk m c 0 t) (iblk m c 1 t) (outsAt0 m c (t.val - 1) (Nat.lt_of_le_of_lt (Nat.sub_le _ _) t.isLt)).2 : FVec Ideal S1024x1024 .f32),
       (k0_pay3 (F := Ideal) (iblk m c 0 t) (iblk m c 1 t) (outsAt0 m c (t.val - 1) (Nat.lt_of_le_of_lt (Nat.sub_le _ _) t.isLt)).2 : FVec Ideal S1024x1024 .f32)) := by
  rw [outsAt0_B m c t (by omega) h h]
  refine Prod.ext ?_ ?_
  all_goals
    dsimp only; frame_out
    rw [show View.read (Elt Ideal) (View.whole cc0_scratch0) ((Memref.isWhole_whole cc0_scratch0).unread (outsAt0 m c (t.val - 1) (Nat.lt_of_le_of_lt (Nat.sub_le _ _) t.isLt)).2)
        = (outsAt0 m c (t.val - 1) (Nat.lt_of_le_of_lt (Nat.sub_le _ _) t.isLt)).2 from (Memref.isWhole_whole cc0_scratch0).read_unread _]

/-- One point's product: the columns of its block. -/
theorem product (t : Fin cfg0.N) (r j : Fin 1024) (s : Fin 16384) (hs : s.val = t.val / 2 * 1024 + r.val) :
    upto (prods (argA m c) (argW m c) s j) (t.val % 2 * 1408) + k0_pay1 (F := Ideal) (iblk m c 0 t) (iblk m c 1 t) (ix2 r j)
      = upto (prods (argA m c) (argW m c) s j) (t.val % 2 * 1408 + 1408) := by
  rw [pay1_apply]
  exact upto_block _ _ _ _ (by omega) fun k => congrArg₂ (· * ·) (blk0 m c t r k s _ hs rfl) (blk1 m c t k j _ rfl)

/-- The first point of a pair leaves the first half of the sum. -/
theorem first (t : Fin cfg0.N) (h : t.val % 2 = 0) (r j : Fin 1024) (s : Fin 16384) (hs : s.val = t.val / 2 * 1024 + r.val) :
    (outsAt0 m c t.val t.isLt).2 (ix2 r j) = upto (prods (argA m c) (argW m c) s j) 1408 := by
  have e := product m c t r j s hs
  rw [h, Nat.zero_mul, upto_zero, zero_add, Nat.zero_add] at e
  rw [step_A m c t h, pay2_apply, e]

/-- The second point writes the whole sum. -/
theorem second (t : Fin cfg0.N) (h : t.val % 2 = 1) (r j : Fin 1024) (s : Fin 16384) (hs : s.val = t.val / 2 * 1024 + r.val) :
    (outsAt0 m c t.val t.isLt).1 (ix2 r j) = (∑ n, prods (argA m c) (argW m c) s j n) := by
  have e := product m c t r j s hs
  rw [h, Nat.one_mul] at e
  rw [step_B m c t h]
  dsimp only
  rw [pay3_apply, first m c ⟨t.val - 1, by omega⟩ (by dsimp only; omega) r j s (by dsimp only; omega), e]
  exact upto_all _

theorem final2 : (dats m 0 c).arrAt 2 cfg0.N = result (argA m c) (argW m c) := by
  refine (dats m 0 c).arrAt_eq_of_covers 2 (result (argA m c) (argW m c)) (by decide +kernel) fun t hf y => ?_
  have ht : t.val < 32 := lt_of_lt_of_eq t.isLt N_0
  have hl : t.val % 2 = 1 := (flush0_2 t).mp hf
  blk_simp [idx t]
  rw [after0_2, eq_ix2 y]
  have e0 : (((win0_2.blk t).view.emb (ix2 (y 0) (y 1))) 0).val = t.val / 2 * 1024 + (y 0).val := by blk_simp [idx t]
  have e1 : ((win0_2.blk t).view.emb (ix2 (y 0) (y 1))) 1 = y 1 := Fin.ext (by blk_simp [idx t])
  refine (second m c t hl (y 0) (y 1) _ e0).trans ?_
  rw [result, e1]

end

end Cert.Kernel9Ideal.FfnDown

end
-- ==== Proof.ProductClaim.lean ====
/-
  The feed-forward layer's products: the frames of their references, and the equations of their results.
-/
module

public import proofs.«01_k».proof.Defs
public import proofs.«01_k».proof.Proof.ProductDa
public import proofs.«01_k».proof.Proof.Gen.Reference3Ideal.Read
public import proofs.«01_k».proof.Proof.ProductGwDown
public import proofs.«01_k».proof.Proof.Gen.Reference4Ideal.Read
public import proofs.«01_k».proof.Proof.ProductDx1U
public import proofs.«01_k».proof.Proof.Gen.Reference5Ideal.Read
public import proofs.«01_k».proof.Proof.ProductDx1G
public import proofs.«01_k».proof.Proof.Gen.Reference6Ideal.Read
public import proofs.«01_k».proof.Proof.ProductGwUp
public import proofs.«01_k».proof.Proof.Gen.Reference7Ideal.Read
public import proofs.«01_k».proof.Proof.ProductFfnUp
public import proofs.«01_k».proof.Proof.Gen.Reference8Ideal.Read
public import proofs.«01_k».proof.Proof.ProductFfnDown
public import proofs.«01_k».proof.Proof.Gen.Reference9Ideal.Read

@[expose] public section

set_option maxRecDepth 16384

noncomputable section

namespace Cert.ProductClaim

open Idealize.ShloMosaic Idealize.ShloMosaic.TcCoe Idealize.SL.Sem
open scoped BigOperators

/-! ## The gradient passed back by the down projection -/

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem reference3 (x0 : FVec Ideal Cert.Kernel3Ideal.S16384x1024 .f32) (x1 : FVec Ideal Cert.Kernel3Ideal.S2816x1024 .f32) :
    Cert.Reference3Ideal.Read.val_main_v3 (F := Ideal) x0 x1 = Cert.Kernel3Ideal.Da.result x0 x1 := by
  funext i
  refine (Cert.Reference3Ideal.Read.val_main_v2_apply x0 x1 i).trans (Finset.sum_congr rfl fun k _ => ?_)
  exact congrArg₂ (· * ·) (congrArg x0 (eq_ix2 _)) (congrArg x1 (eq_ix2 _))

theorem equal3 : Cert.algebraic_Kernel3Ideal_Reference3Ideal := by
  intro m g m' g' _ hagree
  refine ⟨fun c => Kernel3Ideal.Da.result (Kernel3Ideal.Da.argDr m c) (Kernel3Ideal.Da.argW m c), ?_, ?_⟩
  · exact (θ_run Cert.Kernel3Ideal.defs _ _).mono (fun r h c => ⟨(h c).1.trans (Kernel3Ideal.Da.final2 m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    rw [Reference3Ideal.Read.val_main_v3_eq, reference3, (hagree c).1, (hagree c).2]

/-! ## The gradient of the down projection's weight -/

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem reference4 (x0 : FVec Ideal Cert.Kernel4Ideal.S16384x2816 .f32) (x1 : FVec Ideal Cert.Kernel4Ideal.S16384x1024 .f32) :
    Cert.Reference4Ideal.Read.val_main_v3 (F := Ideal) x0 x1 = Cert.Kernel4Ideal.GwDown.result x0 x1 := by
  funext i
  rw [Cert.Reference4Ideal.Read.val_main_v3_apply, Cert.Reference4Ideal.Read.val_main_v2_apply, Cert.Kernel4Ideal.GwDown.result]
  refine Finset.sum_congr rfl fun k _ => ?_
  exact (mul_comm (G := EReal) (x1 (Cert.Reference4Ideal.Read.lidx_main_v2 _ k)) (x0 (Cert.Reference4Ideal.Read.ridx_main_v2 _ k))).trans (congrArg₂ (· * ·) (congrArg x0 (eq_ix2 _)) (congrArg x1 (eq_ix2 _)))

theorem equal4 : Cert.algebraic_Kernel4Ideal_Reference4Ideal := by
  intro m g m' g' _ hagree
  refine ⟨fun c => Kernel4Ideal.GwDown.result (Kernel4Ideal.GwDown.argA m c) (Kernel4Ideal.GwDown.argDr m c), ?_, ?_⟩
  · exact (θ_run Cert.Kernel4Ideal.defs _ _).mono (fun r h c => ⟨(h c).1.trans (Kernel4Ideal.GwDown.final2 m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    rw [Reference4Ideal.Read.val_main_v3_eq, reference4, (hagree c).1, (hagree c).2]

/-! ## The gradient passed back by the up projection's value half, with the residual's -/

theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem reference5 (x0 : FVec Ideal Cert.Kernel5Ideal.S16384x2816 .f32) (x1 : FVec Ideal Cert.Kernel5Ideal.S1024x5632 .f32) (x2 : FVec Ideal Cert.Kernel5Ideal.S16384x1024 .f32) :
    Cert.Reference5Ideal.Read.val_main_v8 (F := Ideal) x0 x1 x2 = Cert.Kernel5Ideal.Dx1U.result x0 x1 x2 := by
  funext i
  refine congrArg₂ (· + ·) ((Cert.Reference5Ideal.Read.val_main_v5_apply x0 x1 i).trans (Finset.sum_congr rfl fun k _ => ?_))
    (congrArg (Kernel5Ideal.Dx1U.alpha * ·) (congrArg x2 (eq_ix2 _)))
  exact congrArg₂ (· * ·) (congrArg x0 (eq_ix2 _)) ((Cert.Reference5Ideal.Read.val_main_v3_apply (F := Ideal) x1 _).trans (congrArg x1 (eq_ix2 _)))

theorem equal5 : Cert.algebraic_Kernel5Ideal_Reference5Ideal := by
  intro m g m' g' _ hagree
  refine ⟨fun c => Kernel5Ideal.Dx1U.result (Kernel5Ideal.Dx1U.argDu m c) (Kernel5Ideal.Dx1U.argW m c) (Kernel5Ideal.Dx1U.argDr m c), ?_, ?_⟩
  · exact (θ_run Cert.Kernel5Ideal.defs _ _).mono (fun r h c => ⟨(h c).1.trans (Kernel5Ideal.Dx1U.final3 m c), (h c).2⟩)
      (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    rw [Reference5Ideal.Read.val_main_v8_eq, reference5, (hagree c).1, (hagree c).2.1, (hagree c).2.2]

/-! ## The gradient passed back by the up projection's gate half, added to the value half's -/

theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem reference6 (x0 : FVec Ideal Cert.Kernel6Ideal.S16384x2816 .f32) (x1 : FVec Ideal Cert.Kernel6Ideal.S1024x5632 .f32) (x2 : FVec Ideal Cert.Kernel6Ideal.S16384x1024 .f32) :
    Cert.Reference6Ideal.Read.val_main_v4 (F := Ideal) x0 x1 x2 = Cert.Kernel6Ideal.Dx1G.result x0 x1 x2 := by
  funext i
  refine (add_comm _ _).trans (congrArg₂ (· + ·) ((Cert.Reference6Ideal.Read.val_main_v3_apply x0 x1 i).trans (Finset.sum_congr rfl fun k _ => ?_))
    (congrArg x2 (eq_ix2 _)))
  exact congrArg₂ (· * ·) (congrArg x0 (eq_ix2 _)) ((Cert.Reference6Ideal.Read.val_main_v1_apply (F := Ideal) x1 _).trans (congrArg x1 (eq_ix2 _)))

theorem equal6 : Cert.algebraic_Kernel6Ideal_Reference6Ideal := by
  intro m g m' g' _ hagree
  refine ⟨fun c => Kernel6Ideal.Dx1G.result (Kernel6Ideal.Dx1G.argDg m c) (Kernel6Ideal.Dx1G.argW m c) (Kernel6Ideal.Dx1G.argDx m c), ?_, ?_⟩
  · exact (θ_run Cert.Kernel6Ideal.defs _ _).mono (fun r h c => ⟨(h c).1.trans (Kernel6Ideal.Dx1G.final3 m c), (h c).2⟩)
      (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    rw [Reference6Ideal.Read.val_main_v4_eq, reference6, (hagree c).1, (hagree c).2.1, (hagree c).2.2]

/-! ## The gradient of one half of the up projection's weight -/

theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem reference7 (x0 : FVec Ideal Cert.Kernel7Ideal.S16384x1024 .f32) (x1 : FVec Ideal Cert.Kernel7Ideal.S16384x2816 .f32) :
    Cert.Reference7Ideal.Read.val_main_v3 (F := Ideal) x0 x1 = Cert.Kernel7Ideal.GwUp.result x0 x1 := by
  funext i
  rw [Cert.Reference7Ideal.Read.val_main_v3_apply, Cert.Reference7Ideal.Read.val_main_v2_apply, Cert.Kernel7Ideal.GwUp.result]
  refine Finset.sum_congr rfl fun k _ => ?_
  exact (mul_comm (G := EReal) (x1 (Cert.Reference7Ideal.Read.lidx_main_v2 _ k)) (x0 (Cert.Reference7Ideal.Read.ridx_main_v2 _ k))).trans (congrArg₂ (· * ·) (congrArg x0 (eq_ix2 _)) (congrArg x1 (eq_ix2 _)))

theorem equal7 : Cert.algebraic_Kernel7Ideal_Reference7Ideal := by
  intro m g m' g' _ hagree
  refine ⟨fun c => Kernel7Ideal.GwUp.result (Kernel7Ideal.GwUp.argX m c) (Kernel7Ideal.GwUp.argDu m c), ?_, ?_⟩
  · exact (θ_run Cert.Kernel7Ideal.defs _ _).mono (fun r h c => ⟨(h c).1.trans (Kernel7Ideal.GwUp.final2 m c), (h c).2⟩)
      (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    rw [Reference7Ideal.Read.val_main_v3_eq, reference7, (hagree c).1, (hagree c).2]

/-! ## The up projection -/

theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem reference8 (x0 : FVec Ideal Cert.Kernel8Ideal.S16384x1024 .f32) (x1 : FVec Ideal Cert.Kernel8Ideal.S1024x5632 .f32) :
    Cert.Reference8Ideal.Read.val_main_v1 (F := Ideal) x0 x1 = Cert.Kernel8Ideal.FfnUp.result x0 x1 := by
  funext i
  refine (Cert.Reference8Ideal.Read.val_main_v0_apply x0 x1 i).trans (Finset.sum_congr rfl fun k _ => ?_)
  exact congrArg₂ (· * ·) (congrArg x0 (eq_ix2 _)) (congrArg x1 (eq_ix2 _))

theorem equal8 : Cert.algebraic_Kernel8Ideal_Reference8Ideal := by
  intro m g m' g' _ hagree
  refine ⟨fun c => Kernel8Ideal.FfnUp.result (Kernel8Ideal.FfnUp.argX m c) (Kernel8Ideal.FfnUp.argW m c), ?_, ?_⟩
  · exact (θ_run Cert.Kernel8Ideal.defs _ _).mono (fun r h c => ⟨(h c).1.trans (Kernel8Ideal.FfnUp.final2 m c), (h c).2⟩)
      (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    rw [Reference8Ideal.Read.val_main_v1_eq, reference8, (hagree c).1, (hagree c).2]

/-! ## The down projection -/

theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem reference9 (x0 : FVec Ideal Cert.Kernel9Ideal.S16384x2816 .f32) (x1 : FVec Ideal Cert.Kernel9Ideal.S2816x1024 .f32) :
    Cert.Reference9Ideal.Read.val_main_v0 (F := Ideal) x0 x1 = Cert.Kernel9Ideal.FfnDown.result x0 x1 := by
  funext i
  refine (Cert.Reference9Ideal.Read.val_main_v0_apply x0 x1 i).trans (Finset.sum_congr rfl fun k _ => ?_)
  exact congrArg₂ (· * ·) (congrArg x0 (eq_ix2 _)) (congrArg x1 (eq_ix2 _))

theorem equal9 : Cert.algebraic_Kernel9Ideal_Reference9Ideal := by
  intro m g m' g' _ hagree
  refine ⟨fun c => Kernel9Ideal.FfnDown.result (Kernel9Ideal.FfnDown.argA m c) (Kernel9Ideal.FfnDown.argW m c), ?_, ?_⟩
  · exact (θ_run Cert.Kernel9Ideal.defs _ _).mono (fun r h c => ⟨(h c).1.trans (Kernel9Ideal.FfnDown.final2 m c), (h c).2⟩)
      (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    rw [Reference9Ideal.Read.val_main_v0_eq, reference9, (hagree c).1, (hagree c).2]

end Cert.ProductClaim

end
-- ==== Proof.ProductSsmProj.lean ====
/-
  The state-space layer's input projection without its last columns: one grid point's block of the product, and the result array.
-/
module

public import proofs.«01_k».proof.Proof.Gen.Kernel10Ideal.Value
public import proofs.«01_k».proof.Proof.ProductMath
public import Idealize.ShloMosaic.Lib.Pipeline.ValueKit

@[expose] public section

set_option maxRecDepth 16384

noncomputable section

namespace Cert.Kernel10Ideal.SsmProj

open Cert.Kernel10Ideal Cert.Kernel10Ideal.Gen Cert.Kernel10Ideal.Value
open Idealize.ShloMosaic Idealize.ShloMosaic.TcCoe Idealize.SL.Sem
open Idealize.ShloMosaic.Pipeline (Dat)
open scoped BigOperators

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- One block of the product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the layer's input, and the weight. -/
abbrev argX : FVec Ideal S16384x1024 .f32 := m ((c : Thread nD τ).loc main_arg0)
abbrev argW : FVec Ideal S1024x6176 .f32 := m ((c : Thread nD τ).loc main_arg1)

/-- The input times the weight's first 6144 columns. -/
def result (x : FVec Ideal S16384x1024 .f32) (w : FVec Ideal S1024x6176 .f32) : FVec Ideal S16384x6144 .bf16 :=
  fun i => ∑ k : Fin 1024, x (ix2 (i 0) k) * w (ix2 k ⟨(i 1).val, Nat.lt_of_lt_of_le (i 1).isLt (by decide)⟩)

/-- The weight as the kernel's call receives it: narrowed to bf16, its first 6144 columns. -/
theorem weight (k : Fin 1024) (n : Fin 6144) : V m c main_v1 (ix2 k n) = argW m c (ix2 k ⟨n.val, Nat.lt_of_lt_of_le n.isLt (by decide)⟩) := by
  unfold_abbrev_sides
  after_results
  pointwise

theorem blk0 (t : Fin cfg0.N) (r k : Fin 1024) (s : Fin 16384) (hs : s.val = t.val / 6 * 1024 + r.val) :
    iblk m c 0 t (ix2 r k) = argX m c (ix2 s k) := by
  have ht : t.val < 96 := lt_of_lt_of_eq t.isLt N_0
  blk_point [iblk, V, idx t]

theorem blk1 (t : Fin cfg0.N) (k : Fin 1024) (j : Fin 1024) (n : Fin 6144) (hn : n.val = t.val % 6 * 1024 + j.val) :
    iblk m c 1 t (ix2 k j) = argW m c (ix2 k ⟨n.val, Nat.lt_of_lt_of_le n.isLt (by decide)⟩) := by
  have ht : t.val < 96 := lt_of_lt_of_eq t.isLt N_0
  refine Eq.trans (b := V m c main_v1 (ix2 k n)) ?_ (weight m c k n)
  blk_point [iblk, idx t]

/-- What a grid point leaves in its block. -/
theorem out_eq (x0 : FVec Ideal S1024x1024 .f32) (x1 : FVec Ideal S1024x1024 .bf16) :
    out0_2 (F := Ideal) x0 x1 = (k0_pay1 (F := Ideal) x0 x1 : FVec Ideal S1024x1024 .bf16) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 96 := lt_of_lt_of_eq t.isLt N_0
  blk_simp [idx t]
  rw [after0_2, out_eq, eq_ix2 y]
  have e0 : (((win0_2.blk t).view.emb (ix2 (y 0) (y 1))) 0).val = t.val / 6 * 1024 + (y 0).val := by blk_simp [idx t]
  have e1 : (((win0_2.blk t).view.emb (ix2 (y 0) (y 1))) 1).val = t.val % 6 * 1024 + (y 1).val := by blk_simp [idx t]
  refine (pay1_apply _ _ (y 0) (y 1)).trans (Finset.sum_congr rfl fun k _ => by rw [blk0 m c t (y 0) k _ e0, blk1 m c t k (y 1) _ e1])

end

end Cert.Kernel10Ideal.SsmProj

end
-- ==== Proof.ProductAttnProj.lean ====
/-
  The attention layer's input projection without its last columns: one grid point's block of the product, and the result array.
-/
module

public import proofs.«01_k».proof.Proof.Gen.Kernel11Ideal.Value
public import proofs.«01_k».proof.Proof.ProductMath
public import Idealize.ShloMosaic.Lib.Pipeline.ValueKit

@[expose] public section

set_option maxRecDepth 16384

noncomputable section

namespace Cert.Kernel11Ideal.AttnProj

open Cert.Kernel11Ideal Cert.Kernel11Ideal.Gen Cert.Kernel11Ideal.Value
open Idealize.ShloMosaic Idealize.ShloMosaic.TcCoe Idealize.SL.Sem
open Idealize.ShloMosaic.Pipeline (Dat)
open scoped BigOperators

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- One block of the product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the layer's input, and the weight. -/
abbrev argX : FVec Ideal S16384x1024 .f32 := m ((c : Thread nD τ).loc main_arg0)
abbrev argW : FVec Ideal S1024x3088 .f32 := m ((c : Thread nD τ).loc main_arg1)

/-- The input times the weight's first 3072 columns. -/
def result (x : FVec Ideal S16384x1024 .f32) (w : FVec Ideal S1024x3088 .f32) : FVec Ideal S16384x3072 .bf16 :=
  fun i => ∑ k : Fin 1024, x (ix2 (i 0) k) * w (ix2 k ⟨(i 1).val, Nat.lt_of_lt_of_le (i 1).isLt (by decide)⟩)

/-- The weight as the kernel's call receives it: narrowed to bf16, its first 3072 columns. -/
theorem weight (k : Fin 1024) (n : Fin 3072) : V m c main_v1 (ix2 k n) = argW m c (ix2 k ⟨n.val, Nat.lt_of_lt_of_le n.isLt (by decide)⟩) := by
  unfold_abbrev_sides
  after_results
  pointwise

theorem blk0 (t : Fin cfg0.N) (r k : Fin 1024) (s : Fin 16384) (hs : s.val = t.val / 3 * 1024 + r.val) :
    iblk m c 0 t (ix2 r k) = argX m c (ix2 s k) := by
  have ht : t.val < 48 := lt_of_lt_of_eq t.isLt N_0
  blk_point [iblk, V, idx t]

theorem blk1 (t : Fin cfg0.N) (k : Fin 1024) (j : Fin 1024) (n : Fin 3072) (hn : n.val = t.val % 3 * 1024 + j.val) :
    iblk m c 1 t (ix2 k j) = argW m c (ix2 k ⟨n.val, Nat.lt_of_lt_of_le n.isLt (by decide)⟩) := by
  have ht : t.val < 48 := lt_of_lt_of_eq t.isLt N_0
  refine Eq.trans (b := V m c main_v1 (ix2 k n)) ?_ (weight m c k n)
  blk_point [iblk, idx t]

/-- What a grid point leaves in its block. -/
theorem out_eq (x0 : FVec Ideal S1024x1024 .f32) (x1 : FVec Ideal S1024x1024 .bf16) :
    out0_2 (F := Ideal) x0 x1 = (k0_pay1 (F := Ideal) x0 x1 : FVec Ideal S1024x1024 .bf16) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 48 := lt_of_lt_of_eq t.isLt N_0
  blk_simp [idx t]
  rw [after0_2, out_eq, eq_ix2 y]
  have e0 : (((win0_2.blk t).view.emb (ix2 (y 0) (y 1))) 0).val = t.val / 3 * 1024 + (y 0).val := by blk_simp [idx t]
  have e1 : (((win0_2.blk t).view.emb (ix2 (y 0) (y 1))) 1).val = t.val % 3 * 1024 + (y 1).val := by blk_simp [idx t]
  refine (pay1_apply _ _ (y 0) (y 1)).trans (Finset.sum_congr rfl fun k _ => by rw [blk0 m c t (y 0) k _ e0, blk1 m c t k (y 1) _ e1])

end

end Cert.Kernel11Ideal.AttnProj

end
-- ==== Proof.ProductSsmOut.lean ====
/-
  The state-space layer's output projection: one grid point's block of the product, and the result array.
-/
module

public import proofs.«01_k».proof.Proof.Gen.Kernel12Ideal.Value
public import proofs.«01_k».proof.Proof.ProductMath
public import Idealize.ShloMosaic.Lib.Pipeline.ValueKit

@[expose] public section

set_option maxRecDepth 16384

noncomputable section

namespace Cert.Kernel12Ideal.SsmOut

open Cert.Kernel12Ideal Cert.Kernel12Ideal.Gen Cert.Kernel12Ideal.Value
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x2048 .bf16) (x1 : FVec Ideal S2048x1024 .bf16) (r j : Fin 1024) :
    k0_pay1 (F := Ideal) x0 x1 (ix2 r j) = ∑ k : Fin 2048, x0 (ix2 r k) * x1 (ix2 k j) := by
  unfold k0_pay1
  pointwise

section
variable (m : (ℓ : Loc nD τ sig) → Buf (Elt Ideal) ℓ) (c : Dev nD)

/-- The two arguments: the normalised rows, and the weight. -/
abbrev argX : FVec Ideal S16384x2048 .f32 := m ((c : Thread nD τ).loc main_arg0)
abbrev argW : FVec Ideal S2048x1024 .f32 := m ((c : Thread nD τ).loc main_arg1)

/-- The rows times the weight. -/
def result (x : FVec Ideal S16384x2048 .f32) (w : FVec Ideal S2048x1024 .f32) : FVec Ideal S16384x1024 .f32 :=
  fun i => ∑ k : Fin 2048, x (ix2 (i 0) k) * w (ix2 k (i 1))

/-- The two arguments as the kernel's call receives them: narrowed to bf16. -/
theorem rows (s : Fin 16384) (k : Fin 2048) : V m c main_v0 (ix2 s k) = argX m c (ix2 s k) := by
  unfold_abbrev_sides
  after_results
  pointwise

theorem weight (k : Fin 2048) (j : Fin 1024) : V m c main_v1 (ix2 k j) = argW m c (ix2 k j) := by
  unfold_abbrev_sides
  after_results
  pointwise

theorem blk0 (t : Fin cfg0.N) (r : Fin 1024) (k : Fin 2048) (s : Fin 16384) (hs : s.val = t.val * 1024 + r.val) :
    iblk m c 0 t (ix2 r k) = argX m c (ix2 s k) := by
  have ht : t.val < 16 := lt_of_lt_of_eq t.isLt N_0
  refine Eq.trans (b := V m c main_v0 (ix2 s k)) ?_ (rows m c s k)
  blk_point [iblk, idx t]

theorem blk1 (t : Fin cfg0.N) (k : Fin 2048) (j : Fin 1024) : iblk m c 1 t (ix2 k j) = argW m c (ix2 k j) := by
  have ht : t.val < 16 := lt_of_lt_of_eq t.isLt N_0
  refine Eq.trans (b := V m c main_v1 (ix2 k j)) ?_ (weight m c k j)
  blk_point [iblk, idx t]

/-- What a grid point leaves in its block. -/
theorem out_eq (x0 : FVec Ideal S1024x2048 .bf16) (x1 : FVec Ideal S2048x1024 .bf16) :
    out0_2 (F := Ideal) x0 x1 = (k0_pay1 (F := Ideal) x0 x1 : FVec Ideal S1024x1024 .f32) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel12Ideal.SsmOut

end
-- ==== Proof.ProductGwZ.lean ====
/-
  The gradient of the state-space layer's gate columns of its input weight: the block of the result grows by one product at each grid point,
  over sixteen points, and holds the whole sum at the last.
-/
module

public import proofs.«01_k».proof.Proof.Gen.Kernel13Ideal.Value
public import proofs.«01_k».proof.Proof.ProductMath
public import Idealize.ShloMosaic.Lib.Pipeline.ValueKit

@[expose] public section

set_option maxRecDepth 16384

noncomputable section

namespace Cert.Kernel13Ideal.GwZ

open Cert.Kernel13Ideal Cert.Kernel13Ideal.Gen Cert.Kernel13Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One block's product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x1024 .bf16) (acc : FVec Ideal S1024x1024 .f32) (r : Fin 1024) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's input, and the cotangent of those columns' product. -/
abbrev argX : FVec Ideal S16384x1024 .f32 := m ((c : Thread nD τ).loc main_arg0)
abbrev argDy : FVec Ideal S16384x2048 .f32 := m ((c : Thread nD τ).loc main_arg1)

/-- The products that one element of the gradient sums, one per row. -/
def prods (x : FVec Ideal S16384x1024 .f32) (dy : FVec Ideal S16384x2048 .f32) (r : Fin 1024) (n : Fin 2048) : Fin 16384 → EReal :=
  fun s => x (ix2 s r) * dy (ix2 s n)

/-- The transposed input times the cotangent. -/
def result (x : FVec Ideal S16384x1024 .f32) (dy : FVec Ideal S16384x2048 .f32) : FVec Ideal S1024x2048 .f32 :=
  fun i => ∑ s, prods x dy (i 0) (i 1) s

/-- The cotangent as the kernel's call receives it: narrowed to bf16. -/
theorem cotangent (s : Fin 16384) (n : Fin 2048) : V m c main_v0 (ix2 s n) = argDy m c (ix2 s n) := by
  unfold_abbrev_sides
  after_results
  pointwise

theorem blk0 (t : Fin cfg0.N) (k r : Fin 1024) (s : Fin 16384) (hs : s.val = t.val % 16 * 1024 + k.val) :
    iblk m c 0 t (ix2 k r) = argX m c (ix2 s r) := by
  have ht : t.val < 32 := lt_of_lt_of_eq t.isLt N_0
  blk_point [iblk, V, idx t]

theorem blk1 (t : Fin cfg0.N) (k : Fin 1024) (j : Fin 1024) (s : Fin 16384) (n : Fin 2048)
    (hs : s.val = t.val % 16 * 1024 + k.val) (hn : n.val = t.val / 16 * 1024 + j.val) :
    iblk m c 1 t (ix2 k j) = argDy m c (ix2 s n) := by
  have ht : t.val < 32 := lt_of_lt_of_eq t.isLt N_0
  refine Eq.trans (b := V m c main_v0 (ix2 s n)) ?_ (cotangent m c s n)
  blk_point [iblk, idx t]

theorem step_A (t : Fin cfg0.N) (h : t.val % 16 = 0) :
    outsAt0 m c t.val t.isLt = (k0_pay1 (F := Ideal) (iblk m c 0 t) (iblk m c 1 t) : FVec Ideal S1024x1024 .f32) := by
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1024 .f32) := by
  rw [outsAt0_B m c t h (by omega)]
  frame_out

/-- One point's product: the rows of its block. -/
theorem product (t : Fin cfg0.N) (r : Fin 1024) (j : Fin 1024) (q : Fin 2048) (hq : q.val = t.val / 16 * 1024 + j.val) :
    upto (prods (argX m c) (argDy m c) r q) (t.val % 16 * 1024) + k0_pay1 (F := Ideal) (iblk m c 0 t) (iblk m c 1 t) (ix2 r j)
      = upto (prods (argX m c) (argDy m c) r q) (t.val % 16 * 1024 + 1024) := by
  rw [pay1_apply]
  exact upto_block _ _ _ _ (by omega) fun k => congrArg₂ (· * ·) (blk0 m c t k r _ rfl) (blk1 m c t k j _ q rfl hq)

/-- After a point the block holds the sum over the rows of the blocks so far. -/
theorem holds (t : Fin cfg0.N) (r : Fin 1024) (j : Fin 1024) (q : Fin 2048) (hq : q.val = t.val / 16 * 1024 + j.val) :
    outsAt0 m c t.val t.isLt (ix2 r j) = upto (prods (argX m c) (argDy m c) r q) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h hb => product m c ⟨p, h⟩ r j q (by rw [hq, ← hb]))
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have ht : t.val < 32 := lt_of_lt_of_eq t.isLt N_0
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : (((win0_2.blk t).view.emb (ix2 (y 0) (y 1))) 1).val = t.val / 16 * 1024 + (y 1).val := by blk_simp [idx t]
  refine (holds m c t (y 0) (y 1) _ e1).trans ?_
  rw [hl, result, e0]
  exact upto_all _

end

end Cert.Kernel13Ideal.GwZ

end
-- ==== Proof.ProductGwXbc.lean ====
/-
  The gradient of the state-space layer's convolved columns of its input weight: the block of the result grows by one product at each grid point,
  over sixteen points, and holds the whole sum at the last.
-/
module

public import proofs.«01_k».proof.Proof.Gen.Kernel14Ideal.Value
public import proofs.«01_k».proof.Proof.ProductMath
public import Idealize.ShloMosaic.Lib.Pipeline.ValueKit

@[expose] public section

set_option maxRecDepth 16384

noncomputable section

namespace Cert.Kernel14Ideal.GwXbc

open Cert.Kernel14Ideal Cert.Kernel14Ideal.Gen Cert.Kernel14Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One block's product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x1024 .bf16) (acc : FVec Ideal S1024x1024 .f32) (r : Fin 1024) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's input, and the cotangent of those columns' product. -/
abbrev argX : FVec Ideal S16384x1024 .f32 := m ((c : Thread nD τ).loc main_arg0)
abbrev argDy : FVec Ideal S16384x4096 .f32 := m ((c : Thread nD τ).loc main_arg1)

/-- The products that one element of the gradient sums, one per row. -/
def prods (x : FVec Ideal S16384x1024 .f32) (dy : FVec Ideal S16384x4096 .f32) (r : Fin 1024) (n : Fin 4096) : Fin 16384 → EReal :=
  fun s => x (ix2 s r) * dy (ix2 s n)

/-- The transposed input times the cotangent. -/
def result (x : FVec Ideal S16384x1024 .f32) (dy : FVec Ideal S16384x4096 .f32) : FVec Ideal S1024x4096 .f32 :=
  fun i => ∑ s, prods x dy (i 0) (i 1) s

/-- The cotangent as the kernel's call receives it: narrowed to bf16. -/
theorem cotangent (s : Fin 16384) (n : Fin 4096) : V m c main_v0 (ix2 s n) = argDy m c (ix2 s n) := by
  unfold_abbrev_sides
  after_results
  pointwise

theorem blk0 (t : Fin cfg0.N) (k r : Fin 1024) (s : Fin 16384) (hs : s.val = t.val % 16 * 1024 + k.val) :
    iblk m c 0 t (ix2 k r) = argX m c (ix2 s r) := by
  have ht : t.val < 64 := lt_of_lt_of_eq t.isLt N_0
  blk_point [iblk, V, idx t]

theorem blk1 (t : Fin cfg0.N) (k : Fin 1024) (j : Fin 1024) (s : Fin 16384) (n : Fin 4096)
    (hs : s.val = t.val % 16 * 1024 + k.val) (hn : n.val = t.val / 16 * 1024 + j.val) :
    iblk m c 1 t (ix2 k j) = argDy m c (ix2 s n) := by
  have ht : t.val < 64 := lt_of_lt_of_eq t.isLt N_0
  refine Eq.trans (b := V m c main_v0 (ix2 s n)) ?_ (cotangent m c s n)
  blk_point [iblk, idx t]

theorem step_A (t : Fin cfg0.N) (h : t.val % 16 = 0) :
    outsAt0 m c t.val t.isLt = (k0_pay1 (F := Ideal) (iblk m c 0 t) (iblk m c 1 t) : FVec Ideal S1024x1024 .f32) := by
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1024 .f32) := by
  rw [outsAt0_B m c t h (by omega)]
  frame_out

/-- One point's product: the rows of its block. -/
theorem product (t : Fin cfg0.N) (r : Fin 1024) (j : Fin 1024) (q : Fin 4096) (hq : q.val = t.val / 16 * 1024 + j.val) :
    upto (prods (argX m c) (argDy m c) r q) (t.val % 16 * 1024) + k0_pay1 (F := Ideal) (iblk m c 0 t) (iblk m c 1 t) (ix2 r j)
      = upto (prods (argX m c) (argDy m c) r q) (t.val % 16 * 1024 + 1024) := by
  rw [pay1_apply]
  exact upto_block _ _ _ _ (by omega) fun k => congrArg₂ (· * ·) (blk0 m c t k r _ rfl) (blk1 m c t k j _ q rfl hq)

/-- After a point the block holds the sum over the rows of the blocks so far. -/
theorem holds (t : Fin cfg0.N) (r : Fin 1024) (j : Fin 1024) (q : Fin 4096) (hq : q.val = t.val / 16 * 1024 + j.val) :
    outsAt0 m c t.val t.isLt (ix2 r j) = upto (prods (argX m c) (argDy m c) r q) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h hb => product m c ⟨p, h⟩ r j q (by rw [hq, ← hb]))
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have ht : t.val < 64 := lt_of_lt_of_eq t.isLt N_0
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : (((win0_2.blk t).view.emb (ix2 (y 0) (y 1))) 1).val = t.val / 16 * 1024 + (y 1).val := by blk_simp [idx t]
  refine (holds m c t (y 0) (y 1) _ e1).trans ?_
  rw [hl, result, e0]
  exact upto_all _

end

end Cert.Kernel14Ideal.GwXbc

end
-- ==== Proof.ProductGwQkv.lean ====
/-
  The gradient of the attention layer's input weight without its gate columns: the block of the result grows by one product at each grid point,
  over sixteen points, and holds the whole sum at the last.
-/
module

public import proofs.«01_k».proof.Proof.Gen.Kernel15Ideal.Value
public import proofs.«01_k».proof.Proof.ProductMath
public import Idealize.ShloMosaic.Lib.Pipeline.ValueKit

@[expose] public section

set_option maxRecDepth 16384

noncomputable section

namespace Cert.Kernel15Ideal.GwQkv

open Cert.Kernel15Ideal Cert.Kernel15Ideal.Gen Cert.Kernel15Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One block's product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x1024 .bf16) (acc : FVec Ideal S1024x1024 .f32) (r : Fin 1024) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's input, and the cotangent of those columns' product. -/
abbrev argX : FVec Ideal S16384x1024 .f32 := m ((c : Thread nD τ).loc main_arg0)
abbrev argDy : FVec Ideal S16384x3072 .f32 := m ((c : Thread nD τ).loc main_arg1)

/-- The products that one element of the gradient sums, one per row. -/
def prods (x : FVec Ideal S16384x1024 .f32) (dy : FVec Ideal S16384x3072 .f32) (r : Fin 1024) (n : Fin 3072) : Fin 16384 → EReal :=
  fun s => x (ix2 s r) * dy (ix2 s n)

/-- The transposed input times the cotangent. -/
def result (x : FVec Ideal S16384x1024 .f32) (dy : FVec Ideal S16384x3072 .f32) : FVec Ideal S1024x3072 .f32 :=
  fun i => ∑ s, prods x dy (i 0) (i 1) s

/-- The cotangent as the kernel's call receives it: narrowed to bf16. -/
theorem cotangent (s : Fin 16384) (n : Fin 3072) : V m c main_v0 (ix2 s n) = argDy m c (ix2 s n) := by
  unfold_abbrev_sides
  after_results
  pointwise

theorem blk0 (t : Fin cfg0.N) (k r : Fin 1024) (s : Fin 16384) (hs : s.val = t.val % 16 * 1024 + k.val) :
    iblk m c 0 t (ix2 k r) = argX m c (ix2 s r) := by
  have ht : t.val < 48 := lt_of_lt_of_eq t.isLt N_0
  blk_point [iblk, V, idx t]

theorem blk1 (t : Fin cfg0.N) (k : Fin 1024) (j : Fin 1024) (s : Fin 16384) (n : Fin 3072)
    (hs : s.val = t.val % 16 * 1024 + k.val) (hn : n.val = t.val / 16 * 1024 + j.val) :
    iblk m c 1 t (ix2 k j) = argDy m c (ix2 s n) := by
  have ht : t.val < 48 := lt_of_lt_of_eq t.isLt N_0
  refine Eq.trans (b := V m c main_v0 (ix2 s n)) ?_ (cotangent m c s n)
  blk_point [iblk, idx t]

theorem step_A (t : Fin cfg0.N) (h : t.val % 16 = 0) :
    outsAt0 m c t.val t.isLt = (k0_pay1 (F := Ideal) (iblk m c 0 t) (iblk m c 1 t) : FVec Ideal S1024x1024 .f32) := by
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1024 .f32) := by
  rw [outsAt0_B m c t h (by omega)]
  frame_out

/-- One point's product: the rows of its block. -/
theorem product (t : Fin cfg0.N) (r : Fin 1024) (j : Fin 1024) (q : Fin 3072) (hq : q.val = t.val / 16 * 1024 + j.val) :
    upto (prods (argX m c) (argDy m c) r q) (t.val % 16 * 1024) + k0_pay1 (F := Ideal) (iblk m c 0 t) (iblk m c 1 t) (ix2 r j)
      = upto (prods (argX m c) (argDy m c) r q) (t.val % 16 * 1024 + 1024) := by
  rw [pay1_apply]
  exact upto_block _ _ _ _ (by omega) fun k => congrArg₂ (· * ·) (blk0 m c t k r _ rfl) (blk1 m c t k j _ q rfl hq)

/-- After a point the block holds the sum over the rows of the blocks so far. -/
theorem holds (t : Fin cfg0.N) (r : Fin 1024) (j : Fin 1024) (q : Fin 3072) (hq : q.val = t.val / 16 * 1024 + j.val) :
    outsAt0 m c t.val t.isLt (ix2 r j) = upto (prods (argX m c) (argDy m c) r q) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h hb => product m c ⟨p, h⟩ r j q (by rw [hq, ← hb]))
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have ht : t.val < 48 := lt_of_lt_of_eq t.isLt N_0
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : (((win0_2.blk t).view.emb (ix2 (y 0) (y 1))) 1).val = t.val / 16 * 1024 + (y 1).val := by blk_simp [idx t]
  refine (holds m c t (y 0) (y 1) _ e1).trans ?_
  rw [hl, result, e0]
  exact upto_all _

end

end Cert.Kernel15Ideal.GwQkv

end
-- ==== Proof.ProductGwOut.lean ====
/-
  The gradient of the state-space layer's output weight: the block of the result grows by one product at each grid point,
  over sixteen points, and holds the whole sum at the last.
-/
module

public import proofs.«01_k».proof.Proof.Gen.Kernel16Ideal.Value
public import proofs.«01_k».proof.Proof.ProductMath
public import Idealize.ShloMosaic.Lib.Pipeline.ValueKit

@[expose] public section

set_option maxRecDepth 16384

noncomputable section

namespace Cert.Kernel16Ideal.GwOut

open Cert.Kernel16Ideal Cert.Kernel16Ideal.Gen Cert.Kernel16Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- One block's product at an index. -/
theorem pay1_apply (x0 : FVec Ideal S1024x1024 .bf16) (x1 : FVec Ideal S1024x1024 .f32) (r : Fin 1024) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .bf16) (x1 : FVec Ideal S1024x1024 .f32) (acc : FVec Ideal S1024x1024 .f32) (r : Fin 1024) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the normalised rows, and the cotangent of the output projection. -/
abbrev argY : FVec Ideal S16384x2048 .f32 := m ((c : Thread nD τ).loc main_arg0)
abbrev argDm : FVec Ideal S16384x1024 .f32 := m ((c : Thread nD τ).loc main_arg1)

/-- The products that one element of the gradient sums, one per row. -/
def prods (y : FVec Ideal S16384x2048 .f32) (dm : FVec Ideal S16384x1024 .f32) (n : Fin 2048) (j : Fin 1024) : Fin 16384 → EReal :=
  fun s => y (ix2 s n) * dm (ix2 s j)

/-- The transposed rows times the cotangent. -/
def result (y : FVec Ideal S16384x2048 .f32) (dm : FVec Ideal S16384x1024 .f32) : FVec Ideal S2048x1024 .f32 :=
  fun i => ∑ s, prods y dm (i 0) (i 1) s

/-- The rows as the kernel's call receives them: narrowed to bf16. -/
theorem rows (s : Fin 16384) (n : Fin 2048) : V m c main_v0 (ix2 s n) = argY m c (ix2 s n) := by
  unfold_abbrev_sides
  after_results
  pointwise

theorem blk0 (t : Fin cfg0.N) (k : Fin 1024) (r : Fin 1024) (s : Fin 16384) (n : Fin 2048)
    (hs : s.val = t.val % 16 * 1024 + k.val) (hn : n.val = t.val / 16 * 1024 + r.val) :
    iblk m c 0 t (ix2 k r) = argY m c (ix2 s n) := by
  have ht : t.val < 32 := lt_of_lt_of_eq t.isLt N_0
  refine Eq.trans (b := V m c main_v0 (ix2 s n)) ?_ (rows m c s n)
  blk_point [iblk, idx t]

theorem blk1 (t : Fin cfg0.N) (k j : Fin 1024) (s : Fin 16384) (hs : s.val = t.val % 16 * 1024 + k.val) :
    iblk m c 1 t (ix2 k j) = argDm m c (ix2 s j) := by
  have ht : t.val < 32 := lt_of_lt_of_eq t.isLt N_0
  blk_point [iblk, V, idx t]

theorem step_A (t : Fin cfg0.N) (h : t.val % 16 = 0) :
    outsAt0 m c t.val t.isLt = (k0_pay1 (F := Ideal) (iblk m c 0 t) (iblk m c 1 t) : FVec Ideal S1024x1024 .f32) := by
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1024 .f32) := by
  rw [outsAt0_B m c t h (by omega)]
  frame_out

/-- One point's product: the rows of its block. -/
theorem product (t : Fin cfg0.N) (r : Fin 1024) (j : Fin 1024) (q : Fin 2048) (hq : q.val = t.val / 16 * 1024 + r.val) :
    upto (prods (argY m c) (argDm m c) q j) (t.val % 16 * 1024) + k0_pay1 (F := Ideal) (iblk m c 0 t) (iblk m c 1 t) (ix2 r j)
      = upto (prods (argY m c) (argDm m c) q j) (t.val % 16 * 1024 + 1024) := by
  rw [pay1_apply]
  exact upto_block _ _ _ _ (by omega) fun k => congrArg₂ (· * ·) (blk0 m c t k r _ q rfl hq) (blk1 m c t k j _ rfl)

/-- After a point the block holds the sum over the rows of the blocks so far. -/
theorem holds (t : Fin cfg0.N) (r : Fin 1024) (j : Fin 1024) (q : Fin 2048) (hq : q.val = t.val / 16 * 1024 + r.val) :
    outsAt0 m c t.val t.isLt (ix2 r j) = upto (prods (argY m c) (argDm m c) q j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h hb => product m c ⟨p, h⟩ r j q (by rw [hq, ← hb]))
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argY m c) (argDm m c) := by
  refine (dats m 0 c).arrAt_eq_of_covers 2 (result (argY m c) (argDm m c)) (by decide +kernel) fun t hf y => ?_
  have ht : t.val < 32 := lt_of_lt_of_eq t.isLt N_0
  have hl : t.val % 16 = 15 := (flush0_2 t).mp hf
  blk_simp [idx t]
  rw [after0_2, eq_ix2 y]
  have e0 : (((win0_2.blk t).view.emb (ix2 (y 0) (y 1))) 0).val = t.val / 16 * 1024 + (y 0).val := by blk_simp [idx t]
  have e1 : ((win0_2.blk t).view.emb (ix2 (y 0) (y 1))) 1 = y 1 := Fin.ext (by blk_simp [idx t])
  refine (holds m c t (y 0) (y 1) _ e0).trans ?_
  rw [hl, result, e1]
  exact upto_all _

end

end Cert.Kernel16Ideal.GwOut

end
-- ==== Proof.ProductDyn.lean ====
/-
  The gradient that the state-space layer's output projection passes back: one grid point's block of the product, and the result array.
-/
module

public import proofs.«01_k».proof.Proof.Gen.Kernel17Ideal.Value
public import proofs.«01_k».proof.Proof.ProductMath
public import Idealize.ShloMosaic.Lib.Pipeline.ValueKit

@[expose] public section

set_option maxRecDepth 16384

noncomputable section

namespace Cert.Kernel17Ideal.Dyn

open Cert.Kernel17Ideal Cert.Kernel17Ideal.Gen Cert.Kernel17Ideal.Value
open Idealize.ShloMosaic Idealize.ShloMosaic.TcCoe Idealize.SL.Sem
open Idealize.ShloMosaic.Pipeline (Dat)
open scoped BigOperators

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- One block of the product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the cotangent of the output projection, and its weight. -/
abbrev argDm : FVec Ideal S16384x1024 .f32 := m ((c : Thread nD τ).loc main_arg0)
abbrev argW : FVec Ideal S2048x1024 .f32 := m ((c : Thread nD τ).loc main_arg1)

/-- The cotangent times the transposed weight. -/
def result (dm : FVec Ideal S16384x1024 .f32) (w : FVec Ideal S2048x1024 .f32) : FVec Ideal S16384x2048 .bf16 :=
  fun i => ∑ k : Fin 1024, dm (ix2 (i 0) k) * w (ix2 (i 1) k)

/-- The weight as the kernel's call receives it: transposed, narrowed to bf16. -/
theorem weight (k : Fin 1024) (n : Fin 2048) : V m c main_v1 (ix2 k n) = argW m c (ix2 n k) := by
  unfold_abbrev_sides
  after_results
  pointwise

theorem blk0 (t : Fin cfg0.N) (r k : Fin 1024) (s : Fin 16384) (hs : s.val = t.val / 2 * 1024 + r.val) :
    iblk m c 0 t (ix2 r k) = argDm m c (ix2 s k) := by
  have ht : t.val < 32 := lt_of_lt_of_eq t.isLt N_0
  blk_point [iblk, V, idx t]

theorem blk1 (t : Fin cfg0.N) (k : Fin 1024) (j : Fin 1024) (n : Fin 2048) (hn : n.val = t.val % 2 * 1024 + j.val) :
    iblk m c 1 t (ix2 k j) = argW m c (ix2 n k) := by
  have ht : t.val < 32 := lt_of_lt_of_eq t.isLt N_0
  refine Eq.trans (b := V m c main_v1 (ix2 k n)) ?_ (weight m c k n)
  blk_point [iblk, idx t]

/-- What a grid point leaves in its block. -/
theorem out_eq (x0 : FVec Ideal S1024x1024 .f32) (x1 : FVec Ideal S1024x1024 .bf16) :
    out0_2 (F := Ideal) x0 x1 = (k0_pay1 (F := Ideal) x0 x1 : FVec Ideal S1024x1024 .bf16) := by
  frame_out

theorem final2 : (dats m 0 c).arrAt 2 cfg0.N = result (argDm m c) (argW m c) := by
  refine (dats m 0 c).arrAt_eq_of_covers 2 (result (argDm m c) (argW m c)) (by decide +kernel) fun t hf y => ?_
  have ht : t.val < 32 := lt_of_lt_of_eq t.isLt N_0
  blk_simp [idx t]
  rw [after0_2, out_eq, eq_ix2 y]
  have e0 : (((win0_2.blk t).view.emb (ix2 (y 0) (y 1))) 0).val = t.val / 2 * 1024 + (y 0).val := by blk_simp [idx t]
  have e1 : (((win0_2.blk t).view.emb (ix2 (y 0) (y 1))) 1).val = t.val % 2 * 1024 + (y 1).val := by blk_simp [idx t]
  refine (pay1_apply _ _ (y 0) (y 1)).trans (Finset.sum_congr rfl fun k _ => by rw [blk0 m c t (y 0) k _ e0, blk1 m c t k (y 1) _ e1])

end

end Cert.Kernel17Ideal.Dyn

end
-- ==== Proof.ProductDxZ.lean ====
/-
  The gradient that the state-space layer's gate columns pass back, with the scaled residual added: one grid point's
  block, and the result array.
-/
module

public import proofs.«01_k».proof.Proof.Gen.Kernel18Ideal.Value
public import proofs.«01_k».proof.Proof.ProductMath
public import Idealize.ShloMosaic.Lib.Pipeline.ValueKit

@[expose] public section

set_option maxRecDepth 16384

noncomputable section

namespace Cert.Kernel18Ideal.DxZ

open Cert.Kernel18Ideal Cert.Kernel18Ideal.Gen Cert.Kernel18Ideal.Value
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The residual's factor, `4 ^ (1/4)` as a float word. -/
abbrev alpha : EReal := Scalar.ofBits (F := Ideal) .f32 0x3FB504F3#32

/-- One block of the product and the residual's part, at an index. -/
theorem pay1_apply (x0 : FVec Ideal S1024x2048 .bf16) (x1 : FVec Ideal S2048x1024 .bf16) (x2 : FVec Ideal S1024x1024 .f32) (r j : Fin 1024) :
    k0_pay1 (F := Ideal) x0 x1 x2 (ix2 r j) = (∑ k : Fin 2048, x0 (ix2 r k) * x1 (ix2 k j)) + alpha * x2 (ix2 r j) := by
  unfold k0_pay1
  pointwise

section
variable (m : (ℓ : Loc nD τ sig) → Buf (Elt Ideal) ℓ) (c : Dev nD)

/-- The three arguments: the cotangent of the gate columns' product, the input weight, the residual's cotangent. -/
abbrev argDz : FVec Ideal S16384x2048 .f32 := m ((c : Thread nD τ).loc main_arg0)
abbrev argW : FVec Ideal S1024x6176 .f32 := m ((c : Thread nD τ).loc main_arg1)
abbrev argDr : FVec Ideal S16384x1024 .f32 := m ((c : Thread nD τ).loc main_arg2)

/-- The cotangent times the weight's first 2048 columns, transposed, and the scaled residual. -/
def result (dz : FVec Ideal S16384x2048 .f32) (w : FVec Ideal S1024x6176 .f32) (dr : FVec Ideal S16384x1024 .f32) : FVec Ideal S16384x1024 .f32 :=
  fun i => (∑ k : Fin 2048, dz (ix2 (i 0) k) * w (ix2 (i 1) ⟨k.val, by omega⟩)) + alpha * dr (ix2 (i 0) (i 1))

/-- The cotangent and the weight as the kernel's call receives them: narrowed to bf16, the weight's part transposed. -/
theorem cotangent (s : Fin 16384) (k : Fin 2048) : V m c main_v0 (ix2 s k) = argDz m c (ix2 s k) := by
  unfold_abbrev_sides
  after_results
  pointwise

theorem weight (k : Fin 2048) (j : Fin 1024) : V m c main_v3 (ix2 k j) = argW m c (ix2 j ⟨k.val, by omega⟩) := by
  unfold_abbrev_sides
  after_results
  pointwise

theorem blk0 (t : Fin cfg0.N) (r : Fin 1024) (k : Fin 2048) (s : Fin 16384) (hs : s.val = t.val * 1024 + r.val) :
    iblk m c 0 t (ix2 r k) = argDz m c (ix2 s k) := by
  have ht : t.val < 16 := lt_of_lt_of_eq t.isLt N_0
  refine Eq.trans (b := V m c main_v0 (ix2 s k)) ?_ (cotangent m c s k)
  blk_point [iblk, idx t]

theorem blk1 (t : Fin cfg0.N) (k : Fin 2048) (j : Fin 1024) : iblk m c 1 t (ix2 k j) = argW m c (ix2 j ⟨k.val, by omega⟩) := by
  have ht : t.val < 16 := lt_of_lt_of_eq t.isLt N_0
  refine Eq.trans (b := V m c main_v3 (ix2 k j)) ?_ (weight m c k j)
  blk_point [iblk, idx t]

theorem blk2 (t : Fin cfg0.N) (r j : Fin 1024) (s : Fin 16384) (hs : s.val = t.val * 1024 + r.val) :
    iblk m c 2 t (ix2 r j) = argDr m c (ix2 s j) := by
  have ht : t.val < 16 := lt_of_lt_of_eq t.isLt N_0
  blk_point [iblk, V, idx t]

/-- What a grid point leaves in its block. -/
theorem out_eq (x0 : FVec Ideal S1024x2048 .bf16) (x1 : FVec Ideal S2048x1024 .bf16) (x2 : FVec Ideal S1024x1024 .f32) :
    out0_3 (F := Ideal) x0 x1 x2 = (k0_pay1 (F := Ideal) x0 x1 x2 : FVec Ideal S1024x1024 .f32) := by
  frame_out

theorem final3 : (dats m 0 c).arrAt 3 cfg0.N = result (argDz m c) (argW m c) (argDr m c) := by
  refine (dats m 0 c).arrAt_eq_of_covers 3 (result (argDz m c) (argW m c) (argDr m c)) (by decide +kernel) fun t hf y => ?_
  have ht : t.val < 16 := lt_of_lt_of_eq t.isLt N_0
  blk_simp [idx t]
  rw [after0_3, out_eq, eq_ix2 y]
  have e0 : (((win0_3.blk t).view.emb (ix2 (y 0) (y 1))) 0).val = t.val * 1024 + (y 0).val := by blk_simp [idx t]
  have e1 : ((win0_3.blk t).view.emb (ix2 (y 0) (y 1))) 1 = y 1 := Fin.ext (by blk_simp [idx t])
  refine (pay1_apply _ _ _ (y 0) (y 1)).trans ?_
  rw [result, e1]
  exact congrArg₂ (· + ·) (Finset.sum_congr rfl fun k _ => by rw [blk0 m c t (y 0) k _ e0, blk1 m c t k (y 1)])
    (congrArg (alpha * ·) (blk2 m c t (y 0) (y 1) _ e0))

end

end Cert.Kernel18Ideal.DxZ

end
-- ==== Proof.ProductDxXbc.lean ====
/-
  The gradient that the state-space layer's convolved columns pass back, added to the gradient that came so far: four products
  are summed in the carried buffer, and the last point of each run writes the sum and what came so far.
-/
module

public import proofs.«01_k».proof.Proof.Gen.Kernel19Ideal.Value
public import proofs.«01_k».proof.Proof.ProductMath
public import Idealize.ShloMosaic.Lib.Pipeline.ValueKit

@[expose] public section

set_option maxRecDepth 16384

noncomputable section

namespace Cert.Kernel19Ideal.DxXbc

open Cert.Kernel19Ideal Cert.Kernel19Ideal.Gen Cert.Kernel19Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val / 4, t.val % 4] ∧ win0_1.index t = ![t.val % 4, 0]
    ∧ win0_2.index t = ![t.val / 4, 0] ∧ win0_3.index t = ![t.val / 4, 0] :=
  (by decide +kernel : ∀ t : Fin grid0.N, _)

/-- One block's product at an index. -/
theorem pay1_apply (x0 : FVec Ideal S1024x1024 .bf16) (x1 : FVec Ideal S1024x1024 .bf16) (r j : Fin 1024) :
    k0_pay1 (F := Ideal) x0 x1 (ix2 r j) = ∑ k : Fin 1024, x0 (ix2 r k) * x1 (ix2 k j) := by
  unfold k0_pay1
  pointwise

theorem pay2_apply (x0 : FVec Ideal S1024x1024 .bf16) (x1 : FVec Ideal S1024x1024 .bf16) (r j : Fin 1024) :
    k0_pay2 (F := Ideal) x0 x1 (ix2 r j) = k0_pay1 (F := Ideal) x0 x1 (ix2 r j) := by
  unfold k0_pay2
  pointwise

/-- … added to what the carried buffer held. -/
theorem pay3_apply (x0 : FVec Ideal S1024x1024 .bf16) (x1 : FVec Ideal S1024x1024 .bf16) (acc : FVec Ideal S1024x1024 .f32) (r j : Fin 1024) :
    k0_pay3 (F := Ideal) x0 x1 acc (ix2 r j) = acc (ix2 r j) + k0_pay1 (F := Ideal) x0 x1 (ix2 r j) := by
  unfold k0_pay3
  pointwise

/-- The sum and what came so far. -/
theorem pay4_apply (acc dx : FVec Ideal S1024x1024 .f32) (r j : Fin 1024) :
    k0_pay4 (F := Ideal) acc dx (ix2 r j) = acc (ix2 r j) + dx (ix2 r j) := by
  unfold k0_pay4
  pointwise

section
variable (m : (ℓ : Loc nD τ sig) → Buf (Elt Ideal) ℓ) (c : Dev nD)

/-- The three arguments: the cotangent of those columns' product, the input weight, the gradient so far. -/
abbrev argDy : FVec Ideal S16384x4096 .f32 := m ((c : Thread nD τ).loc main_arg0)
abbrev argW : FVec Ideal S1024x6176 .f32 := m ((c : Thread nD τ).loc main_arg1)
abbrev argDx : FVec Ideal S16384x1024 .f32 := m ((c : Thread nD τ).loc main_arg2)

/-- The products that one element of the gradient sums, one per column of the weight's part. -/
def prods (dy : FVec Ideal S16384x4096 .f32) (w : FVec Ideal S1024x6176 .f32) (s : Fin 16384) (j : Fin 1024) : Fin 4096 → EReal :=
  fun n => dy (ix2 s n) * w (ix2 j ⟨2048 + n.val, by omega⟩)

/-- The cotangent times the weight's columns 2048 to 6144, transposed, and the gradient so far. -/
def result (dy : FVec Ideal S16384x4096 .f32) (w : FVec Ideal S1024x6176 .f32) (dx : FVec Ideal S16384x1024 .f32) : FVec Ideal S16384x1024 .f32 :=
  fun i => (∑ n, prods dy w (i 0) (i 1) n) + dx (ix2 (i 0) (i 1))

/-- The cotangent as the kernel's call receives it: narrowed to bf16. -/
theorem cotangent (s : Fin 16384) (n : Fin 4096) : V m c main_v0 (ix2 s n) = argDy m c (ix2 s n) := by
  unfold_abbrev_sides
  after_results
  pointwise

/-- The weight as the kernel's call receives it: narrowed to bf16, transposed, a part of its rows. -/
theorem weight (n : Fin 4096) (j : Fin 1024) : V m c main_v3 (ix2 n j) = argW m c (ix2 j ⟨2048 + n.val, by omega⟩) := by
  unfold_abbrev_sides
  after_results
  pointwise

theorem blk0 (t : Fin cfg0.N) (r : Fin 1024) (k : Fin 1024) (s : Fin 16384) (n : Fin 4096)
    (hs : s.val = t.val / 4 * 1024 + r.val) (hn : n.val = t.val % 4 * 1024 + k.val) :
    iblk m c 0 t (ix2 r k) = argDy m c (ix2 s n) := by
  have ht : t.val < 64 := lt_of_lt_of_eq t.isLt N_0
  refine Eq.trans (b := V m c main_v0 (ix2 s n)) ?_ (cotangent m c s n)
  blk_point [iblk, idx t]

theorem blk1 (t : Fin cfg0.N) (k : Fin 1024) (j : Fin 1024) (n : Fin 4096) (hn : n.val = t.val % 4 * 1024 + k.val) :
    iblk m c 1 t (ix2 k j) = argW m c (ix2 j ⟨2048 + n.val, by omega⟩) := by
  have ht : t.val < 64 := lt_of_lt_of_eq t.isLt N_0
  refine Eq.trans (b := V m c main_v3 (ix2 n j)) ?_ (weight m c n j)
  blk_point [iblk, idx t]

theorem blk2 (t : Fin cfg0.N) (r j : Fin 1024) (s : Fin 16384) (hs : s.val = t.val / 4 * 1024 + r.val) :
    iblk m c 2 t (ix2 r j) = argDx m c (ix2 s j) := by
  have ht : t.val < 64 := lt_of_lt_of_eq t.isLt N_0
  blk_point [iblk, V, idx t]

/-- What the point before left in the carried buffer. -/
abbrev prev (t : Fin cfg0.N) : FVec Ideal S1024x1024 .f32 := (outsAt0 m c (t.val - 1) (Nat.lt_of_le_of_lt (Nat.sub_le _ _) t.isLt)).2

theorem prev_read (t : Fin cfg0.N) : View.read (Elt Ideal) (View.whole cc0_scratch0) ((Memref.isWhole_whole cc0_scratch0).unread
    (outsAt0 m c (t.val - 1) (Nat.lt_of_le_of_lt (Nat.sub_le _ _) t.isLt)).2) = (outsAt0 m c (t.val - 1) (Nat.lt_of_le_of_lt (Nat.sub_le _ _) t.isLt)).2 :=
  (Memref.isWhole_whole cc0_scratch0).read_unread _

theorem step_A (t : Fin cfg0.N) (h : t.val % 4 = 0) :
    (outsAt0 m c t.val t.isLt).2 = (k0_pay2 (F := Ideal) (iblk m c 0 t) (iblk m c 1 t) : FVec Ideal S1024x1024 .f32) := by
  rw [outsAt0_A m c t h (by omega) (by omega)]
  dsimp only
  frame_out

/-- A further point adds its product to the carried buffer, the last of a run as well. -/
theorem step_B (t : Fin cfg0.N) (h : ¬t.val % 4 = 0) :
    (outsAt0 m c t.val t.isLt).2 = (k0_pay3 (F := Ideal) (iblk m c 0 t) (iblk m c 1 t) (prev m c t) : FVec Ideal S1024x1024 .f32) := by
  by_cases hl : t.val % 4 = 3
  · rw [outsAt0_C m c t h (by omega) hl]
    dsimp only; frame_out
    rw [prev_read]
  · rw [outsAt0_B m c t h (by omega) hl]
    dsimp only; frame_out
    rw [prev_read]

theorem step_C (t : Fin cfg0.N) (h : t.val % 4 = 3) :
    (outsAt0 m c t.val t.isLt).1 = (k0_pay4 (F := Ideal) (k0_pay3 (F := Ideal) (iblk m c 0 t) (iblk m c 1 t) (prev m c t)) (iblk m c 2 t) : FVec Ideal S1024x1024 .f32) := by
  rw [outsAt0_C m c t (by omega) (by omega) h]
  dsimp only; frame_out
  rw [prev_read]

/-- One point's product: the columns of its block. -/
theorem product (t : Fin cfg0.N) (r j : Fin 1024) (s : Fin 16384) (hs : s.val = t.val / 4 * 1024 + r.val) :
    upto (prods (argDy m c) (argW m c) s j) (t.val % 4 * 1024) + k0_pay1 (F := Ideal) (iblk m c 0 t) (iblk m c 1 t) (ix2 r j)
      = upto (prods (argDy m c) (argW m c) s j) (t.val % 4 * 1024 + 1024) := by
  rw [pay1_apply]
  exact upto_block _ _ _ _ (by omega) fun k => congrArg₂ (· * ·) (blk0 m c t r k s _ hs rfl) (blk1 m c t k j _ rfl)

/-- After a point the carried buffer holds the sum over the columns of the blocks so far. -/
theorem holds (t : Fin cfg0.N) (r j : Fin 1024) (s : Fin 16384) (hs : s.val = t.val / 4 * 1024 + r.val) :
    (outsAt0 m c t.val t.isLt).2 (ix2 r j) = upto (prods (argDy m c) (argW m c) s j) (t.val % 4 * 1024 + 1024) :=
  upto_run 4 1024 cfg0.N (t.val / 4) _ (fun p h => (outsAt0 m c p h).2 (ix2 r j)) (fun p h => k0_pay1 (F := Ideal) (iblk m c 0 ⟨p, h⟩) (iblk m c 1 ⟨p, h⟩) (ix2 r j))
    (fun p h hb => product m c ⟨p, h⟩ r j s (by rw [hs, ← hb]))
    (fun p h _ h0 => (congrFun (step_A m c ⟨p, h⟩ h0) _).trans (pay2_apply _ _ r j))
    (fun p h _ h0 => (congrFun (step_B m c ⟨p + 1, h⟩ h0) _).trans (pay3_apply _ _ _ r j)) t.val t.isLt rfl

/-- The last point of a run writes the whole sum and the gradient so far. -/
theorem last (t : Fin cfg0.N) (h : t.val % 4 = 3) (r j : Fin 1024) (s : Fin 16384) (hs : s.val = t.val / 4 * 1024 + r.val) :
    (outsAt0 m c t.val t.isLt).1 (ix2 r j) = (∑ n, prods (argDy m c) (argW m c) s j n) + argDx m c (ix2 s j) := by
  have e := holds m c t r j s hs
  rw [h] at e
  rw [step_C m c t h, ← step_B m c t (by omega), pay4_apply, e, blk2 m c t r j s hs]
  exact congrArg (· + _) (upto_all _)

theorem final3 : (dats m 0 c).arrAt 3 cfg0.N = result (argDy m c) (argW m c) (argDx m c) := by
  refine (dats m 0 c).arrAt_eq_of_covers 3 (result (argDy m c) (argW m c) (argDx m c)) (by decide +kernel) fun t hf y => ?_
  have ht : t.val < 64 := lt_of_lt_of_eq t.isLt N_0
  have hl : t.val % 4 = 3 := (flush0_3 t).mp hf
  blk_simp [idx t]
  rw [after0_3, eq_ix2 y]
  have e0 : (((win0_3.blk t).view.emb (ix2 (y 0) (y 1))) 0).val = t.val / 4 * 1024 + (y 0).val := by blk_simp [idx t]
  have e1 : ((win0_3.blk t).view.emb (ix2 (y 0) (y 1))) 1 = y 1 := Fin.ext (by blk_simp [idx t])
  refine (last m c t hl (y 0) (y 1) _ e0).trans ?_
  rw [result, e1]

end

end Cert.Kernel19Ideal.DxXbc

end
-- ==== Proof.ProductDxQkv.lean ====
/-
  The gradient that the attention layer's input columns pass back, with the scaled residual added: three products
  are summed in the carried buffer, and the last point of each run writes the sum and the residual's part.
-/
module

public import proofs.«01_k».proof.Proof.Gen.Kernel20Ideal.Value
public import proofs.«01_k».proof.Proof.ProductMath
public import Idealize.ShloMosaic.Lib.Pipeline.ValueKit

@[expose] public section

set_option maxRecDepth 16384

noncomputable section

namespace Cert.Kernel20Ideal.DxQkv

open Cert.Kernel20Ideal Cert.Kernel20Ideal.Gen Cert.Kernel20Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val / 3, t.val % 3] ∧ win0_1.index t = ![t.val % 3, 0]
    ∧ win0_2.index t = ![t.val / 3, 0] ∧ win0_3.index t = ![t.val / 3, 0] :=
  (by decide +kernel : ∀ t : Fin grid0.N, _)

/-- One block's product at an index. -/
theorem pay1_apply (x0 : FVec Ideal S1024x1024 .bf16) (x1 : FVec Ideal S1024x1024 .bf16) (r j : Fin 1024) :
    k0_pay1 (F := Ideal) x0 x1 (ix2 r j) = ∑ k : Fin 1024, x0 (ix2 r k) * x1 (ix2 k j) := by
  unfold k0_pay1
  pointwise

theorem pay2_apply (x0 : FVec Ideal S1024x1024 .bf16) (x1 : FVec Ideal S1024x1024 .bf16) (r j : Fin 1024) :
    k0_pay2 (F := Ideal) x0 x1 (ix2 r j) = k0_pay1 (F := Ideal) x0 x1 (ix2 r j) := by
  unfold k0_pay2
  pointwise

/-- … added to what the carried buffer held. -/
theorem pay3_apply (x0 : FVec Ideal S1024x1024 .bf16) (x1 : FVec Ideal S1024x1024 .bf16) (acc : FVec Ideal S1024x1024 .f32) (r j : Fin 1024) :
    k0_pay3 (F := Ideal) x0 x1 acc (ix2 r j) = acc (ix2 r j) + k0_pay1 (F := Ideal) x0 x1 (ix2 r j) := by
  unfold k0_pay3
  pointwise

/-- The residual's factor, `4 ^ (1/4)` as a float word. -/
abbrev alpha : EReal := Scalar.ofBits (F := Ideal) .f32 0x3FB504F3#32

/-- The sum and the residual's part. -/
theorem pay4_apply (acc dr : FVec Ideal S1024x1024 .f32) (r j : Fin 1024) :
    k0_pay4 (F := Ideal) acc dr (ix2 r j) = acc (ix2 r j) + alpha * dr (ix2 r j) := by
  unfold k0_pay4
  rfl

section
variable (m : (ℓ : Loc nD τ sig) → Buf (Elt Ideal) ℓ) (c : Dev nD)

/-- The three arguments: the cotangent of those columns' product, the input weight, the residual's cotangent. -/
abbrev argDy : FVec Ideal S16384x3072 .f32 := m ((c : Thread nD τ).loc main_arg0)
abbrev argW : FVec Ideal S1024x3088 .f32 := m ((c : Thread nD τ).loc main_arg1)
abbrev argDr : FVec Ideal S16384x1024 .f32 := m ((c : Thread nD τ).loc main_arg2)

/-- The products that one element of the gradient sums, one per column of the weight's part. -/
def prods (dy : FVec Ideal S16384x3072 .f32) (w : FVec Ideal S1024x3088 .f32) (s : Fin 16384) (j : Fin 1024) : Fin 3072 → EReal :=
  fun n => dy (ix2 s n) * w (ix2 j ⟨n.val, by omega⟩)

/-- The cotangent times the weight's first 3072 columns, transposed, and the scaled residual. -/
def result (dy : FVec Ideal S16384x3072 .f32) (w : FVec Ideal S1024x3088 .f32) (dr : FVec Ideal S16384x1024 .f32) : FVec Ideal S16384x1024 .f32 :=
  fun i => (∑ n, prods dy w (i 0) (i 1) n) + alpha * dr (ix2 (i 0) (i 1))

/-- The cotangent as the kernel's call receives it: narrowed to bf16. -/
theorem cotangent (s : Fin 16384) (n : Fin 3072) : V m c main_v0 (ix2 s n) = argDy m c (ix2 s n) := by
  unfold_abbrev_sides
  after_results
  pointwise

/-- The weight as the kernel's call receives it: narrowed to bf16, transposed, a part of its rows. -/
theorem weight (n : Fin 3072) (j : Fin 1024) : V m c main_v3 (ix2 n j) = argW m c (ix2 j ⟨n.val, by omega⟩) := by
  unfold_abbrev_sides
  after_results
  pointwise

theorem blk0 (t : Fin cfg0.N) (r : Fin 1024) (k : Fin 1024) (s : Fin 16384) (n : Fin 3072)
    (hs : s.val = t.val / 3 * 1024 + r.val) (hn : n.val = t.val % 3 * 1024 + k.val) :
    iblk m c 0 t (ix2 r k) = argDy m c (ix2 s n) := by
  have ht : t.val < 48 := lt_of_lt_of_eq t.isLt N_0
  refine Eq.trans (b := V m c main_v0 (ix2 s n)) ?_ (cotangent m c s n)
  blk_point [iblk, idx t]

theorem blk1 (t : Fin cfg0.N) (k : Fin 1024) (j : Fin 1024) (n : Fin 3072) (hn : n.val = t.val % 3 * 1024 + k.val) :
    iblk m c 1 t (ix2 k j) = argW m c (ix2 j ⟨n.val, by omega⟩) := by
  have ht : t.val < 48 := lt_of_lt_of_eq t.isLt N_0
  refine Eq.trans (b := V m c main_v3 (ix2 n j)) ?_ (weight m c n j)
  blk_point [iblk, idx t]

theorem blk2 (t : Fin cfg0.N) (r j : Fin 1024) (s : Fin 16384) (hs : s.val = t.val / 3 * 1024 + r.val) :
    iblk m c 2 t (ix2 r j) = argDr m c (ix2 s j) := by
  have ht : t.val < 48 := lt_of_lt_of_eq t.isLt N_0
  blk_point [iblk, V, idx t]

/-- What the point before left in the carried buffer. -/
abbrev prev (t : Fin cfg0.N) : FVec Ideal S1024x1024 .f32 := (outsAt0 m c (t.val - 1) (Nat.lt_of_le_of_lt (Nat.sub_le _ _) t.isLt)).2

theorem prev_read (t : Fin cfg0.N) : View.read (Elt Ideal) (View.whole cc0_scratch0) ((Memref.isWhole_whole cc0_scratch0).unread
    (outsAt0 m c (t.val - 1) (Nat.lt_of_le_of_lt (Nat.sub_le _ _) t.isLt)).2) = (outsAt0 m c (t.val - 1) (Nat.lt_of_le_of_lt (Nat.sub_le _ _) t.isLt)).2 :=
  (Memref.isWhole_whole cc0_scratch0).read_unread _

theorem step_A (t : Fin cfg0.N) (h : t.val % 3 = 0) :
    (outsAt0 m c t.val t.isLt).2 = (k0_pay2 (F := Ideal) (iblk m c 0 t) (iblk m c 1 t) : FVec Ideal S1024x1024 .f32) := by
  rw [outsAt0_A m c t h (by omega) (by omega)]
  dsimp only
  frame_out

/-- A further point adds its product to the carried buffer, the last of a run as well. -/
theorem step_B (t : Fin cfg0.N) (h : ¬t.val % 3 = 0) :
    (outsAt0 m c t.val t.isLt).2 = (k0_pay3 (F := Ideal) (iblk m c 0 t) (iblk m c 1 t) (prev m c t) : FVec Ideal S1024x1024 .f32) := by
  by_cases hl : t.val % 3 = 2
  · rw [outsAt0_C m c t h (by omega) hl]
    dsimp only; frame_out
    rw [prev_read]
  · rw [outsAt0_B m c t h (by omega) hl]
    dsimp only; frame_out
    rw [prev_read]

theorem step_C (t : Fin cfg0.N) (h : t.val % 3 = 2) :
    (outsAt0 m c t.val t.isLt).1 = (k0_pay4 (F := Ideal) (k0_pay3 (F := Ideal) (iblk m c 0 t) (iblk m c 1 t) (prev m c t)) (iblk m c 2 t) : FVec Ideal S1024x1024 .f32) := by
  rw [outsAt0_C m c t (by omega) (by omega) h]
  dsimp only; frame_out
  rw [prev_read]

/-- One point's product: the columns of its block. -/
theorem product (t : Fin cfg0.N) (r j : Fin 1024) (s : Fin 16384) (hs : s.val = t.val / 3 * 1024 + r.val) :
    upto (prods (argDy m c) (argW m c) s j) (t.val % 3 * 1024) + k0_pay1 (F := Ideal) (iblk m c 0 t) (iblk m c 1 t) (ix2 r j)
      = upto (prods (argDy m c) (argW m c) s j) (t.val % 3 * 1024 + 1024) := by
  rw [pay1_apply]
  exact upto_block _ _ _ _ (by omega) fun k => congrArg₂ (· * ·) (blk0 m c t r k s _ hs rfl) (blk1 m c t k j _ rfl)

/-- After a point the carried buffer holds the sum over the columns of the blocks so far. -/
theorem holds (t : Fin cfg0.N) (r j : Fin 1024) (s : Fin 16384) (hs : s.val = t.val / 3 * 1024 + r.val) :
    (outsAt0 m c t.val t.isLt).2 (ix2 r j) = upto (prods (argDy m c) (argW m c) s j) (t.val % 3 * 1024 + 1024) :=
  upto_run 3 1024 cfg0.N (t.val / 3) _ (fun p h => (outsAt0 m c p h).2 (ix2 r j)) (fun p h => k0_pay1 (F := Ideal) (iblk m c 0 ⟨p, h⟩) (iblk m c 1 ⟨p, h⟩) (ix2 r j))
    (fun p h hb => product m c ⟨p, h⟩ r j s (by rw [hs, ← hb]))
    (fun p h _ h0 => (congrFun (step_A m c ⟨p, h⟩ h0) _).trans (pay2_apply _ _ r j))
    (fun p h _ h0 => (congrFun (step_B m c ⟨p + 1, h⟩ h0) _).trans (pay3_apply _ _ _ r j)) t.val t.isLt rfl

/-- The last point of a run writes the whole sum and the residual's part. -/
theorem last (t : Fin cfg0.N) (h : t.val % 3 = 2) (r j : Fin 1024) (s : Fin 16384) (hs : s.val = t.val / 3 * 1024 + r.val) :
    (outsAt0 m c t.val t.isLt).1 (ix2 r j) = (∑ n, prods (argDy m c) (argW m c) s j n) + alpha * argDr m c (ix2 s j) := by
  have e := holds m c t r j s hs
  rw [h] at e
  rw [step_C m c t h, ← step_B m c t (by omega), pay4_apply, e, blk2 m c t r j s hs]
  exact congrArg (· + _) (upto_all _)

theorem final3 : (dats m 0 c).arrAt 3 cfg0.N = result (argDy m c) (argW m c) (argDr m c) := by
  refine (dats m 0 c).arrAt_eq_of_covers 3 (result (argDy m c) (argW m c) (argDr m c)) (by decide +kernel) fun t hf y => ?_
  have ht : t.val < 48 := lt_of_lt_of_eq t.isLt N_0
  have hl : t.val % 3 = 2 := (flush0_3 t).mp hf
  blk_simp [idx t]
  rw [after0_3, eq_ix2 y]
  have e0 : (((win0_3.blk t).view.emb (ix2 (y 0) (y 1))) 0).val = t.val / 3 * 1024 + (y 0).val := by blk_simp [idx t]
  have e1 : ((win0_3.blk t).view.emb (ix2 (y 0) (y 1))) 1 = y 1 := Fin.ext (by blk_simp [idx t])
  refine (last m c t hl (y 0) (y 1) _ e0).trans ?_
  rw [result, e1]

end

end Cert.Kernel20Ideal.DxQkv

end
-- ==== Proof.ProductMixerClaim.lean ====
/-
  The mixers' products: the frames of their references, and the equations of their results.
-/
module

public import proofs.«01_k».proof.Defs
public import proofs.«01_k».proof.Proof.ProductSsmProj
public import proofs.«01_k».proof.Proof.Gen.Reference10Ideal.Read
public import proofs.«01_k».proof.Proof.ProductAttnProj
public import proofs.«01_k».proof.Proof.Gen.Reference11Ideal.Read
public import proofs.«01_k».proof.Proof.ProductSsmOut
public import proofs.«01_k».proof.Proof.Gen.Reference12Ideal.Read
public import proofs.«01_k».proof.Proof.ProductGwZ
public import proofs.«01_k».proof.Proof.Gen.Reference13Ideal.Read
public import proofs.«01_k».proof.Proof.ProductGwXbc
public import proofs.«01_k».proof.Proof.Gen.Reference14Ideal.Read
public import proofs.«01_k».proof.Proof.ProductGwQkv
public import proofs.«01_k».proof.Proof.Gen.Reference15Ideal.Read
public import proofs.«01_k».proof.Proof.ProductGwOut
public import proofs.«01_k».proof.Proof.Gen.Reference16Ideal.Read
public import proofs.«01_k».proof.Proof.ProductDyn
public import proofs.«01_k».proof.Proof.Gen.Reference17Ideal.Read
public import proofs.«01_k».proof.Proof.ProductDxZ
public import proofs.«01_k».proof.Proof.Gen.Reference18Ideal.Read
public import proofs.«01_k».proof.Proof.ProductDxXbc
public import proofs.«01_k».proof.Proof.Gen.Reference19Ideal.Read
public import proofs.«01_k».proof.Proof.ProductDxQkv
public import proofs.«01_k».proof.Proof.Gen.Reference20Ideal.Read

@[expose] public section

set_option maxRecDepth 16384

noncomputable section

namespace Cert.ProductMixerClaim

open Idealize.ShloMosaic Idealize.ShloMosaic.TcCoe Idealize.SL.Sem
open scoped BigOperators

/-! ## The state-space layer's input projection -/

theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem reference10 (x0 : FVec Ideal Cert.Kernel10Ideal.S16384x1024 .f32) (x1 : FVec Ideal Cert.Kernel10Ideal.S1024x6176 .f32) :
    Cert.Reference10Ideal.Read.val_main_v2 (F := Ideal) x0 x1 = Cert.Kernel10Ideal.SsmProj.result x0 x1 := by
  funext i
  refine (Cert.Reference10Ideal.Read.val_main_v1_apply x0 x1 i).trans (Finset.sum_congr rfl fun k _ => ?_)
  exact congrArg₂ (· * ·) (congrArg x0 (eq_ix2 _)) ((Cert.Reference10Ideal.Read.val_main_v0_apply (F := Ideal) x1 _).trans (congrArg x1 (eq_ix2 _)))

theorem equal10 : Cert.algebraic_Kernel10Ideal_Reference10Ideal := by
  intro m g m' g' _ hagree
  refine ⟨fun c => Kernel10Ideal.SsmProj.result (Kernel10Ideal.SsmProj.argX m c) (Kernel10Ideal.SsmProj.argW m c), ?_, ?_⟩
  · exact (θ_run Cert.Kernel10Ideal.defs _ _).mono (fun r h c => ⟨(h c).1.trans (Kernel10Ideal.SsmProj.final2 m c), (h c).2⟩)
      (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    rw [Reference10Ideal.Read.val_main_v2_eq, reference10, (hagree c).1, (hagree c).2]

/-! ## The attention layer's input projection -/

theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem reference11 (x0 : FVec Ideal Cert.Kernel11Ideal.S16384x1024 .f32) (x1 : FVec Ideal Cert.Kernel11Ideal.S1024x3088 .f32) :
    Cert.Reference11Ideal.Read.val_main_v2 (F := Ideal) x0 x1 = Cert.Kernel11Ideal.AttnProj.result x0 x1 := by
  funext i
  refine (Cert.Reference11Ideal.Read.val_main_v1_apply x0 x1 i).trans (Finset.sum_congr rfl fun k _ => ?_)
  exact congrArg₂ (· * ·) (congrArg x0 (eq_ix2 _)) ((Cert.Reference11Ideal.Read.val_main_v0_apply (F := Ideal) x1 _).trans (congrArg x1 (eq_ix2 _)))

theorem equal11 : Cert.algebraic_Kernel11Ideal_Reference11Ideal := by
  intro m g m' g' _ hagree
  refine ⟨fun c => Kernel11Ideal.AttnProj.result (Kernel11Ideal.AttnProj.argX m c) (Kernel11Ideal.AttnProj.argW m c), ?_, ?_⟩
  · exact (θ_run Cert.Kernel11Ideal.defs _ _).mono (fun r h c => ⟨(h c).1.trans (Kernel11Ideal.AttnProj.final2 m c), (h c).2⟩)
      (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    rw [Reference11Ideal.Read.val_main_v2_eq, reference11, (hagree c).1, (hagree c).2]

/-! ## The state-space layer's output projection -/

theorem frame_reference12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem reference12 (x0 : FVec Ideal Cert.Kernel12Ideal.S16384x2048 .f32) (x1 : FVec Ideal Cert.Kernel12Ideal.S2048x1024 .f32) :
    Cert.Reference12Ideal.Read.val_main_v0 (F := Ideal) x0 x1 = Cert.Kernel12Ideal.SsmOut.result x0 x1 := by
  funext i
  refine (Cert.Reference12Ideal.Read.val_main_v0_apply x0 x1 i).trans (Finset.sum_congr rfl fun k _ => ?_)
  exact congrArg₂ (· * ·) (congrArg x0 (eq_ix2 _)) (congrArg x1 (eq_ix2 _))

theorem equal12 : Cert.algebraic_Kernel12Ideal_Reference12Ideal := by
  intro m g m' g' _ hagree
  refine ⟨fun c => Kernel12Ideal.SsmOut.result (Kernel12Ideal.SsmOut.argX m c) (Kernel12Ideal.SsmOut.argW m c), ?_, ?_⟩
  · exact (θ_run Cert.Kernel12Ideal.defs _ _).mono (fun r h c => ⟨(h c).1.trans (Kernel12Ideal.SsmOut.final2 m c), (h c).2⟩)
      (Cert.Kernel12Ideal.Value.run_blocks (F := Ideal) m g)
  · refine (θ_run Cert.Reference12Ideal.defs _ _).mono (fun r h c => ⟨(h c).1.trans ?_, (h c).2⟩) (Cert.Reference12Ideal.Value.run (F := Ideal) m' g')
    rw [Reference12Ideal.Read.val_main_v0_eq, reference12, (hagree c).1, (hagree c).2]

/-! ## The gradient of the input weight's gate columns -/

theorem frame_reference13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem reference13 (x0 : FVec Ideal Cert.Kernel13Ideal.S16384x1024 .f32) (x1 : FVec Ideal Cert.Kernel13Ideal.S16384x2048 .f32) :
    Cert.Reference13Ideal.Read.val_main_v3 (F := Ideal) x0 x1 = Cert.Kernel13Ideal.GwZ.result x0 x1 := by
  funext i
  rw [Cert.Reference13Ideal.Read.val_main_v3_apply, Cert.Reference13Ideal.Read.val_main_v2_apply, Cert.Kernel13Ideal.GwZ.result]
  refine Finset.sum_congr rfl fun k _ => ?_
  exact (mul_comm (G := EReal) (x1 (Cert.Reference13Ideal.Read.lidx_main_v2 _ k)) (x0 (Cert.Reference13Ideal.Read.ridx_main_v2 _ k))).trans (congrArg₂ (· * ·) (congrArg x0 (eq_ix2 _)) (congrArg x1 (eq_ix2 _)))

theorem equal13 : Cert.algebraic_Kernel13Ideal_Reference13Ideal := by
  intro m g m' g' _ hagree
  refine ⟨fun c => Kernel13Ideal.GwZ.result (Kernel13Ideal.GwZ.argX m c) (Kernel13Ideal.GwZ.argDy m c), ?_, ?_⟩
  · exact (θ_run Cert.Kernel13Ideal.defs _ _).mono (fun r h c => ⟨(h c).1.trans (Kernel13Ideal.GwZ.final2 m c), (h c).2⟩)
      (Cert.Kernel13Ideal.Value.run_blocks (F := Ideal) m g)
  · refine (θ_run Cert.Reference13Ideal.defs _ _).mono (fun r h c => ⟨(h c).1.trans ?_, (h c).2⟩) (Cert.Reference13Ideal.Value.run (F := Ideal) m' g')
    rw [Reference13Ideal.Read.val_main_v3_eq, reference13, (hagree c).1, (hagree c).2]

/-! ## The gradient of the input weight's convolved columns -/

theorem frame_reference14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

theorem reference14 (x0 : FVec Ideal Cert.Kernel14Ideal.S16384x1024 .f32) (x1 : FVec Ideal Cert.Kernel14Ideal.S16384x4096 .f32) :
    Cert.Reference14Ideal.Read.val_main_v3 (F := Ideal) x0 x1 = Cert.Kernel14Ideal.GwXbc.result x0 x1 := by
  funext i
  rw [Cert.Reference14Ideal.Read.val_main_v3_apply, Cert.Reference14Ideal.Read.val_main_v2_apply, Cert.Kernel14Ideal.GwXbc.result]
  refine Finset.sum_congr rfl fun k _ => ?_
  exact (mul_comm (G := EReal) (x1 (Cert.Reference14Ideal.Read.lidx_main_v2 _ k)) (x0 (Cert.Reference14Ideal.Read.ridx_main_v2 _ k))).trans (congrArg₂ (· * ·) (congrArg x0 (eq_ix2 _)) (congrArg x1 (eq_ix2 _)))

theorem equal14 : Cert.algebraic_Kernel14Ideal_Reference14Ideal := by
  intro m g m' g' _ hagree
  refine ⟨fun c => Kernel14Ideal.GwXbc.result (Kernel14Ideal.GwXbc.argX m c) (Kernel14Ideal.GwXbc.argDy m c), ?_, ?_⟩
  · exact (θ_run Cert.Kernel14Ideal.defs _ _).mono (fun r h c => ⟨(h c).1.trans (Kernel14Ideal.GwXbc.final2 m c), (h c).2⟩)
      (Cert.Kernel14Ideal.Value.run_blocks (F := Ideal) m g)
  · refine (θ_run Cert.Reference14Ideal.defs _ _).mono (fun r h c => ⟨(h c).1.trans ?_, (h c).2⟩) (Cert.Reference14Ideal.Value.run (F := Ideal) m' g')
    rw [Reference14Ideal.Read.val_main_v3_eq, reference14, (hagree c).1, (hagree c).2]

/-! ## The gradient of the attention layer's input weight -/

theorem frame_reference15 : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

theorem reference15 (x0 : FVec Ideal Cert.Kernel15Ideal.S16384x1024 .f32) (x1 : FVec Ideal Cert.Kernel15Ideal.S16384x3072 .f32) :
    Cert.Reference15Ideal.Read.val_main_v3 (F := Ideal) x0 x1 = Cert.Kernel15Ideal.GwQkv.result x0 x1 := by
  funext i
  rw [Cert.Reference15Ideal.Read.val_main_v3_apply, Cert.Reference15Ideal.Read.val_main_v2_apply, Cert.Kernel15Ideal.GwQkv.result]
  refine Finset.sum_congr rfl fun k _ => ?_
  exact (mul_comm (G := EReal) (x1 (Cert.Reference15Ideal.Read.lidx_main_v2 _ k)) (x0 (Cert.Reference15Ideal.Read.ridx_main_v2 _ k))).trans (congrArg₂ (· * ·) (congrArg x0 (eq_ix2 _)) (congrArg x1 (eq_ix2 _)))

theorem equal15 : Cert.algebraic_Kernel15Ideal_Reference15Ideal := by
  intro m g m' g' _ hagree
  refine ⟨fun c => Kernel15Ideal.GwQkv.result (Kernel15Ideal.GwQkv.argX m c) (Kernel15Ideal.GwQkv.argDy m c), ?_, ?_⟩
  · exact (θ_run Cert.Kernel15Ideal.defs _ _).mono (fun r h c => ⟨(h c).1.trans (Kernel15Ideal.GwQkv.final2 m c), (h c).2⟩)
      (Cert.Kernel15Ideal.Value.run_blocks (F := Ideal) m g)
  · refine (θ_run Cert.Reference15Ideal.defs _ _).mono (fun r h c => ⟨(h c).1.trans ?_, (h c).2⟩) (Cert.Reference15Ideal.Value.run (F := Ideal) m' g')
    rw [Reference15Ideal.Read.val_main_v3_eq, reference15, (hagree c).1, (hagree c).2]

/-! ## The gradient of the output weight -/

theorem frame_reference16 : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

theorem reference16 (x0 : FVec Ideal Cert.Kernel16Ideal.S16384x2048 .f32) (x1 : FVec Ideal Cert.Kernel16Ideal.S16384x1024 .f32) :
    Cert.Reference16Ideal.Read.val_main_v3 (F := Ideal) x0 x1 = Cert.Kernel16Ideal.GwOut.result x0 x1 := by
  funext i
  rw [Cert.Reference16Ideal.Read.val_main_v3_apply, Cert.Reference16Ideal.Read.val_main_v2_apply, Cert.Kernel16Ideal.GwOut.result]
  refine Finset.sum_congr rfl fun k _ => ?_
  exact (mul_comm (G := EReal) (x1 (Cert.Reference16Ideal.Read.lidx_main_v2 _ k)) (x0 (Cert.Reference16Ideal.Read.ridx_main_v2 _ k))).trans (congrArg₂ (· * ·) (congrArg x0 (eq_ix2 _)) (congrArg x1 (eq_ix2 _)))

theorem equal16 : Cert.algebraic_Kernel16Ideal_Reference16Ideal := by
  intro m g m' g' _ hagree
  refine ⟨fun c => Kernel16Ideal.GwOut.result (Kernel16Ideal.GwOut.argY m c) (Kernel16Ideal.GwOut.argDm m c), ?_, ?_⟩
  · exact (θ_run Cert.Kernel16Ideal.defs _ _).mono (fun r h c => ⟨(h c).1.trans (Kernel16Ideal.GwOut.final2 m c), (h c).2⟩)
      (Cert.Kernel16Ideal.Value.run_blocks (F := Ideal) m g)
  · refine (θ_run Cert.Reference16Ideal.defs _ _).mono (fun r h c => ⟨(h c).1.trans ?_, (h c).2⟩) (Cert.Reference16Ideal.Value.run (F := Ideal) m' g')
    rw [Reference16Ideal.Read.val_main_v3_eq, reference16, (hagree c).1, (hagree c).2]

/-! ## The gradient passed back by the output projection -/

theorem frame_reference17 : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

theorem reference17 (x0 : FVec Ideal Cert.Kernel17Ideal.S16384x1024 .f32) (x1 : FVec Ideal Cert.Kernel17Ideal.S2048x1024 .f32) :
    Cert.Reference17Ideal.Read.val_main_v3 (F := Ideal) x0 x1 = Cert.Kernel17Ideal.Dyn.result x0 x1 := by
  funext i
  refine (Cert.Reference17Ideal.Read.val_main_v2_apply x0 x1 i).trans (Finset.sum_congr rfl fun k _ => ?_)
  exact congrArg₂ (· * ·) (congrArg x0 (eq_ix2 _)) (congrArg x1 (eq_ix2 _))

theorem equal17 : Cert.algebraic_Kernel17Ideal_Reference17Ideal := by
  intro m g m' g' _ hagree
  refine ⟨fun c => Kernel17Ideal.Dyn.result (Kernel17Ideal.Dyn.argDm m c) (Kernel17Ideal.Dyn.argW m c), ?_, ?_⟩
  · exact (θ_run Cert.Kernel17Ideal.defs _ _).mono (fun r h c => ⟨(h c).1.trans (Kernel17Ideal.Dyn.final2 m c), (h c).2⟩)
      (Cert.Kernel17Ideal.Value.run_blocks (F := Ideal) m g)
  · refine (θ_run Cert.Reference17Ideal.defs _ _).mono (fun r h c => ⟨(h c).1.trans ?_, (h c).2⟩) (Cert.Reference17Ideal.Value.run (F := Ideal) m' g')
    rw [Reference17Ideal.Read.val_main_v3_eq, reference17, (hagree c).1, (hagree c).2]

/-! ## The gradient passed back by the gate columns, with the residual's -/

theorem frame_reference18 : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

theorem reference18 (x0 : FVec Ideal Cert.Kernel18Ideal.S16384x2048 .f32) (x1 : FVec Ideal Cert.Kernel18Ideal.S1024x6176 .f32) (x2 : FVec Ideal Cert.Kernel18Ideal.S16384x1024 .f32) :
    Cert.Reference18Ideal.Read.val_main_v8 (F := Ideal) x0 x1 x2 = Cert.Kernel18Ideal.DxZ.result x0 x1 x2 := by
  funext i
  refine congrArg₂ (· + ·) ((Cert.Reference18Ideal.Read.val_main_v5_apply x0 x1 i).trans (Finset.sum_congr rfl fun k _ => ?_))
    (congrArg (Kernel18Ideal.DxZ.alpha * ·) (congrArg x2 (eq_ix2 _)))
  exact congrArg₂ (· * ·) (congrArg x0 (eq_ix2 _)) ((Cert.Reference18Ideal.Read.val_main_v3_apply (F := Ideal) x1 _).trans (congrArg x1 (eq_ix2 _)))

theorem equal18 : Cert.algebraic_Kernel18Ideal_Reference18Ideal := by
  intro m g m' g' _ hagree
  refine ⟨fun c => Kernel18Ideal.DxZ.result (Kernel18Ideal.DxZ.argDz m c) (Kernel18Ideal.DxZ.argW m c) (Kernel18Ideal.DxZ.argDr m c), ?_, ?_⟩
  · exact (θ_run Cert.Kernel18Ideal.defs _ _).mono (fun r h c => ⟨(h c).1.trans (Kernel18Ideal.DxZ.final3 m c), (h c).2⟩)
      (Cert.Kernel18Ideal.Value.run_blocks (F := Ideal) m g)
  · refine (θ_run Cert.Reference18Ideal.defs _ _).mono (fun r h c => ⟨(h c).1.trans ?_, (h c).2⟩) (Cert.Reference18Ideal.Value.run (F := Ideal) m' g')
    rw [Reference18Ideal.Read.val_main_v8_eq, reference18, (hagree c).1, (hagree c).2.1, (hagree c).2.2]

/-! ## The gradient passed back by the convolved columns, added to the gate columns' -/

theorem frame_reference19 : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

theorem reference19 (x0 : FVec Ideal Cert.Kernel19Ideal.S16384x4096 .f32) (x1 : FVec Ideal Cert.Kernel19Ideal.S1024x6176 .f32) (x2 : FVec Ideal Cert.Kernel19Ideal.S16384x1024 .f32) :
    Cert.Reference19Ideal.Read.val_main_v4 (F := Ideal) x0 x1 x2 = Cert.Kernel19Ideal.DxXbc.result x0 x1 x2 := by
  funext i
  refine (add_comm _ _).trans (congrArg₂ (· + ·) ((Cert.Reference19Ideal.Read.val_main_v3_apply x0 x1 i).trans (Finset.sum_congr rfl fun k _ => ?_))
    (congrArg x2 (eq_ix2 _)))
  exact congrArg₂ (· * ·) (congrArg x0 (eq_ix2 _)) ((Cert.Reference19Ideal.Read.val_main_v1_apply (F := Ideal) x1 _).trans (congrArg x1 (eq_ix2 _)))

theorem equal19 : Cert.algebraic_Kernel19Ideal_Reference19Ideal := by
  intro m g m' g' _ hagree
  refine ⟨fun c => Kernel19Ideal.DxXbc.result (Kernel19Ideal.DxXbc.argDy m c) (Kernel19Ideal.DxXbc.argW m c) (Kernel19Ideal.DxXbc.argDx m c), ?_, ?_⟩
  · exact (θ_run Cert.Kernel19Ideal.defs _ _).mono (fun r h c => ⟨(h c).1.trans (Kernel19Ideal.DxXbc.final3 m c), (h c).2⟩)
      (Cert.Kernel19Ideal.Value.run_blocks (F := Ideal) m g)
  · refine (θ_run Cert.Reference19Ideal.defs _ _).mono (fun r h c => ⟨(h c).1.trans ?_, (h c).2⟩) (Cert.Reference19Ideal.Value.run (F := Ideal) m' g')
    rw [Reference19Ideal.Read.val_main_v4_eq, reference19, (hagree c).1, (hagree c).2.1, (hagree c).2.2]

/-! ## The gradient passed back by the attention layer's input projection, with the residual's -/

theorem frame_reference20 : Cert.quiescent_Reference20Ideal := fun m ρ _ =>
  (θ_run Cert.Reference20Ideal.defs _ _).mono (fun r h => ⟨fun c => (h c).2, Idealize.ShloMosaic.sem_eq_zero_of_no_sems (by decide) r.2⟩)
    (Cert.Reference20Ideal.Value.run (F := Ideal) m ρ)

theorem reference20 (x0 : FVec Ideal Cert.Kernel20Ideal.S16384x3072 .f32) (x1 : FVec Ideal Cert.Kernel20Ideal.S1024x3088 .f32) (x2 : FVec Ideal Cert.Kernel20Ideal.S16384x1024 .f32) :
    Cert.Reference20Ideal.Read.val_main_v8 (F := Ideal) x0 x1 x2 = Cert.Kernel20Ideal.DxQkv.result x0 x1 x2 := by
  funext i
  refine congrArg₂ (· + ·) ((Cert.Reference20Ideal.Read.val_main_v5_apply x0 x1 i).trans (Finset.sum_congr rfl fun k _ => ?_))
    (congrArg (Kernel20Ideal.DxQkv.alpha * ·) (congrArg x2 (eq_ix2 _)))
  exact congrArg₂ (· * ·) (congrArg x0 (eq_ix2 _)) ((Cert.Reference20Ideal.Read.val_main_v3_apply (F := Ideal) x1 _).trans (congrArg x1 (eq_ix2 _)))

theorem equal20 : Cert.algebraic_Kernel20Ideal_Reference20Ideal := by
  intro m g m' g' _ hagree
  refine ⟨fun c => Kernel20Ideal.DxQkv.result (Kernel20Ideal.DxQkv.argDy m c) (Kernel20Ideal.DxQkv.argW m c) (Kernel20Ideal.DxQkv.argDr m c), ?_, ?_⟩
  · exact (θ_run Cert.Kernel20Ideal.defs _ _).mono (fun r h c => ⟨(h c).1.trans (Kernel20Ideal.DxQkv.final3 m c), (h c).2⟩)
      (Cert.Kernel20Ideal.Value.run_blocks (F := Ideal) m g)
  · refine (θ_run Cert.Reference20Ideal.defs _ _).mono (fun r h c => ⟨(h c).1.trans ?_, (h c).2⟩) (Cert.Reference20Ideal.Value.run (F := Ideal) m' g')
    rw [Reference20Ideal.Read.val_main_v8_eq, reference20, (hagree c).1, (hagree c).2.1, (hagree c).2.2]

end Cert.ProductMixerClaim

end
-- ==== Proof.ProductAttnOut.lean ====
/-
  The attention layer's output projection: one grid point's block of the product, and the result array.
-/
module

public import proofs.«01_k».proof.Proof.Gen.Kernel21Ideal.Value
public import proofs.«01_k».proof.Proof.ProductMath
public import Idealize.ShloMosaic.Lib.Pipeline.ValueKit

@[expose] public section

set_option maxRecDepth 16384

noncomputable section

namespace Cert.Kernel21Ideal.AttnOut

open Cert.Kernel21Ideal Cert.Kernel21Ideal.Gen Cert.Kernel21Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x1024 .bf16) (x1 : FVec Ideal S1024x1024 .bf16) (r : Fin 1024) (j : Fin 1024) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the attention's output, and the weight. -/
abbrev argX : FVec Ideal S16384x1024 .f32 := m ((c : Thread nD τ).loc main_arg0)
abbrev argW : FVec Ideal S1024x1024 .f32 := m ((c : Thread nD τ).loc main_arg1)

/-- The rows times the weight. -/
def result (x : FVec Ideal S16384x1024 .f32) (w : FVec Ideal S1024x1024 .f32) : FVec Ideal S16384x1024 .f32 :=
  fun i => ∑ k : Fin 1024, x (ix2 (i 0) k) * w (ix2 k (i 1))

/-- The rows as the kernel's call receives them: narrowed to bf16. -/
theorem rows (s : Fin 16384) (k : Fin 1024) : V m c main_v0 (ix2 s k) = argX m c (ix2 s k) := by
  unfold_abbrev_sides
  after_results
  pointwise

/-- The weight as the kernel's call receives it: narrowed to bf16. -/
theorem weight (k : Fin 1024) (j : Fin 1024) : V m c main_v1 (ix2 k j) = argW m c (ix2 k j) := by
  unfold_abbrev_sides
  after_results
  pointwise

theorem blk0 (t : Fin cfg0.N) (r : Fin 1024) (k : Fin 1024) (s : Fin 16384) (hs : s.val = t.val * 1024 + r.val) :
    iblk m c 0 t (ix2 r k) = argX m c (ix2 s k) := by
  have ht : t.val < 16 := lt_of_lt_of_eq t.isLt N_0
  refine Eq.trans (b := V m c main_v0 (ix2 s k)) ?_ (rows m c s k)
  blk_point [iblk, idx t]

theorem blk1 (t : Fin cfg0.N) (k : Fin 1024) (j : Fin 1024) : iblk m c 1 t (ix2 k j) = argW m c (ix2 k j) := by
  have ht : t.val < 16 := lt_of_lt_of_eq t.isLt N_0
  refine Eq.trans (b := V m c main_v1 (ix2 k j)) ?_ (weight m c k j)
  blk_point [iblk, idx t]

/-- What a grid point leaves in its block. -/
theorem out_eq (x0 : FVec Ideal S1024x1024 .bf16) (x1 : FVec Ideal S1024x1024 .bf16) :
    out0_2 (F := Ideal) x0 x1 = (k0_pay1 (F := Ideal) x0 x1 : FVec Ideal S1024x1024 .f32) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel21Ideal.AttnOut

end
-- ==== Proof.ProductAttnGwOut.lean ====
/-
  The gradient of the attention layer's output weight: the block of the result grows by one product at each grid
  point, over sixteen points, and holds the whole sum at the last.
-/
module

public import proofs.«01_k».proof.Proof.Gen.Kernel22Ideal.Value
public import proofs.«01_k».proof.Proof.ProductMath
public import Idealize.ShloMosaic.Lib.Pipeline.ValueKit

@[expose] public section

set_option maxRecDepth 16384

noncomputable section

namespace Cert.Kernel22Ideal.AttnGwOut

open Cert.Kernel22Ideal Cert.Kernel22Ideal.Gen Cert.Kernel22Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![0, 0] :=
  (by decide +kernel : ∀ t : Fin grid0.N, _)

/-- One block's product at an index. -/
theorem pay1_apply (x0 : FVec Ideal S1024x1024 .bf16) (x1 : FVec Ideal S1024x1024 .f32) (r : Fin 1024) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .bf16) (x1 : FVec Ideal S1024x1024 .f32) (acc : FVec Ideal S1024x1024 .f32) (r : Fin 1024) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the attention's output, and the cotangent of the output projection. -/
abbrev argX : FVec Ideal S16384x1024 .f32 := m ((c : Thread nD τ).loc main_arg0)
abbrev argDy : FVec Ideal S16384x1024 .f32 := m ((c : Thread nD τ).loc main_arg1)

/-- The products that one element of the gradient sums, one per row. -/
def prods (x : FVec Ideal S16384x1024 .f32) (dy : FVec Ideal S16384x1024 .f32) (r : Fin 1024) (j : Fin 1024) : Fin 16384 → EReal :=
  fun s => x (ix2 s r) * dy (ix2 s j)

/-- The transposed rows times the cotangent. -/
def result (x : FVec Ideal S16384x1024 .f32) (dy : FVec Ideal S16384x1024 .f32) : FVec Ideal S1024x1024 .f32 :=
  fun i => ∑ s, prods x dy (i 0) (i 1) s

/-- The argument that the kernel's call receives narrowed to bf16. -/
theorem rows (s : Fin 16384) (n : Fin 1024) : V m c main_v0 (ix2 s n) = argX m c (ix2 s n) := by
  unfold_abbrev_sides
  after_results
  pointwise

theorem blk0 (t : Fin cfg0.N) (k : Fin 1024) (r : Fin 1024) (s : Fin 16384) (hs : s.val = t.val * 1024 + k.val) :
    iblk m c 0 t (ix2 k r) = argX m c (ix2 s r) := by
  have ht : t.val < 16 := lt_of_lt_of_eq t.isLt N_0
  refine Eq.trans (b := V m c main_v0 (ix2 s r)) ?_ (rows m c s r)
  blk_point [iblk, idx t]

theorem blk1 (t : Fin cfg0.N) (k : Fin 1024) (r : Fin 1024) (s : Fin 16384) (hs : s.val = t.val * 1024 + k.val) :
    iblk m c 1 t (ix2 k r) = argDy m c (ix2 s r) := by
  have ht : t.val < 16 := lt_of_lt_of_eq t.isLt N_0
  blk_point [iblk, V, idx t]

theorem step_A (t : Fin cfg0.N) (h : t.val % 16 = 0) :
    outsAt0 m c t.val t.isLt = (k0_pay1 (F := Ideal) (iblk m c 0 t) (iblk m c 1 t) : FVec Ideal S1024x1024 .f32) := by
  have ht : t.val < 16 := lt_of_lt_of_eq t.isLt N_0
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1024 .f32) := by
  rw [outsAt0_B m c t h (by omega)]
  frame_out

/-- One point's product: the rows of its block. -/
theorem product (t : Fin cfg0.N) (r : Fin 1024) (j : Fin 1024) :
    upto (prods (argX m c) (argDy m c) r j) (t.val % 16 * 1024) + k0_pay1 (F := Ideal) (iblk m c 0 t) (iblk m c 1 t) (ix2 r j)
      = upto (prods (argX m c) (argDy m c) r j) (t.val % 16 * 1024 + 1024) := by
  have ht : t.val < 16 := lt_of_lt_of_eq t.isLt N_0
  rw [pay1_apply]
  exact upto_block _ _ _ _ (by omega) fun k => congrArg₂ (· * ·) (blk0 m c t k r _ (by dsimp only; omega)) (blk1 m c t k j _ (by dsimp only; omega))

/-- After a point the block holds the sum over the rows of the blocks so far. -/
theorem holds (t : Fin cfg0.N) (r : Fin 1024) (j : Fin 1024) :
    outsAt0 m c t.val t.isLt (ix2 r j) = upto (prods (argX m c) (argDy m c) r j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h _ => product m c ⟨p, h⟩ r j)
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : ((win0_2.blk t).view.emb (ix2 (y 0) (y 1))) 1 = y 1 := Fin.ext (by blk_simp [idx t])
  refine (holds m c t (y 0) (y 1)).trans ?_
  rw [hl, result, e0, e1]
  exact upto_all _

end

end Cert.Kernel22Ideal.AttnGwOut

end
-- ==== Proof.ProductAttnDo.lean ====
/-
  The gradient that the attention layer's output projection passes back: one grid point's block, and the result array.
-/
module

public import proofs.«01_k».proof.Proof.Gen.Kernel23Ideal.Value
public import proofs.«01_k».proof.Proof.ProductMath
public import Idealize.ShloMosaic.Lib.Pipeline.ValueKit

@[expose] public section

set_option maxRecDepth 16384

noncomputable section

namespace Cert.Kernel23Ideal.AttnDo

open Cert.Kernel23Ideal Cert.Kernel23Ideal.Gen Cert.Kernel23Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the output projection's cotangent, and its weight. -/
abbrev argX : FVec Ideal S16384x1024 .f32 := m ((c : Thread nD τ).loc main_arg0)
abbrev argW : FVec Ideal S1024x1024 .f32 := m ((c : Thread nD τ).loc main_arg1)

/-- The cotangent times the transposed weight. -/
def result (x : FVec Ideal S16384x1024 .f32) (w : FVec Ideal S1024x1024 .f32) : FVec Ideal S16384x1024 .bf16 :=
  fun i => ∑ k : Fin 1024, x (ix2 (i 0) k) * w (ix2 (i 1) k)

/-- The weight as the kernel's call receives it: narrowed to bf16, transposed. -/
theorem weight (k : Fin 1024) (j : Fin 1024) : V m c main_v1 (ix2 k j) = argW m c (ix2 j k) := by
  unfold_abbrev_sides
  after_results
  pointwise

theorem blk0 (t : Fin cfg0.N) (r : Fin 1024) (k : Fin 1024) (s : Fin 16384) (hs : s.val = t.val * 1024 + r.val) :
    iblk m c 0 t (ix2 r k) = argX m c (ix2 s k) := by
  have ht : t.val < 16 := lt_of_lt_of_eq t.isLt N_0
  blk_point [iblk, V, idx t]

theorem blk1 (t : Fin cfg0.N) (k : Fin 1024) (j : Fin 1024) : iblk m c 1 t (ix2 k j) = argW m c (ix2 j k) := by
  have ht : t.val < 16 := lt_of_lt_of_eq t.isLt N_0
  refine Eq.trans (b := V m c main_v1 (ix2 k j)) ?_ (weight m c k j)
  blk_point [iblk, idx t]

/-- What a grid point leaves in its block. -/
theorem out_eq (x0 : FVec Ideal S1024x1024 .f32) (x1 : FVec Ideal S1024x1024 .bf16) :
    out0_2 (F := Ideal) x0 x1 = (k0_pay1 (F := Ideal) x0 x1 : FVec Ideal S1024x1024 .bf16) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel23Ideal.AttnDo

end
-- ==== Proof.ProductEmbedGate.lean ====
/-
  The embeddings gate's product: one grid point's block, and the result array.
-/
module

public import proofs.«01_k».proof.Proof.Gen.Kernel24Ideal.Value
public import proofs.«01_k».proof.Proof.ProductMath
public import Idealize.ShloMosaic.Lib.Pipeline.ValueKit

@[expose] public section

set_option maxRecDepth 16384

noncomputable section

namespace Cert.Kernel24Ideal.EmbedGate

open Cert.Kernel24Ideal Cert.Kernel24Ideal.Gen Cert.Kernel24Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the layer's rows, and the gate's weight. -/
abbrev argX : FVec Ideal S16384x1024 .f32 := m ((c : Thread nD τ).loc main_arg0)
abbrev argW : FVec Ideal S1024x1024 .f32 := m ((c : Thread nD τ).loc main_arg1)

/-- The rows times the weight. -/
def result (x : FVec Ideal S16384x1024 .f32) (w : FVec Ideal S1024x1024 .f32) : FVec Ideal S16384x1024 .f32 :=
  fun i => ∑ k : Fin 1024, x (ix2 (i 0) k) * w (ix2 k (i 1))

/-- The weight as the kernel's call receives it: narrowed to bf16. -/
theorem weight (k : Fin 1024) (j : Fin 1024) : V m c main_v0 (ix2 k j) = argW m c (ix2 k j) := by
  unfold_abbrev_sides
  after_results
  pointwise

theorem blk0 (t : Fin cfg0.N) (r : Fin 1024) (k : Fin 1024) (s : Fin 16384) (hs : s.val = t.val * 1024 + r.val) :
    iblk m c 0 t (ix2 r k) = argX m c (ix2 s k) := by
  have ht : t.val < 16 := lt_of_lt_of_eq t.isLt N_0
  blk_point [iblk, V, idx t]

theorem blk1 (t : Fin cfg0.N) (k : Fin 1024) (j : Fin 1024) : iblk m c 1 t (ix2 k j) = argW m c (ix2 k j) := by
  have ht : t.val < 16 := lt_of_lt_of_eq t.isLt N_0
  refine Eq.trans (b := V m c main_v0 (ix2 k j)) ?_ (weight m c k j)
  blk_point [iblk, idx t]

/-- What a grid point leaves in its block. -/
theorem out_eq (x0 : FVec Ideal S1024x1024 .f32) (x1 : FVec Ideal S1024x1024 .bf16) :
    out0_2 (F := Ideal) x0 x1 = (k0_pay1 (F := Ideal) x0 x1 : FVec Ideal S1024x1024 .f32) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel24Ideal.EmbedGate

end
-- ==== Proof.ProductEmbedProj.lean ====
/-
  The embeddings' projection: one grid point's block of the product, and the result array.
-/
module

public import proofs.«01_k».proof.Proof.Gen.Kernel25Ideal.Value
public import proofs.«01_k».proof.Proof.ProductMath
public import Idealize.ShloMosaic.Lib.Pipeline.ValueKit

@[expose] public section

set_option maxRecDepth 16384

noncomputable section

namespace Cert.Kernel25Ideal.EmbedProj

open Cert.Kernel25Ideal Cert.Kernel25Ideal.Gen Cert.Kernel25Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x256 .f32) (x1 : FVec Ideal S256x1024 .bf16) (r : Fin 1024) (j : Fin 1024) :
    k0_pay1 (F := Ideal) x0 x1 (ix2 r j) = ∑ k : Fin 256, x0 (ix2 r k) * x1 (ix2 k j) := by
  unfold k0_pay1
  pointwise

section
variable (m : (ℓ : Loc nD τ sig) → Buf (Elt Ideal) ℓ) (c : Dev nD)

/-- The two arguments: the embeddings, and the weight. -/
abbrev argX : FVec Ideal S16384x256 .f32 := m ((c : Thread nD τ).loc main_arg0)
abbrev argW : FVec Ideal S256x1024 .f32 := m ((c : Thread nD τ).loc main_arg1)

/-- The embeddings times the weight. -/
def result (x : FVec Ideal S16384x256 .f32) (w : FVec Ideal S256x1024 .f32) : FVec Ideal S16384x1024 .f32 :=
  fun i => ∑ k : Fin 256, x (ix2 (i 0) k) * w (ix2 k (i 1))

/-- The weight as the kernel's call receives it: narrowed to bf16. -/
theorem weight (k : Fin 256) (j : Fin 1024) : V m c main_v0 (ix2 k j) = argW m c (ix2 k j) := by
  unfold_abbrev_sides
  after_results
  pointwise

theorem blk0 (t : Fin cfg0.N) (r : Fin 1024) (k : Fin 256) (s : Fin 16384) (hs : s.val = t.val * 1024 + r.val) :
    iblk m c 0 t (ix2 r k) = argX m c (ix2 s k) := by
  have ht : t.val < 16 := lt_of_lt_of_eq t.isLt N_0
  blk_point [iblk, V, idx t]

theorem blk1 (t : Fin cfg0.N) (k : Fin 256) (j : Fin 1024) : iblk m c 1 t (ix2 k j) = argW m c (ix2 k j) := by
  have ht : t.val < 16 := lt_of_lt_of_eq t.isLt N_0
  refine Eq.trans (b := V m c main_v0 (ix2 k j)) ?_ (weight m c k j)
  blk_point [iblk, idx t]

/-- What a grid point leaves in its block. -/
theorem out_eq (x0 : FVec Ideal S1024x256 .f32) (x1 : FVec Ideal S256x1024 .bf16) :
    out0_2 (F := Ideal) x0 x1 = (k0_pay1 (F := Ideal) x0 x1 : FVec Ideal S1024x1024 .f32) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel25Ideal.EmbedProj

end
-- ==== Proof.ProductGwEmbedGate.lean ====
/-
  The gradient of the embeddings gate's weight: the block of the result grows by one product at each grid
  point, over sixteen points, and holds the whole sum at the last.
-/
module

public import proofs.«01_k».proof.Proof.Gen.Kernel26Ideal.Value
public import proofs.«01_k».proof.Proof.ProductMath
public import Idealize.ShloMosaic.Lib.Pipeline.ValueKit

@[expose] public section

set_option maxRecDepth 16384

noncomputable section

namespace Cert.Kernel26Ideal.GwEmbedGate

open Cert.Kernel26Ideal Cert.Kernel26Ideal.Gen Cert.Kernel26Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![0, 0] :=
  (by decide +kernel : ∀ t : Fin grid0.N, _)

/-- One block's product at an index. -/
theorem pay1_apply (x0 : FVec Ideal S1024x1024 .f32) (x1 : FVec Ideal S1024x1024 .bf16) (r : Fin 1024) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x1024 .bf16) (acc : FVec Ideal S1024x1024 .f32) (r : Fin 1024) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's rows, and the cotangent of the gate's product. -/
abbrev argX : FVec Ideal S16384x1024 .f32 := m ((c : Thread nD τ).loc main_arg0)
abbrev argDy : FVec Ideal S16384x1024 .f32 := m ((c : Thread nD τ).loc main_arg1)

/-- The products that one element of the gradient sums, one per row. -/
def prods (x : FVec Ideal S16384x1024 .f32) (dy : FVec Ideal S16384x1024 .f32) (r : Fin 1024) (j : Fin 1024) : Fin 16384 → EReal :=
  fun s => x (ix2 s r) * dy (ix2 s j)

/-- The transposed rows times the cotangent. -/
def result (x : FVec Ideal S16384x1024 .f32) (dy : FVec Ideal S16384x1024 .f32) : FVec Ideal S1024x1024 .f32 :=
  fun i => ∑ s, prods x dy (i 0) (i 1) s

/-- The argument that the kernel's call receives narrowed to bf16. -/
theorem cotangent (s : Fin 16384) (n : Fin 1024) : V m c main_v0 (ix2 s n) = argDy m c (ix2 s n) := by
  unfold_abbrev_sides
  after_results
  pointwise

theorem blk0 (t : Fin cfg0.N) (k : Fin 1024) (r : Fin 1024) (s : Fin 16384) (hs : s.val = t.val * 1024 + k.val) :
    iblk m c 0 t (ix2 k r) = argX m c (ix2 s r) := by
  have ht : t.val < 16 := lt_of_lt_of_eq t.isLt N_0
  blk_point [iblk, V, idx t]

theorem blk1 (t : Fin cfg0.N) (k : Fin 1024) (r : Fin 1024) (s : Fin 16384) (hs : s.val = t.val * 1024 + k.val) :
    iblk m c 1 t (ix2 k r) = argDy m c (ix2 s r) := by
  have ht : t.val < 16 := lt_of_lt_of_eq t.isLt N_0
  refine Eq.trans (b := V m c main_v0 (ix2 s r)) ?_ (cotangent m c s r)
  blk_point [iblk, idx t]

theorem step_A (t : Fin cfg0.N) (h : t.val % 16 = 0) :
    outsAt0 m c t.val t.isLt = (k0_pay1 (F := Ideal) (iblk m c 0 t) (iblk m c 1 t) : FVec Ideal S1024x1024 .f32) := by
  have ht : t.val < 16 := lt_of_lt_of_eq t.isLt N_0
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x1024 .f32) := by
  rw [outsAt0_B m c t h (by omega)]
  frame_out

/-- One point's product: the rows of its block. -/
theorem product (t : Fin cfg0.N) (r : Fin 1024) (j : Fin 1024) :
    upto (prods (argX m c) (argDy m c) r j) (t.val % 16 * 1024) + k0_pay1 (F := Ideal) (iblk m c 0 t) (iblk m c 1 t) (ix2 r j)
      = upto (prods (argX m c) (argDy m c) r j) (t.val % 16 * 1024 + 1024) := by
  have ht : t.val < 16 := lt_of_lt_of_eq t.isLt N_0
  rw [pay1_apply]
  exact upto_block _ _ _ _ (by omega) fun k => congrArg₂ (· * ·) (blk0 m c t k r _ (by dsimp only; omega)) (blk1 m c t k j _ (by dsimp only; omega))

/-- After a point the block holds the sum over the rows of the blocks so far. -/
theorem holds (t : Fin cfg0.N) (r : Fin 1024) (j : Fin 1024) :
    outsAt0 m c t.val t.isLt (ix2 r j) = upto (prods (argX m c) (argDy m c) r j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h _ => product m c ⟨p, h⟩ r j)
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : ((win0_2.blk t).view.emb (ix2 (y 0) (y 1))) 1 = y 1 := Fin.ext (by blk_simp [idx t])
  refine (holds m c t (y 0) (y 1)).trans ?_
  rw [hl, result, e0, e1]
  exact upto_all _

end

end Cert.Kernel26Ideal.GwEmbedGate

end
-- ==== Proof.ProductGwEmbedProj.lean ====
/-
  The gradient of the embeddings' projection: the block of the result grows by one product at each grid
  point, over sixteen points, and holds the whole sum at the last.
-/
module

public import proofs.«01_k».proof.Proof.Gen.Kernel27Ideal.Value
public import proofs.«01_k».proof.Proof.ProductMath
public import Idealize.ShloMosaic.Lib.Pipeline.ValueKit

@[expose] public section

set_option maxRecDepth 16384

noncomputable section

namespace Cert.Kernel27Ideal.GwEmbedProj

open Cert.Kernel27Ideal Cert.Kernel27Ideal.Gen Cert.Kernel27Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![0, 0] :=
  (by decide +kernel : ∀ t : Fin grid0.N, _)

/-- One block's product at an index. -/
theorem pay1_apply (x0 : FVec Ideal S1024x256 .f32) (x1 : FVec Ideal S1024x1024 .bf16) (r : Fin 256) (j : Fin 1024) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x256 .f32) (x1 : FVec Ideal S1024x1024 .bf16) (acc : FVec Ideal S256x1024 .f32) (r : Fin 256) (j : Fin 1024) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the embeddings, and the cotangent of their projection. -/
abbrev argX : FVec Ideal S16384x256 .f32 := m ((c : Thread nD τ).loc main_arg0)
abbrev argDy : FVec Ideal S16384x1024 .f32 := m ((c : Thread nD τ).loc main_arg1)

/-- The products that one element of the gradient sums, one per row. -/
def prods (x : FVec Ideal S16384x256 .f32) (dy : FVec Ideal S16384x1024 .f32) (r : Fin 256) (j : Fin 1024) : Fin 16384 → EReal :=
  fun s => x (ix2 s r) * dy (ix2 s j)

/-- The transposed embeddings times the cotangent. -/
def result (x : FVec Ideal S16384x256 .f32) (dy : FVec Ideal S16384x1024 .f32) : FVec Ideal S256x1024 .f32 :=
  fun i => ∑ s, prods x dy (i 0) (i 1) s

/-- The argument that the kernel's call receives narrowed to bf16. -/
theorem cotangent (s : Fin 16384) (n : Fin 1024) : V m c main_v0 (ix2 s n) = argDy m c (ix2 s n) := by
  unfold_abbrev_sides
  after_results
  pointwise

theorem blk0 (t : Fin cfg0.N) (k : Fin 1024) (r : Fin 256) (s : Fin 16384) (hs : s.val = t.val * 1024 + k.val) :
    iblk m c 0 t (ix2 k r) = argX m c (ix2 s r) := by
  have ht : t.val < 16 := lt_of_lt_of_eq t.isLt N_0
  blk_point [iblk, V, idx t]

theorem blk1 (t : Fin cfg0.N) (k : Fin 1024) (r : Fin 1024) (s : Fin 16384) (hs : s.val = t.val * 1024 + k.val) :
    iblk m c 1 t (ix2 k r) = argDy m c (ix2 s r) := by
  have ht : t.val < 16 := lt_of_lt_of_eq t.isLt N_0
  refine Eq.trans (b := V m c main_v0 (ix2 s r)) ?_ (cotangent m c s r)
  blk_point [iblk, idx t]

theorem step_A (t : Fin cfg0.N) (h : t.val % 16 = 0) :
    outsAt0 m c t.val t.isLt = (k0_pay1 (F := Ideal) (iblk m c 0 t) (iblk m c 1 t) : FVec Ideal S256x1024 .f32) := by
  have ht : t.val < 16 := lt_of_lt_of_eq t.isLt N_0
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S256x1024 .f32) := by
  rw [outsAt0_B m c t h (by omega)]
  frame_out

/-- One point's product: the rows of its block. -/
theorem product (t : Fin cfg0.N) (r : Fin 256) (j : Fin 1024) :
    upto (prods (argX m c) (argDy m c) r j) (t.val % 16 * 1024) + k0_pay1 (F := Ideal) (iblk m c 0 t) (iblk m c 1 t) (ix2 r j)
      = upto (prods (argX m c) (argDy m c) r j) (t.val % 16 * 1024 + 1024) := by
  have ht : t.val < 16 := lt_of_lt_of_eq t.isLt N_0
  rw [pay1_apply]
  exact upto_block _ _ _ _ (by omega) fun k => congrArg₂ (· * ·) (blk0 m c t k r _ (by dsimp only; omega)) (blk1 m c t k j _ (by dsimp only; omega))

/-- After a point the block holds the sum over the rows of the blocks so far. -/
theorem holds (t : Fin cfg0.N) (r : Fin 256) (j : Fin 1024) :
    outsAt0 m c t.val t.isLt (ix2 r j) = upto (prods (argX m c) (argDy m c) r j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h _ => product m c ⟨p, h⟩ r j)
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : ((win0_2.blk t).view.emb (ix2 (y 0) (y 1))) 1 = y 1 := Fin.ext (by blk_simp [idx t])
  refine (holds m c t (y 0) (y 1)).trans ?_
  rw [hl, result, e0, e1]
  exact upto_all _

end

end Cert.Kernel27Ideal.GwEmbedProj

end
-- ==== Proof.ProductDx2.lean ====
/-
  The gradient that the embeddings gate's product passes back, added to the gradient that came so far: one grid point's
  block, and the result array.
-/
module

public import proofs.«01_k».proof.Proof.Gen.Kernel28Ideal.Value
public import proofs.«01_k».proof.Proof.ProductMath
public import Idealize.ShloMosaic.Lib.Pipeline.ValueKit

@[expose] public section

set_option maxRecDepth 16384

noncomputable section

namespace Cert.Kernel28Ideal.Dx2

open Cert.Kernel28Ideal Cert.Kernel28Ideal.Gen Cert.Kernel28Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- One block of the product at an index. -/
theorem pay1_apply (x0 : FVec Ideal S1024x1024 .bf16) (x1 : FVec Ideal S1024x1024 .bf16) (x2 : FVec Ideal S1024x1024 .f32) (r : Fin 1024) (j : Fin 1024) :
    k0_pay1 (F := Ideal) x0 x1 x2 (ix2 r j) = (∑ k : Fin 1024, x0 (ix2 r k) * x1 (ix2 k j)) + x2 (ix2 r j) := by
  unfold k0_pay1
  pointwise

section
variable (m : (ℓ : Loc nD τ sig) → Buf (Elt Ideal) ℓ) (c : Dev nD)

/-- The three arguments: the cotangent of the gate's product, the gate's weight, the gradient so far. -/
abbrev argX : FVec Ideal S16384x1024 .f32 := m ((c : Thread nD τ).loc main_arg0)
abbrev argW : FVec Ideal S1024x1024 .f32 := m ((c : Thread nD τ).loc main_arg1)
abbrev argD : FVec Ideal S16384x1024 .f32 := m ((c : Thread nD τ).loc main_arg2)

/-- The cotangent times the transposed weight, and the gradient so far. -/
def result (x : FVec Ideal S16384x1024 .f32) (w : FVec Ideal S1024x1024 .f32) (d : FVec Ideal S16384x1024 .f32) : FVec Ideal S16384x1024 .f32 :=
  fun i => (∑ k : Fin 1024, x (ix2 (i 0) k) * w (ix2 (i 1) k)) + d (ix2 (i 0) (i 1))

/-- The rows as the kernel's call receives them: narrowed to bf16. -/
theorem rows (s : Fin 16384) (k : Fin 1024) : V m c main_v0 (ix2 s k) = argX m c (ix2 s k) := by
  unfold_abbrev_sides
  after_results
  pointwise

/-- The weight as the kernel's call receives it: narrowed to bf16, transposed. -/
theorem weight (k : Fin 1024) (j : Fin 1024) : V m c main_v2 (ix2 k j) = argW m c (ix2 j k) := by
  unfold_abbrev_sides
  after_results
  pointwise

theorem blk0 (t : Fin cfg0.N) (r : Fin 1024) (k : Fin 1024) (s : Fin 16384) (hs : s.val = t.val * 1024 + r.val) :
    iblk m c 0 t (ix2 r k) = argX m c (ix2 s k) := by
  have ht : t.val < 16 := lt_of_lt_of_eq t.isLt N_0
  refine Eq.trans (b := V m c main_v0 (ix2 s k)) ?_ (rows m c s k)
  blk_point [iblk, idx t]

theorem blk1 (t : Fin cfg0.N) (k : Fin 1024) (j : Fin 1024) : iblk m c 1 t (ix2 k j) = argW m c (ix2 j k) := by
  have ht : t.val < 16 := lt_of_lt_of_eq t.isLt N_0
  refine Eq.trans (b := V m c main_v2 (ix2 k j)) ?_ (weight m c k j)
  blk_point [iblk, idx t]

theorem blk2 (t : Fin cfg0.N) (r j : Fin 1024) (s : Fin 16384) (hs : s.val = t.val * 1024 + r.val) :
    iblk m c 2 t (ix2 r j) = argD m c (ix2 s j) := by
  have ht : t.val < 16 := lt_of_lt_of_eq t.isLt N_0
  blk_point [iblk, V, idx t]

/-- What a grid point leaves in its block. -/
theorem out_eq (x0 : FVec Ideal S1024x1024 .bf16) (x1 : FVec Ideal S1024x1024 .bf16) (x2 : FVec Ideal S1024x1024 .f32) :
    out0_3 (F := Ideal) x0 x1 x2 = (k0_pay1 (F := Ideal) x0 x1 x2 : FVec Ideal S1024x1024 .f32) := by
  frame_out

theorem final3 : (dats m 0 c).arrAt 3 cfg0.N = result (argX m c) (argW m c) (argD m c) := by
  refine (dats m 0 c).arrAt_eq_of_covers 3 (result (argX m c) (argW m c) (argD m c)) (by decide +kernel) fun t hf y => ?_
  have ht : t.val < 16 := lt_of_lt_of_eq t.isLt N_0
  blk_simp [idx t]
  rw [after0_3, out_eq, eq_ix2 y]
  have e0 : (((win0_3.blk t).view.emb (ix2 (y 0) (y 1))) 0).val = t.val * 1024 + (y 0).val := by blk_simp [idx t]
  have e1 : ((win0_3.blk t).view.emb (ix2 (y 0) (y 1))) 1 = y 1 := Fin.ext (by blk_simp [idx t])
  refine (pay1_apply _ _ _ (y 0) (y 1)).trans ?_
  rw [result, e1]
  exact congrArg₂ (· + ·) (Finset.sum_congr rfl fun k _ => by rw [blk0 m c t (y 0) k _ e0, blk1 m c t k (y 1)]) (blk2 m c t (y 0) (y 1) _ e0)

end

end Cert.Kernel28Ideal.Dx2

end
-- ==== Proof.ProductRestClaim.lean ====
/-
  The remaining products: the frames of their references, and the equations of their results.
-/
module

public import proofs.«01_k».proof.Defs
public import proofs.«01_k».proof.Proof.ProductAttnOut
public import proofs.«01_k».proof.Proof.Gen.Reference21Ideal.Read
public import proofs.«01_k».proof.Proof.ProductAttnGwOut
public import proofs.«01_k».proof.Proof.Gen.Reference22Ideal.Read
public import proofs.«01_k».proof.Proof.ProductAttnDo
public import proofs.«01_k».proof.Proof.Gen.Reference23Ideal.Read
public import proofs.«01_k».proof.Proof.ProductEmbedGate
public import proofs.«01_k».proof.Proof.Gen.Reference24Ideal.Read
public import proofs.«01_k».proof.Proof.ProductEmbedProj
public import proofs.«01_k».proof.Proof.Gen.Reference25Ideal.Read
public import proofs.«01_k».proof.Proof.ProductGwEmbedGate
public import proofs.«01_k».proof.Proof.Gen.Reference26Ideal.Read
public import proofs.«01_k».proof.Proof.ProductGwEmbedProj
public import proofs.«01_k».proof.Proof.Gen.Reference27Ideal.Read
public import proofs.«01_k».proof.Proof.ProductDx2
public import proofs.«01_k».proof.Proof.Gen.Reference28Ideal.Read

@[expose] public section

set_option maxRecDepth 16384

noncomputable section

namespace Cert.ProductRestClaim

open Idealize.ShloMosaic Idealize.ShloMosaic.TcCoe Idealize.SL.Sem
open scoped BigOperators

/-! ## The attention layer's output projection -/

theorem frame_reference21 : Cert.quiescent_Reference21Ideal := fun m ρ _ =>
  (θ_run Cert.Reference21Ideal.defs _ _).mono (fun r h => ⟨fun c => (h c).2, Idealize.ShloMosaic.sem_eq_zero_of_no_sems (by decide) r.2⟩)
    (Cert.Reference21Ideal.Value.run (F := Ideal) m ρ)

theorem reference21 (x0 : FVec Ideal Cert.Kernel21Ideal.S16384x1024 .f32) (x1 : FVec Ideal Cert.Kernel21Ideal.S1024x1024 .f32) :
    Cert.Reference21Ideal.Read.val_main_v0 (F := Ideal) x0 x1 = Cert.Kernel21Ideal.AttnOut.result x0 x1 := by
  funext i
  refine (Cert.Reference21Ideal.Read.val_main_v0_apply x0 x1 i).trans (Finset.sum_congr rfl fun k _ => ?_)
  exact congrArg₂ (· * ·) (congrArg x0 (eq_ix2 _)) (congrArg x1 (eq_ix2 _))

theorem equal21 : Cert.algebraic_Kernel21Ideal_Reference21Ideal := by
  intro m g m' g' _ hagree
  refine ⟨fun c => Kernel21Ideal.AttnOut.result (Kernel21Ideal.AttnOut.argX m c) (Kernel21Ideal.AttnOut.argW m c), ?_, ?_⟩
  · exact (θ_run Cert.Kernel21Ideal.defs _ _).mono (fun r h c => ⟨(h c).1.trans (Kernel21Ideal.AttnOut.final2 m c), (h c).2⟩)
      (Cert.Kernel21Ideal.Value.run_blocks (F := Ideal) m g)
  · refine (θ_run Cert.Reference21Ideal.defs _ _).mono (fun r h c => ⟨(h c).1.trans ?_, (h c).2⟩) (Cert.Reference21Ideal.Value.run (F := Ideal) m' g')
    rw [Reference21Ideal.Read.val_main_v0_eq, reference21, (hagree c).1, (hagree c).2]

/-! ## The gradient of the attention layer's output weight -/

theorem frame_reference22 : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)

theorem reference22 (x0 : FVec Ideal Cert.Kernel22Ideal.S16384x1024 .f32) (x1 : FVec Ideal Cert.Kernel22Ideal.S16384x1024 .f32) :
    Cert.Reference22Ideal.Read.val_main_v3 (F := Ideal) x0 x1 = Cert.Kernel22Ideal.AttnGwOut.result x0 x1 := by
  funext i
  rw [Cert.Reference22Ideal.Read.val_main_v3_apply, Cert.Reference22Ideal.Read.val_main_v2_apply, Cert.Kernel22Ideal.AttnGwOut.result]
  refine Finset.sum_congr rfl fun k _ => ?_
  exact (mul_comm (G := EReal) (x1 (Cert.Reference22Ideal.Read.lidx_main_v2 _ k)) (x0 (Cert.Reference22Ideal.Read.ridx_main_v2 _ k))).trans (congrArg₂ (· * ·) (congrArg x0 (eq_ix2 _)) (congrArg x1 (eq_ix2 _)))

theorem equal22 : Cert.algebraic_Kernel22Ideal_Reference22Ideal := by
  intro m g m' g' _ hagree
  refine ⟨fun c => Kernel22Ideal.AttnGwOut.result (Kernel22Ideal.AttnGwOut.argX m c) (Kernel22Ideal.AttnGwOut.argDy m c), ?_, ?_⟩
  · exact (θ_run Cert.Kernel22Ideal.defs _ _).mono (fun r h c => ⟨(h c).1.trans (Kernel22Ideal.AttnGwOut.final2 m c), (h c).2⟩)
      (Cert.Kernel22Ideal.Value.run_blocks (F := Ideal) m g)
  · refine (θ_run Cert.Reference22Ideal.defs _ _).mono (fun r h c => ⟨(h c).1.trans ?_, (h c).2⟩) (Cert.Reference22Ideal.Value.run (F := Ideal) m' g')
    rw [Reference22Ideal.Read.val_main_v3_eq, reference22, (hagree c).1, (hagree c).2]

/-! ## The gradient passed back by the attention layer's output projection -/

theorem frame_reference23 : Cert.quiescent_Reference23Ideal := fun m ρ _ =>
  (θ_run Cert.Reference23Ideal.defs _ _).mono (fun r h => ⟨fun c => (h c).2, Idealize.ShloMosaic.sem_eq_zero_of_no_sems (by decide) r.2⟩)
    (Cert.Reference23Ideal.Value.run (F := Ideal) m ρ)

theorem reference23 (x0 : FVec Ideal Cert.Kernel23Ideal.S16384x1024 .f32) (x1 : FVec Ideal Cert.Kernel23Ideal.S1024x1024 .f32) :
    Cert.Reference23Ideal.Read.val_main_v3 (F := Ideal) x0 x1 = Cert.Kernel23Ideal.AttnDo.result x0 x1 := by
  funext i
  refine (Cert.Reference23Ideal.Read.val_main_v2_apply x0 x1 i).trans (Finset.sum_congr rfl fun k _ => ?_)
  exact congrArg₂ (· * ·) (congrArg x0 (eq_ix2 _)) (congrArg x1 (eq_ix2 _))

theorem equal23 : Cert.algebraic_Kernel23Ideal_Reference23Ideal := by
  intro m g m' g' _ hagree
  refine ⟨fun c => Kernel23Ideal.AttnDo.result (Kernel23Ideal.AttnDo.argX m c) (Kernel23Ideal.AttnDo.argW m c), ?_, ?_⟩
  · exact (θ_run Cert.Kernel23Ideal.defs _ _).mono (fun r h c => ⟨(h c).1.trans (Kernel23Ideal.AttnDo.final2 m c), (h c).2⟩)
      (Cert.Kernel23Ideal.Value.run_blocks (F := Ideal) m g)
  · refine (θ_run Cert.Reference23Ideal.defs _ _).mono (fun r h c => ⟨(h c).1.trans ?_, (h c).2⟩) (Cert.Reference23Ideal.Value.run (F := Ideal) m' g')
    rw [Reference23Ideal.Read.val_main_v3_eq, reference23, (hagree c).1, (hagree c).2]

/-! ## The embeddings gate's product -/

theorem frame_reference24 : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

theorem reference24 (x0 : FVec Ideal Cert.Kernel24Ideal.S16384x1024 .f32) (x1 : FVec Ideal Cert.Kernel24Ideal.S1024x1024 .f32) :
    Cert.Reference24Ideal.Read.val_main_v0 (F := Ideal) x0 x1 = Cert.Kernel24Ideal.EmbedGate.result x0 x1 := by
  funext i
  refine (Cert.Reference24Ideal.Read.val_main_v0_apply x0 x1 i).trans (Finset.sum_congr rfl fun k _ => ?_)
  exact congrArg₂ (· * ·) (congrArg x0 (eq_ix2 _)) (congrArg x1 (eq_ix2 _))

theorem equal24 : Cert.algebraic_Kernel24Ideal_Reference24Ideal := by
  intro m g m' g' _ hagree
  refine ⟨fun c => Kernel24Ideal.EmbedGate.result (Kernel24Ideal.EmbedGate.argX m c) (Kernel24Ideal.EmbedGate.argW m c), ?_, ?_⟩
  · exact (θ_run Cert.Kernel24Ideal.defs _ _).mono (fun r h c => ⟨(h c).1.trans (Kernel24Ideal.EmbedGate.final2 m c), (h c).2⟩)
      (Cert.Kernel24Ideal.Value.run_blocks (F := Ideal) m g)
  · refine (θ_run Cert.Reference24Ideal.defs _ _).mono (fun r h c => ⟨(h c).1.trans ?_, (h c).2⟩) (Cert.Reference24Ideal.Value.run (F := Ideal) m' g')
    rw [Reference24Ideal.Read.val_main_v0_eq, reference24, (hagree c).1, (hagree c).2]

/-! ## The embeddings' projection -/

theorem frame_reference25 : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

theorem reference25 (x0 : FVec Ideal Cert.Kernel25Ideal.S16384x256 .f32) (x1 : FVec Ideal Cert.Kernel25Ideal.S256x1024 .f32) :
    Cert.Reference25Ideal.Read.val_main_v0 (F := Ideal) x0 x1 = Cert.Kernel25Ideal.EmbedProj.result x0 x1 := by
  funext i
  refine (Cert.Reference25Ideal.Read.val_main_v0_apply x0 x1 i).trans (Finset.sum_congr rfl fun k _ => ?_)
  exact congrArg₂ (· * ·) (congrArg x0 (eq_ix2 _)) (congrArg x1 (eq_ix2 _))

theorem equal25 : Cert.algebraic_Kernel25Ideal_Reference25Ideal := by
  intro m g m' g' _ hagree
  refine ⟨fun c => Kernel25Ideal.EmbedProj.result (Kernel25Ideal.EmbedProj.argX m c) (Kernel25Ideal.EmbedProj.argW m c), ?_, ?_⟩
  · exact (θ_run Cert.Kernel25Ideal.defs _ _).mono (fun r h c => ⟨(h c).1.trans (Kernel25Ideal.EmbedProj.final2 m c), (h c).2⟩)
      (Cert.Kernel25Ideal.Value.run_blocks (F := Ideal) m g)
  · refine (θ_run Cert.Reference25Ideal.defs _ _).mono (fun r h c => ⟨(h c).1.trans ?_, (h c).2⟩) (Cert.Reference25Ideal.Value.run (F := Ideal) m' g')
    rw [Reference25Ideal.Read.val_main_v0_eq, reference25, (hagree c).1, (hagree c).2]

/-! ## The gradient of the embeddings gate's weight -/

theorem frame_reference26 : Cert.quiescent_Reference26Ideal := fun m ρ _ =>
  (θ_run Cert.Reference26Ideal.defs _ _).mono (fun r h => ⟨fun c => (h c).2, Idealize.ShloMosaic.sem_eq_zero_of_no_sems (by decide) r.2⟩)
    (Cert.Reference26Ideal.Value.run (F := Ideal) m ρ)

theorem reference26 (x0 : FVec Ideal Cert.Kernel26Ideal.S16384x1024 .f32) (x1 : FVec Ideal Cert.Kernel26Ideal.S16384x1024 .f32) :
    Cert.Reference26Ideal.Read.val_main_v3 (F := Ideal) x0 x1 = Cert.Kernel26Ideal.GwEmbedGate.result x0 x1 := by
  funext i
  rw [Cert.Reference26Ideal.Read.val_main_v3_apply, Cert.Reference26Ideal.Read.val_main_v2_apply, Cert.Kernel26Ideal.GwEmbedGate.result]
  refine Finset.sum_congr rfl fun k _ => ?_
  exact (mul_comm (G := EReal) (x1 (Cert.Reference26Ideal.Read.lidx_main_v2 _ k)) (x0 (Cert.Reference26Ideal.Read.ridx_main_v2 _ k))).trans (congrArg₂ (· * ·) (congrArg x0 (eq_ix2 _)) (congrArg x1 (eq_ix2 _)))

theorem equal26 : Cert.algebraic_Kernel26Ideal_Reference26Ideal := by
  intro m g m' g' _ hagree
  refine ⟨fun c => Kernel26Ideal.GwEmbedGate.result (Kernel26Ideal.GwEmbedGate.argX m c) (Kernel26Ideal.GwEmbedGate.argDy m c), ?_, ?_⟩
  · exact (θ_run Cert.Kernel26Ideal.defs _ _).mono (fun r h c => ⟨(h c).1.trans (Kernel26Ideal.GwEmbedGate.final2 m c), (h c).2⟩)
      (Cert.Kernel26Ideal.Value.run_blocks (F := Ideal) m g)
  · refine (θ_run Cert.Reference26Ideal.defs _ _).mono (fun r h c => ⟨(h c).1.trans ?_, (h c).2⟩) (Cert.Reference26Ideal.Value.run (F := Ideal) m' g')
    rw [Reference26Ideal.Read.val_main_v3_eq, reference26, (hagree c).1, (hagree c).2]

/-! ## The gradient of the embeddings' projection -/

theorem frame_reference27 : Cert.quiescent_Reference27Ideal := fun m ρ _ =>
  (θ_run Cert.Reference27Ideal.defs _ _).mono (fun r h => ⟨fun c => (h c).2, Idealize.ShloMosaic.sem_eq_zero_of_no_sems (by decide) r.2⟩)
    (Cert.Reference27Ideal.Value.run (F := Ideal) m ρ)

theorem reference27 (x0 : FVec Ideal Cert.Kernel27Ideal.S16384x256 .f32) (x1 : FVec Ideal Cert.Kernel27Ideal.S16384x1024 .f32) :
    Cert.Reference27Ideal.Read.val_main_v3 (F := Ideal) x0 x1 = Cert.Kernel27Ideal.GwEmbedProj.result x0 x1 := by
  funext i
  rw [Cert.Reference27Ideal.Read.val_main_v3_apply, Cert.Reference27Ideal.Read.val_main_v2_apply, Cert.Kernel27Ideal.GwEmbedProj.result]
  refine Finset.sum_congr rfl fun k _ => ?_
  exact (mul_comm (G := EReal) (x1 (Cert.Reference27Ideal.Read.lidx_main_v2 _ k)) (x0 (Cert.Reference27Ideal.Read.ridx_main_v2 _ k))).trans (congrArg₂ (· * ·) (congrArg x0 (eq_ix2 _)) (congrArg x1 (eq_ix2 _)))

theorem equal27 : Cert.algebraic_Kernel27Ideal_Reference27Ideal := by
  intro m g m' g' _ hagree
  refine ⟨fun c => Kernel27Ideal.GwEmbedProj.result (Kernel27Ideal.GwEmbedProj.argX m c) (Kernel27Ideal.GwEmbedProj.argDy m c), ?_, ?_⟩
  · exact (θ_run Cert.Kernel27Ideal.defs _ _).mono (fun r h c => ⟨(h c).1.trans (Kernel27Ideal.GwEmbedProj.final2 m c), (h c).2⟩)
      (Cert.Kernel27Ideal.Value.run_blocks (F := Ideal) m g)
  · refine (θ_run Cert.Reference27Ideal.defs _ _).mono (fun r h c => ⟨(h c).1.trans ?_, (h c).2⟩) (Cert.Reference27Ideal.Value.run (F := Ideal) m' g')
    rw [Reference27Ideal.Read.val_main_v3_eq, reference27, (hagree c).1, (hagree c).2]

/-! ## The gradient passed back by the embeddings gate's product, added to what came so far -/

theorem frame_reference28 : Cert.quiescent_Reference28Ideal := fun m ρ _ =>
  (θ_run Cert.Reference28Ideal.defs _ _).mono (fun r h => ⟨fun c => (h c).2, Idealize.ShloMosaic.sem_eq_zero_of_no_sems (by decide) r.2⟩)
    (Cert.Reference28Ideal.Value.run (F := Ideal) m ρ)

theorem reference28 (x0 : FVec Ideal Cert.Kernel28Ideal.S16384x1024 .f32) (x1 : FVec Ideal Cert.Kernel28Ideal.S1024x1024 .f32) (x2 : FVec Ideal Cert.Kernel28Ideal.S16384x1024 .f32) :
    Cert.Reference28Ideal.Read.val_main_v3 (F := Ideal) x0 x1 x2 = Cert.Kernel28Ideal.Dx2.result x0 x1 x2 := by
  funext i
  refine (add_comm _ _).trans (congrArg₂ (· + ·) ((Cert.Reference28Ideal.Read.val_main_v2_apply x0 x1 i).trans (Finset.sum_congr rfl fun k _ => ?_))
    (congrArg x2 (eq_ix2 _)))
  exact congrArg₂ (· * ·) (congrArg x0 (eq_ix2 _)) (congrArg x1 (eq_ix2 _))

theorem equal28 : Cert.algebraic_Kernel28Ideal_Reference28Ideal := by
  intro m g m' g' _ hagree
  refine ⟨fun c => Kernel28Ideal.Dx2.result (Kernel28Ideal.Dx2.argX m c) (Kernel28Ideal.Dx2.argW m c) (Kernel28Ideal.Dx2.argD m c), ?_, ?_⟩
  · exact (θ_run Cert.Kernel28Ideal.defs _ _).mono (fun r h c => ⟨(h c).1.trans (Kernel28Ideal.Dx2.final3 m c), (h c).2⟩)
      (Cert.Kernel28Ideal.Value.run_blocks (F := Ideal) m g)
  · refine (θ_run Cert.Reference28Ideal.defs _ _).mono (fun r h c => ⟨(h c).1.trans ?_, (h c).2⟩) (Cert.Reference28Ideal.Value.run (F := Ideal) m' g')
    rw [Reference28Ideal.Read.val_main_v3_eq, reference28, (hagree c).1, (hagree c).2.1, (hagree c).2.2]

end Cert.ProductRestClaim

end
-- ==== Proof.ProductDxForget.lean ====
/-
  The gradient that the attention layer's forget gates pass back to the layer's rows, added to the gradient that came so
  far: one grid point's block, and the result array.
-/
module

public import proofs.«01_k».proof.Proof.Gen.Kernel31Ideal.Value
public import proofs.«01_k».proof.Proof.ProductMath
public import Idealize.ShloMosaic.Lib.Pipeline.ValueKit

@[expose] public section

set_option maxRecDepth 16384

noncomputable section

namespace Cert.Kernel31Ideal.DxForget

open Cert.Kernel31Ideal Cert.Kernel31Ideal.Gen Cert.Kernel31Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- One block of the product at an index. -/
theorem pay1_apply (x0 : FVec Ideal S1024x128 .f32) (x1 : FVec Ideal S128x1024 .bf16) (x2 : FVec Ideal S1024x1024 .f32) (r : Fin 1024) (j : Fin 1024) :
    k0_pay1 (F := Ideal) x0 x1 x2 (ix2 r j) = (∑ k : Fin 128, x0 (ix2 r k) * x1 (ix2 k j)) + x2 (ix2 r j) := by
  unfold k0_pay1
  pointwise

section
variable (m : (ℓ : Loc nD τ sig) → Buf (Elt Ideal) ℓ) (c : Dev nD)

/-- The three arguments: the cotangent of the product, the layer's input weight, the gradient so far. -/
abbrev argX : FVec Ideal S16x16384 .f32 := m ((c : Thread nD τ).loc main_arg0)
abbrev argW : FVec Ideal S1024x3088 .f32 := m ((c : Thread nD τ).loc main_arg1)
abbrev argD : FVec Ideal S16384x1024 .f32 := m ((c : Thread nD τ).loc main_arg2)

/-- The cotangent, with zero columns behind its 16. -/
def wide (x : FVec Ideal S16x16384 .f32) (s : Fin 16384) (k : Fin 128) : EReal := if h : k.val < 16 then x (ix2 ⟨k.val, h⟩ s) else 0

theorem wide_lt (x : FVec Ideal S16x16384 .f32) (s : Fin 16384) (k : Fin 128) (h : k.val < 16) : wide x s k = x (ix2 ⟨k.val, h⟩ s) := dif_pos h

theorem wide_ge (x : FVec Ideal S16x16384 .f32) (s : Fin 16384) (k : Fin 128) (h : ¬k.val < 16) : wide x s k = 0 := dif_neg h

/-- The last 16 columns of the weight, transposed, with zero rows behind them. -/
def last (w : FVec Ideal S1024x3088 .f32) (k : Fin 128) (j : Fin 1024) : EReal := if h : k.val < 16 then w (ix2 j ⟨3072 + k.val, by omega⟩) else 0

theorem last_lt (w : FVec Ideal S1024x3088 .f32) (k : Fin 128) (j : Fin 1024) (h : k.val < 16) : last w k j = w (ix2 j ⟨3072 + k.val, by omega⟩) := dif_pos h

theorem last_ge (w : FVec Ideal S1024x3088 .f32) (k : Fin 128) (j : Fin 1024) (h : ¬k.val < 16) : last w k j = 0 := dif_neg h

/-- The cotangent times the transposed columns of the weight, and the gradient so far. -/
def result (x : FVec Ideal S16x16384 .f32) (w : FVec Ideal S1024x3088 .f32) (d : FVec Ideal S16384x1024 .f32) : FVec Ideal S16384x1024 .f32 :=
  fun i => (∑ k : Fin 128, wide x (i 0) k * last w k (i 1)) + d (ix2 (i 0) (i 1))

/-- The rows as the kernel's call receives them: padded with zero columns. -/
theorem rows (s : Fin 16384) (k : Fin 128) : V m c main_v1 (ix2 s k) = wide (argX m c) s k := by
  unfold_abbrev_sides
  simp only [hostOps0, hostOps0_1, hostOps0_2, hostOps0_3, List.flatten_cons, List.flatten_nil, List.append_nil, List.cons_append, List.nil_append]
  after_results
  show (pad S16384x128 ![0, 0] ![0, 112] ![0, 0] (transpose S16384x16 [1, 0] (argX m c) transposes_S16x16384_S16384x16_1_0) (sitofp (F := Ideal) .f32 (constantI S_ 32 0#32))
    pads_S16384x16_S16384x128_000_01120 h_S_ : FVec Ideal S16384x128 .f32) (ix2 s k) = _
  unfold wide
  pointwise
  split
  · rfl
  · exact int_zero _

/-- The weight as the kernel's call receives it: narrowed to bf16, cut, transposed and padded. -/
theorem weight (k : Fin 128) (j : Fin 1024) : V m c main_v5 (ix2 k j) = last (argW m c) k j := by
  unfold_abbrev_sides
  simp only [hostOps0, hostOps0_1, hostOps0_2, hostOps0_3, List.flatten_cons, List.flatten_nil, List.append_nil, List.cons_append, List.nil_append]
  after_results
  show (pad S128x1024 ![0, 0] ![112, 0] ![0, 0] (extractStridedSlice S16x1024 ![3072, 0] (transpose S3088x1024 [1, 0]
    (truncf .bf16 (argW m c) bitsLt_bf16_f32) transposes_S1024x3088_S3088x1024_1_0) slices_S3088x1024_S16x1024_3072_0)
    (sitofp (F := Ideal) .bf16 (constantI S_ 32 0#32)) pads_S16x1024_S128x1024_01120_000 h_S_ : FVec Ideal S128x1024 .bf16) (ix2 k j) = _
  unfold last
  pointwise
  split
  · rfl
  · exact int_zero _

theorem blk0 (t : Fin cfg0.N) (r : Fin 1024) (k : Fin 128) (s : Fin 16384) (hs : s.val = t.val * 1024 + r.val) :
    iblk m c 0 t (ix2 r k) = wide (argX m c) s k := by
  have ht : t.val < 16 := lt_of_lt_of_eq t.isLt N_0
  refine Eq.trans (b := V m c main_v1 (ix2 s k)) ?_ (rows m c s k)
  blk_point [iblk, idx t]

theorem blk1 (t : Fin cfg0.N) (k : Fin 128) (j : Fin 1024) : iblk m c 1 t (ix2 k j) = last (argW m c) k j := by
  have ht : t.val < 16 := lt_of_lt_of_eq t.isLt N_0
  refine Eq.trans (b := V m c main_v5 (ix2 k j)) ?_ (weight m c k j)
  blk_point [iblk, idx t]

theorem blk2 (t : Fin cfg0.N) (r j : Fin 1024) (s : Fin 16384) (hs : s.val = t.val * 1024 + r.val) :
    iblk m c 2 t (ix2 r j) = argD m c (ix2 s j) := by
  have ht : t.val < 16 := lt_of_lt_of_eq t.isLt N_0
  blk_point [iblk, V, idx t]

/-- What a grid point leaves in its block. -/
theorem out_eq (x0 : FVec Ideal S1024x128 .f32) (x1 : FVec Ideal S128x1024 .bf16) (x2 : FVec Ideal S1024x1024 .f32) :
    out0_3 (F := Ideal) x0 x1 x2 = (k0_pay1 (F := Ideal) x0 x1 x2 : FVec Ideal S1024x1024 .f32) := by
  frame_out

theorem final3 : (dats m 0 c).arrAt 3 cfg0.N = result (argX m c) (argW m c) (argD m c) := by
  refine (dats m 0 c).arrAt_eq_of_covers 3 (result (argX m c) (argW m c) (argD m c)) (by decide +kernel) fun t hf y => ?_
  have ht : t.val < 16 := lt_of_lt_of_eq t.isLt N_0
  blk_simp [idx t]
  rw [after0_3, out_eq, eq_ix2 y]
  have e0 : (((win0_3.blk t).view.emb (ix2 (y 0) (y 1))) 0).val = t.val * 1024 + (y 0).val := by blk_simp [idx t]
  have e1 : ((win0_3.blk t).view.emb (ix2 (y 0) (y 1))) 1 = y 1 := Fin.ext (by blk_simp [idx t])
  refine (pay1_apply _ _ _ (y 0) (y 1)).trans ?_
  rw [result, e1]
  exact congrArg₂ (· + ·) (Finset.sum_congr rfl fun k _ => by rw [blk0 m c t (y 0) k _ e0, blk1 m c t k (y 1)]) (blk2 m c t (y 0) (y 1) _ e0)

end

end Cert.Kernel31Ideal.DxForget

end
-- ==== Proof.ProductDxStep.lean ====
/-
  The gradient that the state-space layer's step sizes pass back to the layer's rows, added to the gradient that came so
  far: one grid point's block, and the result array.
-/
module

public import proofs.«01_k».proof.Proof.Gen.Kernel32Ideal.Value
public import proofs.«01_k».proof.Proof.ProductMath
public import Idealize.ShloMosaic.Lib.Pipeline.ValueKit

@[expose] public section

set_option maxRecDepth 16384

noncomputable section

namespace Cert.Kernel32Ideal.DxStep

open Cert.Kernel32Ideal Cert.Kernel32Ideal.Gen Cert.Kernel32Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- One block of the product at an index. -/
theorem pay1_apply (x0 : FVec Ideal S1024x128 .f32) (x1 : FVec Ideal S128x1024 .bf16) (x2 : FVec Ideal S1024x1024 .f32) (r : Fin 1024) (j : Fin 1024) :
    k0_pay1 (F := Ideal) x0 x1 x2 (ix2 r j) = (∑ k : Fin 128, x0 (ix2 r k) * x1 (ix2 k j)) + x2 (ix2 r j) := by
  unfold k0_pay1
  pointwise

section
variable (m : (ℓ : Loc nD τ sig) → Buf (Elt Ideal) ℓ) (c : Dev nD)

/-- The three arguments: the cotangent of the product, the layer's input weight, the gradient so far. -/
abbrev argX : FVec Ideal S16384x32 .f32 := m ((c : Thread nD τ).loc main_arg0)
abbrev argW : FVec Ideal S1024x6176 .f32 := m ((c : Thread nD τ).loc main_arg1)
abbrev argD : FVec Ideal S16384x1024 .f32 := m ((c : Thread nD τ).loc main_arg2)

/-- The cotangent, with zero columns behind its 32. -/
def wide (x : FVec Ideal S16384x32 .f32) (s : Fin 16384) (k : Fin 128) : EReal := if h : k.val < 32 then x (ix2 s ⟨k.val, h⟩) else 0

theorem wide_lt (x : FVec Ideal S16384x32 .f32) (s : Fin 16384) (k : Fin 128) (h : k.val < 32) : wide x s k = x (ix2 s ⟨k.val, h⟩) := dif_pos h

theorem wide_ge (x : FVec Ideal S16384x32 .f32) (s : Fin 16384) (k : Fin 128) (h : ¬k.val < 32) : wide x s k = 0 := dif_neg h

/-- The last 32 columns of the weight, transposed, with zero rows behind them. -/
def last (w : FVec Ideal S1024x6176 .f32) (k : Fin 128) (j : Fin 1024) : EReal := if h : k.val < 32 then w (ix2 j ⟨6144 + k.val, by omega⟩) else 0

theorem last_lt (w : FVec Ideal S1024x6176 .f32) (k : Fin 128) (j : Fin 1024) (h : k.val < 32) : last w k j = w (ix2 j ⟨6144 + k.val, by omega⟩) := dif_pos h

theorem last_ge (w : FVec Ideal S1024x6176 .f32) (k : Fin 128) (j : Fin 1024) (h : ¬k.val < 32) : last w k j = 0 := dif_neg h

/-- The cotangent times the transposed columns of the weight, and the gradient so far. -/
def result (x : FVec Ideal S16384x32 .f32) (w : FVec Ideal S1024x6176 .f32) (d : FVec Ideal S16384x1024 .f32) : FVec Ideal S16384x1024 .f32 :=
  fun i => (∑ k : Fin 128, wide x (i 0) k * last w k (i 1)) + d (ix2 (i 0) (i 1))

/-- The rows as the kernel's call receives them: padded with zero columns. -/
theorem rows (s : Fin 16384) (k : Fin 128) : V m c main_v0 (ix2 s k) = wide (argX m c) s k := by
  unfold_abbrev_sides
  simp only [hostOps0, hostOps0_1, hostOps0_2, hostOps0_3, List.flatten_cons, List.flatten_nil, List.append_nil, List.cons_append, List.nil_append]
  after_results
  show (pad S16384x128 ![0, 0] ![0, 96] ![0, 0] (argX m c) (sitofp (F := Ideal) .f32 (constantI S_ 32 0#32))
    pads_S16384x32_S16384x128_000_0960 h_S_ : FVec Ideal S16384x128 .f32) (ix2 s k) = _
  unfold wide
  pointwise
  split
  · rfl
  · exact int_zero _

/-- The weight as the kernel's call receives it: narrowed to bf16, cut, transposed and padded. -/
theorem weight (k : Fin 128) (j : Fin 1024) : V m c main_v4 (ix2 k j) = last (argW m c) k j := by
  unfold_abbrev_sides
  simp only [hostOps0, hostOps0_1, hostOps0_2, hostOps0_3, List.flatten_cons, List.flatten_nil, List.append_nil, List.cons_append, List.nil_append]
  after_results
  show (pad S128x1024 ![0, 0] ![96, 0] ![0, 0] (extractStridedSlice S32x1024 ![6144, 0] (transpose S6176x1024 [1, 0]
    (truncf .bf16 (argW m c) bitsLt_bf16_f32) transposes_S1024x6176_S6176x1024_1_0) slices_S6176x1024_S32x1024_6144_0)
    (sitofp (F := Ideal) .bf16 (constantI S_ 32 0#32)) pads_S32x1024_S128x1024_0960_000 h_S_ : FVec Ideal S128x1024 .bf16) (ix2 k j) = _
  unfold last
  pointwise
  split
  · rfl
  · exact int_zero _

theorem blk0 (t : Fin cfg0.N) (r : Fin 1024) (k : Fin 128) (s : Fin 16384) (hs : s.val = t.val * 1024 + r.val) :
    iblk m c 0 t (ix2 r k) = wide (argX m c) s k := by
  have ht : t.val < 16 := lt_of_lt_of_eq t.isLt N_0
  refine Eq.trans (b := V m c main_v0 (ix2 s k)) ?_ (rows m c s k)
  blk_point [iblk, idx t]

theorem blk1 (t : Fin cfg0.N) (k : Fin 128) (j : Fin 1024) : iblk m c 1 t (ix2 k j) = last (argW m c) k j := by
  have ht : t.val < 16 := lt_of_lt_of_eq t.isLt N_0
  refine Eq.trans (b := V m c main_v4 (ix2 k j)) ?_ (weight m c k j)
  blk_point [iblk, idx t]

theorem blk2 (t : Fin cfg0.N) (r j : Fin 1024) (s : Fin 16384) (hs : s.val = t.val * 1024 + r.val) :
    iblk m c 2 t (ix2 r j) = argD m c (ix2 s j) := by
  have ht : t.val < 16 := lt_of_lt_of_eq t.isLt N_0
  blk_point [iblk, V, idx t]

/-- What a grid point leaves in its block. -/
theorem out_eq (x0 : FVec Ideal S1024x128 .f32) (x1 : FVec Ideal S128x1024 .bf16) (x2 : FVec Ideal S1024x1024 .f32) :
    out0_3 (F := Ideal) x0 x1 x2 = (k0_pay1 (F := Ideal) x0 x1 x2 : FVec Ideal S1024x1024 .f32) := by
  frame_out

theorem final3 : (dats m 0 c).arrAt 3 cfg0.N = result (argX m c) (argW m c) (argD m c) := by
  refine (dats m 0 c).arrAt_eq_of_covers 3 (result (argX m c) (argW m c) (argD m c)) (by decide +kernel) fun t hf y => ?_
  have ht : t.val < 16 := lt_of_lt_of_eq t.isLt N_0
  blk_simp [idx t]
  rw [after0_3, out_eq, eq_ix2 y]
  have e0 : (((win0_3.blk t).view.emb (ix2 (y 0) (y 1))) 0).val = t.val * 1024 + (y 0).val := by blk_simp [idx t]
  have e1 : ((win0_3.blk t).view.emb (ix2 (y 0) (y 1))) 1 = y 1 := Fin.ext (by blk_simp [idx t])
  refine (pay1_apply _ _ _ (y 0) (y 1)).trans ?_
  rw [result, e1]
  exact congrArg₂ (· + ·) (Finset.sum_congr rfl fun k _ => by rw [blk0 m c t (y 0) k _ e0, blk1 m c t k (y 1)]) (blk2 m c t (y 0) (y 1) _ e0)

end

end Cert.Kernel32Ideal.DxStep

end
-- ==== Proof.ProductGwForget.lean ====
/-
  The gradient of the forget gates' columns of the attention layer's input weight: the block of the result grows by one product at each grid
  point, over sixteen points, and holds the whole sum at the last.
-/
module

public import proofs.«01_k».proof.Proof.Gen.Kernel33Ideal.Value
public import proofs.«01_k».proof.Proof.ProductMath
public import Idealize.ShloMosaic.Lib.Pipeline.ValueKit

@[expose] public section

set_option maxRecDepth 16384

noncomputable section

namespace Cert.Kernel33Ideal.GwForget

open Cert.Kernel33Ideal Cert.Kernel33Ideal.Gen Cert.Kernel33Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![0, 0] :=
  (by decide +kernel : ∀ t : Fin grid0.N, _)

/-- One block's product at an index. -/
theorem pay1_apply (x0 : FVec Ideal S1024x1024 .f32) (x1 : FVec Ideal S1024x128 .f32) (r : Fin 1024) (j : Fin 128) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x128 .f32) (acc : FVec Ideal S1024x128 .f32) (r : Fin 1024) (j : Fin 128) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's rows, and the cotangent of the product. -/
abbrev argX : FVec Ideal S16384x1024 .f32 := m ((c : Thread nD τ).loc main_arg0)
abbrev argDy : FVec Ideal S16x16384 .f32 := m ((c : Thread nD τ).loc main_arg1)

/-- The cotangent, with zero columns behind its 16. -/
def wide (x : FVec Ideal S16x16384 .f32) (s : Fin 16384) (k : Fin 128) : EReal := if h : k.val < 16 then x (ix2 ⟨k.val, h⟩ s) else 0

theorem wide_lt (x : FVec Ideal S16x16384 .f32) (s : Fin 16384) (k : Fin 128) (h : k.val < 16) : wide x s k = x (ix2 ⟨k.val, h⟩ s) := dif_pos h

theorem wide_ge (x : FVec Ideal S16x16384 .f32) (s : Fin 16384) (k : Fin 128) (h : ¬k.val < 16) : wide x s k = 0 := dif_neg h

/-- The products that one element of the gradient sums, one per row. -/
def prods (x : FVec Ideal S16384x1024 .f32) (dy : FVec Ideal S16x16384 .f32) (r : Fin 1024) (j : Fin 128) : Fin 16384 → EReal :=
  fun s => x (ix2 s r) * wide dy s j

/-- The transposed rows times the widened cotangent. -/
def result (x : FVec Ideal S16384x1024 .f32) (dy : FVec Ideal S16x16384 .f32) : FVec Ideal S1024x128 .f32 :=
  fun i => ∑ s, prods x dy (i 0) (i 1) s

/-- The argument that the kernel's call receives padded with zero columns. -/
theorem cotangent (s : Fin 16384) (n : Fin 128) : V m c main_v1 (ix2 s n) = wide (argDy m c) s n := by
  unfold_abbrev_sides
  simp only [hostOps0, hostOps0_1, List.flatten_cons, List.flatten_nil, List.append_nil, List.cons_append, List.nil_append]
  after_results
  show (pad S16384x128 ![0, 0] ![0, 112] ![0, 0] (transpose S16384x16 [1, 0] (argDy m c) transposes_S16x16384_S16384x16_1_0) (sitofp (F := Ideal) .f32 (constantI S_ 32 0#32))
    pads_S16384x16_S16384x128_000_01120 h_S_ : FVec Ideal S16384x128 .f32) (ix2 s n) = _
  unfold wide
  pointwise
  split
  · rfl
  · exact int_zero _

theorem blk0 (t : Fin cfg0.N) (k : Fin 1024) (r : Fin 1024) (s : Fin 16384) (hs : s.val = t.val * 1024 + k.val) :
    iblk m c 0 t (ix2 k r) = argX m c (ix2 s r) := by
  have ht : t.val < 16 := lt_of_lt_of_eq t.isLt N_0
  blk_point [iblk, V, idx t]

theorem blk1 (t : Fin cfg0.N) (k : Fin 1024) (r : Fin 128) (s : Fin 16384) (hs : s.val = t.val * 1024 + k.val) :
    iblk m c 1 t (ix2 k r) = wide (argDy m c) s r := by
  have ht : t.val < 16 := lt_of_lt_of_eq t.isLt N_0
  refine Eq.trans (b := V m c main_v1 (ix2 s r)) ?_ (cotangent m c s r)
  blk_point [iblk, idx t]

theorem step_A (t : Fin cfg0.N) (h : t.val % 16 = 0) :
    outsAt0 m c t.val t.isLt = (k0_pay1 (F := Ideal) (iblk m c 0 t) (iblk m c 1 t) : FVec Ideal S1024x128 .f32) := by
  have ht : t.val < 16 := lt_of_lt_of_eq t.isLt N_0
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x128 .f32) := by
  rw [outsAt0_B m c t h (by omega)]
  frame_out

/-- One point's product: the rows of its block. -/
theorem product (t : Fin cfg0.N) (r : Fin 1024) (j : Fin 128) :
    upto (prods (argX m c) (argDy m c) r j) (t.val % 16 * 1024) + k0_pay1 (F := Ideal) (iblk m c 0 t) (iblk m c 1 t) (ix2 r j)
      = upto (prods (argX m c) (argDy m c) r j) (t.val % 16 * 1024 + 1024) := by
  have ht : t.val < 16 := lt_of_lt_of_eq t.isLt N_0
  rw [pay1_apply]
  exact upto_block _ _ _ _ (by omega) fun k => congrArg₂ (· * ·) (blk0 m c t k r _ (by dsimp only; omega)) (blk1 m c t k j _ (by dsimp only; omega))

/-- After a point the block holds the sum over the rows of the blocks so far. -/
theorem holds (t : Fin cfg0.N) (r : Fin 1024) (j : Fin 128) :
    outsAt0 m c t.val t.isLt (ix2 r j) = upto (prods (argX m c) (argDy m c) r j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h _ => product m c ⟨p, h⟩ r j)
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : ((win0_2.blk t).view.emb (ix2 (y 0) (y 1))) 1 = y 1 := Fin.ext (by blk_simp [idx t])
  refine (holds m c t (y 0) (y 1)).trans ?_
  rw [hl, result, e0, e1]
  exact upto_all _

end

end Cert.Kernel33Ideal.GwForget

end
-- ==== Proof.ProductGwStep.lean ====
/-
  The gradient of the step sizes' columns of the state-space layer's input weight: the block of the result grows by one product at each grid
  point, over sixteen points, and holds the whole sum at the last.
-/
module

public import proofs.«01_k».proof.Proof.Gen.Kernel34Ideal.Value
public import proofs.«01_k».proof.Proof.ProductMath
public import Idealize.ShloMosaic.Lib.Pipeline.ValueKit

@[expose] public section

set_option maxRecDepth 16384

noncomputable section

namespace Cert.Kernel34Ideal.GwStep

open Cert.Kernel34Ideal Cert.Kernel34Ideal.Gen Cert.Kernel34Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![0, 0] :=
  (by decide +kernel : ∀ t : Fin grid0.N, _)

/-- One block's product at an index. -/
theorem pay1_apply (x0 : FVec Ideal S1024x1024 .f32) (x1 : FVec Ideal S1024x128 .f32) (r : Fin 1024) (j : Fin 128) :
    k0_pay1 (F := Ideal) x0 x1 (ix2 r j) = ∑ k : Fin 1024, x0 (ix2 k r) * x1 (ix2 k j) := by
  unfold k0_pay1
  pointwise

/-- … added to what the block held. -/
theorem pay2_apply (x0 : FVec Ideal S1024x1024 .f32) (x1 : FVec Ideal S1024x128 .f32) (acc : FVec Ideal S1024x128 .f32) (r : Fin 1024) (j : Fin 128) :
    k0_pay2 (F := Ideal) x0 x1 acc (ix2 r j) = acc (ix2 r j) + k0_pay1 (F := Ideal) x0 x1 (ix2 r j) := by
  unfold k0_pay2
  pointwise

section
variable (m : (ℓ : Loc nD τ sig) → Buf (Elt Ideal) ℓ) (c : Dev nD)

/-- The two arguments: the layer's rows, and the cotangent of the product. -/
abbrev argX : FVec Ideal S16384x1024 .f32 := m ((c : Thread nD τ).loc main_arg0)
abbrev argDy : FVec Ideal S16384x32 .f32 := m ((c : Thread nD τ).loc main_arg1)

/-- The cotangent, with zero columns behind its 32. -/
def wide (x : FVec Ideal S16384x32 .f32) (s : Fin 16384) (k : Fin 128) : EReal := if h : k.val < 32 then x (ix2 s ⟨k.val, h⟩) else 0

theorem wide_lt (x : FVec Ideal S16384x32 .f32) (s : Fin 16384) (k : Fin 128) (h : k.val < 32) : wide x s k = x (ix2 s ⟨k.val, h⟩) := dif_pos h

theorem wide_ge (x : FVec Ideal S16384x32 .f32) (s : Fin 16384) (k : Fin 128) (h : ¬k.val < 32) : wide x s k = 0 := dif_neg h

/-- The products that one element of the gradient sums, one per row. -/
def prods (x : FVec Ideal S16384x1024 .f32) (dy : FVec Ideal S16384x32 .f32) (r : Fin 1024) (j : Fin 128) : Fin 16384 → EReal :=
  fun s => x (ix2 s r) * wide dy s j

/-- The transposed rows times the widened cotangent. -/
def result (x : FVec Ideal S16384x1024 .f32) (dy : FVec Ideal S16384x32 .f32) : FVec Ideal S1024x128 .f32 :=
  fun i => ∑ s, prods x dy (i 0) (i 1) s

/-- The argument that the kernel's call receives padded with zero columns. -/
theorem cotangent (s : Fin 16384) (n : Fin 128) : V m c main_v0 (ix2 s n) = wide (argDy m c) s n := by
  unfold_abbrev_sides
  simp only [hostOps0, hostOps0_1, List.flatten_cons, List.flatten_nil, List.append_nil, List.cons_append, List.nil_append]
  after_results
  show (pad S16384x128 ![0, 0] ![0, 96] ![0, 0] (argDy m c) (sitofp (F := Ideal) .f32 (constantI S_ 32 0#32))
    pads_S16384x32_S16384x128_000_0960 h_S_ : FVec Ideal S16384x128 .f32) (ix2 s n) = _
  unfold wide
  pointwise
  split
  · rfl
  · exact int_zero _

theorem blk0 (t : Fin cfg0.N) (k : Fin 1024) (r : Fin 1024) (s : Fin 16384) (hs : s.val = t.val * 1024 + k.val) :
    iblk m c 0 t (ix2 k r) = argX m c (ix2 s r) := by
  have ht : t.val < 16 := lt_of_lt_of_eq t.isLt N_0
  blk_point [iblk, V, idx t]

theorem blk1 (t : Fin cfg0.N) (k : Fin 1024) (r : Fin 128) (s : Fin 16384) (hs : s.val = t.val * 1024 + k.val) :
    iblk m c 1 t (ix2 k r) = wide (argDy m c) s r := by
  have ht : t.val < 16 := lt_of_lt_of_eq t.isLt N_0
  refine Eq.trans (b := V m c main_v0 (ix2 s r)) ?_ (cotangent m c s r)
  blk_point [iblk, idx t]

theorem step_A (t : Fin cfg0.N) (h : t.val % 16 = 0) :
    outsAt0 m c t.val t.isLt = (k0_pay1 (F := Ideal) (iblk m c 0 t) (iblk m c 1 t) : FVec Ideal S1024x128 .f32) := by
  have ht : t.val < 16 := lt_of_lt_of_eq t.isLt N_0
  rw [outsAt0_A m c t h (by omega)]
  frame_out

theorem step_B (t : Fin cfg0.N) (h : ¬t.val % 16 = 0) :
    outsAt0 m c t.val t.isLt = (k0_pay2 (F := Ideal) (iblk m c 0 t) (iblk m c 1 t)
      (outsAt0 m c (t.val - 1) (Nat.lt_of_le_of_lt (Nat.sub_le _ _) t.isLt)) : FVec Ideal S1024x128 .f32) := by
  rw [outsAt0_B m c t h (by omega)]
  frame_out

/-- One point's product: the rows of its block. -/
theorem product (t : Fin cfg0.N) (r : Fin 1024) (j : Fin 128) :
    upto (prods (argX m c) (argDy m c) r j) (t.val % 16 * 1024) + k0_pay1 (F := Ideal) (iblk m c 0 t) (iblk m c 1 t) (ix2 r j)
      = upto (prods (argX m c) (argDy m c) r j) (t.val % 16 * 1024 + 1024) := by
  have ht : t.val < 16 := lt_of_lt_of_eq t.isLt N_0
  rw [pay1_apply]
  exact upto_block _ _ _ _ (by omega) fun k => congrArg₂ (· * ·) (blk0 m c t k r _ (by dsimp only; omega)) (blk1 m c t k j _ (by dsimp only; omega))

/-- After a point the block holds the sum over the rows of the blocks so far. -/
theorem holds (t : Fin cfg0.N) (r : Fin 1024) (j : Fin 128) :
    outsAt0 m c t.val t.isLt (ix2 r j) = upto (prods (argX m c) (argDy m c) r j) (t.val % 16 * 1024 + 1024) :=
  upto_run 16 1024 cfg0.N (t.val / 16) _ (fun p h => outsAt0 m c p h (ix2 r j)) (fun p h => k0_pay1 (F := Ideal) (iblk m c 0 ⟨p, h⟩) (iblk m c 1 ⟨p, h⟩) (ix2 r j))
    (fun p h _ => product m c ⟨p, h⟩ r j)
    (fun p h _ h0 => congrFun (step_A m c ⟨p, h⟩ h0) _)
    (fun p h _ h0 => (congrFun (step_B m c ⟨p + 1, h⟩ h0) _).trans (pay2_apply _ _ _ r j)) t.val t.isLt rfl

theorem final2 : (dats m 0 c).arrAt 2 cfg0.N = result (argX m c) (argDy m c) := by
  refine (dats m 0 c).arrAt_eq_of_covers 2 (result (argX m c) (argDy m c)) (by decide +kernel) fun t hf y => ?_
  have hl : t.val % 16 = 15 := (flush0_2 t).mp hf
  blk_simp [idx t]
  rw [after0_2, eq_ix2 y]
  have e0 : ((win0_2.blk t).view.emb (ix2 (y 0) (y 1))) 0 = y 0 := Fin.ext (by blk_simp [idx t])
  have e1 : ((win0_2.blk t).view.emb (ix2 (y 0) (y 1))) 1 = y 1 := Fin.ext (by blk_simp [idx t])
  refine (holds m c t (y 0) (y 1)).trans ?_
  rw [hl, result, e0, e1]
  exact upto_all _

end

end Cert.Kernel34Ideal.GwStep

end
-- ==== Proof.ProductProjForget.lean ====
/-
  The product of the attention layer's forget gates: one grid point's block, and the result array.
-/
module

public import proofs.«01_k».proof.Proof.Gen.Kernel35Ideal.Value
public import proofs.«01_k».proof.Proof.ProductMath
public import Idealize.ShloMosaic.Lib.Pipeline.ValueKit

@[expose] public section

set_option maxRecDepth 16384

noncomputable section

namespace Cert.Kernel35Ideal.ProjForget

open Cert.Kernel35Ideal Cert.Kernel35Ideal.Gen Cert.Kernel35Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x1024 .f32) (x1 : FVec Ideal S1024x128 .bf16) (r : Fin 1024) (j : Fin 128) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the layer's rows, and its input weight. -/
abbrev argX : FVec Ideal S16384x1024 .f32 := m ((c : Thread nD τ).loc main_arg0)
abbrev argW : FVec Ideal S1024x3088 .f32 := m ((c : Thread nD τ).loc main_arg1)

/-- The last 16 columns of the weight, with zero columns behind them. -/
def last (w : FVec Ideal S1024x3088 .f32) (k : Fin 1024) (j : Fin 128) : EReal := if h : j.val < 16 then w (ix2 k ⟨3072 + j.val, by omega⟩) else 0

theorem last_lt (w : FVec Ideal S1024x3088 .f32) (k : Fin 1024) (j : Fin 128) (h : j.val < 16) : last w k j = w (ix2 k ⟨3072 + j.val, by omega⟩) := dif_pos h

theorem last_ge (w : FVec Ideal S1024x3088 .f32) (k : Fin 1024) (j : Fin 128) (h : ¬j.val < 16) : last w k j = 0 := dif_neg h

/-- The rows times the last columns of the weight. -/
def result (x : FVec Ideal S16384x1024 .f32) (w : FVec Ideal S1024x3088 .f32) : FVec Ideal S16384x128 .f32 :=
  fun i => ∑ k : Fin 1024, x (ix2 (i 0) k) * last w k (i 1)

/-- The weight as the kernel's call receives it: narrowed to bf16, cut and padded. -/
theorem weight (k : Fin 1024) (j : Fin 128) : V m c main_v2 (ix2 k j) = last (argW m c) k j := by
  unfold_abbrev_sides
  simp only [hostOps0, hostOps0_1, List.flatten_cons, List.flatten_nil, List.append_nil, List.cons_append, List.nil_append]
  after_results
  show (pad S1024x128 ![0, 0] ![0, 112] ![0, 0] (extractStridedSlice S1024x16 ![0, 3072]
    (truncf .bf16 (argW m c) bitsLt_bf16_f32) slices_S1024x3088_S1024x16_0_3072)
    (sitofp (F := Ideal) .bf16 (constantI S_ 32 0#32)) pads_S1024x16_S1024x128_000_01120 h_S_ : FVec Ideal S1024x128 .bf16) (ix2 k j) = _
  unfold last
  pointwise
  split
  · rfl
  · exact int_zero _

theorem blk0 (t : Fin cfg0.N) (r : Fin 1024) (k : Fin 1024) (s : Fin 16384) (hs : s.val = t.val * 1024 + r.val) :
    iblk m c 0 t (ix2 r k) = argX m c (ix2 s k) := by
  have ht : t.val < 16 := lt_of_lt_of_eq t.isLt N_0
  blk_point [iblk, V, idx t]

theorem blk1 (t : Fin cfg0.N) (k : Fin 1024) (j : Fin 128) : iblk m c 1 t (ix2 k j) = last (argW m c) k j := by
  have ht : t.val < 16 := lt_of_lt_of_eq t.isLt N_0
  refine Eq.trans (b := V m c main_v2 (ix2 k j)) ?_ (weight m c k j)
  blk_point [iblk, idx t]

/-- What a grid point leaves in its block. -/
theorem out_eq (x0 : FVec Ideal S1024x1024 .f32) (x1 : FVec Ideal S1024x128 .bf16) :
    out0_2 (F := Ideal) x0 x1 = (k0_pay1 (F := Ideal) x0 x1 : FVec Ideal S1024x128 .f32) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel35Ideal.ProjForget

end
-- ==== Proof.ProductProjStep.lean ====
/-
  The product of the state-space layer's step sizes: one grid point's block, and the result array.
-/
module

public import proofs.«01_k».proof.Proof.Gen.Kernel36Ideal.Value
public import proofs.«01_k».proof.Proof.ProductMath
public import Idealize.ShloMosaic.Lib.Pipeline.ValueKit

@[expose] public section

set_option maxRecDepth 16384

noncomputable section

namespace Cert.Kernel36Ideal.ProjStep

open Cert.Kernel36Ideal Cert.Kernel36Ideal.Gen Cert.Kernel36Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![0, 0] ∧ win0_2.index t = ![t.val, 0] :=
  (by decide +kernel : ∀ t : Fin grid0.N, _)

/-- One block of the product at an index. -/
theorem pay1_apply (x0 : FVec Ideal S1024x1024 .f32) (x1 : FVec Ideal S1024x128 .bf16) (r : Fin 1024) (j : Fin 128) :
    k0_pay1 (F := Ideal) x0 x1 (ix2 r j) = ∑ k : Fin 1024, x0 (ix2 r k) * x1 (ix2 k j) := by
  unfold k0_pay1
  pointwise

section
variable (m : (ℓ : Loc nD τ sig) → Buf (Elt Ideal) ℓ) (c : Dev nD)

/-- The two arguments: the layer's rows, and its input weight. -/
abbrev argX : FVec Ideal S16384x1024 .f32 := m ((c : Thread nD τ).loc main_arg0)
abbrev argW : FVec Ideal S1024x6176 .f32 := m ((c : Thread nD τ).loc main_arg1)

/-- The last 32 columns of the weight, with zero columns behind them. -/
def last (w : FVec Ideal S1024x6176 .f32) (k : Fin 1024) (j : Fin 128) : EReal := if h : j.val < 32 then w (ix2 k ⟨6144 + j.val, by omega⟩) else 0

theorem last_lt (w : FVec Ideal S1024x6176 .f32) (k : Fin 1024) (j : Fin 128) (h : j.val < 32) : last w k j = w (ix2 k ⟨6144 + j.val, by omega⟩) := dif_pos h

theorem last_ge (w : FVec Ideal S1024x6176 .f32) (k : Fin 1024) (j : Fin 128) (h : ¬j.val < 32) : last w k j = 0 := dif_neg h

/-- The rows times the last columns of the weight. -/
def result (x : FVec Ideal S16384x1024 .f32) (w : FVec Ideal S1024x6176 .f32) : FVec Ideal S16384x128 .f32 :=
  fun i => ∑ k : Fin 1024, x (ix2 (i 0) k) * last w k (i 1)

/-- The weight as the kernel's call receives it: narrowed to bf16, cut and padded. -/
theorem weight (k : Fin 1024) (j : Fin 128) : V m c main_v2 (ix2 k j) = last (argW m c) k j := by
  unfold_abbrev_sides
  simp only [hostOps0, hostOps0_1, List.flatten_cons, List.flatten_nil, List.append_nil, List.cons_append, List.nil_append]
  after_results
  show (pad S1024x128 ![0, 0] ![0, 96] ![0, 0] (extractStridedSlice S1024x32 ![0, 6144]
    (truncf .bf16 (argW m c) bitsLt_bf16_f32) slices_S1024x6176_S1024x32_0_6144)
    (sitofp (F := Ideal) .bf16 (constantI S_ 32 0#32)) pads_S1024x32_S1024x128_000_0960 h_S_ : FVec Ideal S1024x128 .bf16) (ix2 k j) = _
  unfold last
  pointwise
  split
  · rfl
  · exact int_zero _

theorem blk0 (t : Fin cfg0.N) (r : Fin 1024) (k : Fin 1024) (s : Fin 16384) (hs : s.val = t.val * 1024 + r.val) :
    iblk m c 0 t (ix2 r k) = argX m c (ix2 s k) := by
  have ht : t.val < 16 := lt_of_lt_of_eq t.isLt N_0
  blk_point [iblk, V, idx t]

theorem blk1 (t : Fin cfg0.N) (k : Fin 1024) (j : Fin 128) : iblk m c 1 t (ix2 k j) = last (argW m c) k j := by
  have ht : t.val < 16 := lt_of_lt_of_eq t.isLt N_0
  refine Eq.trans (b := V m c main_v2 (ix2 k j)) ?_ (weight m c k j)
  blk_point [iblk, idx t]

/-- What a grid point leaves in its block. -/
theorem out_eq (x0 : FVec Ideal S1024x1024 .f32) (x1 : FVec Ideal S1024x128 .bf16) :
    out0_2 (F := Ideal) x0 x1 = (k0_pay1 (F := Ideal) x0 x1 : FVec Ideal S1024x128 .f32) := by
  frame_out

theorem final2 : (dats m 0 c).arrAt 2 cfg0.N = result (argX m c) (argW m c) := by
  refine (dats m 0 c).arrAt_eq_of_covers 2 (result (argX m c) (argW m c)) (by decide +kernel) fun t hf y => ?_
  have ht : t.val < 16 := lt_of_lt_of_eq t.isLt N_0
  blk_simp [idx t]
  rw [after0_2, out_eq, eq_ix2 y]
  have e0 : (((win0_2.blk t).view.emb (ix2 (y 0) (y 1))) 0).val = t.val * 1024 + (y 0).val := by blk_simp [idx t]
  have e1 : ((win0_2.blk t).view.emb (ix2 (y 0) (y 1))) 1 = y 1 := Fin.ext (by blk_simp [idx t])
  refine (pay1_apply _ _ (y 0) (y 1)).trans ?_
  rw [result, e1]
  exact Finset.sum_congr rfl fun k _ => by rw [blk0 m c t (y 0) k _ e0, blk1 m c t k (y 1)]

end

end Cert.Kernel36Ideal.ProjStep

end
-- ==== Proof.ProductLastClaim.lean ====
/-
  The products of the input weights' last columns: the frames of their references, and the equations of their results.
-/
module

public import proofs.«01_k».proof.Defs
public import proofs.«01_k».proof.Proof.ProductDxForget
public import proofs.«01_k».proof.Proof.Gen.Reference31Ideal.Read
public import proofs.«01_k».proof.Proof.ProductDxStep
public import proofs.«01_k».proof.Proof.Gen.Reference32Ideal.Read
public import proofs.«01_k».proof.Proof.ProductGwForget
public import proofs.«01_k».proof.Proof.Gen.Reference33Ideal.Read
public import proofs.«01_k».proof.Proof.ProductGwStep
public import proofs.«01_k».proof.Proof.Gen.Reference34Ideal.Read
public import proofs.«01_k».proof.Proof.ProductProjForget
public import proofs.«01_k».proof.Proof.Gen.Reference35Ideal.Read
public import proofs.«01_k».proof.Proof.ProductProjStep
public import proofs.«01_k».proof.Proof.Gen.Reference36Ideal.Read

@[expose] public section

set_option maxRecDepth 16384

noncomputable section

namespace Cert.ProductLastClaim

open Idealize.ShloMosaic Idealize.ShloMosaic.TcCoe Idealize.SL.Sem
open scoped BigOperators

/-! ## The gradient passed back by the forget gates, added to what came so far -/

theorem frame_reference31 : Cert.quiescent_Reference31Ideal := fun m ρ _ =>
  (θ_run Cert.Reference31Ideal.defs _ _).mono (fun r h => ⟨fun c => (h c).2, Idealize.ShloMosaic.sem_eq_zero_of_no_sems (by decide) r.2⟩)
    (Cert.Reference31Ideal.Value.run (F := Ideal) m ρ)

theorem reference31 (x0 : FVec Ideal Cert.Kernel31Ideal.S16x16384 .f32) (x1 : FVec Ideal Cert.Kernel31Ideal.S1024x3088 .f32) (x2 : FVec Ideal Cert.Kernel31Ideal.S16384x1024 .f32) :
    Cert.Reference31Ideal.Read.val_main_v6 (F := Ideal) x0 x1 x2 = Cert.Kernel31Ideal.DxForget.result x0 x1 x2 := by
  funext i
  refine (add_comm _ _).trans (congrArg₂ (· + ·) ((Cert.Reference31Ideal.Read.val_main_v5_apply x0 x1 i).trans (Eq.trans ?_ (Cert.ProductMath.sum_first (a := 16) (by omega) _ fun k h => ?_).symm))
    (congrArg x2 (eq_ix2 _)))
  · refine Finset.sum_congr rfl fun k _ => ?_
    exact congrArg₂ (· * ·) (((Cert.Reference31Ideal.Read.val_main_v4_apply (F := Ideal) x0 _).trans (congrArg x0 (eq_ix2 _))).trans (Kernel31Ideal.DxForget.wide_lt x0 (i 0) (Fin.castLE _ k) k.isLt).symm)
      (((Cert.Reference31Ideal.Read.val_main_v1_apply (F := Ideal) x1 _).trans (congrArg x1 (eq_ix2 _))).trans
        (Kernel31Ideal.DxForget.last_lt x1 (Fin.castLE _ k) (i 1) k.isLt).symm)
  · exact mul_eq_zero_of_left (Kernel31Ideal.DxForget.wide_ge x0 (i 0) k (by omega)) _

theorem equal31 : Cert.algebraic_Kernel31Ideal_Reference31Ideal := by
  intro m g m' g' _ hagree
  refine ⟨fun c => Kernel31Ideal.DxForget.result (Kernel31Ideal.DxForget.argX m c) (Kernel31Ideal.DxForget.argW m c) (Kernel31Ideal.DxForget.argD m c), ?_, ?_⟩
  · exact (θ_run Cert.Kernel31Ideal.defs _ _).mono (fun r h c => ⟨(h c).1.trans (Kernel31Ideal.DxForget.final3 m c), (h c).2⟩)
      (Cert.Kernel31Ideal.Value.run_blocks (F := Ideal) m g)
  · refine (θ_run Cert.Reference31Ideal.defs _ _).mono (fun r h c => ⟨(h c).1.trans ?_, (h c).2⟩) (Cert.Reference31Ideal.Value.run (F := Ideal) m' g')
    rw [Reference31Ideal.Read.val_main_v6_eq, reference31, (hagree c).1, (hagree c).2.1, (hagree c).2.2]

/-! ## The gradient passed back by the step sizes, added to what came so far -/

theorem frame_reference32 : Cert.quiescent_Reference32Ideal := fun m ρ _ =>
  (θ_run Cert.Reference32Ideal.defs _ _).mono (fun r h => ⟨fun c => (h c).2, Idealize.ShloMosaic.sem_eq_zero_of_no_sems (by decide) r.2⟩)
    (Cert.Reference32Ideal.Value.run (F := Ideal) m ρ)

theorem reference32 (x0 : FVec Ideal Cert.Kernel32Ideal.S16384x32 .f32) (x1 : FVec Ideal Cert.Kernel32Ideal.S1024x6176 .f32) (x2 : FVec Ideal Cert.Kernel32Ideal.S16384x1024 .f32) :
    Cert.Reference32Ideal.Read.val_main_v4 (F := Ideal) x0 x1 x2 = Cert.Kernel32Ideal.DxStep.result x0 x1 x2 := by
  funext i
  refine (add_comm _ _).trans (congrArg₂ (· + ·) ((Cert.Reference32Ideal.Read.val_main_v3_apply x0 x1 i).trans (Eq.trans ?_ (Cert.ProductMath.sum_first (a := 32) (by omega) _ fun k h => ?_).symm))
    (congrArg x2 (eq_ix2 _)))
  · refine Finset.sum_congr rfl fun k _ => ?_
    exact congrArg₂ (· * ·) ((congrArg x0 (eq_ix2 _)).trans (Kernel32Ideal.DxStep.wide_lt x0 (i 0) (Fin.castLE _ k) k.isLt).symm)
      (((Cert.Reference32Ideal.Read.val_main_v1_apply (F := Ideal) x1 _).trans (congrArg x1 (eq_ix2 _))).trans
        (Kernel32Ideal.DxStep.last_lt x1 (Fin.castLE _ k) (i 1) k.isLt).symm)
  · exact mul_eq_zero_of_left (Kernel32Ideal.DxStep.wide_ge x0 (i 0) k (by omega)) _

theorem equal32 : Cert.algebraic_Kernel32Ideal_Reference32Ideal := by
  intro m g m' g' _ hagree
  refine ⟨fun c => Kernel32Ideal.DxStep.result (Kernel32Ideal.DxStep.argX m c) (Kernel32Ideal.DxStep.argW m c) (Kernel32Ideal.DxStep.argD m c), ?_, ?_⟩
  · exact (θ_run Cert.Kernel32Ideal.defs _ _).mono (fun r h c => ⟨(h c).1.trans (Kernel32Ideal.DxStep.final3 m c), (h c).2⟩)
      (Cert.Kernel32Ideal.Value.run_blocks (F := Ideal) m g)
  · refine (θ_run Cert.Reference32Ideal.defs _ _).mono (fun r h c => ⟨(h c).1.trans ?_, (h c).2⟩) (Cert.Reference32Ideal.Value.run (F := Ideal) m' g')
    rw [Reference32Ideal.Read.val_main_v4_eq, reference32, (hagree c).1, (hagree c).2.1, (hagree c).2.2]

/-! ## The gradient of the forget gates' columns -/

theorem frame_reference33 : Cert.quiescent_Reference33Ideal := fun m ρ _ =>
  (θ_run Cert.Reference33Ideal.defs _ _).mono (fun r h => ⟨fun c => (h c).2, Idealize.ShloMosaic.sem_eq_zero_of_no_sems (by decide) r.2⟩)
    (Cert.Reference33Ideal.Value.run (F := Ideal) m ρ)

theorem reference33 (x0 : FVec Ideal Cert.Kernel33Ideal.S16384x1024 .f32) (x1 : FVec Ideal Cert.Kernel33Ideal.S16x16384 .f32) :
    Cert.Reference33Ideal.Read.val_main_v6 (F := Ideal) x0 x1 = Cert.Kernel33Ideal.GwForget.result x0 x1 := by
  funext i
  rw [Cert.Reference33Ideal.Read.val_main_v6, Kernel33Ideal.GwForget.result, eq_ix2 i]
  pointwise
  by_cases h : (i 1).val < 16
  · rw [dif_pos h, Cert.Reference33Ideal.Read.val_main_v5_apply, Cert.Reference33Ideal.Read.val_main_v4_apply]
    refine Finset.sum_congr rfl fun k _ => ?_
    exact (mul_comm (G := EReal) _ _).trans (congrArg₂ (· * ·) (congrArg x0 (eq_ix2 _)) (((Cert.Reference33Ideal.Read.val_main_v3_apply (F := Ideal) x1 _).trans (congrArg x1 (eq_ix2 _))).trans (Kernel33Ideal.GwForget.wide_lt x1 k (i 1) h).symm))
  · rw [dif_neg h]
    refine Eq.trans ?_ (Finset.sum_eq_zero fun k _ => ?_).symm
    · exact Cert.ProductMath.int_zero _
    · exact mul_eq_zero_of_right _ (Kernel33Ideal.GwForget.wide_ge x1 k (i 1) h)

theorem equal33 : Cert.algebraic_Kernel33Ideal_Reference33Ideal := by
  intro m g m' g' _ hagree
  refine ⟨fun c => Kernel33Ideal.GwForget.result (Kernel33Ideal.GwForget.argX m c) (Kernel33Ideal.GwForget.argDy m c), ?_, ?_⟩
  · exact (θ_run Cert.Kernel33Ideal.defs _ _).mono (fun r h c => ⟨(h c).1.trans (Kernel33Ideal.GwForget.final2 m c), (h c).2⟩)
      (Cert.Kernel33Ideal.Value.run_blocks (F := Ideal) m g)
  · refine (θ_run Cert.Reference33Ideal.defs _ _).mono (fun r h c => ⟨(h c).1.trans ?_, (h c).2⟩) (Cert.Reference33Ideal.Value.run (F := Ideal) m' g')
    rw [Reference33Ideal.Read.val_main_v6_eq, reference33, (hagree c).1, (hagree c).2]

/-! ## The gradient of the step sizes' columns -/

theorem frame_reference34 : Cert.quiescent_Reference34Ideal := fun m ρ _ =>
  (θ_run Cert.Reference34Ideal.defs _ _).mono (fun r h => ⟨fun c => (h c).2, Idealize.ShloMosaic.sem_eq_zero_of_no_sems (by decide) r.2⟩)
    (Cert.Reference34Ideal.Value.run (F := Ideal) m ρ)

theorem reference34 (x0 : FVec Ideal Cert.Kernel34Ideal.S16384x1024 .f32) (x1 : FVec Ideal Cert.Kernel34Ideal.S16384x32 .f32) :
    Cert.Reference34Ideal.Read.val_main_v4 (F := Ideal) x0 x1 = Cert.Kernel34Ideal.GwStep.result x0 x1 := by
  funext i
  rw [Cert.Reference34Ideal.Read.val_main_v4, Kernel34Ideal.GwStep.result, eq_ix2 i]
  pointwise
  by_cases h : (i 1).val < 32
  · rw [dif_pos h, Cert.Reference34Ideal.Read.val_main_v3_apply, Cert.Reference34Ideal.Read.val_main_v2_apply]
    refine Finset.sum_congr rfl fun k _ => ?_
    exact (mul_comm (G := EReal) _ _).trans (congrArg₂ (· * ·) (congrArg x0 (eq_ix2 _)) ((congrArg x1 (eq_ix2 _)).trans (Kernel34Ideal.GwStep.wide_lt x1 k (i 1) h).symm))
  · rw [dif_neg h]
    refine Eq.trans ?_ (Finset.sum_eq_zero fun k _ => ?_).symm
    · exact Cert.ProductMath.int_zero _
    · exact mul_eq_zero_of_right _ (Kernel34Ideal.GwStep.wide_ge x1 k (i 1) h)

theorem equal34 : Cert.algebraic_Kernel34Ideal_Reference34Ideal := by
  intro m g m' g' _ hagree
  refine ⟨fun c => Kernel34Ideal.GwStep.result (Kernel34Ideal.GwStep.argX m c) (Kernel34Ideal.GwStep.argDy m c), ?_, ?_⟩
  · exact (θ_run Cert.Kernel34Ideal.defs _ _).mono (fun r h c => ⟨(h c).1.trans (Kernel34Ideal.GwStep.final2 m c), (h c).2⟩)
      (Cert.Kernel34Ideal.Value.run_blocks (F := Ideal) m g)
  · refine (θ_run Cert.Reference34Ideal.defs _ _).mono (fun r h c => ⟨(h c).1.trans ?_, (h c).2⟩) (Cert.Reference34Ideal.Value.run (F := Ideal) m' g')
    rw [Reference34Ideal.Read.val_main_v4_eq, reference34, (hagree c).1, (hagree c).2]

/-! ## The forget gates' columns of the attention layer's input projection -/

theorem frame_reference35 : Cert.quiescent_Reference35Ideal := fun m ρ _ =>
  (θ_run Cert.Reference35Ideal.defs _ _).mono (fun r h => ⟨fun c => (h c).2, Idealize.ShloMosaic.sem_eq_zero_of_no_sems (by decide) r.2⟩)
    (Cert.Reference35Ideal.Value.run (F := Ideal) m ρ)

theorem reference35 (x0 : FVec Ideal Cert.Kernel35Ideal.S16384x1024 .f32) (x1 : FVec Ideal Cert.Kernel35Ideal.S1024x3088 .f32) :
    Cert.Reference35Ideal.Read.val_main_v2 (F := Ideal) x0 x1 = Cert.Kernel35Ideal.ProjForget.result x0 x1 := by
  funext i
  rw [Cert.Reference35Ideal.Read.val_main_v2, Kernel35Ideal.ProjForget.result, eq_ix2 i]
  pointwise
  by_cases h : (i 1).val < 16
  · rw [dif_pos h, Cert.Reference35Ideal.Read.val_main_v1_apply]
    refine Finset.sum_congr rfl fun k _ => ?_
    exact congrArg₂ (· * ·) (congrArg x0 (eq_ix2 _)) (((Cert.Reference35Ideal.Read.val_main_v0_apply (F := Ideal) x1 _).trans (congrArg x1 (eq_ix2 _))).trans (Kernel35Ideal.ProjForget.last_lt x1 k (i 1) h).symm)
  · rw [dif_neg h]
    refine Eq.trans ?_ (Finset.sum_eq_zero fun k _ => ?_).symm
    · exact Cert.ProductMath.int_zero _
    · exact mul_eq_zero_of_right _ (Kernel35Ideal.ProjForget.last_ge x1 k (i 1) h)

theorem equal35 : Cert.algebraic_Kernel35Ideal_Reference35Ideal := by
  intro m g m' g' _ hagree
  refine ⟨fun c => Kernel35Ideal.ProjForget.result (Kernel35Ideal.ProjForget.argX m c) (Kernel35Ideal.ProjForget.argW m c), ?_, ?_⟩
  · exact (θ_run Cert.Kernel35Ideal.defs _ _).mono (fun r h c => ⟨(h c).1.trans (Kernel35Ideal.ProjForget.final2 m c), (h c).2⟩)
      (Cert.Kernel35Ideal.Value.run_blocks (F := Ideal) m g)
  · refine (θ_run Cert.Reference35Ideal.defs _ _).mono (fun r h c => ⟨(h c).1.trans ?_, (h c).2⟩) (Cert.Reference35Ideal.Value.run (F := Ideal) m' g')
    rw [Reference35Ideal.Read.val_main_v2_eq, reference35, (hagree c).1, (hagree c).2]

/-! ## The step sizes' columns of the state-space layer's input projection -/

theorem frame_reference36 : Cert.quiescent_Reference36Ideal := fun m ρ _ =>
  (θ_run Cert.Reference36Ideal.defs _ _).mono (fun r h => ⟨fun c => (h c).2, Idealize.ShloMosaic.sem_eq_zero_of_no_sems (by decide) r.2⟩)
    (Cert.Reference36Ideal.Value.run (F := Ideal) m ρ)

theorem reference36 (x0 : FVec Ideal Cert.Kernel36Ideal.S16384x1024 .f32) (x1 : FVec Ideal Cert.Kernel36Ideal.S1024x6176 .f32) :
    Cert.Reference36Ideal.Read.val_main_v2 (F := Ideal) x0 x1 = Cert.Kernel36Ideal.ProjStep.result x0 x1 := by
  funext i
  rw [Cert.Reference36Ideal.Read.val_main_v2, Kernel36Ideal.ProjStep.result, eq_ix2 i]
  pointwise
  by_cases h : (i 1).val < 32
  · rw [dif_pos h, Cert.Reference36Ideal.Read.val_main_v1_apply]
    refine Finset.sum_congr rfl fun k _ => ?_
    exact congrArg₂ (· * ·) (congrArg x0 (eq_ix2 _)) (((Cert.Reference36Ideal.Read.val_main_v0_apply (F := Ideal) x1 _).trans (congrArg x1 (eq_ix2 _))).trans (Kernel36Ideal.ProjStep.last_lt x1 k (i 1) h).symm)
  · rw [dif_neg h]
    refine Eq.trans ?_ (Finset.sum_eq_zero fun k _ => ?_).symm
    · exact Cert.ProductMath.int_zero _
    · exact mul_eq_zero_of_right _ (Kernel36Ideal.ProjStep.last_ge x1 k (i 1) h)

theorem equal36 : Cert.algebraic_Kernel36Ideal_Reference36Ideal := by
  intro m g m' g' _ hagree
  refine ⟨fun c => Kernel36Ideal.ProjStep.result (Kernel36Ideal.ProjStep.argX m c) (Kernel36Ideal.ProjStep.argW m c), ?_, ?_⟩
  · exact (θ_run Cert.Kernel36Ideal.defs _ _).mono (fun r h c => ⟨(h c).1.trans (Kernel36Ideal.ProjStep.final2 m c), (h c).2⟩)
      (Cert.Kernel36Ideal.Value.run_blocks (F := Ideal) m g)
  · refine (θ_run Cert.Reference36Ideal.defs _ _).mono (fun r h c => ⟨(h c).1.trans ?_, (h c).2⟩) (Cert.Reference36Ideal.Value.run (F := Ideal) m' g')
    rw [Reference36Ideal.Read.val_main_v2_eq, reference36, (hagree c).1, (hagree c).2]

end Cert.ProductLastClaim

end
-- ==== Proof.EmbedMath.lean ====
/-
  The embeddings' gate at one element: the logistic function of the gate's product and its bias, and the cotangent that goes
  back through it.
-/
module

public import Idealize.ShloMosaic.Lib.Pointwise

@[expose] public section

noncomputable section

namespace Cert.EmbedMath

open Idealize.ShloMosaic

/-- 1 / (1 + exp (−(z + b))). -/
def gate (z b : EReal) : EReal := Ideal.div 1 (1 + Ideal.exp (0 - (z + b)))

/-- The cotangent of `z`: d · p · g · (1 − g). -/
def back (d z p b : EReal) : EReal := d * p * gate z b * (1 - gate z b)

/-- The same with a negation, as the plain text has it. -/
theorem gate_neg (z b : EReal) : Ideal.div 1 (1 + Ideal.exp (-(z + b))) = gate z b := by
  rw [gate, zero_sub]

end Cert.EmbedMath

end
-- ==== Proof.EmbedBack.lean ====
/-
  The gradient of the embeddings' gate: the two arrays of cotangents that the call writes block by block, and the bias's
  gradient, a row that grows by one block's column sums at each of thirty-two grid points.
-/
module

public import proofs.«01_k».proof.Proof.Gen.Kernel29Ideal.Value
public import proofs.«01_k».proof.Proof.ProductMath
public import proofs.«01_k».proof.Proof.EmbedMath
public import Idealize.ShloMosaic.Lib.Pipeline.ValueKit

@[expose] public section

set_option maxRecDepth 16384

noncomputable section

namespace Cert.Kernel29Ideal.EmbedBack

open Cert.Kernel29Ideal Cert.Kernel29Ideal.Gen Cert.Kernel29Ideal.Value Cert.ProductMath Cert.EmbedMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-! ## One block, at an index -/

theorem pay1_apply (x1 : FVec Ideal S512x1024 .f32) (x2 : FVec Ideal S1x1024 .f32) (r : Fin 512) (j : Fin 1024) :
    k0_pay1 (F := Ideal) x1 x2 (ix2 r j) = gate (x1 (ix2 r j)) (x2 (ix2 0 j)) := by
  unfold k0_pay1 gate
  pointwise

theorem pay2_apply (x0 x1 x3 : FVec Ideal S512x1024 .f32) (x2 : FVec Ideal S1x1024 .f32) (r : Fin 512) (j : Fin 1024) :
    k0_pay2 (F := Ideal) x0 x1 x2 x3 (ix2 r j) = back (x0 (ix2 r j)) (x1 (ix2 r j)) (x3 (ix2 r j)) (x2 (ix2 0 j)) := by
  unfold k0_pay2 back
  pointwise [pay1_apply]

theorem pay3_apply (x0 x1 x3 : FVec Ideal S512x1024 .f32) (x2 : FVec Ideal S1x1024 .f32) (r : Fin 512) (j : Fin 1024) :
    k0_pay3 (F := Ideal) x0 x1 x2 x3 (ix2 r j) = back (x0 (ix2 r j)) (x1 (ix2 r j)) (x3 (ix2 r j)) (x2 (ix2 0 j)) := by
  unfold k0_pay3
  pointwise [pay2_apply]

theorem pay4_apply (x0 x1 : FVec Ideal S512x1024 .f32) (x2 : FVec Ideal S1x1024 .f32) (r : Fin 512) (j : Fin 1024) :
    k0_pay4 (F := Ideal) x0 x1 x2 (ix2 r j) = x0 (ix2 r j) * gate (x1 (ix2 r j)) (x2 (ix2 0 j)) := by
  unfold k0_pay4
  pointwise [pay1_apply]

/-- A block's column sums. -/
theorem pay5_apply (x0 x1 x3 : FVec Ideal S512x1024 .f32) (x2 : FVec Ideal S1x1024 .f32) (r : Fin 1) (j : Fin 1024) :
    k0_pay5 (F := Ideal) x0 x1 x2 x3 (ix2 r j) = ∑ k, k0_pay2 (F := Ideal) x0 x1 x2 x3 (ix2 k j) := by
  unfold k0_pay5
  pointwise

/-- … added to what the row held. -/
theorem pay6_apply (x0 x1 x3 : FVec Ideal S512x1024 .f32) (x2 acc : FVec Ideal S1x1024 .f32) (r : Fin 1) (j : Fin 1024) :
    k0_pay6 (F := Ideal) x0 x1 x2 x3 acc (ix2 r j) = acc (ix2 r j) + k0_pay5 (F := Ideal) x0 x1 x2 x3 (ix2 r j) := by
  unfold k0_pay6
  pointwise

section
variable (m : (ℓ : Loc nD τ sig) → Buf (Elt Ideal) ℓ) (c : Dev nD)

/-- The four arguments: the cotangent, the gate's product, the embeddings' projection, the gate's bias. -/
abbrev argD : FVec Ideal S16384x1024 .f32 := m ((c : Thread nD τ).loc main_arg0)
abbrev argZ : FVec Ideal S16384x1024 .f32 := m ((c : Thread nD τ).loc main_arg1)
abbrev argP : FVec Ideal S16384x1024 .f32 := m ((c : Thread nD τ).loc main_arg2)
abbrev argB : FVec Ideal S1024 .f32 := m ((c : Thread nD τ).loc main_arg3)

/-- The cotangent of the gate's product, -/
def resultZ (d z p : FVec Ideal S16384x1024 .f32) (b : FVec Ideal S1024 .f32) : FVec Ideal S16384x1024 .bf16 :=
  fun i => back (d (ix2 (i 0) (i 1))) (z (ix2 (i 0) (i 1))) (p (ix2 (i 0) (i 1))) (b (ix1 (i 1)))

/-- of the embeddings' projection, -/
def resultP (d z : FVec Ideal S16384x1024 .f32) (b : FVec Ideal S1024 .f32) : FVec Ideal S16384x1024 .bf16 :=
  fun i => d (ix2 (i 0) (i 1)) * gate (z (ix2 (i 0) (i 1))) (b (ix1 (i 1)))

/-- one column of the gate's cotangent, -/
def column (d z p : FVec Ideal S16384x1024 .f32) (b : FVec Ideal S1024 .f32) (j : Fin 1024) : Fin 16384 → EReal :=
  fun s => back (d (ix2 s j)) (z (ix2 s j)) (p (ix2 s j)) (b (ix1 j))

/-- and the bias's gradient: the columns' sums. -/
def resultB (d z p : FVec Ideal S16384x1024 .f32) (b : FVec Ideal S1024 .f32) : FVec Ideal S1x1024 .f32 :=
  fun i => ∑ s, column d z p b (i 1) s

theorem bias (a : Fin 1) (j : Fin 1024) : V m c main_v0 (ix2 a j) = argB m c (ix1 j) := by
  unfold_abbrev_sides
  after_results
  pointwise

theorem blk0 (t : Fin cfg0.N) (r : Fin 512) (j : Fin 1024) (s : Fin 16384) (hs : s.val = t.val * 512 + r.val) :
    iblk m c 0 t (ix2 r j) = argD m c (ix2 s j) := by
  have ht : t.val < 32 := lt_of_lt_of_eq t.isLt N_0
  blk_point [iblk, V, idx t]

theorem blk1 (t : Fin cfg0.N) (r : Fin 512) (j : Fin 1024) (s : Fin 16384) (hs : s.val = t.val * 512 + r.val) :
    iblk m c 1 t (ix2 r j) = argZ m c (ix2 s j) := by
  have ht : t.val < 32 := lt_of_lt_of_eq t.isLt N_0
  blk_point [iblk, V, idx t]

theorem blk2 (t : Fin cfg0.N) (r : Fin 512) (j : Fin 1024) (s : Fin 16384) (hs : s.val = t.val * 512 + r.val) :
    iblk m c 2 t (ix2 r j) = argP m c (ix2 s j) := by
  have ht : t.val < 32 := lt_of_lt_of_eq t.isLt N_0
  blk_point [iblk, V, idx t]

theorem blk3 (t : Fin cfg0.N) (a : Fin 1) (j : Fin 1024) : iblk m c 3 t (ix2 a j) = argB m c (ix1 j) := by
  have ht : t.val < 32 := lt_of_lt_of_eq t.isLt N_0
  refine Eq.trans (b := V m c main_v0 (ix2 a j)) ?_ (bias m c a j)
  blk_point [iblk, idx t]

/-! ## What a grid point leaves -/

theorem step_A (t : Fin cfg0.N) (h : t.val % 32 = 0) :
    outsAt0 m c t.val t.isLt = ((k0_pay3 (F := Ideal) (iblk m c 0 t) (iblk m c 1 t) (iblk m c 3 t) (iblk m c 2 t) : FVec Ideal S512x1024 .bf16),
      (k0_pay4 (F := Ideal) (iblk m c 0 t) (iblk m c 1 t) (iblk m c 3 t) : FVec Ideal S512x1024 .bf16),
      (k0_pay5 (F := Ideal) (iblk m c 0 t) (iblk m c 1 t) (iblk m c 3 t) (iblk m c 2 t) : FVec Ideal S1x1024 .f32)) := by
  have ht : t.val < 32 := lt_of_lt_of_eq t.isLt N_0
  rw [outsAt0_A m c t h (by omega)]
  refine Prod.ext ?_ (Prod.ext ?_ ?_)
  all_goals dsimp only; frame_out

theorem step_B (t : Fin cfg0.N) (h : ¬t.val % 32 = 0) :
    outsAt0 m c t.val t.isLt = ((k0_pay3 (F := Ideal) (iblk m c 0 t) (iblk m c 1 t) (iblk m c 3 t) (iblk m c 2 t) : FVec Ideal S512x1024 .bf16),
      (k0_pay4 (F := Ideal) (iblk m c 0 t) (iblk m c 1 t) (iblk m c 3 t) : FVec Ideal S512x1024 .bf16),
      (k0_pay6 (F := Ideal) (iblk m c 0 t) (iblk m c 1 t) (iblk m c 3 t) (iblk m c 2 t)
        (outsAt0 m c (t.val - 1) (Nat.lt_of_le_of_lt (Nat.sub_le _ _) t.isLt)).2.2 : FVec Ideal S1x1024 .f32)) := by
  rw [outsAt0_B m c t h (by omega)]
  refine Prod.ext ?_ (Prod.ext ?_ ?_)
  all_goals dsimp only; frame_out

theorem left4 (t : Fin cfg0.N) : (outsAt0 m c t.val t.isLt).1
    = (k0_pay3 (F := Ideal) (iblk m c 0 t) (iblk m c 1 t) (iblk m c 3 t) (iblk m c 2 t) : FVec Ideal S512x1024 .bf16) := by
  by_cases h : t.val % 32 = 0
  · rw [step_A m c t h]
  · rw [step_B m c t h]

theorem left5 (t : Fin cfg0.N) : (outsAt0 m c t.val t.isLt).2.1
    = (k0_pay4 (F := Ideal) (iblk m c 0 t) (iblk m c 1 t) (iblk m c 3 t) : FVec Ideal S512x1024 .bf16) := by
  by_cases h : t.val % 32 = 0
  · rw [step_A m c t h]
  · rw [step_B m c t h]

/-- The rows before a block and the block's own column sum. -/
theorem sums (t : Fin cfg0.N) (r : Fin 1) (j : Fin 1024) :
    upto (column (argD m c) (argZ m c) (argP m c) (argB m c) j) (t.val % 32 * 512)
        + k0_pay5 (F := Ideal) (iblk m c 0 t) (iblk m c 1 t) (iblk m c 3 t) (iblk m c 2 t) (ix2 r j)
      = upto (column (argD m c) (argZ m c) (argP m c) (argB m c) j) (t.val % 32 * 512 + 512) := by
  have ht : t.val < 32 := lt_of_lt_of_eq t.isLt N_0
  rw [pay5_apply]
  refine upto_block _ _ _ _ (by omega) fun k => ?_
  have hs : (⟨t.val % 32 * 512 + k.val, by omega⟩ : Fin 16384).val = t.val * 512 + k.val := by dsimp only; omega
  rw [pay2_apply, column, blk0 m c t k j _ hs, blk1 m c t k j _ hs, blk2 m c t k j _ hs, blk3 m c t 0 j]

/-- After a point the row holds the column sums of the blocks so far. -/
theorem holds (t : Fin cfg0.N) (r : Fin 1) (j : Fin 1024) :
    (outsAt0 m c t.val t.isLt).2.2 (ix2 r j) = upto (column (argD m c) (argZ m c) (argP m c) (argB m c) j) (t.val % 32 * 512 + 512) :=
  upto_run 32 512 cfg0.N (t.val / 32) _ (fun p h => (outsAt0 m c p h).2.2 (ix2 r j))
    (fun p h => k0_pay5 (F := Ideal) (iblk m c 0 ⟨p, h⟩) (iblk m c 1 ⟨p, h⟩) (iblk m c 3 ⟨p, h⟩) (iblk m c 2 ⟨p, h⟩) (ix2 r j))
    (fun p h _ => sums m c ⟨p, h⟩ r j)
    (fun p h _ h0 => congrFun (congrArg (fun x => x.2.2) (step_A m c ⟨p, h⟩ h0)) _)
    (fun p h _ h0 => (congrFun (congrArg (fun x => x.2.2) (step_B m c ⟨p + 1, h⟩ h0)) _).trans (pay6_apply _ _ _ _ _ r j)) t.val t.isLt rfl

/-! ## The arrays -/

theorem final4 : (dats m 0 c).arrAt 4 cfg0.N = resultZ (argD m c) (argZ m c) (argP m c) (argB m c) := by
  refine (dats m 0 c).arrAt_eq_of_covers 4 (resultZ (argD m c) (argZ m c) (argP m c) (argB m c)) (by decide +kernel) fun t hf y => ?_
  have ht : t.val < 32 := lt_of_lt_of_eq t.isLt N_0
  blk_simp [idx t]
  rw [after0_4, left4, eq_ix2 y]
  have e0 : (((win0_4.blk t).view.emb (ix2 (y 0) (y 1))) 0).val = t.val * 512 + (y 0).val := by blk_simp [idx t]
  have e1 : ((win0_4.blk t).view.emb (ix2 (y 0) (y 1))) 1 = y 1 := Fin.ext (by blk_simp [idx t])
  refine (pay3_apply _ _ _ _ (y 0) (y 1)).trans ?_
  rw [resultZ, e1]
  rw [blk0 m c t (y 0) (y 1) _ e0, blk1 m c t (y 0) (y 1) _ e0, blk2 m c t (y 0) (y 1) _ e0, blk3 m c t 0 (y 1)]

theorem final5 : (dats m 0 c).arrAt 5 cfg0.N = resultP (argD m c) (argZ m c) (argB m c) := by
  refine (dats m 0 c).arrAt_eq_of_covers 5 (resultP (argD m c) (argZ m c) (argB m c)) (by decide +kernel) fun t hf y => ?_
  have ht : t.val < 32 := lt_of_lt_of_eq t.isLt N_0
  blk_simp [idx t]
  rw [after0_5, left5, eq_ix2 y]
  have e0 : (((win0_5.blk t).view.emb (ix2 (y 0) (y 1))) 0).val = t.val * 512 + (y 0).val := by blk_simp [idx t]
  have e1 : ((win0_5.blk t).view.emb (ix2 (y 0) (y 1))) 1 = y 1 := Fin.ext (by blk_simp [idx t])
  refine (pay4_apply _ _ _ (y 0) (y 1)).trans ?_
  rw [resultP, e1]
  rw [blk0 m c t (y 0) (y 1) _ e0, blk1 m c t (y 0) (y 1) _ e0, blk3 m c t 0 (y 1)]

theorem final6 : (dats m 0 c).arrAt 6 cfg0.N = resultB (argD m c) (argZ m c) (argP m c) (argB m c) := by
  refine (dats m 0 c).arrAt_eq_of_covers 6 (resultB (argD m c) (argZ m c) (argP m c) (argB m c)) (by decide +kernel) fun t hf y => ?_
  have hl : t.val % 32 = 31 := (flush0_6 t).mp hf
  blk_simp [idx t]
  rw [after0_6, eq_ix2 y]
  have e1 : ((win0_6.blk t).view.emb (ix2 (y 0) (y 1))) 1 = y 1 := Fin.ext (by blk_simp [idx t])
  refine (holds m c t (y 0) (y 1)).trans ?_
  rw [hl, resultB, e1]
  exact upto_all _

end

end Cert.Kernel29Ideal.EmbedBack

end
-- ==== Proof.EmbedAdd.lean ====
/-
  The gated embeddings added to the layer's rows: one grid point's block, and the result array.
-/
module

public import proofs.«01_k».proof.Proof.Gen.Kernel37Ideal.Value
public import proofs.«01_k».proof.Proof.EmbedMath
public import Idealize.ShloMosaic.Lib.Pipeline.ValueKit

@[expose] public section

set_option maxRecDepth 16384

noncomputable section

namespace Cert.Kernel37Ideal.EmbedAdd

open Cert.Kernel37Ideal Cert.Kernel37Ideal.Gen Cert.Kernel37Ideal.Value Cert.EmbedMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- One block at an index. -/
theorem pay1_apply (x0 x1 x3 : FVec Ideal S512x1024 .f32) (x2 : FVec Ideal S1x1024 .f32) (r : Fin 512) (j : Fin 1024) :
    k0_pay1 (F := Ideal) x0 x1 x2 x3 (ix2 r j) = x0 (ix2 r j) + gate (x1 (ix2 r j)) (x2 (ix2 0 j)) * x3 (ix2 r j) := by
  unfold k0_pay1 gate
  pointwise

section
variable (m : (ℓ : Loc nD τ sig) → Buf (Elt Ideal) ℓ) (c : Dev nD)

/-- The four arguments: the layer's rows, the gate's product, the embeddings' projection, the gate's bias. -/
abbrev argX : FVec Ideal S16384x1024 .f32 := m ((c : Thread nD τ).loc main_arg0)
abbrev argZ : FVec Ideal S16384x1024 .f32 := m ((c : Thread nD τ).loc main_arg1)
abbrev argP : FVec Ideal S16384x1024 .f32 := m ((c : Thread nD τ).loc main_arg2)
abbrev argB : FVec Ideal S1024 .f32 := m ((c : Thread nD τ).loc main_arg3)

/-- The rows, and the gate times the projection. -/
def result (x z p : FVec Ideal S16384x1024 .f32) (b : FVec Ideal S1024 .f32) : FVec Ideal S16384x1024 .f32 :=
  fun i => x (ix2 (i 0) (i 1)) + gate (z (ix2 (i 0) (i 1))) (b (ix1 (i 1))) * p (ix2 (i 0) (i 1))

theorem bias (a : Fin 1) (j : Fin 1024) : V m c main_v0 (ix2 a j) = argB m c (ix1 j) := by
  unfold_abbrev_sides
  after_results
  pointwise

theorem blk0 (t : Fin cfg0.N) (r : Fin 512) (j : Fin 1024) (s : Fin 16384) (hs : s.val = t.val * 512 + r.val) :
    iblk m c 0 t (ix2 r j) = argX m c (ix2 s j) := by
  have ht : t.val < 32 := lt_of_lt_of_eq t.isLt N_0
  blk_point [iblk, V, idx t]

theorem blk1 (t : Fin cfg0.N) (r : Fin 512) (j : Fin 1024) (s : Fin 16384) (hs : s.val = t.val * 512 + r.val) :
    iblk m c 1 t (ix2 r j) = argZ m c (ix2 s j) := by
  have ht : t.val < 32 := lt_of_lt_of_eq t.isLt N_0
  blk_point [iblk, V, idx t]

theorem blk2 (t : Fin cfg0.N) (r : Fin 512) (j : Fin 1024) (s : Fin 16384) (hs : s.val = t.val * 512 + r.val) :
    iblk m c 2 t (ix2 r j) = argP m c (ix2 s j) := by
  have ht : t.val < 32 := lt_of_lt_of_eq t.isLt N_0
  blk_point [iblk, V, idx t]

theorem blk3 (t : Fin cfg0.N) (a : Fin 1) (j : Fin 1024) : iblk m c 3 t (ix2 a j) = argB m c (ix1 j) := by
  have ht : t.val < 32 := lt_of_lt_of_eq t.isLt N_0
  refine Eq.trans (b := V m c main_v0 (ix2 a j)) ?_ (bias m c a j)
  blk_point [iblk, idx t]

/-- What a grid point leaves in its block. -/
theorem out_eq (x0 x1 x3 : FVec Ideal S512x1024 .f32) (x2 : FVec Ideal S1x1024 .f32) :
    out0_4 (F := Ideal) x0 x1 x3 x2 = (k0_pay1 (F := Ideal) x0 x1 x2 x3 : FVec Ideal S512x1024 .f32) := by
  frame_out

theorem final4 : (dats m 0 c).arrAt 4 cfg0.N = result (argX m c) (argZ m c) (argP m c) (argB m c) := by
  refine (dats m 0 c).arrAt_eq_of_covers 4 (result (argX m c) (argZ m c) (argP m c) (argB m c)) (by decide +kernel) fun t hf y => ?_
  have ht : t.val < 32 := lt_of_lt_of_eq t.isLt N_0
  blk_simp [idx t]
  rw [after0_4, out_eq, eq_ix2 y]
  have e0 : (((win0_4.blk t).view.emb (ix2 (y 0) (y 1))) 0).val = t.val * 512 + (y 0).val := by blk_simp [idx t]
  have e1 : ((win0_4.blk t).view.emb (ix2 (y 0) (y 1))) 1 = y 1 := Fin.ext (by blk_simp [idx t])
  refine (pay1_apply _ _ _ _ (y 0) (y 1)).trans ?_
  rw [result, e1]
  rw [blk0 m c t (y 0) (y 1) _ e0, blk1 m c t (y 0) (y 1) _ e0, blk2 m c t (y 0) (y 1) _ e0, blk3 m c t 0 (y 1)]

end

end Cert.Kernel37Ideal.EmbedAdd

end
-- ==== Proof.EmbedGateClaim.lean ====
/-
  The embeddings' gate, forward and backward: the frames of the references, and the equations of their results.
-/
module

public import proofs.«01_k».proof.Defs
public import proofs.«01_k».proof.Proof.EmbedBack
public import proofs.«01_k».proof.Proof.EmbedAdd
public import proofs.«01_k».proof.Proof.Gen.Reference29Ideal.Read
public import proofs.«01_k».proof.Proof.Gen.Reference37Ideal.Read

@[expose] public section

set_option maxRecDepth 16384

noncomputable section

namespace Cert.EmbedGateClaim

open Cert.EmbedMath
open Idealize.ShloMosaic Idealize.ShloMosaic.TcCoe Idealize.SL.Sem
open scoped BigOperators

/-! ## Backward -/

section
open Cert.Reference29Ideal Cert.Reference29Ideal.Read

/-- The reference leaves its arguments as they were; it declares no semaphore. -/
theorem frame_reference29 : Cert.quiescent_Reference29Ideal := fun m ρ _ =>
  (θ_run Cert.Reference29Ideal.defs _ _).mono (fun r h => ⟨fun c => (h c).2.2.2, Idealize.ShloMosaic.sem_eq_zero_of_no_sems (by decide) r.2⟩)
    (Cert.Reference29Ideal.Value.run (F := Ideal) m ρ)

variable (d z p : FVec Ideal S16384x1024 .f32) (b : FVec Ideal S1024 .f32)

theorem gate29 (s : Fin 16384) (j : Fin 1024) : val_main_v8 (F := Ideal) z b (ix2 s j) = gate (z (ix2 s j)) (b (ix1 j)) := by
  rw [← gate_neg]
  unfold val_main_v8 val_main_v7 val_main_v6 val_main_v5 val_main_v4 val_main_v3 val_main_v2 val_main_v1 val_main_v0 val_main_cst val_main_cst_0
  pointwise

theorem back29 (s : Fin 16384) (j : Fin 1024) :
    val_main_v15 (F := Ideal) d z p b (ix2 s j) = back (d (ix2 s j)) (z (ix2 s j)) (p (ix2 s j)) (b (ix1 j)) := by
  rw [back, mul_assoc]
  unfold val_main_v15 val_main_v14 val_main_v11 val_main_v10 val_main_v9 val_main_cst_1
  pointwise [gate29]

theorem referenceZ : val_main_v19 (F := Ideal) d z p b = Cert.Kernel29Ideal.EmbedBack.resultZ d z p b := by
  funext i
  rw [eq_ix2 i]
  exact back29 d z p b (i 0) (i 1)

theorem referenceP : val_main_v20 (F := Ideal) d z b = Cert.Kernel29Ideal.EmbedBack.resultP d z b := by
  funext i
  rw [eq_ix2 i]
  exact (congrArg (fun g => g * d (ix2 (i 0) (i 1))) (gate29 z b (i 0) (i 1))).trans (mul_comm _ _)

theorem referenceB : val_main_v21 (F := Ideal) d z p b = Cert.Kernel29Ideal.EmbedBack.resultB d z p b := by
  funext i
  rw [val_main_v21_apply, val_main_v18_apply, val_main_cst_3_apply]
  rw [show (FloatOps.ofBits .f32 0x00000000#32 : Ideal .f32) = (0 : EReal) from Ideal.ofBits_zero_f32, zero_add, Fin.sum_univ_one]
  rw [val_main_v17_apply, val_main_v16_apply, val_main_cst_2_apply]
  rw [show (FloatOps.ofBits .f32 0x00000000#32 : Ideal .f32) = (0 : EReal) from Ideal.ofBits_zero_f32, zero_add]
  refine Finset.sum_congr rfl fun s _ => ?_
  refine Eq.trans (congrArg _ ?_) (back29 d z p b s (i 1))
  refine funext fun a => Fin.ext ?_
  match a with
  | ⟨0, _⟩ => rfl
  | ⟨1, _⟩ =>
    have h0 : (i 0).val = 0 := by have := (i 0).isLt; change (i 0).val < 1 at this; omega
    have h1 : (i 1).val < 1024 := (i 1).isLt
    simp [ix2, h0, Nat.mod_eq_of_lt h1]
end

/-- The two cotangents and the bias's gradient. -/
theorem equal29 : Cert.algebraic_Kernel29Ideal_Reference29Ideal := by
  intro m g m' g' _ hagree
  refine ⟨fun c => Kernel29Ideal.EmbedBack.resultZ (Kernel29Ideal.EmbedBack.argD m c) (Kernel29Ideal.EmbedBack.argZ m c) (Kernel29Ideal.EmbedBack.argP m c) (Kernel29Ideal.EmbedBack.argB m c),
    fun c => Kernel29Ideal.EmbedBack.resultP (Kernel29Ideal.EmbedBack.argD m c) (Kernel29Ideal.EmbedBack.argZ m c) (Kernel29Ideal.EmbedBack.argB m c),
    fun c => Kernel29Ideal.EmbedBack.resultB (Kernel29Ideal.EmbedBack.argD m c) (Kernel29Ideal.EmbedBack.argZ m c) (Kernel29Ideal.EmbedBack.argP m c) (Kernel29Ideal.EmbedBack.argB m c), ?_, ?_⟩
  · exact (θ_run Cert.Kernel29Ideal.defs _ _).mono (fun r h c => ⟨(h c).1.trans (Kernel29Ideal.EmbedBack.final4 m c),
      (h c).2.1.trans (Kernel29Ideal.EmbedBack.final5 m c), (h c).2.2.1.trans (Kernel29Ideal.EmbedBack.final6 m c), (h c).2.2.2⟩)
      (Cert.Kernel29Ideal.Value.run_blocks (F := Ideal) m g)
  · refine (θ_run Cert.Reference29Ideal.defs _ _).mono (fun r h c => ⟨(h c).1.trans ?_, (h c).2.1.trans ?_, (h c).2.2.1.trans ?_, (h c).2.2.2⟩)
      (Cert.Reference29Ideal.Value.run (F := Ideal) m' g')
    · rw [Reference29Ideal.Read.val_main_v19_eq, referenceZ, (hagree c).1, (hagree c).2.1, (hagree c).2.2.1, (hagree c).2.2.2]
    · rw [Reference29Ideal.Read.val_main_v20_eq, referenceP, (hagree c).1, (hagree c).2.1, (hagree c).2.2.2]
    · rw [Reference29Ideal.Read.val_main_v21_eq, referenceB, (hagree c).1, (hagree c).2.1, (hagree c).2.2.1, (hagree c).2.2.2]

/-! ## Forward -/

section
open Cert.Reference37Ideal Cert.Reference37Ideal.Read

theorem frame_reference37 : Cert.quiescent_Reference37Ideal := fun m ρ _ =>
  (θ_run Cert.Reference37Ideal.defs _ _).mono (fun r h => ⟨fun c => (h c).2, Idealize.ShloMosaic.sem_eq_zero_of_no_sems (by decide) r.2⟩)
    (Cert.Reference37Ideal.Value.run (F := Ideal) m ρ)

variable (x z p : FVec Ideal S16384x1024 .f32) (b : FVec Ideal S1024 .f32)

theorem gate37 (s : Fin 16384) (j : Fin 1024) : val_main_v8 (F := Ideal) z b (ix2 s j) = gate (z (ix2 s j)) (b (ix1 j)) := by
  rw [← gate_neg]
  unfold val_main_v8 val_main_v7 val_main_v6 val_main_v5 val_main_v4 val_main_v3 val_main_v2 val_main_v1 val_main_v0 val_main_cst val_main_cst_0
  pointwise

theorem referenceX : val_main_v10 (F := Ideal) x z p b = Cert.Kernel37Ideal.EmbedAdd.result x z p b := by
  funext i
  rw [eq_ix2 i]
  exact congrArg (fun g => x (ix2 (i 0) (i 1)) + g * p (ix2 (i 0) (i 1))) (gate37 z b (i 0) (i 1))
end

/-- The layer's output: its input and the gated embeddings. -/
theorem equal37 : Cert.algebraic_Kernel37Ideal_Reference37Ideal := by
  intro m g m' g' _ hagree
  refine ⟨fun c => Kernel37Ideal.EmbedAdd.result (Kernel37Ideal.EmbedAdd.argX m c) (Kernel37Ideal.EmbedAdd.argZ m c) (Kernel37Ideal.EmbedAdd.argP m c) (Kernel37Ideal.EmbedAdd.argB m c), ?_, ?_⟩
  · exact (θ_run Cert.Kernel37Ideal.defs _ _).mono (fun r h c => ⟨(h c).1.trans (Kernel37Ideal.EmbedAdd.final4 m c), (h c).2⟩)
      (Cert.Kernel37Ideal.Value.run_blocks (F := Ideal) m g)
  · refine (θ_run Cert.Reference37Ideal.defs _ _).mono (fun r h c => ⟨(h c).1.trans ?_, (h c).2⟩)
      (Cert.Reference37Ideal.Value.run (F := Ideal) m' g')
    rw [Reference37Ideal.Read.val_main_v10_eq, referenceX, (hagree c).1, (hagree c).2.1, (hagree c).2.2.1, (hagree c).2.2.2]

end Cert.EmbedGateClaim

end
-- ==== Proof.LossHead.lean ====
/-
  The loss head: the gradient that the call writes block by block, and the loss, for which a row of column sums of squares
  grows over thirty-two grid points and is summed at the last.
-/
module

public import proofs.«01_k».proof.Proof.Gen.Kernel30Ideal.Value
public import proofs.«01_k».proof.Proof.ProductMath
public import Idealize.ShloMosaic.Lib.Pipeline.ValueKit

@[expose] public section

set_option maxRecDepth 16384

noncomputable section

namespace Cert.Kernel30Ideal.LossHead

open Cert.Kernel30Ideal Cert.Kernel30Ideal.Gen Cert.Kernel30Ideal.Value Cert.ProductMath
open Idealize.ShloMosaic Idealize.ShloMosaic.TcCoe Idealize.SL.Sem
open Idealize.ShloMosaic.Pipeline (Dat)
open scoped BigOperators

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The factors 1/1024 and 1/2048, as the call holds them. -/
def perRow : EReal := FloatOps.ofBits (F := Ideal) .f32 0x3A800000#32
def perLoss : EReal := FloatOps.ofBits (F := Ideal) .f32 0x3A000000#32

/-- The square of a difference. -/
def sq (a b : EReal) : EReal := (a - b) * (a - b)

/-! ## One block, at an index -/

theorem pay2_apply (x0 x1 : FVec Ideal S512x1024 .f32) (r : Fin 512) (j : Fin 1024) :
    k0_pay2 (F := Ideal) x0 x1 (ix2 r j) = (x0 (ix2 r j) - x1 (ix2 r j)) * perRow := by
  unfold k0_pay2 k0_pay1 perRow
  pointwise

/-- A block's column sums. -/
theorem pay3_apply (x0 x1 : FVec Ideal S512x1024 .f32) (r : Fin 1) (j : Fin 1024) :
    k0_pay3 (F := Ideal) x0 x1 (ix2 r j) = ∑ k, sq (x0 (ix2 k j)) (x1 (ix2 k j)) := by
  unfold k0_pay3 k0_pay1 sq
  pointwise

theorem pay4_apply (x0 x1 : FVec Ideal S512x1024 .f32) (r : Fin 1) (j : Fin 1024) :
    k0_pay4 (F := Ideal) x0 x1 (ix2 r j) = k0_pay3 (F := Ideal) x0 x1 (ix2 r j) := by
  unfold k0_pay4
  pointwise

/-- … added to what the row held. -/
theorem pay5_apply (x0 x1 : FVec Ideal S512x1024 .f32) (acc : FVec Ideal S1x1024 .f32) (r : Fin 1) (j : Fin 1024) :
    k0_pay5 (F := Ideal) x0 x1 acc (ix2 r j) = acc (ix2 r j) + k0_pay3 (F := Ideal) x0 x1 (ix2 r j) := by
  unfold k0_pay5
  pointwise

/-- The row's sum, times the factor. -/
theorem pay6_apply (acc : FVec Ideal S1x1024 .f32) (r : Fin 1) (l : Fin 128) :
    k0_pay6 (F := Ideal) acc (ix2 r l) = perLoss * ∑ j, acc (ix2 0 j) := by
  unfold k0_pay6 perLoss
  pointwise
  simp

section
variable (m : (ℓ : Loc nD τ sig) → Buf (Elt Ideal) ℓ) (c : Dev nD)

/-- The two arguments: the step's output and the target. -/
abbrev argY : FVec Ideal S16384x1024 .f32 := m ((c : Thread nD τ).loc main_arg0)
abbrev argT : FVec Ideal S16384x1024 .f32 := m ((c : Thread nD τ).loc main_arg1)

/-- One column of squares, -/
def column (y t : FVec Ideal S16384x1024 .f32) (j : Fin 1024) : Fin 16384 → EReal := fun s => sq (y (ix2 s j)) (t (ix2 s j))

/-- the loss, in every lane of a row, -/
def resultL (y t : FVec Ideal S16384x1024 .f32) : FVec Ideal S1x128 .f32 := fun _ => perLoss * ∑ j, ∑ s, column y t j s

/-- and the gradient of the output. -/
def resultY (y t : FVec Ideal S16384x1024 .f32) : FVec Ideal S16384x1024 .f32 :=
  fun i => (y (ix2 (i 0) (i 1)) - t (ix2 (i 0) (i 1))) * perRow

theorem blk0 (t : Fin cfg0.N) (r : Fin 512) (j : Fin 1024) (s : Fin 16384) (hs : s.val = t.val * 512 + r.val) :
    iblk m c 0 t (ix2 r j) = argY m c (ix2 s j) := by
  have ht : t.val < 32 := lt_of_lt_of_eq t.isLt N_0
  blk_point [iblk, V, idx t]

theorem blk1 (t : Fin cfg0.N) (r : Fin 512) (j : Fin 1024) (s : Fin 16384) (hs : s.val = t.val * 512 + r.val) :
    iblk m c 1 t (ix2 r j) = argT m c (ix2 s j) := by
  have ht : t.val < 32 := lt_of_lt_of_eq t.isLt N_0
  blk_point [iblk, V, idx t]

/-! ## What a grid point leaves -/

/-- The row that the point before left, as this point reads it. -/
theorem prev_read (t : Fin cfg0.N) : View.read (Elt Ideal) (View.whole cc0_scratch0) ((Memref.isWhole_whole cc0_scratch0).unread
      (outsAt0 m c (t.val - 1) (Nat.lt_of_le_of_lt (Nat.sub_le _ _) t.isLt)).2.2)
    = (outsAt0 m c (t.val - 1) (Nat.lt_of_le_of_lt (Nat.sub_le _ _) t.isLt)).2.2 :=
  (Memref.isWhole_whole cc0_scratch0).read_unread _

theorem step_A (t : Fin cfg0.N) (h : t.val % 32 = 0) :
    (outsAt0 m c t.val t.isLt).2 = ((k0_pay2 (F := Ideal) (iblk m c 0 t) (iblk m c 1 t) : FVec Ideal S512x1024 .f32),
      (k0_pay4 (F := Ideal) (iblk m c 0 t) (iblk m c 1 t) : FVec Ideal S1x1024 .f32)) := by
  have ht : t.val < 32 := lt_of_lt_of_eq t.isLt N_0
  rw [outsAt0_A m c t h (by omega) (by omega)]
  refine Prod.ext ?_ ?_
  all_goals dsimp only; frame_out

theorem step_B (t : Fin cfg0.N) (h : ¬t.val % 32 = 0) :
    (outsAt0 m c t.val t.isLt).2 = ((k0_pay2 (F := Ideal) (iblk m c 0 t) (iblk m c 1 t) : FVec Ideal S512x1024 .f32),
      (k0_pay5 (F := Ideal) (iblk m c 0 t) (iblk m c 1 t)
        (outsAt0 m c (t.val - 1) (Nat.lt_of_le_of_lt (Nat.sub_le _ _) t.isLt)).2.2 : FVec Ideal S1x1024 .f32)) := by
  by_cases h31 : t.val % 32 = 31
  · rw [outsAt0_C m c t h (by omega) h31]
    refine Prod.ext ?_ ?_
    · dsimp only; frame_out
    · dsimp only; frame_out; rw [prev_read]
  · rw [outsAt0_B m c t h (by omega) h31]
    refine Prod.ext ?_ ?_
    · dsimp only; frame_out
    · dsimp only; frame_out; rw [prev_read]

theorem step_C (t : Fin cfg0.N) (h : t.val % 32 = 31) :
    (outsAt0 m c t.val t.isLt).1 = (k0_pay6 (F := Ideal) (outsAt0 m c t.val t.isLt).2.2 : FVec Ideal S1x128 .f32) := by
  rw [step_B m c t (by omega)]
  rw [outsAt0_C m c t (by omega) (by omega) h]
  dsimp only; frame_out; rw [prev_read]

theorem left3 (t : Fin cfg0.N) : (outsAt0 m c t.val t.isLt).2.1
    = (k0_pay2 (F := Ideal) (iblk m c 0 t) (iblk m c 1 t) : FVec Ideal S512x1024 .f32) := by
  by_cases h : t.val % 32 = 0
  · rw [step_A m c t h]
  · rw [step_B m c t h]

/-- The rows before a block and the block's own column sum. -/
theorem sums (t : Fin cfg0.N) (r : Fin 1) (j : Fin 1024) :
    upto (column (argY m c) (argT m c) j) (t.val % 32 * 512) + k0_pay3 (F := Ideal) (iblk m c 0 t) (iblk m c 1 t) (ix2 r j)
      = upto (column (argY m c) (argT m c) j) (t.val % 32 * 512 + 512) := by
  have ht : t.val < 32 := lt_of_lt_of_eq t.isLt N_0
  rw [pay3_apply]
  refine upto_block _ _ _ _ (by omega) fun k => ?_
  have hs : (⟨t.val % 32 * 512 + k.val, by omega⟩ : Fin 16384).val = t.val * 512 + k.val := by dsimp only; omega
  rw [column, blk0 m c t k j _ hs, blk1 m c t k j _ hs]

/-- After a point the row holds the column sums of the blocks so far. -/
theorem holds (t : Fin cfg0.N) (r : Fin 1) (j : Fin 1024) :
    (outsAt0 m c t.val t.isLt).2.2 (ix2 r j) = upto (column (argY m c) (argT m c) j) (t.val % 32 * 512 + 512) :=
  upto_run 32 512 cfg0.N (t.val / 32) _ (fun p h => (outsAt0 m c p h).2.2 (ix2 r j))
    (fun p h => k0_pay3 (F := Ideal) (iblk m c 0 ⟨p, h⟩) (iblk m c 1 ⟨p, h⟩) (ix2 r j))
    (fun p h _ => sums m c ⟨p, h⟩ r j)
    (fun p h _ h0 => (congrFun (congrArg (fun x => x.2) (step_A m c ⟨p, h⟩ h0)) _).trans (pay4_apply _ _ r j))
    (fun p h _ h0 => (congrFun (congrArg (fun x => x.2) (step_B m c ⟨p + 1, h⟩ h0)) _).trans (pay5_apply _ _ _ r j)) t.val t.isLt rfl

/-! ## The arrays -/

theorem final2 : (dats m 0 c).arrAt 2 cfg0.N = resultL (argY m c) (argT m c) := by
  refine (dats m 0 c).arrAt_eq_of_covers 2 (resultL (argY m c) (argT m c)) (by decide +kernel) fun t hf y => ?_
  have hl : t.val % 32 = 31 := (flush0_2 t).mp hf
  blk_simp [idx t]
  rw [after0_2, step_C m c t hl, eq_ix2 y]
  refine (pay6_apply _ (y 0) (y 1)).trans ?_
  rw [resultL]
  refine congrArg (perLoss * ·) (Finset.sum_congr rfl fun j _ => ?_)
  refine (holds m c t 0 j).trans ?_
  rw [hl]
  exact upto_all _

theorem final3 : (dats m 0 c).arrAt 3 cfg0.N = resultY (argY m c) (argT m c) := by
  refine (dats m 0 c).arrAt_eq_of_covers 3 (resultY (argY m c) (argT m c)) (by decide +kernel) fun t hf y => ?_
  have ht : t.val < 32 := lt_of_lt_of_eq t.isLt N_0
  blk_simp [idx t]
  rw [after0_3, left3, eq_ix2 y]
  have e0 : (((win0_3.blk t).view.emb (ix2 (y 0) (y 1))) 0).val = t.val * 512 + (y 0).val := by blk_simp [idx t]
  have e1 : ((win0_3.blk t).view.emb (ix2 (y 0) (y 1))) 1 = y 1 := Fin.ext (by blk_simp [idx t])
  refine (pay2_apply _ _ (y 0) (y 1)).trans ?_
  rw [resultY, e1]
  rw [blk0 m c t (y 0) (y 1) _ e0, blk1 m c t (y 0) (y 1) _ e0]

end

end Cert.Kernel30Ideal.LossHead

end
-- ==== Proof.LossHeadClaim.lean ====
/-
  The loss head: the frame of the reference, and the equations of the loss and of its gradient.
-/
module

public import proofs.«01_k».proof.Defs
public import proofs.«01_k».proof.Proof.LossHead
public import proofs.«01_k».proof.Proof.Gen.Reference30Ideal.Read

@[expose] public section

set_option maxRecDepth 16384

noncomputable section

namespace Cert.LossHeadClaim

open Cert.Reference30Ideal Cert.Reference30Ideal.Read Cert.Kernel30Ideal.LossHead
open Idealize.ShloMosaic Idealize.ShloMosaic.TcCoe Idealize.SL.Sem
open scoped BigOperators

/-- The reference leaves its arguments as they were; it declares no semaphore. -/
theorem frame_reference30 : Cert.quiescent_Reference30Ideal := fun m ρ _ =>
  (θ_run Cert.Reference30Ideal.defs _ _).mono (fun r h => ⟨fun c => (h c).2.2, Idealize.ShloMosaic.sem_eq_zero_of_no_sems (by decide) r.2⟩)
    (Cert.Reference30Ideal.Value.run (F := Ideal) m ρ)

/-! ## The factors, as real numbers -/

theorem bits_half : (FloatOps.ofBits .f32 0x3F000000#32 : Ideal .f32) = ((1 / 2 : ℝ) : EReal) := by
  change Ideal.ofBits .f32 _ = _
  simp [Ideal.ofBits, Ideal.ieee, -EReal.coe_mul]; norm_num

theorem bits_one : (FloatOps.ofBits .f32 0x3F800000#32 : Ideal .f32) = ((1 : ℝ) : EReal) := by
  change Ideal.ofBits .f32 _ = _
  simp [Ideal.ofBits, Ideal.ieee, -EReal.coe_mul]; norm_num

theorem bits_two : (FloatOps.ofBits .f32 0x40000000#32 : Ideal .f32) = ((2 : ℝ) : EReal) := by
  change Ideal.ofBits .f32 _ = _
  simp [Ideal.ofBits, Ideal.ieee, -EReal.coe_mul]; norm_num

theorem bits_width : (FloatOps.ofBits .f32 0x44800000#32 : Ideal .f32) = ((1024 : ℝ) : EReal) := by
  change Ideal.ofBits .f32 _ = _
  simp [Ideal.ofBits, Ideal.ieee, -EReal.coe_mul]; norm_num

theorem perRow_eq : perRow = ((1 / 1024 : ℝ) : EReal) := by
  unfold perRow
  change Ideal.ofBits .f32 _ = _
  simp [Ideal.ofBits, Ideal.ieee, -EReal.coe_mul]; norm_num

theorem perLoss_eq : perLoss = ((1 / 2048 : ℝ) : EReal) := by
  unfold perLoss
  change Ideal.ofBits .f32 _ = _
  simp [Ideal.ofBits, Ideal.ieee, -EReal.coe_mul]; norm_num

/-- A factor that is not negative leaves a sum. -/
theorem sum_factor {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

theorem loss_factor (a b : EReal) (h : a = b) : ((1 / 2 : ℝ) : EReal) * (a * ((1 / 1024 : ℝ) : EReal)) = ((1 / 2048 : ℝ) : EReal) * b := by
  rw [h, mul_comm b, ← mul_assoc, ← EReal.coe_mul]
  norm_num

theorem row_factor (a : EReal) : Ideal.div (((1 / 2 : ℝ) : EReal) * ((1 : ℝ) : EReal)) ((1024 : ℝ) : EReal) * (((2 : ℝ) : EReal) * a)
    = a * ((1 / 1024 : ℝ) : EReal) := by
  rw [Ideal.div_coe (by norm_num), ← mul_assoc, ← EReal.coe_mul, ← EReal.coe_mul, ← EReal.coe_mul, mul_comm]
  norm_num

/-! ## The results -/

variable (y t : FVec Ideal S16384x1024 .f32)

/-- One row's mean square. -/
theorem row (i : S16384.Idx) :
    val_main_v4 (F := Ideal) y t i = (∑ j, sq (y (ix2 (i 0) j)) (t (ix2 (i 0) j))) * ((1 / 1024 : ℝ) : EReal) := by
  rw [val_main_v4_apply, val_main_v3_apply, val_main_cst_0_apply, val_main_v2_apply, val_main_cst_apply, bits_width]
  rw [show (FloatOps.ofBits .f32 0x00000000#32 : Ideal .f32) = (0 : EReal) from Ideal.ofBits_zero_f32, zero_add]
  refine (Ideal.div_coe (by norm_num) _).trans ?_
  refine congrArg (· * _) (Finset.sum_congr rfl fun j _ => ?_)
  have e : idx_main_v2 i j = (ix2 (i 0) j : S16384x1024.Idx) := funext fun a => by
    match a with
    | ⟨0, _⟩ => rfl
    | ⟨1, _⟩ => rfl
  rw [e]
  rfl

theorem sum_rows (f : S16384.Idx → EReal) : ∑ i, f i = ∑ s : Fin 16384, f (ix1 s) :=
  (Fintype.sum_equiv (⟨fun s => ix1 s, fun i => i 0, fun s => rfl, fun i => (eq_ix1 i).symm⟩ : Fin 16384 ≃ S16384.Idx) _ _ (fun s => rfl)).symm

theorem referenceL : val_main_v7 (F := Ideal) y t = resultL y t := by
  funext i
  rw [val_main_v7_apply, val_main_v6_apply, val_main_cst_2_apply, val_main_v5_apply, val_main_cst_1_apply, bits_half]
  rw [show (FloatOps.ofBits .f32 0x00000000#32 : Ideal .f32) = (0 : EReal) from Ideal.ofBits_zero_f32, zero_add]
  rw [Finset.sum_congr rfl (fun i _ => row y t i), sum_factor _ _ _ (by norm_num), sum_rows, resultL, perLoss_eq]
  exact loss_factor _ _ Finset.sum_comm

theorem referenceY : val_main_v22 (F := Ideal) y t = resultY y t := by
  funext i
  rw [eq_ix2 i]
  rw [val_main_v22_apply, val_main_v21_apply, val_main_v20_apply, val_main_v19_apply, val_main_v18_apply, val_main_v17_apply, val_main_v11_apply,
    val_main_v10_apply, val_main_v8_apply, val_main_cst_3_apply, val_main_cst_8_apply, val_main_cst_9_apply, val_main_cst_10_apply, bits_half, bits_one,
    bits_two, bits_width, resultY, perRow_eq]
  exact row_factor _

/-- The loss and its gradient. -/
theorem equal30 : Cert.algebraic_Kernel30Ideal_Reference30Ideal := by
  intro m g m' g' _ hagree
  refine ⟨fun c => resultL (argY m c) (argT m c), fun c => resultY (argY m c) (argT m c), ?_, ?_⟩
  · exact (θ_run Cert.Kernel30Ideal.defs _ _).mono (fun r h c => ⟨(h c).1.trans (final2 m c), (h c).2.1.trans (final3 m c), (h c).2.2⟩)
      (Cert.Kernel30Ideal.Value.run_blocks (F := Ideal) m g)
  · refine (θ_run Cert.Reference30Ideal.defs _ _).mono (fun r h c => ⟨(h c).1.trans ?_, (h c).2.1.trans ?_, (h c).2.2⟩)
      (Cert.Reference30Ideal.Value.run (F := Ideal) m' g')
    · rw [val_main_v7_eq, referenceL, (hagree c).1, (hagree c).2]
    · rw [val_main_v22_eq, referenceY, (hagree c).1, (hagree c).2]

end Cert.LossHeadClaim

end
-- ==== Proof.lean ====
/-
  The claims of the attention's backward pass and of its gate's, from the modules that prove them.
-/
module

public import proofs.«01_k».proof.Defs
public import proofs.«01_k».proof.Proof.Gen.Kernel
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.FlashClaim
public import proofs.«01_k».proof.Proof.FlashEqual
public import proofs.«01_k».proof.Proof.GateClaim
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.ProductClaim
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.ProductMixerClaim
public import proofs.«01_k».proof.Proof.ProductRestClaim
public import proofs.«01_k».proof.Proof.ProductLastClaim
public import proofs.«01_k».proof.Proof.EmbedGateClaim
public import proofs.«01_k».proof.Proof.LossHeadClaim
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel27.Frame
public import proofs.«01_k».proof.Proof.Gen.Kernel27Ideal.Frame
public import proofs.«01_k».proof.Proof.Gen.Kernel28.Frame
public import proofs.«01_k».proof.Proof.Gen.Kernel28Ideal.Frame
public import proofs.«01_k».proof.Proof.Gen.Kernel29.Frame
public import proofs.«01_k».proof.Proof.Gen.Kernel29Ideal.Frame
public import proofs.«01_k».proof.Proof.Gen.Kernel30.Frame
public import proofs.«01_k».proof.Proof.Gen.Kernel30Ideal.Frame
public import proofs.«01_k».proof.Proof.Gen.Kernel31.Frame
public import proofs.«01_k».proof.Proof.Gen.Kernel31Ideal.Frame
public import proofs.«01_k».proof.Proof.Gen.Kernel32.Frame
public import proofs.«01_k».proof.Proof.Gen.Kernel32Ideal.Frame
public import proofs.«01_k».proof.Proof.Gen.Kernel33.Frame
public import proofs.«01_k».proof.Proof.Gen.Kernel33Ideal.Frame
public import proofs.«01_k».proof.Proof.Gen.Kernel34.Frame
public import proofs.«01_k».proof.Proof.Gen.Kernel34Ideal.Frame
public import proofs.«01_k».proof.Proof.Gen.Kernel35.Frame
public import proofs.«01_k».proof.Proof.Gen.Kernel35Ideal.Frame
public import proofs.«01_k».proof.Proof.Gen.Kernel36.Frame
public import proofs.«01_k».proof.Proof.Gen.Kernel36Ideal.Frame
public import proofs.«01_k».proof.Proof.Gen.Kernel37.Frame
public import proofs.«01_k».proof.Proof.Gen.Kernel37Ideal.Frame

@[expose] public section
noncomputable section
namespace Cert.Proof

/-- Frames, preserved meanings and equal results: of the attention's backward pass from finite arguments, of the gate's, of the products, of the embeddings' gate, and of the loss head. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.KernelIdeal.Flash.finite_facts,
    Cert.FlashClaim.frame_kernel, Cert.FlashClaim.frame_ideal, fun m ρ _ => Cert.FlashClaim.frame_ideal m ρ trivial,
    Cert.FlashClaim.frame_reference, fun m ρ _ => Cert.FlashClaim.frame_reference m ρ trivial,
    fun m ρ _ => Cert.Kernel2.Gen.frame m ρ, fun m ρ _ => Cert.Kernel2Ideal.Gen.frame m ρ, Cert.GateClaim.frame_reference,
    fun m ρ _ => Cert.Kernel3.Gen.frame m ρ, fun m ρ _ => Cert.Kernel3Ideal.Gen.frame m ρ, Cert.ProductClaim.frame_reference3,
    fun m ρ _ => Cert.Kernel4.Gen.frame m ρ, fun m ρ _ => Cert.Kernel4Ideal.Gen.frame m ρ, Cert.ProductClaim.frame_reference4,
    fun m ρ _ => Cert.Kernel5.Gen.frame m ρ, fun m ρ _ => Cert.Kernel5Ideal.Gen.frame m ρ, Cert.ProductClaim.frame_reference5,
    fun m ρ _ => Cert.Kernel6.Gen.frame m ρ, fun m ρ _ => Cert.Kernel6Ideal.Gen.frame m ρ, Cert.ProductClaim.frame_reference6,
    fun m ρ _ => Cert.Kernel7.Gen.frame m ρ, fun m ρ _ => Cert.Kernel7Ideal.Gen.frame m ρ, Cert.ProductClaim.frame_reference7,
    fun m ρ _ => Cert.Kernel8.Gen.frame m ρ, fun m ρ _ => Cert.Kernel8Ideal.Gen.frame m ρ, Cert.ProductClaim.frame_reference8,
    fun m ρ _ => Cert.Kernel9.Gen.frame m ρ, fun m ρ _ => Cert.Kernel9Ideal.Gen.frame m ρ, Cert.ProductClaim.frame_reference9,
    fun m ρ _ => Cert.Kernel10.Gen.frame m ρ, fun m ρ _ => Cert.Kernel10Ideal.Gen.frame m ρ, Cert.ProductMixerClaim.frame_reference10,
    fun m ρ _ => Cert.Kernel11.Gen.frame m ρ, fun m ρ _ => Cert.Kernel11Ideal.Gen.frame m ρ, Cert.ProductMixerClaim.frame_reference11,
    fun m ρ _ => Cert.Kernel12.Gen.frame m ρ, fun m ρ _ => Cert.Kernel12Ideal.Gen.frame m ρ, Cert.ProductMixerClaim.frame_reference12,
    fun m ρ _ => Cert.Kernel13.Gen.frame m ρ, fun m ρ _ => Cert.Kernel13Ideal.Gen.frame m ρ, Cert.ProductMixerClaim.frame_reference13,
    fun m ρ _ => Cert.Kernel14.Gen.frame m ρ, fun m ρ _ => Cert.Kernel14Ideal.Gen.frame m ρ, Cert.ProductMixerClaim.frame_reference14,
    fun m ρ _ => Cert.Kernel15.Gen.frame m ρ, fun m ρ _ => Cert.Kernel15Ideal.Gen.frame m ρ, Cert.ProductMixerClaim.frame_reference15,
    fun m ρ _ => Cert.Kernel16.Gen.frame m ρ, fun m ρ _ => Cert.Kernel16Ideal.Gen.frame m ρ, Cert.ProductMixerClaim.frame_reference16,
    fun m ρ _ => Cert.Kernel17.Gen.frame m ρ, fun m ρ _ => Cert.Kernel17Ideal.Gen.frame m ρ, Cert.ProductMixerClaim.frame_reference17,
    fun m ρ _ => Cert.Kernel18.Gen.frame m ρ, fun m ρ _ => Cert.Kernel18Ideal.Gen.frame m ρ, Cert.ProductMixerClaim.frame_reference18,
    fun m ρ _ => Cert.Kernel19.Gen.frame m ρ, fun m ρ _ => Cert.Kernel19Ideal.Gen.frame m ρ, Cert.ProductMixerClaim.frame_reference19,
    fun m ρ _ => Cert.Kernel20.Gen.frame m ρ, fun m ρ _ => Cert.Kernel20Ideal.Gen.frame m ρ, Cert.ProductMixerClaim.frame_reference20,
    fun m ρ _ => Cert.Kernel21.Gen.frame m ρ, fun m ρ _ => Cert.Kernel21Ideal.Gen.frame m ρ, Cert.ProductRestClaim.frame_reference21,
    fun m ρ _ => Cert.Kernel22.Gen.frame m ρ, fun m ρ _ => Cert.Kernel22Ideal.Gen.frame m ρ, Cert.ProductRestClaim.frame_reference22,
    fun m ρ _ => Cert.Kernel23.Gen.frame m ρ, fun m ρ _ => Cert.Kernel23Ideal.Gen.frame m ρ, Cert.ProductRestClaim.frame_reference23,
    fun m ρ _ => Cert.Kernel24.Gen.frame m ρ, fun m ρ _ => Cert.Kernel24Ideal.Gen.frame m ρ, Cert.ProductRestClaim.frame_reference24,
    fun m ρ _ => Cert.Kernel25.Gen.frame m ρ, fun m ρ _ => Cert.Kernel25Ideal.Gen.frame m ρ, Cert.ProductRestClaim.frame_reference25,
    fun m ρ _ => Cert.Kernel26.Gen.frame m ρ, fun m ρ _ => Cert.Kernel26Ideal.Gen.frame m ρ, Cert.ProductRestClaim.frame_reference26,
    fun m ρ _ => Cert.Kernel27.Gen.frame m ρ, fun m ρ _ => Cert.Kernel27Ideal.Gen.frame m ρ, Cert.ProductRestClaim.frame_reference27,
    fun m ρ _ => Cert.Kernel28.Gen.frame m ρ, fun m ρ _ => Cert.Kernel28Ideal.Gen.frame m ρ, Cert.ProductRestClaim.frame_reference28,
    fun m ρ _ => Cert.Kernel29.Gen.frame m ρ, fun m ρ _ => Cert.Kernel29Ideal.Gen.frame m ρ, Cert.EmbedGateClaim.frame_reference29,
    fun m ρ _ => Cert.Kernel30.Gen.frame m ρ, fun m ρ _ => Cert.Kernel30Ideal.Gen.frame m ρ, Cert.LossHeadClaim.frame_reference30,
    fun m ρ _ => Cert.Kernel31.Gen.frame m ρ, fun m ρ _ => Cert.Kernel31Ideal.Gen.frame m ρ, Cert.ProductLastClaim.frame_reference31,
    fun m ρ _ => Cert.Kernel32.Gen.frame m ρ, fun m ρ _ => Cert.Kernel32Ideal.Gen.frame m ρ, Cert.ProductLastClaim.frame_reference32,
    fun m ρ _ => Cert.Kernel33.Gen.frame m ρ, fun m ρ _ => Cert.Kernel33Ideal.Gen.frame m ρ, Cert.ProductLastClaim.frame_reference33,
    fun m ρ _ => Cert.Kernel34.Gen.frame m ρ, fun m ρ _ => Cert.Kernel34Ideal.Gen.frame m ρ, Cert.ProductLastClaim.frame_reference34,
    fun m ρ _ => Cert.Kernel35.Gen.frame m ρ, fun m ρ _ => Cert.Kernel35Ideal.Gen.frame m ρ, Cert.ProductLastClaim.frame_reference35,
    fun m ρ _ => Cert.Kernel36.Gen.frame m ρ, fun m ρ _ => Cert.Kernel36Ideal.Gen.frame m ρ, Cert.ProductLastClaim.frame_reference36,
    fun m ρ _ => Cert.Kernel37.Gen.frame m ρ, fun m ρ _ => Cert.Kernel37Ideal.Gen.frame m ρ, Cert.EmbedGateClaim.frame_reference37,
    trivial, @Cert.KernelIdeal.Flash.equal Cert.KernelIdeal.Flash.finite_facts, trivial, Cert.GateClaim.equal,
    trivial, Cert.ProductClaim.equal3,
    trivial, Cert.ProductClaim.equal4,
    trivial, Cert.ProductClaim.equal5,
    trivial, Cert.ProductClaim.equal6,
    trivial, Cert.ProductClaim.equal7,
    trivial, Cert.ProductClaim.equal8,
    trivial, Cert.ProductClaim.equal9,
    trivial, Cert.ProductMixerClaim.equal10,
    trivial, Cert.ProductMixerClaim.equal11,
    trivial, Cert.ProductMixerClaim.equal12,
    trivial, Cert.ProductMixerClaim.equal13,
    trivial, Cert.ProductMixerClaim.equal14,
    trivial, Cert.ProductMixerClaim.equal15,
    trivial, Cert.ProductMixerClaim.equal16,
    trivial, Cert.ProductMixerClaim.equal17,
    trivial, Cert.ProductMixerClaim.equal18,
    trivial, Cert.ProductMixerClaim.equal19,
    trivial, Cert.ProductMixerClaim.equal20,
    trivial, Cert.ProductRestClaim.equal21,
    trivial, Cert.ProductRestClaim.equal22,
    trivial, Cert.ProductRestClaim.equal23,
    trivial, Cert.ProductRestClaim.equal24,
    trivial, Cert.ProductRestClaim.equal25,
    trivial, Cert.ProductRestClaim.equal26,
    trivial, Cert.ProductRestClaim.equal27,
    trivial, Cert.ProductRestClaim.equal28,
    trivial, Cert.EmbedGateClaim.equal29,
    trivial, Cert.LossHeadClaim.equal30,
    trivial, Cert.ProductLastClaim.equal31,
    trivial, Cert.ProductLastClaim.equal32,
    trivial, Cert.ProductLastClaim.equal33,
    trivial, Cert.ProductLastClaim.equal34,
    trivial, Cert.ProductLastClaim.equal35,
    trivial, Cert.ProductLastClaim.equal36,
    trivial, Cert.EmbedGateClaim.equal37⟩

end Cert.Proof
end
